-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_real_rows [hPre_real_rows : Cert.Pre_real_rows.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_real_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_real_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_real_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_real_rows [hPre_real_rows : Cert.Pre_real_rows.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_real_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_real_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_real_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_real_rows [hKernel7Ideal : Cert.Kernel7Ideal.Facts] [hPre_real_rows : Cert.Pre_real_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_real_rows m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_real_rows [hReference7Ideal : Cert.Reference7Ideal.Facts] [hPre_real_rows : Cert.Pre_real_rows.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_real_rows m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)) (v4 : (c : Dev Cert.Kernel6Ideal.nD) → Buf (Elt Ideal) ((c.tc : Thread Cert.Kernel6Ideal.nD Cert.Kernel6Ideal.τ).loc Cert.Kernel6Ideal.main_v12_4)) (v5 : (c : Dev Cert.Kernel6Ideal.nD) → Buf (Elt Ideal) ((c.tc : Thread Cert.Kernel6Ideal.nD Cert.Kernel6Ideal.τ).loc Cert.Kernel6Ideal.main_v12_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_v12_4) = v4 c
          ∧ r.2.mem ((c.tc : Thread Cert.Kernel6Ideal.nD Cert.Kernel6Ideal.τ).loc Cert.Kernel6Ideal.main_v12_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v60) = v2 c
          ∧ r.2.mem ((c.tc : Thread Cert.Reference6Ideal.nD Cert.Reference6Ideal.τ).loc Cert.Reference6Ideal.main_v61) = v3 c
          ∧ r.2.mem ((c.tc : Thread Cert.Reference6Ideal.nD Cert.Reference6Ideal.τ).loc Cert.Reference6Ideal.main_v18) = v4 c
          ∧ r.2.mem ((c.tc : Thread Cert.Reference6Ideal.nD Cert.Reference6Ideal.τ).loc Cert.Reference6Ideal.main_v52) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "mask" .f32 0xF149F2CA#32 ⊥

def algebraic_Kernel7Ideal_Reference7Ideal_pre_real_rows [hKernel7Ideal : Cert.Kernel7Ideal.Facts] [hReference7Ideal : Cert.Reference7Ideal.Facts] [hPre_real_rows : Cert.Pre_real_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_real_rows m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v69) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_real_inputs : Cert.Pre_real_inputs.Facts) (hPre_real_rows : Cert.Pre_real_rows.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_real_rows (hKernel7Ideal := hKernel7Ideal) (hPre_real_rows := hPre_real_rows)
    ∧ quiescent_Reference7Ideal (hReference7Ideal := hReference7Ideal)
    ∧ quiescent_Reference7Ideal_pre_real_rows (hReference7Ideal := hReference7Ideal) (hPre_real_rows := hPre_real_rows)
    ∧ preserves_Kernel_KernelIdeal
    ∧ algebraic_KernelIdeal_ReferenceIdeal_pre_real_inputs (hKernelIdeal := hKernelIdeal) (hReferenceIdeal := hReferenceIdeal) (hPre_real_inputs := hPre_real_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_real_rows (hKernel7Ideal := hKernel7Ideal) (hReference7Ideal := hReference7Ideal) (hPre_real_rows := hPre_real_rows)
-- ==== Pre_real_inputs.lean ====
abbrev S32768x3072 : Shape := ⟨2, ![32768, 3072]⟩
abbrev S32768x2048 : Shape := ⟨2, ![32768, 2048]⟩
abbrev S32768x128 : Shape := ⟨2, ![32768, 128]⟩
abbrev S32 : Shape := ⟨1, ![32]⟩
abbrev S2048 : Shape := ⟨1, ![2048]⟩
abbrev S_ : Shape := ⟨0, ![]⟩
abbrev S32768x32 : Shape := ⟨2, ![32768, 32]⟩
abbrev S1x32 : Shape := ⟨2, ![1, 32]⟩

class Facts : Prop where
  bcast_S_S32768x3072 : S_.BroadcastsInDim S32768x3072 (![] : Fin 0 → Fin S32768x3072.rank)
  slices_S32768x128_S32768x32_0_0 : S32768x128.Slices ![0, 0] S32768x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  bcast_S_S32 : S_.BroadcastsInDim S32 (![] : Fin 0 → Fin S32.rank)

variable [Facts]

def fn {F : FTy → Type} [FloatOps F] (main_arg0 : FVec F S32768x3072 .f32) (main_arg1 : FVec F S32768x2048 .f32) (main_arg2 : FVec F S32768x128 .f32) (main_arg3 : FVec F S32 .f32) (main_arg4 : FVec F S32 .f32) (main_arg5 : FVec F S32 .f32) (main_arg6 : FVec F S2048 .f32) : IVec S32768x3072 1 × IVec S32768x32 1 × IVec S32 1 :=
  let main_v0 : FVec F S32768x3072 .f32 := Host.absf main_arg0
  let main_cst : FVec F S_ .f32 := constant S_ .f32 0x7F800000#32
  let main_v1 : FVec F S32768x3072 .f32 := broadcastInDim S32768x3072 ![] bcast_S_S32768x3072 main_cst
  let main_v2 : IVec S32768x3072 1 := cmpf .olt main_v0 main_v1
  let main_v3 : FVec F S32768x32 .f32 := (extractStridedSlice S32768x32 ![0, 0] · slices_S32768x128_S32768x32_0_0) main_arg2
  let main_v4 : FVec F S1x32 .f32 := broadcastInDim S1x32 ![1] bcast_S32_S1x32_1 main_arg3
  let main_v5 : FVec F S32768x32 .f32 := broadcastInDim S32768x32 ![0, 1] bcast_S1x32_S32768x32_0_1 main_v4
  let main_v6 : FVec F S32768x32 .f32 := addf main_v3 main_v5
  let main_cst_0 : FVec F S_ .f32 := constant S_ .f32 0x7F800000#32
  let main_v7 : FVec F S32768x32 .f32 := broadcastInDim S32768x32 ![] bcast_S_S32768x32 main_cst_0
  let main_v8 : IVec S32768x32 1 := cmpf .olt main_v6 main_v7
  let main_cst_1 : FVec F S_ .f32 := constant S_ .f32 0x7F800000#32
  let main_v9 : FVec F S32 .f32 := broadcastInDim S32 ![] bcast_S_S32 main_cst_1
  let main_v10 : IVec S32 1 := cmpf .olt main_arg4 main_v9
  (main_v2, main_v8, main_v10)
-- ==== Pre_real_rows.lean ====
abbrev S32768x1536 : Shape := ⟨2, ![32768, 1536]⟩
abbrev S32768x512 : Shape := ⟨2, ![32768, 512]⟩
abbrev S32768x128 : Shape := ⟨2, ![32768, 128]⟩
abbrev S4 : Shape := ⟨1, ![4]⟩
abbrev S128 : Shape := ⟨1, ![128]⟩
abbrev S_ : Shape := ⟨0, ![]⟩
abbrev S32768x4 : Shape := ⟨2, ![32768, 4]⟩
abbrev S1x4 : Shape := ⟨2, ![1, 4]⟩

class Facts : Prop where
  bcast_S_S32768x1536 : S_.BroadcastsInDim S32768x1536 (![] : Fin 0 → Fin S32768x1536.rank)
  slices_S32768x128_S32768x4_0_4 : S32768x128.Slices ![0, 4] S32768x4
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S_S32768x4 : S_.BroadcastsInDim S32768x4 (![] : Fin 0 → Fin S32768x4.rank)
  bcast_S_S4 : S_.BroadcastsInDim S4 (![] : Fin 0 → Fin S4.rank)

variable [Facts]

def fn {F : FTy → Type} [FloatOps F] (main_arg0 : FVec F S32768x1536 .f32) (main_arg1 : FVec F S32768x512 .f32) (main_arg2 : FVec F S32768x128 .f32) (main_arg3 : FVec F S4 .f32) (main_arg4 : FVec F S4 .f32) (main_arg5 : FVec F S128 .f32) : IVec S32768x1536 1 × IVec S32768x4 1 × IVec S4 1 :=
  let main_v0 : FVec F S32768x1536 .f32 := Host.absf main_arg0
  let main_cst : FVec F S_ .f32 := constant S_ .f32 0x7F800000#32
  let main_v1 : FVec F S32768x1536 .f32 := broadcastInDim S32768x1536 ![] bcast_S_S32768x1536 main_cst
  let main_v2 : IVec S32768x1536 1 := cmpf .olt main_v0 main_v1
  let main_v3 : FVec F S32768x4 .f32 := (extractStridedSlice S32768x4 ![0, 4] · slices_S32768x128_S32768x4_0_4) main_arg2
  let main_v4 : FVec F S1x4 .f32 := broadcastInDim S1x4 ![1] bcast_S4_S1x4_1 main_arg4
  let main_v5 : FVec F S32768x4 .f32 := broadcastInDim S32768x4 ![0, 1] bcast_S1x4_S32768x4_0_1 main_v4
  let main_v6 : FVec F S32768x4 .f32 := addf main_v3 main_v5
  let main_cst_0 : FVec F S_ .f32 := constant S_ .f32 0x7F800000#32
  let main_v7 : FVec F S32768x4 .f32 := broadcastInDim S32768x4 ![] bcast_S_S32768x4 main_cst_0
  let main_v8 : IVec S32768x4 1 := cmpf .olt main_v6 main_v7
  let main_cst_1 : FVec F S_ .f32 := constant S_ .f32 0x7F800000#32
  let main_v9 : FVec F S4 .f32 := broadcastInDim S4 ![] bcast_S_S4 main_cst_1
  let main_v10 : IVec S4 1 := cmpf .olt main_arg3 main_v9
  (main_v2, main_v8, main_v10)
-- ==== Kernel.lean ====
abbrev S32768x3072 : Shape := ⟨2, ![32768, 3072]⟩
abbrev S32768x2048 : Shape := ⟨2, ![32768, 2048]⟩
abbrev S32768x128 : Shape := ⟨2, ![32768, 128]⟩
abbrev S32 : Shape := ⟨1, ![32]⟩
abbrev S2048 : Shape := ⟨1, ![2048]⟩
abbrev S1x32 : Shape := ⟨2, ![1, 32]⟩
abbrev S_ : Shape := ⟨0, ![]⟩
abbrev S1x128 : Shape := ⟨2, ![1, 128]⟩
abbrev S32x64 : Shape := ⟨2, ![32, 64]⟩
abbrev S1x2048 : Shape := ⟨2, ![1, 2048]⟩
abbrev S256 : Shape := ⟨1, ![256]⟩
abbrev S256x1 : Shape := ⟨2, ![256, 1]⟩
abbrev S256x2048 : Shape := ⟨2, ![256, 2048]⟩
abbrev S128x3072 : Shape := ⟨2, ![128, 3072]⟩
abbrev S128x2048 : Shape := ⟨2, ![128, 2048]⟩
abbrev S128x128 : Shape := ⟨2, ![128, 128]⟩
abbrev S4x128x512 : Shape := ⟨3, ![4, 128, 512]⟩
abbrev S128x256 : Shape := ⟨2, ![128, 256]⟩
abbrev S8x128 : Shape := ⟨2, ![8, 128]⟩
abbrev S8x256 : Shape := ⟨2, ![8, 256]⟩
abbrev S8x2048 : Shape := ⟨2, ![8, 2048]⟩
abbrev S1x128x512 : Shape := ⟨3, ![1, 128, 512]⟩
abbrev S128x512 : Shape := ⟨2, ![128, 512]⟩
abbrev S128x1 : Shape := ⟨2, ![128, 1]⟩
abbrev S256x128 : Shape := ⟨2, ![256, 128]⟩
abbrev S128 : Shape := ⟨1, ![128]⟩
abbrev S1x512 : Shape := ⟨2, ![1, 512]⟩

abbrev nBuf : Space → Nat
  | .hbm => 68
  | .vmem => 14
  | .smem => 0
  | _ => 0

abbrev bufTy : (tb : Table) → Fin (tcTables nBuf tb) → BufTy
  | .hbm, ⟨0, _⟩ => ⟨S32768x3072, .f32⟩
  | .hbm, ⟨1, _⟩ => ⟨S32768x2048, .f32⟩
  | .hbm, ⟨2, _⟩ => ⟨S32768x128, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S2048, .f32⟩
  | .hbm, ⟨7, _⟩ => ⟨S1x32, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S1x32, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S2048, .i32⟩
  | .hbm, ⟨20, _⟩ => ⟨S_, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S256, .i32⟩
  | .hbm, ⟨39, _⟩ => ⟨S256x1, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i1⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S_, .i32⟩
  | .hbm, ⟨55, _⟩ => ⟨S_, .i1⟩
  | .hbm, ⟨56, _⟩ => ⟨S256x1, .i1⟩
  | .hbm, ⟨57, _⟩ => ⟨S256x1, .i1⟩
  | .hbm, ⟨58, _⟩ => ⟨S256x1, .i1⟩
  | .hbm, ⟨59, _⟩ => ⟨S256x1, .i32⟩
  | .hbm, ⟨60, _⟩ => ⟨S256x1, .i32⟩
  | .hbm, ⟨61, _⟩ => ⟨S256x1, .i32⟩
  | .hbm, ⟨62, _⟩ => ⟨S1x2048, .i32⟩
  | .hbm, ⟨63, _⟩ => ⟨S256x2048, .i32⟩
  | .hbm, ⟨64, _⟩ => ⟨S256x2048, .i32⟩
  | .hbm, ⟨65, _⟩ => ⟨S256x2048, .i1⟩
  | .hbm, ⟨66, _⟩ => ⟨S256x2048, .bf16⟩
  | .hbm, ⟨67, _⟩ => ⟨S32768x2048, .bf16⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S128x2048, .bf16⟩
  | .local _ .vmem, ⟨12, _⟩ => ⟨S128x2048, .bf16⟩
  | .local _ .vmem, ⟨13, _⟩ => ⟨S4x128x512, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_c : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_0 : Ref sig .tc := ⟨.hbm, 34, rfl⟩
abbrev main_call2_v12 : Ref sig .tc := ⟨.hbm, 35, rfl⟩
abbrev main_call2_v13 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_call3_v0 : Ref sig .tc := ⟨.hbm, 41, rfl⟩
abbrev main_call3_c : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_c_1 : Ref sig .tc := ⟨.hbm, 48, rfl⟩
abbrev main_call3_v5 : Ref sig .tc := ⟨.hbm, 49, rfl⟩
abbrev main_call3_v6 : Ref sig .tc := ⟨.hbm, 50, rfl⟩
abbrev main_call3_c_2 : Ref sig .tc := ⟨.hbm, 51, rfl⟩
abbrev main_call3_v7 : Ref sig .tc := ⟨.hbm, 52, rfl⟩
abbrev main_call3_v8 : Ref sig .tc := ⟨.hbm, 53, rfl⟩
abbrev main_call3_c_3 : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_v12 : Ref sig .tc := ⟨.hbm, 58, rfl⟩
abbrev main_call3_v13 : Ref sig .tc := ⟨.hbm, 59, rfl⟩
abbrev main_call3_v14 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x3072 : Shape := ⟨2, ![32768, 3072]⟩
abbrev S32768x2048 : Shape := ⟨2, ![32768, 2048]⟩
abbrev S32768x128 : Shape := ⟨2, ![32768, 128]⟩
abbrev S32 : Shape := ⟨1, ![32]⟩
abbrev S2048 : Shape := ⟨1, ![2048]⟩
abbrev S8x4096x3072 : Shape := ⟨3, ![8, 4096, 3072]⟩
abbrev S8x4096x2048 : Shape := ⟨3, ![8, 4096, 2048]⟩
abbrev S8x4096x128 : Shape := ⟨3, ![8, 4096, 128]⟩
abbrev S8x4096x32 : Shape := ⟨3, ![8, 4096, 32]⟩
abbrev S8x4096x512 : Shape := ⟨3, ![8, 4096, 512]⟩
abbrev S8x4096x32x64 : Shape := ⟨4, ![8, 4096, 32, 64]⟩
abbrev S8x4096x4x128 : Shape := ⟨4, ![8, 4096, 4, 128]⟩
abbrev S1x1x32 : Shape := ⟨3, ![1, 1, 32]⟩
abbrev S_ : Shape := ⟨0, ![]⟩
abbrev S8x4096x32x1 : Shape := ⟨4, ![8, 4096, 32, 1]⟩
abbrev S8x4096x4x8x64 : Shape := ⟨5, ![8, 4096, 4, 8, 64]⟩
abbrev S8x4096x4x8 : Shape := ⟨4, ![8, 4096, 4, 8]⟩
abbrev S4096x8x4x8x64 : Shape := ⟨5, ![4096, 8, 4, 8, 64]⟩
abbrev S4096x8x4x8 : Shape := ⟨4, ![4096, 8, 4, 8]⟩
abbrev S4096x8x4x128 : Shape := ⟨4, ![4096, 8, 4, 128]⟩
abbrev S8x4x8x64x128 : Shape := ⟨5, ![8, 4, 8, 64, 128]⟩
abbrev S1x8x4x8x64 : Shape := ⟨5, ![1, 8, 4, 8, 64]⟩
abbrev S8x4x8x64 : Shape := ⟨4, ![8, 4, 8, 64]⟩
abbrev S1x8x4x8 : Shape := ⟨4, ![1, 8, 4, 8]⟩
abbrev S8x4x8 : Shape := ⟨3, ![8, 4, 8]⟩
abbrev S1x8x4x128 : Shape := ⟨4, ![1, 8, 4, 128]⟩
abbrev S8x4x128 : Shape := ⟨3, ![8, 4, 128]⟩
abbrev S8x4x8x1x1 : Shape := ⟨5, ![8, 4, 8, 1, 1]⟩
abbrev S8x4x8x64x1 : Shape := ⟨5, ![8, 4, 8, 64, 1]⟩
abbrev S8x4x1x1x128 : Shape := ⟨5, ![8, 4, 1, 1, 128]⟩
abbrev S32x1 : Shape := ⟨2, ![32, 1]⟩
abbrev S1x1x32x1 : Shape := ⟨4, ![1, 1, 32, 1]⟩
abbrev S8x4096x4x512 : Shape := ⟨4, ![8, 4096, 4, 512]⟩
abbrev S4x512 : Shape := ⟨2, ![4, 512]⟩
abbrev S8x4096x4 : Shape := ⟨3, ![8, 4096, 4]⟩
abbrev S8x4096x4x1 : Shape := ⟨4, ![8, 4096, 4, 1]⟩
abbrev S1x1x4x512 : Shape := ⟨4, ![1, 1, 4, 512]⟩

abbrev nBuf : Space → Nat
  | .hbm => 140
  | .vmem => 0
  | .smem => 0
  | _ => 0

abbrev hbmTy0_0 (i : Nat) : BufTy := match i % 128 with
  | 0 => ⟨S32768x3072, .f32⟩
  | 1 => ⟨S32768x2048, .f32⟩
  | 2 => ⟨S32768x128, .f32⟩
  | 3 => ⟨S32, .f32⟩
  | 4 => ⟨S32, .f32⟩
  | 5 => ⟨S32, .f32⟩
  | 6 => ⟨S2048, .f32⟩
  | 7 => ⟨S8x4096x3072, .f32⟩
  | 8 => ⟨S8x4096x2048, .f32⟩
  | 9 => ⟨S8x4096x128, .f32⟩
  | 10 => ⟨S8x4096x32, .f32⟩
  | 11 => ⟨S8x4096x2048, .f32⟩
  | 12 => ⟨S8x4096x512, .f32⟩
  | 13 => ⟨S8x4096x512, .f32⟩
  | 14 => ⟨S8x4096x32x64, .f32⟩
  | 15 => ⟨S8x4096x4x128, .f32⟩
  | 16 => ⟨S8x4096x4x128, .f32⟩
  | 17 => ⟨S1x1x32, .f32⟩
  | 18 => ⟨S8x4096x32, .f32⟩
  | 19 => ⟨S8x4096x32, .f32⟩
  | 20 => ⟨S_, .f32⟩
  | 21 => ⟨S8x4096x32, .f32⟩
  | 22 => ⟨S8x4096x32, .f32⟩
  | 23 => ⟨S8x4096x32, .f32⟩
  | 24 => ⟨S8x4096x32, .f32⟩
  | 25 => ⟨S8x4096x32, .i1⟩
  | 26 => ⟨S8x4096x32, .f32⟩
  | 27 => ⟨S8x4096x32, .f32⟩
  | 28 => ⟨S8x4096x32, .f32⟩
  | 29 => ⟨S8x4096x32, .f32⟩
  | 30 => ⟨S8x4096x32, .f32⟩
  | 31 => ⟨S8x4096x32, .f32⟩
  | 32 => ⟨S8x4096x32, .f32⟩
  | 33 => ⟨S8x4096x32, .f32⟩
  | 34 => ⟨S32, .f32⟩
  | 35 => ⟨S32, .f32⟩
  | 36 => ⟨S1x1x32, .f32⟩
  | 37 => ⟨S8x4096x32, .f32⟩
  | 38 => ⟨S8x4096x32, .f32⟩
  | 39 => ⟨S8x4096x32x1, .f32⟩
  | 40 => ⟨S8x4096x32x64, .f32⟩
  | 41 => ⟨S8x4096x32x64, .f32⟩
  | 42 => ⟨S8x4096x4x8x64, .f32⟩
  | 43 => ⟨S8x4096x4x8, .f32⟩
  | 44 => ⟨S4096x8x4x8x64, .f32⟩
  | 45 => ⟨S4096x8x4x8, .f32⟩
  | 46 => ⟨S4096x8x4x128, .f32⟩
  | 47 => ⟨S4096x8x4x128, .f32⟩
  | 48 => ⟨S_, .f32⟩
  | 49 => ⟨S8x4x8x64x128, .f32⟩
  | 50 => ⟨S_, .f32⟩
  | 51 => ⟨S4096x8x4x8x64, .f32⟩
  | 52 => ⟨S_, .i32⟩
  | 53 => ⟨S4096x8x4x8x64, .f32⟩
  | 54 => ⟨S4096x8x4x8, .f32⟩
  | 55 => ⟨S4096x8x4x128, .f32⟩
  | 56 => ⟨S4096x8x4x128, .f32⟩
  | 57 => ⟨S_, .i32⟩
  | 58 => ⟨S8x4x8x64x128, .f32⟩
  | 59 => ⟨S4096x8x4x8x64, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1x8x4x8x64, .f32⟩
  | 67 => ⟨S8x4x8x64, .f32⟩
  | 68 => ⟨S_, .i32⟩
  | 69 => ⟨S_, .i32⟩
  | 70 => ⟨S_, .i32⟩
  | 71 => ⟨S1x8x4x8, .f32⟩
  | 72 => ⟨S8x4x8, .f32⟩
  | 73 => ⟨S_, .i32⟩
  | 74 => ⟨S_, .i32⟩
  | 75 => ⟨S_, .i32⟩
  | 76 => ⟨S1x8x4x128, .f32⟩
  | 77 => ⟨S8x4x128, .f32⟩
  | 78 => ⟨S_, .i32⟩
  | 79 => ⟨S_, .i32⟩
  | 80 => ⟨S_, .i32⟩
  | 81 => ⟨S1x8x4x128, .f32⟩
  | 82 => ⟨S8x4x128, .f32⟩
  | 83 => ⟨S8x4x8, .f32⟩
  | 84 => ⟨S8x4x8x1x1, .f32⟩
  | 85 => ⟨S8x4x8x64x128, .f32⟩
  | 86 => ⟨S8x4x8x64x128, .f32⟩
  | 87 => ⟨S8x4x8x64x1, .f32⟩
  | 88 => ⟨S8x4x1x1x128, .f32⟩
  | 89 => ⟨S8x4x8x64x128, .f32⟩
  | 90 => ⟨S8x4x8x64x128, .f32⟩
  | 91 => ⟨S8x4x8x64x128, .f32⟩
  | 92 => ⟨S8x4x8x64x128, .f32⟩
  | 93 => ⟨S8x4x8x64, .f32⟩
  | 94 => ⟨S1x8x4x8x64, .f32⟩
  | 95 => ⟨S_, .i32⟩
  | 96 => ⟨S_, .i32⟩
  | 97 => ⟨S_, .i32⟩
  | 98 => ⟨S_, .i32⟩
  | 99 => ⟨S4096x8x4x8x64, .f32⟩
  | 100 => ⟨S_, .i32⟩
  | 101 => ⟨S_, .i32⟩
  | 102 => ⟨S8x4096x4x8x64, .f32⟩
  | 103 => ⟨S8x4096x32x64, .f32⟩
  | 104 => ⟨S32x1, .f32⟩
  | 105 => ⟨S1x1x32x1, .f32⟩
  | 106 => ⟨S8x4096x32x64, .f32⟩
  | 107 => ⟨S8x4096x32x64, .f32⟩
  | 108 => ⟨S8x4096x32x64, .f32⟩
  | 109 => ⟨S8x4096x2048, .f32⟩
  | 110 => ⟨S8x4096x2048, .f32⟩
  | 111 => ⟨S8x4096x2048, .f32⟩
  | 112 => ⟨S_, .f32⟩
  | 113 => ⟨S8x4096x2048, .f32⟩
  | 114 => ⟨S8x4096x2048, .f32⟩
  | 115 => ⟨S_, .f32⟩
  | 116 => ⟨S8x4096x2048, .f32⟩
  | 117 => ⟨S8x4096x2048, .f32⟩
  | 118 => ⟨S8x4096x2048, .f32⟩
  | 119 => ⟨S8x4096x2048, .f32⟩
  | 120 => ⟨S8x4096x4x512, .f32⟩
  | 121 => ⟨S4x512, .f32⟩
  | 122 => ⟨S8x4096x4x512, .f32⟩
  | 123 => ⟨S_, .f32⟩
  | 124 => ⟨S8x4096x4, .f32⟩
  | 125 => ⟨S8x4096x4x1, .f32⟩
  | 126 => ⟨S_, .f32⟩
  | 127 => ⟨S8x4096x4x1, .f32⟩
  | _ => ⟨S32768x3072, .f32⟩

abbrev hbmTy0_1 (i : Nat) : BufTy := match i % 128 with
  | 0 => ⟨S8x4096x4x1, .f32⟩
  | 1 => ⟨S_, .f32⟩
  | 2 => ⟨S8x4096x4x1, .f32⟩
  | 3 => ⟨S8x4096x4x1, .f32⟩
  | 4 => ⟨S8x4096x4x1, .f32⟩
  | 5 => ⟨S8x4096x4x512, .f32⟩
  | 6 => ⟨S8x4096x4x512, .f32⟩
  | 7 => ⟨S1x1x4x512, .f32⟩
  | 8 => ⟨S8x4096x4x512, .f32⟩
  | 9 => ⟨S8x4096x4x512, .f32⟩
  | 10 => ⟨S32768x2048, .f32⟩
  | 11 => ⟨S32768x2048, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_cst_0 : Ref sig .tc := ⟨.hbm, 50, rfl⟩
abbrev main_v29 : Ref sig .tc := ⟨.hbm, 51, rfl⟩
abbrev main_c : Ref sig .tc := ⟨.hbm, 52, rfl⟩
abbrev main_v30_0 : Ref sig .tc := ⟨.hbm, 53, rfl⟩
abbrev main_v30_1 : Ref sig .tc := ⟨.hbm, 54, rfl⟩
abbrev main_v30_2 : Ref sig .tc := ⟨.hbm, 55, rfl⟩
abbrev main_v30_3 : Ref sig .tc := ⟨.hbm, 56, rfl⟩
abbrev main_v30_4 : Ref sig .tc := ⟨.hbm, 57, rfl⟩
abbrev main_v30_5 : Ref sig .tc := ⟨.hbm, 58, rfl⟩
abbrev main_v30_6 : Ref sig .tc := ⟨.hbm, 59, rfl⟩
abbrev main_while0c_c_10 : Ref sig .tc := ⟨.hbm, 60, rfl⟩
abbrev main_while0c_v58 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_c_2 : Ref sig .tc := ⟨.hbm, 65, rfl⟩
abbrev main_while0b_call1_v0 : Ref sig .tc := ⟨.hbm, 66, rfl⟩
abbrev main_while0b_v58 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_v0 : Ref sig .tc := ⟨.hbm, 71, rfl⟩
abbrev main_while0b_v59 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_v0 : Ref sig .tc := ⟨.hbm, 76, rfl⟩
abbrev main_while0b_v60 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_v0 : Ref sig .tc := ⟨.hbm, 81, rfl⟩
abbrev main_while0b_v61 : Ref sig .tc := ⟨.hbm, 82, rfl⟩
abbrev main_while0b_v62 : Ref sig .tc := ⟨.hbm, 83, rfl⟩
abbrev main_while0b_v63 : Ref sig .tc := ⟨.hbm, 84, rfl⟩
abbrev main_while0b_v64 : Ref sig .tc := ⟨.hbm, 85, rfl⟩
abbrev main_while0b_v65 : Ref sig .tc := ⟨.hbm, 86, rfl⟩
abbrev main_while0b_v66 : Ref sig .tc := ⟨.hbm, 87, rfl⟩
abbrev main_while0b_v67 : Ref sig .tc := ⟨.hbm, 88, rfl⟩
abbrev main_while0b_v68 : Ref sig .tc := ⟨.hbm, 89, rfl⟩
abbrev main_while0b_v69 : Ref sig .tc := ⟨.hbm, 90, rfl⟩
abbrev main_while0b_v70 : Ref sig .tc := ⟨.hbm, 91, rfl⟩
abbrev main_while0b_v71 : Ref sig .tc := ⟨.hbm, 92, rfl⟩
abbrev main_while0b_v72 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_v73 : Ref sig .tc := ⟨.hbm, 99, rfl⟩
abbrev main_while0b_c_10 : Ref sig .tc := ⟨.hbm, 100, rfl⟩
abbrev main_while0b_v74 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_call6_v0 : Ref sig .tc := ⟨.hbm, 110, rfl⟩
abbrev main_call6_v1 : Ref sig .tc := ⟨.hbm, 111, rfl⟩
abbrev main_call6_cst : Ref sig .tc := ⟨.hbm, 112, rfl⟩
abbrev main_call6_v2 : Ref sig .tc := ⟨.hbm, 113, rfl⟩
abbrev main_call6_v3 : Ref sig .tc := ⟨.hbm, 114, rfl⟩
abbrev main_call6_cst_0 : Ref sig .tc := ⟨.hbm, 115, rfl⟩
abbrev main_call6_v4 : Ref sig .tc := ⟨.hbm, 116, rfl⟩
abbrev main_call6_v5 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_cst_1 : Ref sig .tc := ⟨.hbm, 123, rfl⟩
abbrev main_v44 : Ref sig .tc := ⟨.hbm, 124, rfl⟩
abbrev main_v45 : Ref sig .tc := ⟨.hbm, 125, rfl⟩
abbrev main_cst_2 : Ref sig .tc := ⟨.hbm, 126, rfl⟩
abbrev main_v46 : Ref sig .tc := ⟨.hbm, 127, rfl⟩
abbrev main_v47 : Ref sig .tc := ⟨.hbm, 128, rfl⟩
abbrev main_cst_3 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S1024 : Shape := ⟨1, ![1024]⟩
abbrev S1024x2816 : Shape := ⟨2, ![1024, 2816]⟩
abbrev S2816x1024 : Shape := ⟨2, ![2816, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x2816 : Shape := ⟨2, ![512, 2816]⟩

abbrev nBuf : Space → Nat
  | .hbm => 17
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x1024, .f32⟩
  | .hbm, ⟨9, _⟩ => ⟨S1x1024, .f32⟩
  | .hbm, ⟨10, _⟩ => ⟨S2048x1024, .bf16⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x2048, .bf16⟩
  | .local _ .vmem, ⟨9, _⟩ => ⟨S512x2048, .bf16⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x2048 : Shape := ⟨2, ![32768, 2048]⟩
abbrev S1024 : Shape := ⟨1, ![1024]⟩
abbrev S1024x2816 : Shape := ⟨2, ![1024, 2816]⟩
abbrev S2816x1024 : Shape := ⟨2, ![2816, 1024]⟩
abbrev S2048x1024 : Shape := ⟨2, ![2048, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2048x1024, .f32⟩
  | .hbm, ⟨9, _⟩ => ⟨S32768x2048, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x2816, .f32⟩
  | .hbm, ⟨45, _⟩ => ⟨S32768x2816, .f32⟩
  | .hbm, ⟨46, _⟩ => ⟨S32768x2816, .f32⟩
  | .hbm, ⟨47, _⟩ => ⟨S_, .f32⟩
  | .hbm, ⟨48, _⟩ => ⟨S32768x2816, .f32⟩
  | .hbm, ⟨49, _⟩ => ⟨S32768x2816, .f32⟩
  | .hbm, ⟨50, _⟩ => ⟨S_, .f32⟩
  | .hbm, ⟨51, _⟩ => ⟨S32768x2816, .f32⟩
  | .hbm, ⟨52, _⟩ => ⟨S32768x2816, .f32⟩
  | .hbm, ⟨53, _⟩ => ⟨S32768x2816, .f32⟩
  | .hbm, ⟨54, _⟩ => ⟨S32768x2816, .f32⟩
  | .hbm, ⟨55, _⟩ => ⟨S32768x2816, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S1x1024, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768x1024, .f32⟩
  | .hbm, ⟨75, _⟩ => ⟨S32768x1024, .f32⟩
  | .hbm, ⟨76, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel4.lean ====
abbrev S32768x1024 : Shape := ⟨2, ![32768, 1024]⟩
abbrev S4x32768x128 : Shape := ⟨3, ![4, 32768, 128]⟩
abbrev S32768x512 : Shape := ⟨2, ![32768, 512]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S4x32768x128, .bf16⟩
  | .hbm, ⟨2, _⟩ => ⟨S32768x512, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S512x1024, .bf16⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S4x512x128, .bf16⟩
  | .local _ .vmem, ⟨9, _⟩ => ⟨S4x512x128, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32768x1024 : Shape := ⟨2, ![32768, 1024]⟩
abbrev S4x32768x128 : Shape := ⟨3, ![4, 32768, 128]⟩
abbrev S32768x512 : Shape := ⟨2, ![32768, 512]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S32768x4x128 : Shape := ⟨3, ![32768, 4, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x128, .bf16⟩
  | .hbm, ⟨2, _⟩ => ⟨S32768x512, .bf16⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x1024, .f32⟩
  | .hbm, ⟨10, _⟩ => ⟨S4x32768x128, .f32⟩
  | .hbm, ⟨11, _⟩ => ⟨S32768x4x128, .f32⟩
  | .hbm, ⟨12, _⟩ => ⟨S32768x512, .f32⟩
  | .hbm, ⟨13, _⟩ => ⟨S32768x512, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x2816, .f32⟩
  | .hbm, ⟨50, _⟩ => ⟨S32768x2816, .f32⟩
  | .hbm, ⟨51, _⟩ => ⟨S32768x2816, .f32⟩
  | .hbm, ⟨52, _⟩ => ⟨S_, .f32⟩
  | .hbm, ⟨53, _⟩ => ⟨S32768x2816, .f32⟩
  | .hbm, ⟨54, _⟩ => ⟨S32768x2816, .f32⟩
  | .hbm, ⟨55, _⟩ => ⟨S_, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x2816, .f32⟩
  | .hbm, ⟨60, _⟩ => ⟨S32768x2816, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S32768x1, .f32⟩
  | .hbm, ⟨73, _⟩ => ⟨S32768x1024, .f32⟩
  | .hbm, ⟨74, _⟩ => ⟨S32768x1024, .f32⟩
  | .hbm, ⟨75, _⟩ => ⟨S1x1024, .f32⟩
  | .hbm, ⟨76, _⟩ => ⟨S32768x1024, .f32⟩
  | .hbm, ⟨77, _⟩ => ⟨S32768x1024, .f32⟩
  | .hbm, ⟨78, _⟩ => ⟨S_, .f32⟩
  | .hbm, ⟨79, _⟩ => ⟨S32768x1024, .f32⟩
  | .hbm, ⟨80, _⟩ => ⟨S32768x1024, .f32⟩
  | .hbm, ⟨81, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S1024x2048 : Shape := ⟨2, ![1024, 2048]⟩
abbrev S1024x3072 : Shape := ⟨2, ![1024, 3072]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S1x3072 : Shape := ⟨2, ![1, 3072]⟩
abbrev S32768x2048 : Shape := ⟨2, ![32768, 2048]⟩
abbrev S32768x3072 : Shape := ⟨2, ![32768, 3072]⟩
abbrev S32768x128 : Shape := ⟨2, ![32768, 128]⟩
abbrev S512x1024 : Shape := ⟨2, ![512, 1024]⟩
abbrev S8x1024 : Shape := ⟨2, ![8, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S8 : Shape := ⟨1, ![8]⟩
abbrev S8x1 : Shape := ⟨2, ![8, 1]⟩
abbrev S520x1024 : Shape := ⟨2, ![520, 1024]⟩
abbrev S1024x512 : Shape := ⟨2, ![1024, 512]⟩
abbrev S520x512 : Shape := ⟨2, ![520, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 17
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S1024x5152, .bf16⟩
  | .hbm, ⟨6, _⟩ => ⟨S1024x2048, .bf16⟩
  | .hbm, ⟨7, _⟩ => ⟨S1024x3072, .bf16⟩
  | .hbm, ⟨8, _⟩ => ⟨S1024x32, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S1x1024, .f32⟩
  | .hbm, ⟨13, _⟩ => ⟨S1x3072, .f32⟩
  | .hbm, ⟨14, _⟩ => ⟨S32768x2048, .f32⟩
  | .hbm, ⟨15, _⟩ => ⟨S32768x3072, .f32⟩
  | .hbm, ⟨16, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S4x3072, .f32⟩
  | .local _ .vmem, ⟨6, _⟩ => ⟨S1x3072, .f32⟩
  | .local _ .vmem, ⟨7, _⟩ => ⟨S1024x2048, .bf16⟩
  | .local _ .vmem, ⟨8, _⟩ => ⟨S1024x3072, .bf16⟩
  | .local _ .vmem, ⟨9, _⟩ => ⟨S1024x128, .bf16⟩
  | .local _ .vmem, ⟨10, _⟩ => ⟨S512x2048, .f32⟩
  | .local _ .vmem, ⟨11, _⟩ => ⟨S512x2048, .f32⟩
  | .local _ .vmem, ⟨12, _⟩ => ⟨S512x3072, .f32⟩
  | .local _ .vmem, ⟨13, _⟩ => ⟨S512x3072, .f32⟩
  | .local _ .vmem, ⟨14, _⟩ => ⟨S512x128, .f32⟩
  | .local _ .vmem, ⟨15, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S32768x1024 : Shape := ⟨2, ![32768, 1024]⟩
abbrev S1024 : Shape := ⟨1, ![1024]⟩
abbrev S1024x5152 : Shape := ⟨2, ![1024, 5152]⟩
abbrev S4x3072 : Shape := ⟨2, ![4, 3072]⟩
abbrev S3072 : Shape := ⟨1, ![3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5152 : Shape := ⟨2, ![32768, 5152]⟩
abbrev S32768x2048 : Shape := ⟨2, ![32768, 2048]⟩
abbrev S32768x3072 : Shape := ⟨2, ![32768, 3072]⟩
abbrev S32768x32 : Shape := ⟨2, ![32768, 32]⟩
abbrev S8x4096x3072 : Shape := ⟨3, ![8, 4096, 3072]⟩
abbrev S8x4099x3072 : Shape := ⟨3, ![8, 4099, 3072]⟩
abbrev S1x3072 : Shape := ⟨2, ![1, 3072]⟩
abbrev S1x1x3072 : Shape := ⟨3, ![1, 1, 3072]⟩
abbrev S32768x128 : Shape := ⟨2, ![32768, 128]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5152, .f32⟩
  | .hbm, ⟨3, _⟩ => ⟨S4x3072, .f32⟩
  | .hbm, ⟨4, _⟩ => ⟨S3072, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5152, .f32⟩
  | .hbm, ⟨22, _⟩ => ⟨S32768x2048, .f32⟩
  | .hbm, ⟨23, _⟩ => ⟨S32768x3072, .f32⟩
  | .hbm, ⟨24, _⟩ => ⟨S32768x32, .f32⟩
  | .hbm, ⟨25, _⟩ => ⟨S8x4096x3072, .f32⟩
  | .hbm, ⟨26, _⟩ => ⟨S_, .i32⟩
  | .hbm, ⟨27, _⟩ => ⟨S_, .f32⟩
  | .hbm, ⟨28, _⟩ => ⟨S8x4099x3072, .f32⟩
  | .hbm, ⟨29, _⟩ => ⟨S1x3072, .f32⟩
  | .hbm, ⟨30, _⟩ => ⟨S3072, .f32⟩
  | .hbm, ⟨31, _⟩ => ⟨S8x4096x3072, .f32⟩
  | .hbm, ⟨32, _⟩ => ⟨S1x1x3072, .f32⟩
  | .hbm, ⟨33, _⟩ => ⟨S8x4096x3072, .f32⟩
  | .hbm, ⟨34, _⟩ => ⟨S8x4096x3072, .f32⟩
  | .hbm, ⟨35, _⟩ => ⟨S_, .f32⟩
  | .hbm, ⟨36, _⟩ => ⟨S8x4096x3072, .f32⟩
  | .hbm, ⟨37, _⟩ => ⟨S8x4096x3072, .f32⟩
  | .hbm, ⟨38, _⟩ => ⟨S1x3072, .f32⟩
  | .hbm, ⟨39, _⟩ => ⟨S3072, .f32⟩
  | .hbm, ⟨40, _⟩ => ⟨S8x4096x3072, .f32⟩
  | .hbm, ⟨41, _⟩ => ⟨S1x1x3072, .f32⟩
  | .hbm, ⟨42, _⟩ => ⟨S8x4096x3072, .f32⟩
  | .hbm, ⟨43, _⟩ => ⟨S8x4096x3072, .f32⟩
  | .hbm, ⟨44, _⟩ => ⟨S8x4096x3072, .f32⟩
  | .hbm, ⟨45, _⟩ => ⟨S1x3072, .f32⟩
  | .hbm, ⟨46, _⟩ => ⟨S3072, .f32⟩
  | .hbm, ⟨47, _⟩ => ⟨S8x4096x3072, .f32⟩
  | .hbm, ⟨48, _⟩ => ⟨S1x1x3072, .f32⟩
  | .hbm, ⟨49, _⟩ => ⟨S8x4096x3072, .f32⟩
  | .hbm, ⟨50, _⟩ => ⟨S8x4096x3072, .f32⟩
  | .hbm, ⟨51, _⟩ => ⟨S8x4096x3072, .f32⟩
  | .hbm, ⟨52, _⟩ => ⟨S1x3072, .f32⟩
  | .hbm, ⟨53, _⟩ => ⟨S3072, .f32⟩
  | .hbm, ⟨54, _⟩ => ⟨S8x4096x3072, .f32⟩
  | .hbm, ⟨55, _⟩ => ⟨S1x1x3072, .f32⟩
  | .hbm, ⟨56, _⟩ => ⟨S8x4096x3072, .f32⟩
  | .hbm, ⟨57, _⟩ => ⟨S8x4096x3072, .f32⟩
  | .hbm, ⟨58, _⟩ => ⟨S8x4096x3072, .f32⟩
  | .hbm, ⟨59, _⟩ => ⟨S1x1x3072, .f32⟩
  | .hbm, ⟨60, _⟩ => ⟨S8x4096x3072, .f32⟩
  | .hbm, ⟨61, _⟩ => ⟨S8x4096x3072, .f32⟩
  | .hbm, ⟨62, _⟩ => ⟨S8x4096x3072, .f32⟩
  | .hbm, ⟨63, _⟩ => ⟨S8x4096x3072, .f32⟩
  | .hbm, ⟨64, _⟩ => ⟨S_, .f32⟩
  | .hbm, ⟨65, _⟩ => ⟨S8x4096x3072, .f32⟩
  | .hbm, ⟨66, _⟩ => ⟨S8x4096x3072, .f32⟩
  | .hbm, ⟨67, _⟩ => ⟨S_, .f32⟩
  | .hbm, ⟨68, _⟩ => ⟨S8x4096x3072, .f32⟩
  | .hbm, ⟨69, _⟩ => ⟨S8x4096x3072, .f32⟩
  | .hbm, ⟨70, _⟩ => ⟨S8x4096x3072, .f32⟩
  | .hbm, ⟨71, _⟩ => ⟨S32768x3072, .f32⟩
  | .hbm, ⟨72, _⟩ => ⟨S_, .i32⟩
  | .hbm, ⟨73, _⟩ => ⟨S_, .f32⟩
  | .hbm, ⟨74, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v51 : Ref sig .tc := ⟨.hbm, 70, rfl⟩
abbrev main_v52 : Ref sig .tc := ⟨.hbm, 71, rfl⟩
abbrev main_c_3 : Ref sig .tc := ⟨.hbm, 72, rfl⟩
abbrev main_call2_v0 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x3592 : Shape := ⟨2, ![1024, 3592]⟩
abbrev S4x1536 : Shape := ⟨2, ![4, 1536]⟩
abbrev S1024x512 : Shape := ⟨2, ![1024, 512]⟩
abbrev S_ : Shape := ⟨0, ![]⟩
abbrev S1024x1536 : Shape := ⟨2, ![1024, 1536]⟩
abbrev S1024x8 : Shape := ⟨2, ![1024, 8]⟩
abbrev S1024x128 : Shape := ⟨2, ![1024, 128]⟩
abbrev S1x1536 : Shape := ⟨2, ![1, 1536]⟩
abbrev S1x1024 : Shape := ⟨2, ![1, 1024]⟩
abbrev S4x32768x128 : Shape := ⟨3, ![4, 32768, 128]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S8x1024 : Shape := ⟨2, ![8, 1024]⟩
abbrev S4x512x128 : Shape := ⟨3, ![4, 512, 128]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8 : Shape := ⟨1, ![8]⟩
abbrev S8x1 : Shape := ⟨2, ![8, 1]⟩
abbrev S520x1024 : Shape := ⟨2, ![520, 1024]⟩
abbrev S520x512 : Shape := ⟨2, ![520, 512]⟩
abbrev S1x512x128 : Shape := ⟨3, ![1, 512, 128]⟩
abbrev S8x512 : Shape := ⟨2, ![8, 512]⟩
abbrev S1x512 : Shape := ⟨2, ![1, 512]⟩

abbrev nBuf : Space → Nat
  | .hbm => 26
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S4x1536, .f32⟩
  | .hbm, ⟨4, _⟩ => ⟨S1024x3592, .bf16⟩
  | .hbm, ⟨5, _⟩ => ⟨S1024x512, .bf16⟩
  | .hbm, ⟨6, _⟩ => ⟨S_, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x1536, .bf16⟩
  | .hbm, ⟨12, _⟩ => ⟨S1024x512, .bf16⟩
  | .hbm, ⟨13, _⟩ => ⟨S1024x8, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .f32⟩
  | .hbm, ⟨18, _⟩ => ⟨S1x1536, .f32⟩
  | .hbm, ⟨19, _⟩ => ⟨S1x1024, .f32⟩
  | .hbm, ⟨20, _⟩ => ⟨S4x32768x128, .f32⟩
  | .hbm, ⟨21, _⟩ => ⟨S4x32768x128, .f32⟩
  | .hbm, ⟨22, _⟩ => ⟨S4x32768x128, .f32⟩
  | .hbm, ⟨23, _⟩ => ⟨S32768x1536, .f32⟩
  | .hbm, ⟨24, _⟩ => ⟨S32768x512, .f32⟩
  | .hbm, ⟨25, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S4x1536, .f32⟩
  | .local _ .vmem, ⟨6, _⟩ => ⟨S1x1536, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1536, .bf16⟩
  | .local _ .vmem, ⟨11, _⟩ => ⟨S1024x512, .bf16⟩
  | .local _ .vmem, ⟨12, _⟩ => ⟨S1024x128, .bf16⟩
  | .local _ .vmem, ⟨13, _⟩ => ⟨S4x512x128, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S4x512x128, .f32⟩
  | .local _ .vmem, ⟨19, _⟩ => ⟨S512x1536, .f32⟩
  | .local _ .vmem, ⟨20, _⟩ => ⟨S512x1536, .f32⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S32768x1024 : Shape := ⟨2, ![32768, 1024]⟩
abbrev S1024 : Shape := ⟨1, ![1024]⟩
abbrev S1024x3592 : Shape := ⟨2, ![1024, 3592]⟩
abbrev S4x1536 : Shape := ⟨2, ![4, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3592 : Shape := ⟨2, ![32768, 3592]⟩
abbrev S32768x512 : Shape := ⟨2, ![32768, 512]⟩
abbrev S32768x1536 : Shape := ⟨2, ![32768, 1536]⟩
abbrev S32768x8 : Shape := ⟨2, ![32768, 8]⟩
abbrev S8x4096x1536 : Shape := ⟨3, ![8, 4096, 1536]⟩
abbrev S8x4099x1536 : Shape := ⟨3, ![8, 4099, 1536]⟩
abbrev S1x1536 : Shape := ⟨2, ![1, 1536]⟩
abbrev S1536 : Shape := ⟨1, ![1536]⟩
abbrev S1x1x1536 : Shape := ⟨3, ![1, 1, 1536]⟩
abbrev S32768x128 : Shape := ⟨2, ![32768, 128]⟩
abbrev S32768x4x128 : Shape := ⟨3, ![32768, 4, 128]⟩
abbrev S4x32768x128 : Shape := ⟨3, ![4, 32768, 128]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S4x1536, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3592, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x1536, .f32⟩
  | .hbm, ⟨25, _⟩ => ⟨S32768x512, .f32⟩
  | .hbm, ⟨26, _⟩ => ⟨S32768x8, .f32⟩
  | .hbm, ⟨27, _⟩ => ⟨S8x4096x1536, .f32⟩
  | .hbm, ⟨28, _⟩ => ⟨S_, .i32⟩
  | .hbm, ⟨29, _⟩ => ⟨S_, .f32⟩
  | .hbm, ⟨30, _⟩ => ⟨S8x4099x1536, .f32⟩
  | .hbm, ⟨31, _⟩ => ⟨S1x1536, .f32⟩
  | .hbm, ⟨32, _⟩ => ⟨S1536, .f32⟩
  | .hbm, ⟨33, _⟩ => ⟨S8x4096x1536, .f32⟩
  | .hbm, ⟨34, _⟩ => ⟨S1x1x1536, .f32⟩
  | .hbm, ⟨35, _⟩ => ⟨S8x4096x1536, .f32⟩
  | .hbm, ⟨36, _⟩ => ⟨S8x4096x1536, .f32⟩
  | .hbm, ⟨37, _⟩ => ⟨S_, .f32⟩
  | .hbm, ⟨38, _⟩ => ⟨S8x4096x1536, .f32⟩
  | .hbm, ⟨39, _⟩ => ⟨S8x4096x1536, .f32⟩
  | .hbm, ⟨40, _⟩ => ⟨S1x1536, .f32⟩
  | .hbm, ⟨41, _⟩ => ⟨S1536, .f32⟩
  | .hbm, ⟨42, _⟩ => ⟨S8x4096x1536, .f32⟩
  | .hbm, ⟨43, _⟩ => ⟨S1x1x1536, .f32⟩
  | .hbm, ⟨44, _⟩ => ⟨S8x4096x1536, .f32⟩
  | .hbm, ⟨45, _⟩ => ⟨S8x4096x1536, .f32⟩
  | .hbm, ⟨46, _⟩ => ⟨S8x4096x1536, .f32⟩
  | .hbm, ⟨47, _⟩ => ⟨S1x1536, .f32⟩
  | .hbm, ⟨48, _⟩ => ⟨S1536, .f32⟩
  | .hbm, ⟨49, _⟩ => ⟨S8x4096x1536, .f32⟩
  | .hbm, ⟨50, _⟩ => ⟨S1x1x1536, .f32⟩
  | .hbm, ⟨51, _⟩ => ⟨S8x4096x1536, .f32⟩
  | .hbm, ⟨52, _⟩ => ⟨S8x4096x1536, .f32⟩
  | .hbm, ⟨53, _⟩ => ⟨S8x4096x1536, .f32⟩
  | .hbm, ⟨54, _⟩ => ⟨S1x1536, .f32⟩
  | .hbm, ⟨55, _⟩ => ⟨S1536, .f32⟩
  | .hbm, ⟨56, _⟩ => ⟨S8x4096x1536, .f32⟩
  | .hbm, ⟨57, _⟩ => ⟨S1x1x1536, .f32⟩
  | .hbm, ⟨58, _⟩ => ⟨S8x4096x1536, .f32⟩
  | .hbm, ⟨59, _⟩ => ⟨S8x4096x1536, .f32⟩
  | .hbm, ⟨60, _⟩ => ⟨S8x4096x1536, .f32⟩
  | .hbm, ⟨61, _⟩ => ⟨S8x4096x1536, .f32⟩
  | .hbm, ⟨62, _⟩ => ⟨S8x4096x1536, .f32⟩
  | .hbm, ⟨63, _⟩ => ⟨S_, .f32⟩
  | .hbm, ⟨64, _⟩ => ⟨S8x4096x1536, .f32⟩
  | .hbm, ⟨65, _⟩ => ⟨S8x4096x1536, .f32⟩
  | .hbm, ⟨66, _⟩ => ⟨S_, .f32⟩
  | .hbm, ⟨67, _⟩ => ⟨S8x4096x1536, .f32⟩
  | .hbm, ⟨68, _⟩ => ⟨S8x4096x1536, .f32⟩
  | .hbm, ⟨69, _⟩ => ⟨S8x4096x1536, .f32⟩
  | .hbm, ⟨70, _⟩ => ⟨S_, .i32⟩
  | .hbm, ⟨71, _⟩ => ⟨S_, .f32⟩
  | .hbm, ⟨72, _⟩ => ⟨S32768x128, .f32⟩
  | .hbm, ⟨73, _⟩ => ⟨S_, .f32⟩
  | .hbm, ⟨74, _⟩ => ⟨S32768x512, .f32⟩
  | .hbm, ⟨75, _⟩ => ⟨S32768x512, .f32⟩
  | .hbm, ⟨76, _⟩ => ⟨S32768x4x128, .f32⟩
  | .hbm, ⟨77, _⟩ => ⟨S4x32768x128, .f32⟩
  | .hbm, ⟨78, _⟩ => ⟨S32768x4x128, .f32⟩
  | .hbm, ⟨79, _⟩ => ⟨S4x32768x128, .f32⟩
  | .hbm, ⟨80, _⟩ => ⟨S32768x4x128, .f32⟩
  | .hbm, ⟨81, _⟩ => ⟨S4x32768x128, .f32⟩
  | .hbm, ⟨82, _⟩ => ⟨S32768x1536, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v51 : Ref sig .tc := ⟨.hbm, 69, rfl⟩
abbrev main_c_3 : Ref sig .tc := ⟨.hbm, 70, rfl⟩
abbrev main_call2_v0 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel7.lean ====
abbrev S32768x1536 : Shape := ⟨2, ![32768, 1536]⟩
abbrev S32768x512 : Shape := ⟨2, ![32768, 512]⟩
abbrev S32768x128 : Shape := ⟨2, ![32768, 128]⟩
abbrev S4 : Shape := ⟨1, ![4]⟩
abbrev S128 : Shape := ⟨1, ![128]⟩
abbrev S1x4 : Shape := ⟨2, ![1, 4]⟩
abbrev S_ : Shape := ⟨0, ![]⟩
abbrev S1x128 : Shape := ⟨2, ![1, 128]⟩
abbrev S512x1536 : Shape := ⟨2, ![512, 1536]⟩
abbrev S512x512 : Shape := ⟨2, ![512, 512]⟩
abbrev S512x128 : Shape := ⟨2, ![512, 128]⟩
abbrev S4x128x128 : Shape := ⟨3, ![4, 128, 128]⟩
abbrev S128x128 : Shape := ⟨2, ![128, 128]⟩
abbrev S128x1 : Shape := ⟨2, ![128, 1]⟩
abbrev S256x128 : Shape := ⟨2, ![256, 128]⟩
abbrev S128x256 : Shape := ⟨2, ![128, 256]⟩
abbrev S1x1 : Shape := ⟨2, ![1, 1]⟩
abbrev S1x128x128 : Shape := ⟨3, ![1, 128, 128]⟩

abbrev nBuf : Space → Nat
  | .hbm => 16
  | .vmem => 12
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x128, .f32⟩
  | .hbm, ⟨3, _⟩ => ⟨S4, .f32⟩
  | .hbm, ⟨4, _⟩ => ⟨S4, .f32⟩
  | .hbm, ⟨5, _⟩ => ⟨S128, .f32⟩
  | .hbm, ⟨6, _⟩ => ⟨S1x4, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x4, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S32768x512, .bf16⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S4x128x128, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S32768x1536 : Shape := ⟨2, ![32768, 1536]⟩
abbrev S32768x512 : Shape := ⟨2, ![32768, 512]⟩
abbrev S32768x128 : Shape := ⟨2, ![32768, 128]⟩
abbrev S4 : Shape := ⟨1, ![4]⟩
abbrev S128 : Shape := ⟨1, ![128]⟩
abbrev S8x4096x1536 : Shape := ⟨3, ![8, 4096, 1536]⟩
abbrev S8x4096x4x128 : Shape := ⟨4, ![8, 4096, 4, 128]⟩
abbrev S8x4096x128 : Shape := ⟨3, ![8, 4096, 128]⟩
abbrev S8x4096x4 : Shape := ⟨3, ![8, 4096, 4]⟩
abbrev S8x4096x512 : Shape := ⟨3, ![8, 4096, 512]⟩
abbrev S_ : Shape := ⟨0, ![]⟩
abbrev S1x1x4 : Shape := ⟨3, ![1, 1, 4]⟩
abbrev S8x4096x4x1 : Shape := ⟨4, ![8, 4096, 4, 1]⟩
abbrev S4096x8x4x128 : Shape := ⟨4, ![4096, 8, 4, 128]⟩
abbrev S4096x8x4 : Shape := ⟨3, ![4096, 8, 4]⟩
abbrev S8x4x128x128 : Shape := ⟨4, ![8, 4, 128, 128]⟩
abbrev S1x8x4x128 : Shape := ⟨4, ![1, 8, 4, 128]⟩
abbrev S8x4x128 : Shape := ⟨3, ![8, 4, 128]⟩
abbrev S1x8x4 : Shape := ⟨3, ![1, 8, 4]⟩
abbrev S8x4 : Shape := ⟨2, ![8, 4]⟩
abbrev S8x4x1x1 : Shape := ⟨4, ![8, 4, 1, 1]⟩
abbrev S8x4x1 : Shape := ⟨3, ![8, 4, 1]⟩
abbrev S8x4x128x1 : Shape := ⟨4, ![8, 4, 128, 1]⟩
abbrev S8x4x1x128 : Shape := ⟨4, ![8, 4, 1, 128]⟩
abbrev S1x1x1x128 : Shape := ⟨4, ![1, 1, 1, 128]⟩

abbrev nBuf : Space → Nat
  | .hbm => 165
  | .vmem => 0
  | .smem => 0
  | _ => 0

abbrev hbmTy0_0 (i : Nat) : BufTy := match i % 128 with
  | 0 => ⟨S32768x1536, .f32⟩
  | 1 => ⟨S32768x512, .f32⟩
  | 2 => ⟨S32768x128, .f32⟩
  | 3 => ⟨S4, .f32⟩
  | 4 => ⟨S4, .f32⟩
  | 5 => ⟨S128, .f32⟩
  | 6 => ⟨S8x4096x1536, .f32⟩
  | 7 => ⟨S8x4096x4x128, .f32⟩
  | 8 => ⟨S8x4096x128, .f32⟩
  | 9 => ⟨S8x4096x4, .f32⟩
  | 10 => ⟨S8x4096x4, .f32⟩
  | 11 => ⟨S8x4096x512, .f32⟩
  | 12 => ⟨S8x4096x512, .f32⟩
  | 13 => ⟨S8x4096x512, .f32⟩
  | 14 => ⟨S8x4096x4x128, .f32⟩
  | 15 => ⟨S8x4096x4x128, .f32⟩
  | 16 => ⟨S8x4096x4x128, .f32⟩
  | 17 => ⟨S8x4096x4, .f32⟩
  | 18 => ⟨S8x4096x4, .f32⟩
  | 19 => ⟨S_, .f32⟩
  | 20 => ⟨S8x4096x4, .f32⟩
  | 21 => ⟨S8x4096x4, .f32⟩
  | 22 => ⟨S_, .f32⟩
  | 23 => ⟨S8x4096x4, .f32⟩
  | 24 => ⟨S8x4096x4, .f32⟩
  | 25 => ⟨S4, .f32⟩
  | 26 => ⟨S4, .f32⟩
  | 27 => ⟨S1x1x4, .f32⟩
  | 28 => ⟨S8x4096x4, .f32⟩
  | 29 => ⟨S8x4096x4, .f32⟩
  | 30 => ⟨S_, .f32⟩
  | 31 => ⟨S8x4096x4, .f32⟩
  | 32 => ⟨S8x4096x4, .f32⟩
  | 33 => ⟨S8x4096x4, .f32⟩
  | 34 => ⟨S8x4096x4, .f32⟩
  | 35 => ⟨S8x4096x4, .i1⟩
  | 36 => ⟨S8x4096x4, .f32⟩
  | 37 => ⟨S8x4096x4, .f32⟩
  | 38 => ⟨S8x4096x4, .f32⟩
  | 39 => ⟨S8x4096x4, .f32⟩
  | 40 => ⟨S8x4096x4, .f32⟩
  | 41 => ⟨S8x4096x4, .f32⟩
  | 42 => ⟨S8x4096x4, .f32⟩
  | 43 => ⟨S8x4096x4, .f32⟩
  | 44 => ⟨S1x1x4, .f32⟩
  | 45 => ⟨S8x4096x4, .f32⟩
  | 46 => ⟨S8x4096x4, .f32⟩
  | 47 => ⟨S8x4096x4x128, .f32⟩
  | 48 => ⟨S_, .f32⟩
  | 49 => ⟨S8x4096x4, .f32⟩
  | 50 => ⟨S8x4096x4x1, .f32⟩
  | 51 => ⟨S_, .f32⟩
  | 52 => ⟨S8x4096x4x1, .f32⟩
  | 53 => ⟨S8x4096x4x1, .f32⟩
  | 54 => ⟨S8x4096x4x1, .f32⟩
  | 55 => ⟨S8x4096x4x128, .f32⟩
  | 56 => ⟨S8x4096x4x128, .f32⟩
  | 57 => ⟨S8x4096x4x128, .f32⟩
  | 58 => ⟨S_, .f32⟩
  | 59 => ⟨S8x4096x4, .f32⟩
  | 60 => ⟨S8x4096x4x1, .f32⟩
  | 61 => ⟨S_, .f32⟩
  | 62 => ⟨S8x4096x4x1, .f32⟩
  | 63 => ⟨S8x4096x4x1, .f32⟩
  | 64 => ⟨S8x4096x4x1, .f32⟩
  | 65 => ⟨S8x4096x4x128, .f32⟩
  | 66 => ⟨S8x4096x4x128, .f32⟩
  | 67 => ⟨S_, .f32⟩
  | 68 => ⟨S8x4096x4x128, .f32⟩
  | 69 => ⟨S8x4096x4x128, .f32⟩
  | 70 => ⟨S4096x8x4x128, .f32⟩
  | 71 => ⟨S4096x8x4x128, .f32⟩
  | 72 => ⟨S4096x8x4x128, .f32⟩
  | 73 => ⟨S4096x8x4, .f32⟩
  | 74 => ⟨S4096x8x4, .f32⟩
  | 75 => ⟨S_, .f32⟩
  | 76 => ⟨S8x4x128x128, .f32⟩
  | 77 => ⟨S_, .f32⟩
  | 78 => ⟨S4096x8x4x128, .f32⟩
  | 79 => ⟨S_, .i32⟩
  | 80 => ⟨S4096x8x4x128, .f32⟩
  | 81 => ⟨S4096x8x4x128, .f32⟩
  | 82 => ⟨S4096x8x4x128, .f32⟩
  | 83 => ⟨S4096x8x4, .f32⟩
  | 84 => ⟨S4096x8x4, .f32⟩
  | 85 => ⟨S_, .i32⟩
  | 86 => ⟨S8x4x128x128, .f32⟩
  | 87 => ⟨S4096x8x4x128, .f32⟩
  | 88 => ⟨S_, .i32⟩
  | 89 => ⟨S_, .i1⟩
  | 90 => ⟨S_, .i32⟩
  | 91 => ⟨S_, .i32⟩
  | 92 => ⟨S_, .i32⟩
  | 93 => ⟨S1x8x4x128, .f32⟩
  | 94 => ⟨S8x4x128, .f32⟩
  | 95 => ⟨S_, .i32⟩
  | 96 => ⟨S_, .i32⟩
  | 97 => ⟨S_, .i32⟩
  | 98 => ⟨S1x8x4x128, .f32⟩
  | 99 => ⟨S8x4x128, .f32⟩
  | 100 => ⟨S_, .i32⟩
  | 101 => ⟨S_, .i32⟩
  | 102 => ⟨S_, .i32⟩
  | 103 => ⟨S1x8x4x128, .f32⟩
  | 104 => ⟨S8x4x128, .f32⟩
  | 105 => ⟨S_, .i32⟩
  | 106 => ⟨S_, .i32⟩
  | 107 => ⟨S1x8x4, .f32⟩
  | 108 => ⟨S8x4, .f32⟩
  | 109 => ⟨S_, .i32⟩
  | 110 => ⟨S_, .i32⟩
  | 111 => ⟨S1x8x4, .f32⟩
  | 112 => ⟨S8x4, .f32⟩
  | 113 => ⟨S8x4, .f32⟩
  | 114 => ⟨S8x4x1x1, .f32⟩
  | 115 => ⟨S8x4x128x128, .f32⟩
  | 116 => ⟨S8x4x128x128, .f32⟩
  | 117 => ⟨S8x4x1, .f32⟩
  | 118 => ⟨S8x4x128, .f32⟩
  | 119 => ⟨S8x4x128, .f32⟩
  | 120 => ⟨S8x4x128, .f32⟩
  | 121 => ⟨S8x4x128, .f32⟩
  | 122 => ⟨S8x4x128x1, .f32⟩
  | 123 => ⟨S8x4x1x128, .f32⟩
  | 124 => ⟨S8x4x128x128, .f32⟩
  | 125 => ⟨S8x4x128x128, .f32⟩
  | 126 => ⟨S8x4x128x128, .f32⟩
  | 127 => ⟨S8x4x128x128, .f32⟩
  | _ => ⟨S32768x1536, .f32⟩

abbrev hbmTy0_1 (i : Nat) : BufTy := match i % 128 with
  | 0 => ⟨S8x4x128, .f32⟩
  | 1 => ⟨S1x8x4x128, .f32⟩
  | 2 => ⟨S_, .i32⟩
  | 3 => ⟨S_, .i32⟩
  | 4 => ⟨S_, .i32⟩
  | 5 => ⟨S4096x8x4x128, .f32⟩
  | 6 => ⟨S_, .i32⟩
  | 7 => ⟨S_, .i32⟩
  | 8 => ⟨S8x4096x4x128, .f32⟩
  | 9 => ⟨S8x4096x4x128, .f32⟩
  | 10 => ⟨S_, .f32⟩
  | 11 => ⟨S8x4096x4, .f32⟩
  | 12 => ⟨S8x4096x4x1, .f32⟩
  | 13 => ⟨S_, .f32⟩
  | 14 => ⟨S8x4096x4x1, .f32⟩
  | 15 => ⟨S8x4096x4x1, .f32⟩
  | 16 => ⟨S_, .f32⟩
  | 17 => ⟨S8x4096x4x1, .f32⟩
  | 18 => ⟨S8x4096x4x1, .f32⟩
  | 19 => ⟨S8x4096x4x1, .f32⟩
  | 20 => ⟨S8x4096x4x128, .f32⟩
  | 21 => ⟨S8x4096x4x128, .f32⟩
  | 22 => ⟨S1x1x1x128, .f32⟩
  | 23 => ⟨S8x4096x4x128, .f32⟩
  | 24 => ⟨S8x4096x4x128, .f32⟩
  | 25 => ⟨S8x4096x4x128, .f32⟩
  | 26 => ⟨S8x4096x4x128, .f32⟩
  | 27 => ⟨S_, .f32⟩
  | 28 => ⟨S8x4096x4x128, .f32⟩
  | 29 => ⟨S8x4096x4x128, .f32⟩
  | 30 => ⟨S_, .f32⟩
  | 31 => ⟨S8x4096x4x128, .f32⟩
  | 32 => ⟨S8x4096x4x128, .f32⟩
  | 33 => ⟨S8x4096x4x128, .f32⟩
  | 34 => ⟨S8x4096x4x128, .f32⟩
  | 35 => ⟨S32768x512, .f32⟩
  | 36 => ⟨S32768x512, .bf16⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_c : Ref sig .tc := ⟨.hbm, 79, rfl⟩
abbrev main_v51_0 : Ref sig .tc := ⟨.hbm, 80, rfl⟩
abbrev main_v51_1 : Ref sig .tc := ⟨.hbm, 81, rfl⟩
abbrev main_v51_2 : Ref sig .tc := ⟨.hbm, 82, rfl⟩
abbrev main_v51_3 : Ref sig .tc := ⟨.hbm, 83, rfl⟩
abbrev main_v51_4 : Ref sig .tc := ⟨.hbm, 84, rfl⟩
abbrev main_v51_5 : Ref sig .tc := ⟨.hbm, 85, rfl⟩
abbrev main_v51_6 : Ref sig .tc := ⟨.hbm, 86, rfl⟩
abbrev main_v51_7 : Ref sig .tc := ⟨.hbm, 87, rfl⟩
abbrev main_while0c_c_18 : Ref sig .tc := ⟨.hbm, 88, rfl⟩
abbrev main_while0c_v70 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_v0 : Ref sig .tc := ⟨.hbm, 93, rfl⟩
abbrev main_while0b_v70 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_v0 : Ref sig .tc := ⟨.hbm, 98, rfl⟩
abbrev main_while0b_v71 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_v0 : Ref sig .tc := ⟨.hbm, 103, rfl⟩
abbrev main_while0b_v72 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_v0 : Ref sig .tc := ⟨.hbm, 107, rfl⟩
abbrev main_while0b_v73 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_v0 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_call6_v0 : Ref sig .tc := ⟨.hbm, 129, rfl⟩
abbrev main_while0b_call6_c : Ref sig .tc := ⟨.hbm, 130, rfl⟩
abbrev main_while0b_call6_c_0 : Ref sig .tc := ⟨.hbm, 131, rfl⟩
abbrev main_while0b_call6_c_1 : Ref sig .tc := ⟨.hbm, 132, rfl⟩
abbrev main_while0b_v91 : Ref sig .tc := ⟨.hbm, 133, rfl⟩
abbrev main_while0b_c_18 : Ref sig .tc := ⟨.hbm, 134, rfl⟩
abbrev main_while0b_v92 : Ref sig .tc := ⟨.hbm, 135, rfl⟩
abbrev main_v52 : Ref sig .tc := ⟨.hbm, 136, rfl⟩
abbrev main_v53 : Ref sig .tc := ⟨.hbm, 137, rfl⟩
abbrev main_cst_8 : Ref sig .tc := ⟨.hbm, 138, rfl⟩
abbrev main_v54 : Ref sig .tc := ⟨.hbm, 139, rfl⟩
abbrev main_v55 : Ref sig .tc := ⟨.hbm, 140, rfl⟩
abbrev main_cst_9 : Ref sig .tc := ⟨.hbm, 141, rfl⟩
abbrev main_v56 : Ref sig .tc := ⟨.hbm, 142, rfl⟩
abbrev main_v57 : Ref sig .tc := ⟨.hbm, 143, rfl⟩
abbrev main_cst_10 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_call7_v0 : Ref sig .tc := ⟨.hbm, 153, rfl⟩
abbrev main_call7_v1 : Ref sig .tc := ⟨.hbm, 154, rfl⟩
abbrev main_call7_cst : Ref sig .tc := ⟨.hbm, 155, rfl⟩
abbrev main_call7_v2 : Ref sig .tc := ⟨.hbm, 156, rfl⟩
abbrev main_call7_v3 : Ref sig .tc := ⟨.hbm, 157, rfl⟩
abbrev main_call7_cst_0 : Ref sig .tc := ⟨.hbm, 158, rfl⟩
abbrev main_call7_v4 : Ref sig .tc := ⟨.hbm, 159, rfl⟩
abbrev main_call7_v5 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩

abbrev nD : Nat := 1
abbrev τ : Topo := Topo.v7x

variable {F : FTy → Type} [FloatOps F]

abbrev main_while0_count : Scf.Loop 32 := ⟨0#32, 4096#32, 1#32⟩
-- ==== Proof.Block.lean ====
module

public import proofs.«01_k».proof.Proof.Gen.KernelIdeal.Value

/-! # What one grid point computes

The body handles 32 heads in 16 pairs of 128 channels and 4 groups of 4 pairs. The functions here
state one head, one pair and one group; the heads and groups differ in their slices alone, so each
function takes its index. `outPieces` and `scrPieces` are what the body stores. -/

@[expose] public section

set_option maxRecDepth 16384

noncomputable section

namespace Cert.KernelIdeal.Blk

open Cert.KernelIdeal Cert.KernelIdeal.Gen
open Idealize.ShloMosaic Idealize.ShloMosaic.TcCoe Idealize.SL.Sem

variable {F : FTy → Type} [FloatOps F] [Named F]

theorem slX (p : Fin 16) : S128x3072.Slices ![0, 128 * p.val] S128x128 := by revert p; decide +kernel
theorem slB (g : Fin 4) : S128x3072.Slices ![0, 2048 + 128 * g.val] S128x128 := by revert g; decide +kernel
theorem slC (g : Fin 4) : S128x3072.Slices ![0, 2560 + 128 * g.val] S128x128 := by revert g; decide +kernel
theorem slCol (h : Fin 32) : S128x128.Slices ![0, h.val] S128x1 := by revert h; decide +kernel
theorem slRow (h : Fin 32) : S128x128.Slices ![h.val, 0] S1x128 := by revert h; decide +kernel
theorem slP (p : Fin 16) : S128x2048.Slices ![0, 128 * p.val] S128x128 := by revert p; decide +kernel
theorem slQ (q : Fin 4) : S128x512.Slices ![0, 128 * q.val] S128x128 := by revert q; decide +kernel
theorem slG (g : Fin 4) : S1x2048.Slices ![0, 512 * g.val] S1x512 := by revert g; decide +kernel
theorem inP (p : Fin 16) : ∀ a, (![0, 128 * p.val] : Fin 2 → ℕ) a + S128x128.size a ≤ S128x2048.size a := by
  revert p; decide +kernel
theorem inR (p : Fin 16) : ∀ a, (![0, 128 * p.val] : Fin 2 → ℕ) a + S1x128.size a ≤ S1x2048.size a := by
  revert p; decide +kernel
theorem inS (g : Fin 4) : ∀ a, (![g.val, 0, 0] : Fin 3 → ℕ) a + S1x128x512.size a ≤ S4x128x512.size a := by
  revert g; decide +kernel

/-- The group of a head. -/
abbrev gH (h : Fin 32) : Fin 4 := ⟨h.val / 8, by omega⟩
/-- The group of a pair of heads. -/
abbrev gP (p : Fin 16) : Fin 4 := ⟨p.val / 4, by omega⟩
/-- The place of a pair in its group. -/
abbrev qP (p : Fin 16) : Fin 4 := ⟨p.val % 4, by omega⟩
/-- The two heads of a pair. -/
abbrev h0 (p : Fin 16) : Fin 32 := ⟨2 * p.val, by omega⟩
abbrev h1 (p : Fin 16) : Fin 32 := ⟨2 * p.val + 1, by omega⟩
/-- The pair at place `q` of group `g`. -/
abbrev pG (g q : Fin 4) : Fin 16 := ⟨4 * g.val + q.val, by omega⟩

variable (v0 : Vec F S128x3072 .f32) (v4 : Vec F S128x128 .f32) (v5 v17 : Vec F S1x128 .f32)
  (v33 : Vec F S256x2048 .bf16) (dR : Vec F S1x2048 .f32) (zR : Vec F S128x2048 .f32)
  (wR : Vec F S1x2048 .f32) (sg : Fin 4 → Vec F S1x128x512 .f32)

/-- The step sizes, on every channel. -/
def dtX : FVec F S128x2048 .f32 := k0_pay11 (k0_pay8 v33) (k0_pay9 v4 v5) (k0_pay10 v4 v5)
/-- The decays up to each time. -/
def acum : FVec F S128x128 .f32 := k0_pay5 v4 v5 v17
/-- The decay from the block's start to each time, on every channel. -/
def eAcumX : FVec F S128x2048 .f32 := k0_pay12 (acum v4 v5 v17) (k0_pay8 v33)
/-- The decay from each time to the block's end, on every channel. -/
def eRemX : FVec F S128x2048 .f32 := k0_pay13 (acum v4 v5 v17) (k0_pay7 v4 v5 v17) (k0_pay8 v33)
/-- The decay of the whole block, on every channel. -/
def eLastX : FVec F S1x2048 .f32 := k0_pay14 (k0_pay7 v4 v5 v17) (k0_pay8 v33)

def bG (g : Fin 4) : FVec F S128x128 .bf16 :=
  truncf .bf16 (extractStridedSlice S128x128 ![0, 2048 + 128 * g.val] v0 (slB g)) bitsLt_bf16_f32
def cG (g : Fin 4) : FVec F S128x128 .bf16 :=
  truncf .bf16 (extractStridedSlice S128x128 ![0, 2560 + 128 * g.val] v0 (slC g)) bitsLt_bf16_f32
/-- The products of the outputs' and the inputs' directions. -/
def cb (g : Fin 4) : FVec F S128x128 .f32 :=
  matmul dot_S128x128_S128x128_S128x128_1_1_0_0_n_n none (cG v0 g) (bG v0 g) (constant S128x128 .f32 0x00000000#32)

/-- One head's weights of the block's earlier inputs. -/
def seg (h : Fin 32) : FVec F S128x128 .bf16 :=
  truncf .bf16 (mulf (cb v0 (gH h)) (exp (select k0_pay4
    (subf (broadcastTo S128x128 (extractStridedSlice S128x1 ![0, h.val] (acum v4 v5 v17) (slCol h)) broadcasts_S128x1_S128x128)
      (broadcastTo S128x128 (extractStridedSlice S1x128 ![h.val, 0] (k0_pay6 v4 v5 v17) (slRow h)) broadcasts_S1x128_S128x128))
    (broadcast S128x128 (Named.named κ "mask" 0xF149F2CA#32))))) bitsLt_bf16_f32

def xs (p : Fin 16) : FVec F S128x128 .f32 := extractStridedSlice S128x128 ![0, 128 * p.val] v0 (slX p)
/-- The pair's inputs times the step sizes. -/
def xdt (p : Fin 16) : FVec F S128x128 .f32 :=
  mulf (xs v0 p) (extractStridedSlice S128x128 ![0, 128 * p.val] (dtX v4 v5 v33) (slP p))
/-- The pair's inputs, each head's in its own rows. -/
def rhs (p : Fin 16) : FVec F S256x128 .bf16 :=
  concatenate S256x128 0
    [⟨S128x128, select k0_pay15 (truncf .bf16 (xdt v0 v4 v5 v33 p) bitsLt_bf16_f32) k0_pay16⟩,
     ⟨S128x128, select k0_pay15 k0_pay16 (truncf .bf16 (xdt v0 v4 v5 v33 p) bitsLt_bf16_f32)⟩]
    concatenates_S128x128_S128x128_S256x128_d0
/-- What the block's own inputs give. -/
def yDiag (p : Fin 16) : FVec F S128x128 .f32 :=
  matmul dot_S128x256_S256x128_S128x128_1_0_0_1_n_n none
    (concatenate S128x256 1 [⟨S128x128, seg v0 v4 v5 v17 (h0 p)⟩, ⟨S128x128, seg v0 v4 v5 v17 (h1 p)⟩]
      concatenates_S128x128_S128x128_S128x256_d1)
    (rhs v0 v4 v5 v33 p) (constant S128x128 .f32 0x00000000#32)
def st (g : Fin 4) : FVec F S128x512 .f32 := shapeCast S128x512 (sg g) shapeCasts_S1x128x512_S128x512
/-- What the carried state gives, before its decay. -/
def yOffG (g : Fin 4) : FVec F S128x512 .f32 :=
  matmul dot_S128x128_S128x512_S128x512_1_0_0_1_n_n none (cG v0 g) (truncf .bf16 (st sg g) bitsLt_bf16_f32)
    (constant S128x512 .f32 0x00000000#32)
def zP (p : Fin 16) : Vec F S128x128 .f32 := View.ld zR (Rect.unit (s := S128x2048) ![0, 128 * p.val] S128x128.size (inP p))
def dP (p : Fin 16) : Vec F S1x128 .f32 := View.ld dR (Rect.unit (s := S1x2048) ![0, 128 * p.val] S1x128.size (inR p))
def wP (p : Fin 16) : Vec F S1x128 .f32 := View.ld wR (Rect.unit (s := S1x2048) ![0, 128 * p.val] S1x128.size (inR p))

/-- A pair's output before its norm. -/
def out (p : Fin 16) : FVec F S128x128 .f32 :=
  mulf (addf (addf (yDiag v0 v4 v5 v17 v33 p)
      (mulf (extractStridedSlice S128x128 ![0, 128 * (qP p).val] (yOffG v0 sg (gP p)) (slQ (qP p)))
        (extractStridedSlice S128x128 ![0, 128 * p.val] (eAcumX v4 v5 v17 v33) (slP p))))
      (mulf (broadcastTo S128x128 (shapeCast S1x128 (dP dR p) shapeCasts_S1x128_S1x128) broadcasts_S1x128_S128x128) (xs v0 p)))
    (mulf (zP zR p) (logistic (zP zR p)))
def sq (p : Fin 16) : FVec F S128x1 .f32 :=
  shapeCast S128x1 (multiReduction .add [1] S128
    (mulf (out v0 v4 v5 v17 v33 dR zR sg p) (out v0 v4 v5 v17 v33 dR zR sg p)) 0x00000000#32
    reduces_S128x128_S128 (.inl rfl) rfl) shapeCasts_S128_S128x1
def sumsq (g : Fin 4) : FVec F S128x1 .f32 :=
  addf (addf (addf (addf (broadcast S128x1 (FloatOps.ofBits .f32 0x00000000#32))
    (sq v0 v4 v5 v17 v33 dR zR sg (pG g 0))) (sq v0 v4 v5 v17 v33 dR zR sg (pG g 1)))
    (sq v0 v4 v5 v17 v33 dR zR sg (pG g 2))) (sq v0 v4 v5 v17 v33 dR zR sg (pG g 3))
def scale (g : Fin 4) : FVec F S128x1 .f32 :=
  rsqrt (addf (mulf (sumsq v0 v4 v5 v17 v33 dR zR sg g) (broadcast S128x1 (FloatOps.ofBits .f32 0x3B000000#32)))
    (broadcast S128x1 (FloatOps.ofBits .f32 0x358637BD#32)))
/-- A pair's stored output. -/
def res (p : Fin 16) : FVec F S128x128 .bf16 :=
  truncf .bf16 (mulf (mulf (out v0 v4 v5 v17 v33 dR zR sg p)
      (broadcastTo S128x128 (scale v0 v4 v5 v17 v33 dR zR sg (gP p)) broadcasts_S128x1_S128x128))
    (broadcastTo S128x128 (shapeCast S1x128 (wP wR p) shapeCasts_S1x128_S1x128) broadcasts_S1x128_S128x128)) bitsLt_bf16_f32
/-- A pair's inputs decayed to the block's end. -/
def xdec (p : Fin 16) : FVec F S128x128 .bf16 :=
  truncf .bf16 (mulf (xdt v0 v4 v5 v33 p)
    (extractStridedSlice S128x128 ![0, 128 * p.val] (eRemX v4 v5 v17 v33) (slP p))) bitsLt_bf16_f32
/-- A group's state after the block. -/
def stNew (g : Fin 4) : FVec F S1x128x512 .f32 :=
  shapeCast S1x128x512 (addf (mulf (st sg g)
      (broadcastTo S128x512 (extractStridedSlice S1x512 ![0, 512 * g.val] (eLastX v4 v5 v17 v33) (slG g)) broadcasts_S1x512_S128x512))
    (matmul dot_S128x128_S128x512_S128x512_0_0_1_1_n_n none (bG v0 g)
      (concatenate S128x512 1
        [⟨S128x128, xdec v0 v4 v5 v17 v33 (pG g 0)⟩, ⟨S128x128, xdec v0 v4 v5 v17 v33 (pG g 1)⟩,
         ⟨S128x128, xdec v0 v4 v5 v17 v33 (pG g 2)⟩, ⟨S128x128, xdec v0 v4 v5 v17 v33 (pG g 3)⟩]
        concatenates_S128x128_S128x128_S128x128_S128x128_S128x512_d1)
      (constant S128x512 .f32 0x00000000#32))) shapeCasts_S128x512_S1x128x512

/-- A pair's store. -/
def oP (p : Fin 16) : View.Piece (Elt F) S128x2048 .bf16 :=
  ⟨Rect.unit (s := S128x2048) ![0, 128 * p.val] S128x128.size (inP p), res v0 v4 v5 v17 v33 dR zR wR sg p⟩
/-- A group's store. -/
def sP (g : Fin 4) : View.Piece (Elt F) S4x128x512 .f32 :=
  ⟨Rect.unit (s := S4x128x512) ![g.val, 0, 0] S1x128x512.size (inS g), stNew v0 v4 v5 v17 v33 sg g⟩
/-- The stores of the output, the last one first. -/
def outPieces : List (View.Piece (Elt F) S128x2048 .bf16) :=
  [15, 14, 13, 12, 11, 10, 9, 8, 7, 6, 5, 4, 3, 2, 1, 0].map (oP v0 v4 v5 v17 v33 dR zR wR sg)
/-- The stores of the state, the last one first. -/
def scrPieces : List (View.Piece (Elt F) S4x128x512 .f32) :=
  [3, 2, 1, 0].map (sP v0 v4 v5 v17 v33 sg)

end Cert.KernelIdeal.Blk
-- ==== Proof.BlockOps.lean ====
module

public import proofs.«01_k».proof.Proof.Block
public import Idealize.ShloMosaic.PureOps.Ideal
public import Idealize.ShloMosaic.Lib.Pointwise
public import Idealize.ShloMosaic.Lib.WordCmp

/-! # The block's operations over the extended reals, one entry at a time -/

@[expose] public section

set_option maxRecDepth 16384

noncomputable section

namespace Cert.KernelIdeal.Blk

open Cert.KernelIdeal Cert.KernelIdeal.Gen
open Idealize.ShloMosaic Idealize.ShloMosaic.TcCoe Idealize.SL.Sem

theorem tri_sel {α : Type} (i j : Fin 128) (x y : α) :
    Scalar.select (IntOp.cmpi CmpIPredicate.sle (BitVec.ofNat 32 j.val) (BitVec.ofNat 32 i.val)) x y
      = if j.val ≤ i.val then x else y := by
  rw [WordCmp.cmpi_sle_ofNat (by omega) (by omega)]
  by_cases h : j.val ≤ i.val <;> simp [h] <;> rfl

theorem low_sel {α : Type} (j : Fin 128) (x y : α) :
    Scalar.select (IntOp.cmpi CmpIPredicate.slt (BitVec.ofNat 32 j.val) 64#32) x y
      = if j.val < 64 then x else y := by
  rw [show (64#32) = BitVec.ofNat 32 64 from rfl, WordCmp.cmpi_slt_ofNat (by omega) (by omega)]
  by_cases h : j.val < 64 <;> simp [h] <;> rfl

variable (v0 : Vec Ideal S128x3072 .f32) (v4 : Vec Ideal S128x128 .f32) (v5 v17 : Vec Ideal S1x128 .f32)
  (v33 : Vec Ideal S256x2048 .bf16) (dR : Vec Ideal S1x2048 .f32) (zR : Vec Ideal S128x2048 .f32)
  (wR : Vec Ideal S1x2048 .f32) (sg : Fin 4 → Vec Ideal S1x128x512 .f32)

/-- The step size from its argument. -/
def softplus (u : EReal) : EReal := max u 0 + Ideal.log1p (Ideal.exp (0 - max u (-u)))

theorem pay3_apply (i j : Fin 128) : k0_pay3 v4 v5 (ix2 i j) = softplus (v4 (ix2 i j) + v5 (ix2 0 j)) := by
  pointwise [k0_pay3, softplus]
  rfl

theorem acum_apply (i j : Fin 128) : acum v4 v5 v17 (ix2 i j)
    = ∑ k : Fin 128, (if k.val ≤ i.val then (1 : EReal) else 0) * ((0 - Ideal.exp (v17 (ix2 0 j))) * k0_pay3 v4 v5 (ix2 k j)) := by
  pointwise [acum, k0_pay5, k0_pay4, tri_sel]

theorem dtX_apply (i : Fin 128) (j : Fin 2048) : dtX v4 v5 v33 (ix2 i j)
    = ∑ k : Fin 256, (if h : k.val < 128 then k0_pay3 v4 v5 (ix2 i ⟨k.val, h⟩)
        else k0_pay3 v4 v5 (ix2 i ⟨k.val - 128, by omega⟩) - k0_pay3 v4 v5 (ix2 i ⟨k.val - 128, by omega⟩)) * v33 (ix2 k j) := by
  pointwise [dtX, k0_pay11, k0_pay8, k0_pay9, k0_pay10]

theorem eAcumX_apply (i : Fin 128) (j : Fin 2048) : eAcumX v4 v5 v17 v33 (ix2 i j)
    = ∑ k : Fin 256, (if h : k.val < 128 then Ideal.exp (acum v4 v5 v17 (ix2 i ⟨k.val, h⟩))
        else Ideal.exp (acum v4 v5 v17 (ix2 i ⟨k.val - 128, by omega⟩)) - Ideal.exp (acum v4 v5 v17 (ix2 i ⟨k.val - 128, by omega⟩))) * v33 (ix2 k j) := by
  pointwise [eAcumX, k0_pay12, k0_pay8]

theorem eRemX_apply (i : Fin 128) (j : Fin 2048) : eRemX v4 v5 v17 v33 (ix2 i j)
    = ∑ k : Fin 256, (if h : k.val < 128 then Ideal.exp (acum v4 v5 v17 (ix2 127 ⟨k.val, h⟩) - acum v4 v5 v17 (ix2 i ⟨k.val, h⟩))
        else Ideal.exp (acum v4 v5 v17 (ix2 127 ⟨k.val - 128, by omega⟩) - acum v4 v5 v17 (ix2 i ⟨k.val - 128, by omega⟩))
          - Ideal.exp (acum v4 v5 v17 (ix2 127 ⟨k.val - 128, by omega⟩) - acum v4 v5 v17 (ix2 i ⟨k.val - 128, by omega⟩))) * v33 (ix2 k j) := by
  unfold eRemX k0_pay7
  change k0_pay13 _ (extractStridedSlice S1x128 ![127, 0] (acum v4 v5 v17) slices_S128x128_o127_0_S1x128) _ _ = _
  generalize acum v4 v5 v17 = A
  pointwise [k0_pay13, k0_pay8]

theorem eLastX_apply (j : Fin 2048) : eLastX v4 v5 v17 v33 (ix2 0 j)
    = ∑ k : Fin 256, (if h : k.val < 128 then Ideal.exp (acum v4 v5 v17 (ix2 127 ⟨k.val, h⟩))
        else Ideal.exp (acum v4 v5 v17 (ix2 127 ⟨k.val - 128, by omega⟩)) - Ideal.exp (acum v4 v5 v17 (ix2 127 ⟨k.val - 128, by omega⟩))) * v33 (ix2 k j) := by
  unfold eLastX k0_pay7
  change k0_pay14 (extractStridedSlice S1x128 ![127, 0] (acum v4 v5 v17) slices_S128x128_o127_0_S1x128) _ _ = _
  generalize acum v4 v5 v17 = A
  pointwise [k0_pay14, k0_pay8]

theorem bG_apply (g : Fin 4) (i n : Fin 128) : bG v0 g (ix2 i n) = v0 (ix2 i ⟨2048 + 128 * g.val + n.val, by omega⟩) := by
  pointwise [bG]
theorem cG_apply (g : Fin 4) (i n : Fin 128) : cG v0 g (ix2 i n) = v0 (ix2 i ⟨2560 + 128 * g.val + n.val, by omega⟩) := by
  pointwise [cG]
theorem cb_apply (g : Fin 4) (i j : Fin 128) : cb v0 g (ix2 i j) = ∑ n : Fin 128, cG v0 g (ix2 i n) * bG v0 g (ix2 j n) := by
  pointwise [cb]

theorem mask_bot : Named.named (F := Ideal) κ "mask" (φ := .f32) 0xF149F2CA#32 = (⊥ : EReal) := rfl

theorem seg_apply (h : Fin 32) (i j : Fin 128) : seg v0 v4 v5 v17 h (ix2 i j)
    = cb v0 (gH h) (ix2 i j) * Ideal.exp (if j.val ≤ i.val then acum v4 v5 v17 (ix2 i ⟨h.val, by omega⟩) - acum v4 v5 v17 (ix2 j ⟨h.val, by omega⟩) else ⊥) := by
  unfold seg k0_pay6
  change truncf .bf16 (mulf (cb v0 (gH h)) (exp (select k0_pay4 (subf _ (broadcastTo S128x128 (extractStridedSlice S1x128 ![h.val, 0]
    (transpose S128x128 [1, 0] (acum v4 v5 v17) transposes_S128x128_p1_0_S128x128) _) _)) _))) _ _ = _
  generalize acum v4 v5 v17 = A
  pointwise [k0_pay4, tri_sel, mask_bot]

theorem xs_apply (p : Fin 16) (i j : Fin 128) : xs v0 p (ix2 i j) = v0 (ix2 i ⟨128 * p.val + j.val, by omega⟩) := by
  pointwise [xs]
theorem xdt_apply (p : Fin 16) (i j : Fin 128) : xdt v0 v4 v5 v33 p (ix2 i j)
    = xs v0 p (ix2 i j) * dtX v4 v5 v33 (ix2 i ⟨128 * p.val + j.val, by omega⟩) := by
  unfold xdt
  pointwise
theorem rhs_apply (p : Fin 16) (k : Fin 256) (j : Fin 128) : rhs v0 v4 v5 v33 p (ix2 k j)
    = if h : k.val < 128 then (if j.val < 64 then xdt v0 v4 v5 v33 p (ix2 ⟨k.val, h⟩ j) else 0)
      else (if j.val < 64 then 0 else xdt v0 v4 v5 v33 p (ix2 ⟨k.val - 128, by omega⟩ j)) := by
  unfold rhs
  generalize xdt v0 v4 v5 v33 p = x
  pointwise [k0_pay15, k0_pay16, low_sel]
theorem yDiag_apply (p : Fin 16) (i j : Fin 128) : yDiag v0 v4 v5 v17 v33 p (ix2 i j)
    = ∑ k : Fin 256, (if h : k.val < 128 then seg v0 v4 v5 v17 (h0 p) (ix2 i ⟨k.val, h⟩)
        else seg v0 v4 v5 v17 (h1 p) (ix2 i ⟨k.val - 128, by omega⟩)) * rhs v0 v4 v5 v33 p (ix2 k j) := by
  unfold yDiag
  pointwise
theorem st_apply (g : Fin 4) (n : Fin 128) (m : Fin 512) : st sg g (ix2 n m) = sg g (ix3 0 n m) := by
  unfold st
  pointwise
theorem yOffG_apply (g : Fin 4) (i : Fin 128) (m : Fin 512) : yOffG v0 sg g (ix2 i m)
    = ∑ n : Fin 128, cG v0 g (ix2 i n) * sg g (ix3 0 n m) := by
  unfold yOffG st
  pointwise
theorem zP_apply (p : Fin 16) (i j : Fin 128) : zP zR p (ix2 i j) = zR (ix2 i ⟨128 * p.val + j.val, by omega⟩) := by
  unfold zP
  pointwise
theorem dP_apply (p : Fin 16) (j : Fin 128) : dP dR p (ix2 0 j) = dR (ix2 0 ⟨128 * p.val + j.val, by omega⟩) := by
  unfold dP
  pointwise
theorem wP_apply (p : Fin 16) (j : Fin 128) : wP wR p (ix2 0 j) = wR (ix2 0 ⟨128 * p.val + j.val, by omega⟩) := by
  unfold wP
  pointwise
theorem out_apply (p : Fin 16) (i j : Fin 128) : out v0 v4 v5 v17 v33 dR zR sg p (ix2 i j)
    = ((yDiag v0 v4 v5 v17 v33 p (ix2 i j)
        + yOffG v0 sg (gP p) (ix2 i ⟨128 * (p.val % 4) + j.val, by omega⟩) * eAcumX v4 v5 v17 v33 (ix2 i ⟨128 * p.val + j.val, by omega⟩))
        + dR (ix2 0 ⟨128 * p.val + j.val, by omega⟩) * xs v0 p (ix2 i j))
      * (zR (ix2 i ⟨128 * p.val + j.val, by omega⟩) * Ideal.logistic (zR (ix2 i ⟨128 * p.val + j.val, by omega⟩))) := by
  simp only [← zP_apply zR, ← dP_apply]
  unfold out
  pointwise
theorem sq_apply (p : Fin 16) (i : Fin 128) : sq v0 v4 v5 v17 v33 dR zR sg p (ix2 i 0)
    = ∑ j : Fin 128, out v0 v4 v5 v17 v33 dR zR sg p (ix2 i j) * out v0 v4 v5 v17 v33 dR zR sg p (ix2 i j) := by
  unfold sq
  pointwise
theorem sumsq_apply (g : Fin 4) (i : Fin 128) : sumsq v0 v4 v5 v17 v33 dR zR sg g (ix2 i 0)
    = ∑ q : Fin 4, ∑ j : Fin 128, out v0 v4 v5 v17 v33 dR zR sg (pG g q) (ix2 i j) * out v0 v4 v5 v17 v33 dR zR sg (pG g q) (ix2 i j) := by
  simp only [Fin.sum_univ_four, ← sq_apply]
  unfold sumsq
  pointwise
theorem scale_apply (g : Fin 4) (i : Fin 128) : scale v0 v4 v5 v17 v33 dR zR sg g (ix2 i 0)
    = Ideal.rsqrt (sumsq v0 v4 v5 v17 v33 dR zR sg g (ix2 i 0) * Ideal.ofBits .f32 0x3B000000#32 + Ideal.ofBits .f32 0x358637BD#32) := by
  unfold scale
  pointwise
theorem res_apply (p : Fin 16) (i j : Fin 128) : res v0 v4 v5 v17 v33 dR zR wR sg p (ix2 i j)
    = out v0 v4 v5 v17 v33 dR zR sg p (ix2 i j) * scale v0 v4 v5 v17 v33 dR zR sg (gP p) (ix2 i 0)
      * wR (ix2 0 ⟨128 * p.val + j.val, by omega⟩) := by
  simp only [← wP_apply]
  unfold res
  pointwise
theorem xdec_apply (p : Fin 16) (i j : Fin 128) : xdec v0 v4 v5 v17 v33 p (ix2 i j)
    = xdt v0 v4 v5 v33 p (ix2 i j) * eRemX v4 v5 v17 v33 (ix2 i ⟨128 * p.val + j.val, by omega⟩) := by
  unfold xdec
  pointwise
theorem stNew_apply (g : Fin 4) (n : Fin 128) (m : Fin 512) : stNew v0 v4 v5 v17 v33 sg g (ix3 0 n m)
    = sg g (ix3 0 n m) * eLastX v4 v5 v17 v33 (ix2 0 ⟨512 * g.val + m.val, by omega⟩)
      + ∑ k : Fin 128, bG v0 g (ix2 k n) * xdec v0 v4 v5 v17 v33 (pG g ⟨m.val / 128, by omega⟩) (ix2 k ⟨m.val % 128, Nat.mod_lt _ (by decide)⟩) := by
  have key : ∀ (q : Fin 4) (k k' : Fin 128) (q' : Fin 4), q = q' → k = k' →
      ∀ x : Fin 128, xdec v0 v4 v5 v17 v33 (pG g q) (ix2 x k) = xdec v0 v4 v5 v17 v33 (pG g q') (ix2 x k') := by
    rintro _ _ _ _ rfl rfl _; rfl
  have hm := m.isLt
  unfold stNew st
  pointwise
  congr 1
  refine Finset.sum_congr rfl fun x _ => congrArg _ ?_
  split_ifs with h1 h2 h3 <;> refine key _ _ _ _ (Fin.ext ?_) (Fin.ext ?_) x <;> dsimp <;> omega

end Cert.KernelIdeal.Blk
-- ==== Proof.Recurrence.lean ====
/-
  The selective-state recurrence over the real numbers, and its evaluation a chunk at a time.

  One state element follows `h_{t+1} = exp(a_t) h_t + x_t B_t` from `h_0 = 0`. After a chunk of `l` steps the element is
  the decayed state of the chunk's start plus the chunk's own contributions, each decayed to the chunk's end; and the
  step's output `∑ n, C n * h n` is a masked quadratic form of the chunk plus the decayed product with the state.
-/
module

public import Mathlib.Analysis.SpecialFunctions.Exp
public import Mathlib.Algebra.BigOperators.Fin

@[expose] public section

noncomputable section

namespace Cert.Ssd

open Finset

/-- The state element before step `t`: zero at the start, then decayed by `exp (a t)` and increased by `x t * B t`. -/
def state (a x B : ℕ → ℝ) : ℕ → ℝ
  | 0 => 0
  | t + 1 => Real.exp (a t) * state a x B t + x t * B t

/-- The logarithm of the decay over the `l` steps from step `s`. -/
def cum (a : ℕ → ℝ) (s l : ℕ) : ℝ := ∑ j ∈ range l, a (s + j)

theorem cum_succ (a : ℕ → ℝ) (s l : ℕ) : cum a s (l + 1) = cum a s l + a (s + l) := sum_range_succ _ _

/-- The state after `l` steps of a chunk that starts at step `s`. -/
theorem state_chunk (a x B : ℕ → ℝ) (s l : ℕ) :
    state a x B (s + l) = Real.exp (cum a s l) * state a x B s
      + ∑ j ∈ range l, Real.exp (cum a s l - cum a s (j + 1)) * (x (s + j) * B (s + j)) := by
  induction l with
  | zero => simp [cum]
  | succ l ih =>
    have hs : ∑ j ∈ range l, Real.exp (cum a s (l + 1) - cum a s (j + 1)) * (x (s + j) * B (s + j))
        = Real.exp (a (s + l)) * ∑ j ∈ range l, Real.exp (cum a s l - cum a s (j + 1)) * (x (s + j) * B (s + j)) := by
      rw [mul_sum]
      refine sum_congr rfl fun j _ => ?_
      rw [cum_succ, show cum a s l + a (s + l) - cum a s (j + 1) = a (s + l) + (cum a s l - cum a s (j + 1)) by ring, Real.exp_add]
      ring
    rw [← add_assoc, state, ih, sum_range_succ, hs, sub_self, Real.exp_zero, cum_succ, Real.exp_add]
    ring

/-- The state at the end of a chunk of `L` steps, as the chunk's update forms it. -/
theorem state_update (a x B : ℕ → ℝ) (s L : ℕ) :
    state a x B (s + L) = state a x B s * Real.exp (cum a s L)
      + ∑ j : Fin L, B (s + j) * (x (s + j) * Real.exp (cum a s L - cum a s (j + 1))) := by
  rw [state_chunk, Fin.sum_univ_eq_sum_range fun j => B (s + j) * (x (s + j) * Real.exp (cum a s L - cum a s (j + 1)))]
  rw [mul_comm]
  congr 1
  exact sum_congr rfl fun j _ => by ring

/-- The output of step `s + r` of a chunk: the masked product within the chunk plus the decayed product with the
    chunk's first state. -/
theorem output_chunk {N : ℕ} (a x : ℕ → ℝ) (B : ℕ → Fin N → ℝ) (C : Fin N → ℝ) (s L : ℕ) (r : Fin L) :
    ∑ n, C n * state a x (fun t => B t n) (s + r + 1)
      = ∑ j : Fin L, ((∑ n, C n * B (s + j) n) * (if (j : ℕ) ≤ r then Real.exp (cum a s (r + 1) - cum a s (j + 1)) else 0)) * x (s + j)
        + (∑ n, C n * state a x (fun t => B t n) s) * Real.exp (cum a s (r + 1)) := by
  have h1 : ∀ n, C n * state a x (fun t => B t n) (s + r + 1)
      = C n * state a x (fun t => B t n) s * Real.exp (cum a s (r + 1))
        + ∑ j : Fin L, C n * (if (j : ℕ) ≤ r then Real.exp (cum a s (r + 1) - cum a s (j + 1)) else 0) * (x (s + j) * B (s + j) n) := by
    intro n
    rw [add_assoc, state_chunk, mul_add, mul_sum]
    congr 1
    · ring
    · rw [Fin.sum_univ_eq_sum_range fun j => C n * (if j ≤ (r : ℕ) then Real.exp (cum a s (r + 1) - cum a s (j + 1)) else 0) * (x (s + j) * B (s + j) n)]
      rw [← sum_subset (s₁ := range (r + 1)) (range_subset_range.mpr r.isLt)]
      · refine sum_congr rfl fun j hj => ?_
        rw [if_pos (Nat.lt_succ_iff.mp (mem_range.mp hj))]
        ring
      · intro j _ hj
        rw [if_neg (fun h => hj (mem_range.mpr (Nat.lt_succ_of_le h)))]
        ring
  rw [sum_congr rfl fun n _ => h1 n, sum_add_distrib, ← sum_mul, add_comm, sum_comm]
  congr 1
  refine sum_congr rfl fun j _ => ?_
  rw [sum_mul, sum_mul]
  exact sum_congr rfl fun n _ => by ring

end Cert.Ssd

end
-- ==== Proof.BlockMath.lean ====
module

public import proofs.«01_k».proof.Proof.BlockOps
public import proofs.«01_k».proof.Proof.Recurrence

/-! # One block is a stretch of the recurrence

Where the block's inputs are real numbers and the state it reads is the recurrence's at the block's first step, its
output is the recurrence's at each of its steps and the state it leaves is the recurrence's at the next block's
first step. -/

@[expose] public section

set_option maxRecDepth 16384

noncomputable section

namespace Cert.Ssd

/-- The logarithm of head `h`'s decay at each step. -/
def dec (D : ℕ → ℕ → ℝ) (ea : ℕ → ℝ) (h : ℕ) : ℕ → ℝ := fun t => ea h * D t h
/-- Channel `c`'s input at each step. -/
def inp (xr D : ℕ → ℕ → ℝ) (c : ℕ) : ℕ → ℝ := fun t => xr t c * D t (c / 64)
/-- Channel `c`'s state in direction `n`. -/
def St (xr D : ℕ → ℕ → ℝ) (ea : ℕ → ℝ) (c n : ℕ) : ℕ → ℝ :=
  state (dec D ea (c / 64)) (inp xr D c) (fun t => xr t (2048 + 128 * (c / 512) + n))
/-- Channel `c`'s output at step `t`. -/
def Y (xr D : ℕ → ℕ → ℝ) (ea : ℕ → ℝ) (c t : ℕ) : ℝ :=
  ∑ n : Fin 128, xr t (2560 + 128 * (c / 512) + n) * St xr D ea c n (t + 1)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum against the rows of the spreading matrix picks the head's own lane. -/
theorem spread_sum (f E : Fin 256 → EReal) (c : ℕ) (hc : c < 128) (r : ℝ) (h0 : f ⟨c, by omega⟩ = r)
    (h1 : f ⟨c + 128, by omega⟩ = 0) (hE : ∀ k, E k = if k.val % 128 = c then 1 else 0) : ∑ k, f k * E k = r := by
  rw [Fintype.sum_eq_add (⟨c, by omega⟩ : Fin 256) ⟨c + 128, by omega⟩ (by simp) (fun k hk => ?_)]
  · rw [h0, h1, hE, if_pos (show c % 128 = c by omega)]
    simp
  · rw [hE, if_neg, mul_zero]
    intro h
    obtain ⟨ha, hb⟩ := hk
    have := k.isLt
    have ha' : k.val ≠ c := fun h => ha (Fin.ext h)
    have hb' : k.val ≠ c + 128 := fun h => hb (Fin.ext h)
    omega

end Cert.Ssd

namespace Cert.KernelIdeal.Blk

open Cert.KernelIdeal Cert.KernelIdeal.Gen Cert.Ssd
open Idealize.ShloMosaic Idealize.ShloMosaic.TcCoe Idealize.SL.Sem

variable (v0 : Vec Ideal S128x3072 .f32) (v4 : Vec Ideal S128x128 .f32) (v5 v17 : Vec Ideal S1x128 .f32)
  (v33 : Vec Ideal S256x2048 .bf16) (sg : Fin 4 → Vec Ideal S1x128x512 .f32)
  (xr D : ℕ → ℕ → ℝ) (ea : ℕ → ℝ) (s : ℕ)

/-- What the block reads is real, and the state is the recurrence's at step `s`. -/
structure Reads : Prop where
  hx : ∀ (i : Fin 128) (c : Fin 3072), v0 (ix2 i c) = ((xr (s + i) c : ℝ) : EReal)
  hd : ∀ (i : Fin 128) (h : Fin 128), h.val < 32 → k0_pay3 v4 v5 (ix2 i h) = ((D (s + i) h : ℝ) : EReal)
  ha : ∀ h : Fin 128, h.val < 32 → 0 - Ideal.exp (v17 (ix2 0 h)) = ((ea h : ℝ) : EReal)
  he : ∀ (k : Fin 256) (c : Fin 2048), v33 (ix2 k c) = if k.val % 128 = c.val / 64 then (1 : EReal) else 0
  hs : ∀ (g : Fin 4) (n : Fin 128) (m : Fin 512),
    sg g (ix3 0 n m) = ((St xr D ea (512 * g.val + m.val) n.val s : ℝ) : EReal)

variable {v0 v4 v5 v17 v33 sg xr D ea s}

theorem acum_real (H : Reads v0 v4 v5 v17 v33 sg xr D ea s) (i h : Fin 128) (hh : h.val < 32) :
    acum v4 v5 v17 (ix2 i h) = ((cum (dec D ea h) s (i + 1) : ℝ) : EReal) := by
  have e : cum (dec D ea h) s (i + 1) = ∑ k : Fin 128, if k.val ≤ i.val then dec D ea h (s + k) else 0 := by
    rw [Fin.sum_univ_eq_sum_range fun k => if k ≤ i.val then dec D ea h (s + k) else 0, ← Finset.sum_filter]
    unfold cum
    refine Finset.sum_congr (Finset.ext fun k => ?_) fun _ _ => rfl
    have := i.isLt
    simp only [Finset.mem_range, Finset.mem_filter]
    omega
  rw [acum_apply, e, coe_sum]
  refine Finset.sum_congr rfl fun k _ => ?_
  rw [H.ha h hh, H.hd k h hh]
  split_ifs
  · rw [one_mul]; exact (EReal.coe_mul _ _).symm
  · rw [zero_mul]; rfl

theorem dtX_real (H : Reads v0 v4 v5 v17 v33 sg xr D ea s) (i : Fin 128) (c : Fin 2048) :
    dtX v4 v5 v33 (ix2 i c) = ((D (s + i) (c.val / 64) : ℝ) : EReal) := by
  have hc : c.val / 64 < 32 := by omega
  rw [dtX_apply]
  refine spread_sum _ _ (c.val / 64) (by omega) _ ?_ ?_ fun k => H.he k c
  · rw [dif_pos (show c.val / 64 < 128 by omega), H.hd i _ hc]
  · rw [dif_neg (show ¬c.val / 64 + 128 < 128 by omega), H.hd i _ (by dsimp; omega), ← EReal.coe_sub, sub_self, EReal.coe_zero]

theorem eAcumX_real (H : Reads v0 v4 v5 v17 v33 sg xr D ea s) (i : Fin 128) (c : Fin 2048) :
    eAcumX v4 v5 v17 v33 (ix2 i c) = ((Real.exp (cum (dec D ea (c.val / 64)) s (i + 1)) : ℝ) : EReal) := by
  have hc : c.val / 64 < 32 := by omega
  rw [eAcumX_apply]
  refine spread_sum _ _ (c.val / 64) (by omega) _ ?_ ?_ fun k => H.he k c
  · rw [dif_pos (show c.val / 64 < 128 by omega), acum_real H i _ hc, Ideal.exp_coe]
  · rw [dif_neg (show ¬c.val / 64 + 128 < 128 by omega), acum_real H i _ (by dsimp; omega), Ideal.exp_coe, ← EReal.coe_sub,
      sub_self, EReal.coe_zero]

theorem eRemX_real (H : Reads v0 v4 v5 v17 v33 sg xr D ea s) (i : Fin 128) (c : Fin 2048) :
    eRemX v4 v5 v17 v33 (ix2 i c)
      = ((Real.exp (cum (dec D ea (c.val / 64)) s 128 - cum (dec D ea (c.val / 64)) s (i + 1)) : ℝ) : EReal) := by
  have hc : c.val / 64 < 32 := by omega
  rw [eRemX_apply]
  refine spread_sum _ _ (c.val / 64) (by omega) _ ?_ ?_ fun k => H.he k c
  · rw [dif_pos (show c.val / 64 < 128 by omega), acum_real H i _ hc, acum_real H 127 _ hc, ← EReal.coe_sub, Ideal.exp_coe]
    rfl
  · rw [dif_neg (show ¬c.val / 64 + 128 < 128 by omega), acum_real H i _ (by dsimp; omega), acum_real H 127 _ (by dsimp; omega),
      ← EReal.coe_sub, Ideal.exp_coe, ← EReal.coe_sub, sub_self, EReal.coe_zero]

theorem eLastX_real (H : Reads v0 v4 v5 v17 v33 sg xr D ea s) (c : Fin 2048) :
    eLastX v4 v5 v17 v33 (ix2 0 c) = ((Real.exp (cum (dec D ea (c.val / 64)) s 128) : ℝ) : EReal) := by
  have hc : c.val / 64 < 32 := by omega
  rw [eLastX_apply]
  refine spread_sum _ _ (c.val / 64) (by omega) _ ?_ ?_ fun k => H.he k c
  · rw [dif_pos (show c.val / 64 < 128 by omega), acum_real H 127 _ hc, Ideal.exp_coe]
    rfl
  · rw [dif_neg (show ¬c.val / 64 + 128 < 128 by omega), acum_real H 127 _ (by dsimp; omega), Ideal.exp_coe, ← EReal.coe_sub,
      sub_self, EReal.coe_zero]

theorem seg_real (H : Reads v0 v4 v5 v17 v33 sg xr D ea s) (h : Fin 32) (i j : Fin 128) :
    seg v0 v4 v5 v17 h (ix2 i j)
      = (((∑ n : Fin 128, xr (s + i) (2560 + 128 * (h.val / 8) + n) * xr (s + j) (2048 + 128 * (h.val / 8) + n))
        * (if (j : ℕ) ≤ i then Real.exp (cum (dec D ea h) s (i + 1) - cum (dec D ea h) s (j + 1)) else 0) : ℝ) : EReal) := by
  rw [seg_apply, cb_apply, EReal.coe_mul, coe_sum]
  congr 1
  · refine Finset.sum_congr rfl fun n _ => ?_
    rw [cG_apply, bG_apply, H.hx, H.hx, EReal.coe_mul]
  · split_ifs
    · rw [acum_real H i _ h.isLt, acum_real H j _ h.isLt, ← EReal.coe_sub, Ideal.exp_coe]
    · rw [Ideal.exp_bot]; rfl

theorem xdt_real (H : Reads v0 v4 v5 v17 v33 sg xr D ea s) (p : Fin 16) (i j : Fin 128) :
    xdt v0 v4 v5 v33 p (ix2 i j) = ((inp xr D (128 * p.val + j.val) (s + i) : ℝ) : EReal) := by
  rw [xdt_apply, xs_apply, H.hx, dtX_real H, ← EReal.coe_mul]
  rfl

/-- The pair's two heads, each against its own rows: the channel's own head. -/
theorem yDiag_real (H : Reads v0 v4 v5 v17 v33 sg xr D ea s) (p : Fin 16) (i j : Fin 128) :
    yDiag v0 v4 v5 v17 v33 p (ix2 i j)
      = ∑ k : Fin 128, seg v0 v4 v5 v17 ⟨(128 * p.val + j.val) / 64, by omega⟩ (ix2 i k) * xdt v0 v4 v5 v33 p (ix2 k j) := by
  rw [yDiag_apply]
  have split : ∀ f : Fin 256 → EReal, ∑ k, f k
      = ∑ k : Fin 128, f ⟨k.val, by omega⟩ + ∑ k : Fin 128, f ⟨128 + k.val, by omega⟩ := fun f =>
    Fin.sum_univ_add (a := 128) (b := 128) f
  rw [split]
  have hs : ∀ h h' : Fin 32, h = h' → ∀ k, seg v0 v4 v5 v17 h (ix2 i k) = seg v0 v4 v5 v17 h' (ix2 i k) := by
    rintro _ _ rfl _; rfl
  by_cases hj : j.val < 64
  · rw [Finset.sum_eq_zero (s := Finset.univ) (f := fun k : Fin 128 => _ * rhs v0 v4 v5 v33 p (ix2 ⟨128 + k.val, _⟩ j)), add_zero]
    · refine Finset.sum_congr rfl fun k _ => ?_
      rw [rhs_apply, dif_pos k.isLt, dif_pos k.isLt, if_pos hj]
      congr 1
      exact hs _ _ (Fin.ext (by dsimp; omega)) _
    · intro k _
      rw [rhs_apply, dif_neg (show ¬128 + k.val < 128 by omega), dif_neg (show ¬128 + k.val < 128 by omega), if_pos hj, mul_zero]
  · rw [Finset.sum_eq_zero (s := Finset.univ) (f := fun k : Fin 128 => _ * rhs v0 v4 v5 v33 p (ix2 ⟨k.val, _⟩ j)), zero_add]
    · refine Finset.sum_congr rfl fun k _ => ?_
      have hk : (⟨128 + k.val - 128, by omega⟩ : Fin 128) = k := Fin.ext (by dsimp; omega)
      rw [rhs_apply, dif_neg (show ¬128 + k.val < 128 by omega), dif_neg (show ¬128 + k.val < 128 by omega), if_neg hj]
      dsimp only
      rw [hk]
      congr 1
      exact hs _ _ (Fin.ext (by dsimp; omega)) _
    · intro k _
      rw [rhs_apply, dif_pos k.isLt, dif_pos k.isLt, if_neg hj, mul_zero]

/-- The block's output before the skip, the gate and the norm. -/
theorem core_real (H : Reads v0 v4 v5 v17 v33 sg xr D ea s) (p : Fin 16) (i j : Fin 128) :
    yDiag v0 v4 v5 v17 v33 p (ix2 i j)
      + yOffG v0 sg (gP p) (ix2 i ⟨128 * (p.val % 4) + j.val, by omega⟩) * eAcumX v4 v5 v17 v33 (ix2 i ⟨128 * p.val + j.val, by omega⟩)
      = ((Y xr D ea (128 * p.val + j.val) (s + i) : ℝ) : EReal) := by
  set c := 128 * p.val + j.val with hc
  have e := output_chunk (dec D ea (c / 64)) (inp xr D c) (fun t (n : Fin 128) => xr t (2048 + 128 * (c / 512) + n))
    (fun n : Fin 128 => xr (s + i) (2560 + 128 * (c / 512) + n)) s 128 i
  have e' : Y xr D ea c (s + i) = _ := e
  rw [e', EReal.coe_add, EReal.coe_mul, coe_sum, coe_sum]
  congr 1
  · rw [yDiag_real H]
    refine Finset.sum_congr rfl fun k _ => ?_
    rw [seg_real H, xdt_real H, EReal.coe_mul]
    have h8 : (128 * p.val + j.val) / 64 / 8 = c / 512 := by omega
    simp only [h8]
    rfl
  · rw [eAcumX_real H, yOffG_apply]
    congr 1
    refine Finset.sum_congr rfl fun n _ => ?_
    rw [cG_apply, H.hx, H.hs, ← EReal.coe_mul]
    have h1 : p.val / 4 = c / 512 := by omega
    have h2 : 512 * (p.val / 4) + (128 * (p.val % 4) + j.val) = c := by omega
    simp only [h2]
    rw [h1]
    rfl

theorem stNew_real (H : Reads v0 v4 v5 v17 v33 sg xr D ea s) (g : Fin 4) (n : Fin 128) (m : Fin 512) :
    stNew v0 v4 v5 v17 v33 sg g (ix3 0 n m) = ((St xr D ea (512 * g.val + m.val) n.val (s + 128) : ℝ) : EReal) := by
  have hm := m.isLt
  set c := 512 * g.val + m.val with hc
  have e : St xr D ea c n.val (s + 128) = _ := state_update (dec D ea (c / 64)) (inp xr D c)
    (fun t => xr t (2048 + 128 * (c / 512) + n)) s 128
  rw [stNew_apply, e, H.hs, eLastX_real H, EReal.coe_add, EReal.coe_mul, coe_sum]
  congr 1
  refine Finset.sum_congr rfl fun k _ => ?_
  rw [bG_apply, H.hx, xdec_apply, xdt_real H, eRemX_real H, ← EReal.coe_mul, ← EReal.coe_mul]
  have h1 : 128 * (4 * g.val + m.val / 128) + m.val % 128 = c := by omega
  have h2 : g.val = c / 512 := by omega
  dsimp only
  simp only [h1]
  rw [← h2]

end Cert.KernelIdeal.Blk
-- ==== Proof.KerHost.lean ====
module

public import proofs.«01_k».proof.Proof.Gen.KernelIdeal.Value
public import proofs.«01_k».proof.Proof.BlockMath
public import Idealize.ShloMosaic.Lib.StableHlo.RunRead
public import Idealize.ShloMosaic.Lib.Pointwise

/-! # What the kernel's host code prepares: the padded rows, the repeated skip, the 0/1 matrix of heads and columns -/

@[expose] public section

set_option maxRecDepth 16384

noncomputable section

namespace Cert.KernelIdeal.Blk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- An argument on core `c`. -/
abbrev argK (r : Ref sig .tc) : (Proc.devRef .tc r : DevRef τ sig).ty.Contents (Elt Ideal) := m ((c.tc : Thread nD τ).loc r)

/-- A row of 32, padded to 128 lanes. -/
def hPad (x : Vec Ideal S32 .f32) : Vec Ideal S1x128 .f32 :=
  pad S1x128 ![0, 0] ![0, 96] ![0, 0] (shapeCast S1x32 x shapeCasts_S32_S1x32) (sitofp (F := Ideal) .f32 (constantI S_ 32 0#32)) pads_S1x32_S1x128_000_0960 h_S_

theorem hPad_apply (x : Vec Ideal S32 .f32) (h : Fin 32) : hPad x (ix2 0 ⟨h.val, by omega⟩) = x (ix1 h) := by
  unfold hPad pad
  rw [dif_pos (by
    intro a
    match a with
    | ⟨0, _⟩ => exact ⟨le_rfl, rfl, by show 0 / 1 < 1; decide⟩
    | ⟨1, _⟩ => exact ⟨Nat.zero_le _, by show (h.val - 0) % 1 = 0; omega, by show (h.val - 0) / 1 < 32; omega⟩)]
  have e : (fun a => ⟨(((ix2 (0 : Fin 1) (⟨h.val, by omega⟩ : Fin 128) : S1x128.Idx) a).val - (![0, 0] : Fin 2 → ℕ) a) / ((![0, 0] : Fin 2 → ℕ) a + 1), by
      match a with
      | ⟨0, _⟩ => show 0 / 1 < 1; decide
      | ⟨1, _⟩ => show (h.val - 0) / 1 < 32; omega⟩ : S1x32.Idx) = ix2 0 h := by
    funext a
    match a with
    | ⟨0, _⟩ => exact Fin.ext (show 0 / 1 = 0 from rfl)
    | ⟨1, _⟩ => exact Fin.ext (show (h.val - 0) / 1 = h.val by omega)
  refine (congrArg (shapeCast S1x32 x shapeCasts_S32_S1x32) e).trans ?_
  pointwise

/-- The head of each column. -/
def hFdiv : IVec S2048 32 :=
  let n : IVec S_ 32 := constantI S_ 32 64#32
  let x : IVec S2048 32 := iotaInDim S2048 32 0
  let d : IVec S2048 32 := Host.divsi x (broadcastInDim S2048 ![] bcast_S_S2048 n)
  select (andi (cmpi .ne (signi x) (broadcastInDim S2048 ![] bcast_S_S2048 (signi n)))
      (cmpi .ne (Host.remsi x (broadcastInDim S2048 ![] bcast_S_S2048 n)) (broadcastInDim S2048 ![] bcast_S_S2048 (constantI S_ 32 0#32))))
    (subi d (broadcastInDim S2048 ![] bcast_S_S2048 (constantI S_ 32 1#32))) d

/-- The head of each row. -/
def hRem : IVec S256x1 32 :=
  let n0 : IVec S_ 32 := constantI S_ 32 128#32
  let n : IVec S_ 32 := select (cmpi .eq n0 (constantI S_ 32 0#32)) (constantI S_ 32 1#32) n0
  let x : IVec S256x1 32 := broadcastInDim S256x1 ![0] bcast_S256_S256x1_0 (iotaInDim S256 32 0)
  let r : IVec S256x1 32 := Host.remsi x (broadcastInDim S256x1 ![] bcast_S_S256x1 n)
  select (andi (cmpi .ne (cmpi .slt r (broadcastInDim S256x1 ![] bcast_S_S256x1 (constantI S_ 32 0#32)))
        (broadcastInDim S256x1 ![] bcast_S_S256x1 (cmpi .slt n (constantI S_ 32 0#32))))
      (cmpi .ne r (broadcastInDim S256x1 ![] bcast_S_S256x1 (constantI S_ 32 0#32))))
    (addi r (broadcastInDim S256x1 ![] bcast_S_S256x1 n)) r

theorem hFdiv_apply : ∀ q : Fin 2048, hFdiv (ix1 q) = BitVec.ofNat 32 (q.val / 64) := by decide +kernel
theorem hRem_apply : ∀ k : Fin 256, hRem (ix2 k 0) = BitVec.ofNat 32 (k.val % 128) := by decide +kernel

/-- The 0/1 matrix. -/
def hEx : Vec Ideal S256x2048 .bf16 :=
  uitofp (F := Ideal) .bf16 (cmpi .eq (broadcastInDim S256x2048 ![0, 1] bcast_S256x1_S256x2048_0_1 hRem)
    (broadcastInDim S256x2048 ![0, 1] bcast_S1x2048_S256x2048_0_1 (broadcastInDim S1x2048 ![1] bcast_S2048_S1x2048_1 hFdiv)))

theorem hEx_apply (k : Fin 256) (q : Fin 2048) : hEx (ix2 k q) = if k.val % 128 = q.val / 64 then (1 : EReal) else 0 := by
  pointwise [hEx]
  rw [hFdiv_apply, hRem_apply]
  rw [WordCmp.cmpi_eq_eq]
  have e := WordCmp.ofNat_eq_ofNat_iff (w := 32) (a := k.val % 128) (b := q.val / 64) (by omega) (by omega)
  split_ifs with h
  · rw [decide_eq_true (e.mpr h)]
    show ((((BitVec.ofBool true).toNat : ℕ) : ℝ) : EReal) = 1
    simp
  · rw [decide_eq_false (fun g => h (e.mp g))]
    show ((((BitVec.ofBool false).toNat : ℕ) : ℝ) : EReal) = 0
    simp

theorem V_v1 : V m c main_v1 = hPad (argK m c main_arg3) := by
  unfold V
  simp only [List.flatten_cons, List.flatten_nil, List.append_nil, after_append]
  after_reads_simp
  rfl

theorem V_v3 : V m c main_v3 = hPad (argK m c main_arg4) := by
  unfold V
  simp only [List.flatten_cons, List.flatten_nil, List.append_nil, after_append]
  after_reads_simp
  rfl

theorem V_v17 : V m c main_v17 = hEx := by
  unfold V
  simp only [List.flatten_cons, List.flatten_nil, List.append_nil, after_append]
  after_reads_simp
  rfl

theorem V_v6 (q : Fin 2048) : (V m c main_v6 : Vec Ideal S1x2048 .f32) (ix2 0 q) = (argK m c main_arg5 : Vec Ideal S32 .f32) (ix1 ⟨q.val / 64, by omega⟩) := by
  unfold V
  simp only [List.flatten_cons, List.flatten_nil, List.append_nil, after_append]
  after_reads_simp
  pointwise

theorem V_v7 (q : Fin 2048) : (V m c main_v7 : Vec Ideal S1x2048 .f32) (ix2 0 q) = (argK m c main_arg6 : Vec Ideal S2048 .f32) (ix1 q) := by
  unfold V
  simp only [List.flatten_cons, List.flatten_nil, List.append_nil, after_append]
  after_reads_simp
  pointwise

end Cert.KernelIdeal.Blk
-- ==== Proof.KerBlocks.lean ====
module

public import proofs.«01_k».proof.Proof.KerHost

/-! # The block that each window brings to a grid point, at an index -/

@[expose] public section

set_option maxRecDepth 16384

noncomputable section

namespace Cert.KernelIdeal.Blk

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

abbrev b0 : Vec Ideal S128x3072 .f32 := iblk m c 0 t
abbrev b1 : Vec Ideal S128x2048 .f32 := iblk m c 1 t
abbrev b2 : Vec Ideal S128x128 .f32 := iblk m c 2 t
abbrev b3 : Vec Ideal S1x128 .f32 := iblk m c 3 t
abbrev b4 : Vec Ideal S1x128 .f32 := iblk m c 4 t
abbrev b5 : Vec Ideal S1x2048 .f32 := iblk m c 5 t
abbrev b6 : Vec Ideal S1x2048 .f32 := iblk m c 6 t
abbrev b7 : Vec Ideal S256x2048 .bf16 := iblk m c 7 t

theorem t_lt : t.val < 256 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem b0_apply (i : Fin 128) (k : Fin 3072) :
    b0 m c t (ix2 i k) = (argK m c main_arg0 : Vec Ideal S32768x3072 .f32) (ix2 ⟨128 * t.val + i.val, by have := t_lt t; omega⟩ k) := by
  show V m c main_arg0 (((cfg0.win 0).blk t).view.emb (ix2 i k)) = _
  rw [V_main_arg0]
  refine congrArg (argK m c main_arg0) ?_
  funext a
  apply Fin.ext
  obtain ⟨e0, e1⟩ := idx0 t
  match a with
  | ⟨0, _⟩ => show win0_0.index t (0 : Fin 2) * 128 + 1 * i.val = 128 * t.val + i.val; omega
  | ⟨1, _⟩ => show win0_0.index t (1 : Fin 2) * 3072 + 1 * k.val = k.val; omega

theorem b1_apply (i : Fin 128) (k : Fin 2048) :
    b1 m c t (ix2 i k) = (argK m c main_arg1 : Vec Ideal S32768x2048 .f32) (ix2 ⟨128 * t.val + i.val, by have := t_lt t; omega⟩ k) := by
  show V m c main_arg1 (((cfg0.win 1).blk t).view.emb (ix2 i k)) = _
  rw [V_main_arg1]
  refine congrArg (argK m c main_arg1) ?_
  funext a
  apply Fin.ext
  obtain ⟨e0, e1⟩ := idx1 t
  match a with
  | ⟨0, _⟩ => show win0_1.index t (0 : Fin 2) * 128 + 1 * i.val = 128 * t.val + i.val; omega
  | ⟨1, _⟩ => show win0_1.index t (1 : Fin 2) * 2048 + 1 * k.val = k.val; omega

theorem b2_apply (i : Fin 128) (k : Fin 128) :
    b2 m c t (ix2 i k) = (argK m c main_arg2 : Vec Ideal S32768x128 .f32) (ix2 ⟨128 * t.val + i.val, by have := t_lt t; omega⟩ k) := by
  show V m c main_arg2 (((cfg0.win 2).blk t).view.emb (ix2 i k)) = _
  rw [V_main_arg2]
  refine congrArg (argK m c main_arg2) ?_
  funext a
  apply Fin.ext
  obtain ⟨e0, e1⟩ := idx2 t
  match a with
  | ⟨0, _⟩ => show win0_2.index t (0 : Fin 2) * 128 + 1 * i.val = 128 * t.val + i.val; omega
  | ⟨1, _⟩ => show win0_2.index t (1 : Fin 2) * 128 + 1 * k.val = k.val; omega

theorem b3_eq : b3 m c t = V m c main_v1 := by
  funext j
  show V m c main_v1 (((cfg0.win 3).blk t).view.emb j) = _
  refine congrArg (V m c main_v1) ?_
  funext a
  apply Fin.ext
  match a with
  | ⟨0, _⟩ => show 0 * 1 + 1 * (j 0).val = (j 0).val; omega
  | ⟨1, _⟩ => show 0 * 128 + 1 * (j 1).val = (j 1).val; omega

theorem b4_eq : b4 m c t = V m c main_v3 := by
  funext j
  show V m c main_v3 (((cfg0.win 4).blk t).view.emb j) = _
  refine congrArg (V m c main_v3) ?_
  funext a
  apply Fin.ext
  match a with
  | ⟨0, _⟩ => show 0 * 1 + 1 * (j 0).val = (j 0).val; omega
  | ⟨1, _⟩ => show 0 * 128 + 1 * (j 1).val = (j 1).val; omega

theorem b5_eq : b5 m c t = V m c main_v6 := by
  funext j
  show V m c main_v6 (((cfg0.win 5).blk t).view.emb j) = _
  refine congrArg (V m c main_v6) ?_
  funext a
  apply Fin.ext
  match a with
  | ⟨0, _⟩ => show 0 * 1 + 1 * (j 0).val = (j 0).val; omega
  | ⟨1, _⟩ => show 0 * 2048 + 1 * (j 1).val = (j 1).val; omega

theorem b6_eq : b6 m c t = V m c main_v7 := by
  funext j
  show V m c main_v7 (((cfg0.win 6).blk t).view.emb j) = _
  refine congrArg (V m c main_v7) ?_
  funext a
  apply Fin.ext
  match a with
  | ⟨0, _⟩ => show 0 * 1 + 1 * (j 0).val = (j 0).val; omega
  | ⟨1, _⟩ => show 0 * 2048 + 1 * (j 1).val = (j 1).val; omega

theorem b7_eq : b7 m c t = V m c main_v17 := by
  funext j
  show V m c main_v17 (((cfg0.win 7).blk t).view.emb j) = _
  refine congrArg (V m c main_v17) ?_
  funext a
  apply Fin.ext
  match a with
  | ⟨0, _⟩ => show 0 * 256 + 1 * (j 0).val = (j 0).val; omega
  | ⟨1, _⟩ => show 0 * 2048 + 1 * (j 1).val = (j 1).val; omega

end Cert.KernelIdeal.Blk
-- ==== Proof.BlockRun.lean ====
module

public import proofs.«01_k».proof.Proof.Block

/-! # The body's stores are the generic ones

At the first block of a sequence (case A) the body clears the state first; at the others (case B) it reads what
the block before left. Both then store the same functions of the state they read. -/

@[expose] public section

set_option maxRecDepth 16384

noncomputable section

namespace Cert.KernelIdeal.Blk

open Cert.KernelIdeal Cert.KernelIdeal.Gen
open Idealize.ShloMosaic Idealize.ShloMosaic.TcCoe Idealize.SL.Sem

variable {F : FTy → Type} [FloatOps F] [Named F]

/-- The cleared state. -/
def zeroSt : FVec F S4x128x512 .f32 := constant S4x128x512 .f32 0x00000000#32
/-- The store that clears the state. -/
def zeroStore : List (View.Piece (Elt F) S4x128x512 .f32) :=
  [⟨Rect.unit (s := S4x128x512) ![0, 0, 0] S4x128x512.size inb_S4x128x512_S4x128x512_0_0_0, zeroSt⟩]
/-- A group of the state. -/
def stG (S : Vec F S4x128x512 .f32) (g : Fin 4) : Vec F S1x128x512 .f32 :=
  View.ld S (Rect.unit (s := S4x128x512) ![g.val, 0, 0] S1x128x512.size (inS g))

section
variable (c : Dev nD) (i : grid0.Coords) (arg2 : Memref sig .tc .vmem S128x3072 .f32) (harg2 : arg2.IsWhole) (arg3 :
  Memref sig .tc .vmem S128x2048 .f32) (harg3 : arg3.IsWhole) (arg4 : Memref sig .tc .vmem S128x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x2048 .f32) (harg7 : arg7.IsWhole) (arg8 :
  Memref sig .tc .vmem S1x2048 .f32) (harg8 : arg8.IsWhole) (arg9 : Memref sig .tc .vmem S256x2048 .bf16) (harg9
  : arg9.IsWhole) (arg10 : Memref sig .tc .vmem S128x2048 .bf16) (harg10 : arg10.IsWhole) (arg11 : Memref sig
  .tc .vmem S4x128x512 .f32) (harg11 : arg11.IsWhole)
  (x0 : Vec F S128x3072 .f32) (x1 : Vec F S128x2048 .f32) (x2 : Vec F S128x128 .f32) (x3 : Vec F S1x128 .f32)
  (x4 : Vec F S1x128 .f32) (x5 : Vec F S1x2048 .f32) (x6 : Vec F S1x2048 .f32) (x7 : Vec F S256x2048 .bf16)
  (xs0 : Vec F S4x128x512 .f32)

theorem outB_pieces (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).1 = outPieces
      (View.readAt (Elt F) arg2.view (Rect.unit (s := S128x3072) ![0, 0] S128x3072.size inb_S128x3072_S128x3072_0_0).toLoadRect (harg2.unread x0))
      (View.readAt (Elt F) arg4.view (Rect.unit (s := S128x128) ![0, 0] S128x128.size inb_S128x128_S128x128_0_0).toLoadRect (harg4.unread x2))
      (View.readAt (Elt F) arg5.view (Rect.unit (s := S1x128) ![0, 0] S1x128.size inb_S1x128_S1x128_0_0).toLoadRect (harg5.unread x3))
      (View.readAt (Elt F) arg6.view (Rect.unit (s := S1x128) ![0, 0] S1x128.size inb_S1x128_S1x128_0_0).toLoadRect (harg6.unread x4))
      (View.readAt (Elt F) arg9.view (Rect.unit (s := S256x2048) ![0, 0] S256x2048.size inb_S256x2048_S256x2048_0_0).toLoadRect (harg9.unread x7))
      (arg7.view.read (Elt F) (harg7.unread x5))
      (arg3.view.read (Elt F) (harg3.unread x1))
      (arg8.view.read (Elt F) (harg8.unread x6))
      (fun g => View.ld (arg11.view.read (Elt F) (harg11.unread xs0)) (Rect.unit (s := S4x128x512) ![g.val, 0, 0] S1x128x512.size (inS g))) := rfl

theorem scrB_pieces (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 x7 xs0).2.1 = scrPieces
      (View.readAt (Elt F) arg2.view (Rect.unit (s := S128x3072) ![0, 0] S128x3072.size inb_S128x3072_S128x3072_0_0).toLoadRect (harg2.unread x0))
      (View.readAt (Elt F) arg4.view (Rect.unit (s := S128x128) ![0, 0] S128x128.size inb_S128x128_S128x128_0_0).toLoadRect (harg4.unread x2))
      (View.readAt (Elt F) arg5.view (Rect.unit (s := S1x128) ![0, 0] S1x128.size inb_S1x128_S1x128_0_0).toLoadRect (harg5.unread x3))
      (View.readAt (Elt F) arg6.view (Rect.unit (s := S1x128) ![0, 0] S1x128.size inb_S1x128_S1x128_0_0).toLoadRect (harg6.unread x4))
      (View.readAt (Elt F) arg9.view (Rect.unit (s := S256x2048) ![0, 0] S256x2048.size inb_S256x2048_S256x2048_0_0).toLoadRect (harg9.unread x7))
      (fun g => View.ld (arg11.view.read (Elt F) (harg11.unread xs0)) (Rect.unit (s := S4x128x512) ![g.val, 0, 0] S1x128x512.size (inS g))) := rfl

theorem outA_pieces (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6 x7).1 = outPieces
      (View.readAt (Elt F) arg2.view (Rect.unit (s := S128x3072) ![0, 0] S128x3072.size inb_S128x3072_S128x3072_0_0).toLoadRect (harg2.unread x0))
      (View.readAt (Elt F) arg4.view (Rect.unit (s := S128x128) ![0, 0] S128x128.size inb_S128x128_S128x128_0_0).toLoadRect (harg4.unread x2))
      (View.readAt (Elt F) arg5.view (Rect.unit (s := S1x128) ![0, 0] S1x128.size inb_S1x128_S1x128_0_0).toLoadRect (harg5.unread x3))
      (View.readAt (Elt F) arg6.view (Rect.unit (s := S1x128) ![0, 0] S1x128.size inb_S1x128_S1x128_0_0).toLoadRect (harg6.unread x4))
      (View.readAt (Elt F) arg9.view (Rect.unit (s := S256x2048) ![0, 0] S256x2048.size inb_S256x2048_S256x2048_0_0).toLoadRect (harg9.unread x7))
      (arg7.view.read (Elt F) (harg7.unread x5))
      (arg3.view.read (Elt F) (harg3.unread x1))
      (arg8.view.read (Elt F) (harg8.unread x6))
      (fun g => arg11.view.readCov zeroStore (Rect.unit (s := S4x128x512) ![g.val, 0, 0] S1x128x512.size (inS g)).toLoadRect) := rfl

theorem scrA_pieces (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6 x7).2.1 = scrPieces
      (View.readAt (Elt F) arg2.view (Rect.unit (s := S128x3072) ![0, 0] S128x3072.size inb_S128x3072_S128x3072_0_0).toLoadRect (harg2.unread x0))
      (View.readAt (Elt F) arg4.view (Rect.unit (s := S128x128) ![0, 0] S128x128.size inb_S128x128_S128x128_0_0).toLoadRect (harg4.unread x2))
      (View.readAt (Elt F) arg5.view (Rect.unit (s := S1x128) ![0, 0] S1x128.size inb_S1x128_S1x128_0_0).toLoadRect (harg5.unread x3))
      (View.readAt (Elt F) arg6.view (Rect.unit (s := S1x128) ![0, 0] S1x128.size inb_S1x128_S1x128_0_0).toLoadRect (harg6.unread x4))
      (View.readAt (Elt F) arg9.view (Rect.unit (s := S256x2048) ![0, 0] S256x2048.size inb_S256x2048_S256x2048_0_0).toLoadRect (harg9.unread x7))
      (fun g => arg11.view.readCov zeroStore (Rect.unit (s := S4x128x512) ![g.val, 0, 0] S1x128x512.size (inS g)).toLoadRect) ++ zeroStore := rfl

end

end Cert.KernelIdeal.Blk
-- ==== Proof.BlockVal.lean ====
module

public import proofs.«01_k».proof.Proof.BlockRun
public import Idealize.ShloMosaic.Lib.Pipeline.CanonAppend
public import Idealize.ShloMosaic.Lib.Pointwise
public import Idealize.ShloMosaic.Lib.ValueIdx

/-! # What one grid point leaves, as functions of what it reads -/

@[expose] public section

set_option maxRecDepth 16384

noncomputable section

namespace Cert.KernelIdeal.Blk

open Cert.KernelIdeal Cert.KernelIdeal.Gen
open Idealize.ShloMosaic Idealize.ShloMosaic.TcCoe Idealize.SL.Sem

variable {F : FTy → Type} [FloatOps F] [Named F]

theorem hz2 : (![0, 0] : Fin 2 → ℕ) = fun _ => 0 := by decide
theorem hz3 : (![0, 0, 0] : Fin 3 → ℕ) = fun _ => 0 := by decide

/-- A load of a whole buffer reads its contents. -/
theorem readAt_whole {S : Shape} {e : EltTy} {off : Fin S.rank → ℕ} (hz : off = fun _ => 0)
    (a : Memref sig .tc .vmem S e) (h : a.IsWhole) (inb) (x : Vec F S e) :
    View.readAt (Elt F) a.view (Rect.unit (s := S) off S.size inb).toLoadRect (h.unread x) = x := by
  rw [View.readAt_eq_ld, h.read_unread, View.ld_unit_zero hz]

section
variable (c : Dev nD) (i : grid0.Coords) (arg2 : Memref sig .tc .vmem S128x3072 .f32) (harg2 : arg2.IsWhole) (arg3 :
  Memref sig .tc .vmem S128x2048 .f32) (harg3 : arg3.IsWhole) (arg4 : Memref sig .tc .vmem S128x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x2048 .f32) (harg7 : arg7.IsWhole) (arg8 :
  Memref sig .tc .vmem S1x2048 .f32) (harg8 : arg8.IsWhole) (arg9 : Memref sig .tc .vmem S256x2048 .bf16) (harg9
  : arg9.IsWhole) (arg10 : Memref sig .tc .vmem S128x2048 .bf16) (harg10 : arg10.IsWhole) (arg11 : Memref sig
  .tc .vmem S4x128x512 .f32) (harg11 : arg11.IsWhole)
  (x0 : Vec F S128x3072 .f32) (x1 : Vec F S128x2048 .f32) (x2 : Vec F S128x128 .f32) (x3 : Vec F S1x128 .f32)
  (x4 : Vec F S1x128 .f32) (x5 : Vec F S1x2048 .f32) (x6 : Vec F S1x2048 .f32) (x7 : Vec F S256x2048 .bf16)
  (xs0 : Vec F S4x128x512 .f32)

theorem readCov_zeroStore : (fun g : Fin 4 => arg11.view.readCov (zeroStore (F := F))
    (Rect.unit (s := S4x128x512) ![g.val, 0, 0] S1x128x512.size (inS g)).toLoadRect) = stG zeroSt := by
  funext g
  refine (View.readCov_eq_canon_ld _ _ _ (fun y => ⟨_, List.mem_cons_self,
    View.mem_set_unit_zero hz3 inb_S4x128x512_S4x128x512_0_0_0 y⟩)).trans ?_
  unfold stG
  rw [View.canon_unit_zero hz3]

theorem outB_eq (hc0 : ¬cond0_0 i) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = View.canon (outPieces x0 x2 x3 x4 x7 x5 x1 x6 (stG xs0)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0), outB_pieces]
  rw [readAt_whole (S := S128x3072) hz2, readAt_whole (S := S128x128) hz2, readAt_whole (S := S1x128) hz2,
    readAt_whole (S := S1x128) hz2, readAt_whole (S := S256x2048) hz2]
  simp only [Memref.IsWhole.read_unread]
  rfl

theorem scrB_eq (hc0 : ¬cond0_0 i) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 = View.canon (scrPieces x0 x2 x3 x4 x7 (stG xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 x0 x1 x2 x3 x4 x5 x6 x7 xs0), scrB_pieces]
  rw [readAt_whole (S := S128x3072) hz2, readAt_whole (S := S128x128) hz2, readAt_whole (S := S1x128) hz2,
    readAt_whole (S := S1x128) hz2, readAt_whole (S := S256x2048) hz2]
  simp only [Memref.IsWhole.read_unread]
  rfl

theorem outA_eq (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6 x7 = View.canon (outPieces x0 x2 x3 x4 x7 x5 x1 x6 (stG zeroSt)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7), outA_pieces]
  rw [readAt_whole (S := S128x3072) hz2, readAt_whole (S := S128x128) hz2, readAt_whole (S := S1x128) hz2,
    readAt_whole (S := S1x128) hz2, readAt_whole (S := S256x2048) hz2]
  rw [readCov_zeroStore]
  simp only [Memref.IsWhole.read_unread]

theorem scrA_eq (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 x7 = View.canon (scrPieces x0 x2 x3 x4 x7 (stG zeroSt) ++ zeroStore) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7), scrA_pieces]
  rw [readAt_whole (S := S128x3072) hz2, readAt_whole (S := S128x128) hz2, readAt_whole (S := S1x128) hz2,
    readAt_whole (S := S1x128) hz2, readAt_whole (S := S256x2048) hz2]
  rw [readCov_zeroStore]

end

variable (v0 : Vec F S128x3072 .f32) (v4 : Vec F S128x128 .f32) (v5 v17 : Vec F S1x128 .f32)
  (v33 : Vec F S256x2048 .bf16) (dR : Vec F S1x2048 .f32) (zR : Vec F S128x2048 .f32)
  (wR : Vec F S1x2048 .f32) (sg : Fin 4 → Vec F S1x128x512 .f32)

/-- The block's output. -/
def outBlk : Vec F S128x2048 .bf16 := fun j =>
  res v0 v4 v5 v17 v33 dR zR wR sg ⟨(j 1).val / 128, by have := (j 1).isLt; change _ < 2048 at this; omega⟩
    (ix2 (j 0) ⟨(j 1).val % 128, Nat.mod_lt _ (by decide)⟩)
/-- The state after the block. -/
def scrBlk : Vec F S4x128x512 .f32 := fun j =>
  stNew v0 v4 v5 v17 v33 sg (j 0) (ix3 0 (j 1) (j 2))

theorem canon_out : View.canon (outPieces v0 v4 v5 v17 v33 dR zR wR sg) = outBlk v0 v4 v5 v17 v33 dR zR wR sg := by
  funext y
  refine View.canon_apply_of_pieces _ _ (fun p hp x => ?_) y ?_
  · obtain ⟨q, -, rfl⟩ := List.mem_map.mp hp
    have h1 : ((oP v0 v4 v5 v17 v33 dR zR wR sg q).1.emb x 1).val = 128 * q.val + (x 1).val := by
      show 128 * q.val + 1 * (x 1).val = _; omega
    have h0 : ((oP v0 v4 v5 v17 v33 dR zR wR sg q).1.emb x 0).val = (x 0).val := by
      show 0 + 1 * (x 0).val = _; omega
    have hx1 : (x 1).val < 128 := (x 1).isLt
    have key : ∀ (q' : Fin 16) (j : S128x128.Idx), q' = q → j = x →
        res v0 v4 v5 v17 v33 dR zR wR sg q x = res v0 v4 v5 v17 v33 dR zR wR sg q' j := by
      rintro _ _ rfl rfl; rfl
    refine key _ _ (Fin.ext ?_) (funext fun a => ?_)
    · show ((oP v0 v4 v5 v17 v33 dR zR wR sg q).1.emb x 1).val / 128 = q.val
      omega
    · match a with
      | ⟨0, _⟩ => exact Fin.ext h0
      | ⟨1, _⟩ =>
        refine Fin.ext ?_
        show ((oP v0 v4 v5 v17 v33 dR zR wR sg q).1.emb x 1).val % 128 = (x 1).val
        omega
  · have hy : (y 1).val < 2048 := (y 1).isLt
    refine ⟨oP v0 v4 v5 v17 v33 dR zR wR sg ⟨(y 1).val / 128, by omega⟩, List.mem_map_of_mem ?_, ?_⟩
    · generalize (⟨(y 1).val / 128, by omega⟩ : Fin 16) = q
      revert q; decide
    · refine (Rect.mem_set_unit (inb := inP _)).mpr fun a => ?_
      match a with
      | ⟨0, _⟩ => exact ⟨Nat.zero_le _, (by have := (y 0).isLt; simpa using this)⟩
      | ⟨1, _⟩ =>
        show 128 * ((y 1).val / 128) ≤ (y 1).val ∧ (y 1).val < 128 * ((y 1).val / 128) + 128
        omega

theorem canon_scr (L' : List (View.Piece (Elt F) S4x128x512 .f32)) :
    View.canon (scrPieces v0 v4 v5 v17 v33 sg ++ L') = scrBlk v0 v4 v5 v17 v33 sg := by
  funext y
  refine View.canon_append_of_pieces _ _ _ (fun p hp x => ?_) y ?_
  · obtain ⟨g, -, rfl⟩ := List.mem_map.mp hp
    have key : ∀ (g' : Fin 4) (j : S1x128x512.Idx), g' = g → j = x →
        stNew v0 v4 v5 v17 v33 sg g x = stNew v0 v4 v5 v17 v33 sg g' j := by
      rintro _ _ rfl rfl; rfl
    have hx0 : (x 0).val < 1 := (x 0).isLt
    refine key _ _ (Fin.ext ?_) (funext fun a => ?_)
    · show g.val + 1 * (x 0).val = g.val
      omega
    · match a with
      | ⟨0, _⟩ => refine Fin.ext ?_; show 0 = (x 0).val; omega
      | ⟨1, _⟩ => refine Fin.ext ?_; show 0 + 1 * (x 1).val = (x 1).val; omega
      | ⟨2, _⟩ => refine Fin.ext ?_; show 0 + 1 * (x 2).val = (x 2).val; omega
  · refine ⟨sP v0 v4 v5 v17 v33 sg (y 0), List.mem_map_of_mem ?_, ?_⟩
    · have : ∀ q : Fin 4, q ∈ ([3, 2, 1, 0] : List (Fin 4)) := by decide
      exact this (y 0)
    · refine (Rect.mem_set_unit (inb := inS _)).mpr fun a => ?_
      match a with
      | ⟨0, _⟩ => show (y 0).val ≤ (y 0).val ∧ (y 0).val < (y 0).val + 1; omega
      | ⟨1, _⟩ => exact ⟨Nat.zero_le _, (by have := (y 1).isLt; simpa using this)⟩
      | ⟨2, _⟩ => exact ⟨Nat.zero_le _, (by have := (y 2).isLt; simpa using this)⟩

end Cert.KernelIdeal.Blk
-- ==== Proof.Spec.lean ====
module

public import proofs.«01_k».proof.Proof.BlockMath

/-! # The function that the kernel and the reference both compute

`xbc`'s columns 0 … 2047 are the inputs, 2048 … 2559 the directions b and 2560 … 3071 the directions c; its rows are 8
sequences of 4096 steps. -/

@[expose] public section

noncomputable section

namespace Cert.Ssd

open Idealize.ShloMosaic
open Cert.KernelIdeal.Blk (softplus)

/-- An array of 32768 rows. -/
abbrev Rows (n : ℕ) (t : FTy) := FVec Ideal ⟨2, ![32768, n]⟩ t
/-- A row of `n` entries. -/
abbrev Line (n : ℕ) := FVec Ideal ⟨1, ![n]⟩ .f32

/-- The arguments that the recurrence reads are real: `xr i t c` is sequence `i`'s column `c` at step `t`, `D i t h` head
    `h`'s softplus step, `ea h` its −exp(a_log). -/
structure Data (xbc : Rows 3072 .f32) (dt : Rows 128 .f32) (bias alog : Line 32) (xr D : ℕ → ℕ → ℕ → ℝ) (ea : ℕ → ℝ) : Prop where
  hx : ∀ (i : Fin 8) (t : Fin 4096) (c : Fin 3072), xbc (ix2 ⟨4096 * i.val + t.val, by omega⟩ c) = ((xr i t c : ℝ) : EReal)
  hd : ∀ (i : Fin 8) (t : Fin 4096) (h : Fin 32),
    softplus (dt (ix2 ⟨4096 * i.val + t.val, by omega⟩ ⟨h.val, by omega⟩) + bias (ix1 h)) = ((D i t h : ℝ) : EReal)
  ha : ∀ h : Fin 32, -(Ideal.exp (alog (ix1 h))) = ((ea h : ℝ) : EReal)

/-- The recurrence's output with the skip, times the gate z · sigmoid z. -/
def gated (xr D : ℕ → ℕ → ℕ → ℝ) (ea : ℕ → ℝ) (xbc : Rows 3072 .f32) (z : Rows 2048 .f32) (d : Line 32) (i : Fin 8) (t : Fin 4096)
    (c : Fin 2048) : EReal :=
  (((Y (xr i) (D i) ea c t : ℝ) : EReal)
      + d (ix1 ⟨c.val / 64, by omega⟩) * xbc (ix2 ⟨4096 * i.val + t.val, by omega⟩ ⟨c.val, by omega⟩))
    * (z (ix2 ⟨4096 * i.val + t.val, by omega⟩ c) * Ideal.logistic (z (ix2 ⟨4096 * i.val + t.val, by omega⟩ c)))

/-- Row `f` divided by the root of the mean of its squares over the 512 columns of `c`'s group (with the constant added to
    the mean), times the weight. -/
def grouped (f : Fin 2048 → EReal) (w : Line 2048) (c : Fin 2048) : EReal :=
  f c * Ideal.rsqrt (Ideal.div (∑ k : Fin 512, f ⟨512 * (c.val / 512) + k.val, by omega⟩ * f ⟨512 * (c.val / 512) + k.val, by omega⟩)
      (Ideal.ofBits .f32 0x44000000#32) + Ideal.ofBits .f32 0x358637BD#32) * w (ix1 c)

/-- The result. -/
def result (xr D : ℕ → ℕ → ℕ → ℝ) (ea : ℕ → ℝ) (xbc : Rows 3072 .f32) (z : Rows 2048 .f32) (d : Line 32) (w : Line 2048) :
    Rows 2048 .bf16 := fun j =>
  grouped (gated xr D ea xbc z d ⟨(j 0).val / 4096, by have : (j 0).val < 32768 := (j 0).isLt; omega⟩
    ⟨(j 0).val % 4096, Nat.mod_lt _ (by decide)⟩) w (j 1)

end Cert.Ssd
-- ==== Proof.KerOut.lean ====
module

public import proofs.«01_k».proof.Proof.BlockVal
public import proofs.«01_k».proof.Proof.Spec

/-! # One block's output, from the reals that it reads -/

@[expose] public section

set_option maxRecDepth 16384

noncomputable section

namespace Cert.KernelIdeal.Blk

open Cert.KernelIdeal Cert.KernelIdeal.Gen Cert.Ssd
open Idealize.ShloMosaic Idealize.ShloMosaic.TcCoe Idealize.SL.Sem

/-- Four runs of 128 are one of 512. -/
theorem sum_runs (f : ℕ → EReal) : ∑ q : Fin 4, ∑ j : Fin 128, f (128 * q.val + j.val) = ∑ k : Fin 512, f k.val := by
  rw [← Equiv.sum_comp (finProdFinEquiv (m := 4) (n := 128)) (fun k : Fin (4 * 128) => f k.val), Fintype.sum_prod_type]
  refine Finset.sum_congr rfl fun q _ => Finset.sum_congr rfl fun j _ => congrArg f ?_
  show _ = j.val + 128 * q.val
  omega

/-- The kernel's factor 1/512 against the division by 512. -/
theorem mean_eq (x : EReal) : x * Ideal.ofBits .f32 0x3B000000#32 = Ideal.div x (Ideal.ofBits .f32 0x44000000#32) := by
  have a : Ideal.ofBits .f32 0x44000000#32 = ((512 : ℝ) : EReal) := by
    simp [Ideal.ofBits, Ideal.ieee, -EReal.coe_mul]; norm_num
  have b : Ideal.ofBits .f32 0x3B000000#32 = ((1 / 512 : ℝ) : EReal) := by
    simp [Ideal.ofBits, Ideal.ieee, -EReal.coe_mul]; norm_num
  rw [a, b, Ideal.div_coe (by norm_num)]

variable {v0 : Vec Ideal S128x3072 .f32} {v4 : Vec Ideal S128x128 .f32} {v5 v17 : Vec Ideal S1x128 .f32}
  {v33 : Vec Ideal S256x2048 .bf16} {dR : Vec Ideal S1x2048 .f32} {zR : Vec Ideal S128x2048 .f32} {wR : Vec Ideal S1x2048 .f32}
  {sg : Fin 4 → Vec Ideal S1x128x512 .f32} {xr D : ℕ → ℕ → ℝ} {ea : ℕ → ℝ} {s : ℕ}

theorem out_real (H : Reads v0 v4 v5 v17 v33 sg xr D ea s) (f : Fin 128 → Fin 2048 → EReal)
    (hf : ∀ (i : Fin 128) (q : Fin 2048), f i q = (((Y xr D ea q (s + i) : ℝ) : EReal) + dR (ix2 0 q) * v0 (ix2 i ⟨q.val, by omega⟩))
      * (zR (ix2 i q) * Ideal.logistic (zR (ix2 i q)))) (p : Fin 16) (i j : Fin 128) :
    out v0 v4 v5 v17 v33 dR zR sg p (ix2 i j) = f i ⟨128 * p.val + j.val, by omega⟩ := by
  rw [out_apply, core_real H, hf, xs_apply]

theorem outBlk_real (H : Reads v0 v4 v5 v17 v33 sg xr D ea s) (f : Fin 128 → Fin 2048 → EReal)
    (hf : ∀ (i : Fin 128) (q : Fin 2048), f i q = (((Y xr D ea q (s + i) : ℝ) : EReal) + dR (ix2 0 q) * v0 (ix2 i ⟨q.val, by omega⟩))
      * (zR (ix2 i q) * Ideal.logistic (zR (ix2 i q)))) (w : Line 2048) (hw : ∀ q : Fin 2048, wR (ix2 0 q) = w (ix1 q))
    (i : Fin 128) (q : Fin 2048) :
    outBlk v0 v4 v5 v17 v33 dR zR wR sg (ix2 i q) = grouped (f i) w q := by
  have e : ∀ h, (⟨128 * (q.val / 128) + q.val % 128, h⟩ : Fin 2048) = q := fun _ => Fin.ext (Nat.div_add_mod _ _)
  show res v0 v4 v5 v17 v33 dR zR wR sg ⟨q.val / 128, _⟩ (ix2 i ⟨q.val % 128, _⟩) = _
  rw [res_apply, out_real H f hf, scale_apply, sumsq_apply, mean_eq, hw]
  unfold grouped
  simp only [e]
  refine congrArg₂ (· * ·) (congrArg₂ (· * ·) rfl (congrArg (fun u => Ideal.rsqrt (Ideal.div u _ + _)) ?_)) rfl
  have hq := q.isLt
  let F : ℕ → EReal := fun k => if h : 512 * (q.val / 512) + k < 2048 then f i ⟨512 * (q.val / 512) + k, h⟩ * f i ⟨512 * (q.val / 512) + k, h⟩ else 0
  have e1 : ∀ k : Fin 512, f i ⟨512 * (q.val / 512) + k.val, by omega⟩ * f i ⟨512 * (q.val / 512) + k.val, by omega⟩ = F k.val := fun k => by
    show _ = dite _ _ _
    rw [dif_pos]
  rw [Finset.sum_congr rfl fun k _ => e1 k, ← sum_runs]
  refine Finset.sum_congr rfl fun r _ => Finset.sum_congr rfl fun j _ => ?_
  rw [out_real H f hf]
  have hr := r.isLt
  have hj := j.isLt
  have e2 : 128 * (pG (gP ⟨q.val / 128, by omega⟩) r).val + j.val = 512 * (q.val / 512) + (128 * r.val + j.val) := by
    show 128 * (4 * (q.val / 128 / 4) + r.val) + j.val = _
    omega
  show _ = dite _ _ _
  rw [dif_pos (by omega)]
  simp only [e2]

end Cert.KernelIdeal.Blk
-- ==== Proof.KerGrid.lean ====
module

public import proofs.«01_k».proof.Proof.KerBlocks
public import proofs.«01_k».proof.Proof.KerOut

/-! # The kernel's array: block by block it is the recurrence's result -/

@[expose] public section

set_option maxRecDepth 16384

noncomputable section

namespace Cert.KernelIdeal.Blk

open Cert.KernelIdeal Cert.KernelIdeal.Gen Cert.Ssd
open Idealize.ShloMosaic Idealize.ShloMosaic.TcCoe Idealize.SL.Sem

variable {m : (ℓ : Loc nD τ sig) → Buf (Elt Ideal) ℓ} {c : Dev nD} {xr D : ℕ → ℕ → ℕ → ℝ} {ea : ℕ → ℝ}

/-- A state array that is the recurrence's at step `s` of sequence `b`. -/
def IsState (S : Vec Ideal S4x128x512 .f32) (xr D : ℕ → ℕ → ℝ) (ea : ℕ → ℝ) (s : ℕ) : Prop :=
  ∀ (g : Fin 4) (n : Fin 128) (k : Fin 512), S (ix3 g n k) = ((St xr D ea (512 * g.val + k.val) n.val s : ℝ) : EReal)

theorem isState_zero (xr D : ℕ → ℕ → ℝ) (ea : ℕ → ℝ) : IsState (zeroSt (F := Ideal)) xr D ea 0 := fun _ _ _ => Ideal.ofBits_zero_f32

theorem stG_apply (S : Vec Ideal S4x128x512 .f32) (g : Fin 4) (n : Fin 128) (k : Fin 512) :
    stG S g (ix3 0 n k) = S (ix3 g n k) := by
  refine congrArg S ?_
  funext a
  apply Fin.ext
  match a with
  | ⟨0, _⟩ => show g.val + 1 * 0 = g.val; omega
  | ⟨1, _⟩ => show 0 + 1 * n.val = n.val; omega
  | ⟨2, _⟩ => show 0 + 1 * k.val = k.val; omega

theorem reads (H : Data (argK m c main_arg0) (argK m c main_arg2) (argK m c main_arg3) (argK m c main_arg4) xr D ea)
    (t : Fin cfg0.N) (S : Vec Ideal S4x128x512 .f32) (hS : IsState S (xr (t.val / 32)) (D (t.val / 32)) ea (128 * (t.val % 32))) :
    Reads (b0 m c t) (b2 m c t) (b3 m c t) (b4 m c t) (b7 m c t) (stG S) (xr (t.val / 32)) (D (t.val / 32)) ea (128 * (t.val % 32)) where
  hx i k := by
    have ht := t_lt t
    rw [b0_apply]
    refine Eq.trans ?_ (H.hx ⟨t.val / 32, by omega⟩ ⟨128 * (t.val % 32) + i.val, by omega⟩ k)
    refine congrArg (argK m c main_arg0) (congrArg (fun r => ix2 r k) (Fin.ext ?_))
    show 128 * t.val + i.val = 4096 * (t.val / 32) + (128 * (t.val % 32) + i.val)
    omega
  hd i h hh := by
    have ht := t_lt t
    rw [pay3_apply, b2_apply, b3_eq, V_v1]
    refine Eq.trans ?_ (H.hd ⟨t.val / 32, by omega⟩ ⟨128 * (t.val % 32) + i.val, by omega⟩ ⟨h.val, hh⟩)
    refine congrArg _ (congrArg₂ (· + ·) (congrArg (argK m c main_arg2) (congrArg (fun r => ix2 r h) (Fin.ext ?_))) (hPad_apply _ ⟨h.val, hh⟩))
    show 128 * t.val + i.val = 4096 * (t.val / 32) + (128 * (t.val % 32) + i.val)
    omega
  ha h hh := by
    rw [b4_eq, V_v3, zero_sub]
    exact (congrArg (fun u => -(Ideal.exp u)) (hPad_apply _ ⟨h.val, hh⟩)).trans (H.ha ⟨h.val, hh⟩)
  he k q := by
    rw [b7_eq, V_v17, hEx_apply]
  hs g n k := by rw [stG_apply, hS]

theorem gated_at (xbc : Rows 3072 .f32) (z : Rows 2048 .f32) (d : Line 32) (i : Fin 8) (t : Fin 4096) (ea : ℕ → ℝ) (r : Fin 32768)
    (h : 4096 * i.val + t.val = r.val) (q : Fin 2048) :
    gated xr D ea xbc z d i t q = (((Y (xr i) (D i) ea q t : ℝ) : EReal) + d (ix1 ⟨q.val / 64, by omega⟩) * xbc (ix2 r ⟨q.val, by omega⟩))
      * (z (ix2 r q) * Ideal.logistic (z (ix2 r q))) := by
  obtain ⟨r, hr⟩ := r
  obtain rfl : 4096 * i.val + t.val = r := h
  rfl

/-- What the grid point leaves, from a state that is the recurrence's: the output block and the state array. -/
structure Leaves (m : (ℓ : Loc nD τ sig) → Buf (Elt Ideal) ℓ) (c : Dev nD) (xr D : ℕ → ℕ → ℕ → ℝ) (ea : ℕ → ℝ) (t : Fin cfg0.N)
    (O : Vec Ideal S128x2048 .bf16 × Vec Ideal S4x128x512 .f32) : Prop where
  out : ∀ (i : Fin 128) (q : Fin 2048), O.1 (ix2 i q)
    = result xr D ea (argK m c main_arg0) (argK m c main_arg1) (argK m c main_arg5) (argK m c main_arg6)
        (ix2 ⟨128 * t.val + i.val, by have := t_lt t; omega⟩ q)
  state : IsState O.2 (xr (t.val / 32)) (D (t.val / 32)) ea (128 * (t.val % 32) + 128)

theorem leaves (H : Data (argK m c main_arg0) (argK m c main_arg2) (argK m c main_arg3) (argK m c main_arg4) xr D ea)
    (t : Fin cfg0.N) (S : Vec Ideal S4x128x512 .f32) (hS : IsState S (xr (t.val / 32)) (D (t.val / 32)) ea (128 * (t.val % 32))) :
    Leaves m c xr D ea t (outBlk (b0 m c t) (b2 m c t) (b3 m c t) (b4 m c t) (b7 m c t) (b5 m c t) (b1 m c t) (b6 m c t) (stG S),
      scrBlk (b0 m c t) (b2 m c t) (b3 m c t) (b4 m c t) (b7 m c t) (stG S)) where
  out i q := by
    have ht := t_lt t
    have R := reads H t S hS
    have e : result xr D ea (argK m c main_arg0) (argK m c main_arg1) (argK m c main_arg5) (argK m c main_arg6)
          (ix2 ⟨128 * t.val + i.val, by omega⟩ q)
        = grouped (fun q => (((Y (xr (t.val / 32)) (D (t.val / 32)) ea q (128 * (t.val % 32) + i) : ℝ) : EReal)
            + b5 m c t (ix2 0 q) * b0 m c t (ix2 i ⟨q.val, by omega⟩)) * (b1 m c t (ix2 i q) * Ideal.logistic (b1 m c t (ix2 i q))))
          (argK m c main_arg6) q := by
      refine congrArg (fun f => grouped f (argK m c main_arg6 : Vec Ideal S2048 .f32) q) ?_
      funext q
      refine (gated_at _ _ _ _ _ _ (⟨128 * t.val + i.val, by omega⟩ : Fin 32768) (Nat.div_add_mod _ _) q).trans ?_
      rw [b5_eq, V_v6, b0_apply, b1_apply]
      refine congrArg (fun y : ℝ => ((y : EReal) + _) * _) ?_
      show Y (xr ((128 * t.val + i.val) / 4096)) (D ((128 * t.val + i.val) / 4096)) ea q ((128 * t.val + i.val) % 4096) = _
      rw [show (128 * t.val + i.val) / 4096 = t.val / 32 by omega, show (128 * t.val + i.val) % 4096 = 128 * (t.val % 32) + i.val by omega]
    rw [e]
    exact outBlk_real R (fun i q => (((Y (xr (t.val / 32)) (D (t.val / 32)) ea q (128 * (t.val % 32) + i) : ℝ) : EReal)
            + b5 m c t (ix2 0 q) * b0 m c t (ix2 i ⟨q.val, by omega⟩)) * (b1 m c t (ix2 i q) * Ideal.logistic (b1 m c t (ix2 i q))))
      (fun _ _ => rfl) _ (fun q => by rw [b6_eq, V_v7]) i q
  state g n k := stNew_real (reads H t S hS) g n k

theorem outs_first (t : Fin cfg0.N) (h0 : t.val % 32 = 0) : outsAt0 m c t.val t.isLt
    = (outBlk (b0 m c t) (b2 m c t) (b3 m c t) (b4 m c t) (b7 m c t) (b5 m c t) (b1 m c t) (b6 m c t) (stG (zeroSt (F := Ideal))),
      scrBlk (b0 m c t) (b2 m c t) (b3 m c t) (b4 m c t) (b7 m c t) (stG (zeroSt (F := Ideal)))) := by
  rw [outsAt0_A m c t h0]
  exact congrArg₂ Prod.mk ((outA_eq ..).trans (canon_out ..)) ((scrA_eq ..).trans (canon_scr ..))

theorem outs_next (t : Fin cfg0.N) (h0 : ¬t.val % 32 = 0) (S : Vec Ideal S4x128x512 .f32)
    (hS : (outsAt0 m c (t.val - 1) (Nat.lt_of_le_of_lt (Nat.sub_le _ _) t.isLt)).2 = S) : outsAt0 m c t.val t.isLt
    = (outBlk (b0 m c t) (b2 m c t) (b3 m c t) (b4 m c t) (b7 m c t) (b5 m c t) (b1 m c t) (b6 m c t) (stG S),
      scrBlk (b0 m c t) (b2 m c t) (b3 m c t) (b4 m c t) (b7 m c t) (stG S)) := by
  rw [outsAt0_B m c t h0, hS]
  refine congrArg₂ Prod.mk ((outB_eq ..).trans (canon_out ..)) ((scrB_eq ..).trans ?_)
  rw [← List.append_nil (scrPieces _ _ _ _ _ _)]
  exact canon_scr ..

theorem leaves_all (H : Data (argK m c main_arg0) (argK m c main_arg2) (argK m c main_arg3) (argK m c main_arg4) xr D ea) :
    ∀ (n : ℕ) (t : Fin cfg0.N), t.val = n → Leaves m c xr D ea t (outsAt0 m c t.val t.isLt) := by
  intro n
  induction n with
  | zero =>
    intro t ht
    have h0 : t.val % 32 = 0 := by rw [ht]
    rw [outs_first t h0]
    refine leaves H t (zeroSt (F := Ideal)) ?_
    rw [h0]
    exact isState_zero _ _ _
  | succ n ih =>
    intro t ht
    by_cases h0 : t.val % 32 = 0
    · rw [outs_first t h0]
      refine leaves H t (zeroSt (F := Ideal)) ?_
      rw [h0]
      exact isState_zero _ _ _
    · have I := (ih ⟨t.val - 1, Nat.lt_of_le_of_lt (Nat.sub_le _ _) t.isLt⟩ (by show t.val - 1 = n; omega)).state
      rw [outs_next t h0 _ rfl]
      refine leaves H t _ ?_
      have e1 : t.val / 32 = (t.val - 1) / 32 := by omega
      have e2 : 128 * (t.val % 32) = 128 * ((t.val - 1) % 32) + 128 := by omega
      rw [e1, e2]
      exact I

theorem G8_eq (H : Data (argK m c main_arg0) (argK m c main_arg2) (argK m c main_arg3) (argK m c main_arg4) xr D ea) :
    Value.G8 m c = result xr D ea (argK m c main_arg0) (argK m c main_arg1) (argK m c main_arg5) (argK m c main_arg6) := by
  funext i
  have h0 : (i 0).val < 32768 := (i 0).isLt
  have h1 : (i 1).val < 2048 := (i 1).isLt
  have hp : Value.pt8Of i = (i 0).val / 128 := by
    show 1 * ((i 0).val / 128 - 0) + 1 * ((i 1).val / 2048 - 0) = _
    omega
  have hN : Value.pt8Of i < cfg0.N := by rw [hp]; exact lt_of_lt_of_eq (by omega) N_0.symm
  unfold Value.G8
  rw [dif_pos hN, ← Value.outsAt0_sweep m c _ hN]
  have e : Value.loc8Of i = ix2 (⟨(i 0).val % 128, Nat.mod_lt _ (by decide)⟩ : Fin 128) (⟨(i 1).val, h1⟩ : Fin 2048) := by
    funext a
    apply Fin.ext
    match a with
    | ⟨0, _⟩ => rfl
    | ⟨1, _⟩ => exact Nat.mod_eq_of_lt h1
  rw [e, (leaves_all H _ ⟨_, hN⟩ rfl).out]
  refine congrArg _ ?_
  funext a
  apply Fin.ext
  match a with
  | ⟨0, _⟩ => show 128 * Value.pt8Of i + (i 0).val % 128 = (i 0).val; omega
  | ⟨1, _⟩ => rfl

end Cert.KernelIdeal.Blk
-- ==== Proof.RefLoop.lean ====
module

public import proofs.«01_k».proof.Proof.Gen.ReferenceIdeal.Run
public import proofs.«01_k».proof.Proof.Recurrence
public import Idealize.ShloMosaic.PureOps.Ideal
public import Idealize.ShloMosaic.Lib.Pointwise
public import Idealize.ShloMosaic.Lib.WordCmp

/-! # The reference's loop over time is the recurrence -/

@[expose] public section

set_option maxRecDepth 16384

noncomputable section

namespace Cert.ReferenceIdeal.Loop

open Cert.ReferenceIdeal Cert.ReferenceIdeal.Gen Cert.ReferenceIdeal.Value Cert.Ssd
open Idealize.ShloMosaic Idealize.ShloMosaic.TcCoe Idealize.SL.Sem

theorem toInt_step (k : Fin 4096) : (BitVec.ofNat 32 k.val).toInt = (k.val : Int) := by
  have := k.isLt
  rw [BitVec.toInt_eq_toNat_of_lt] <;> simp only [BitVec.toNat_ofNat] <;> omega

/-- The slice at step `k` of an array over time. -/
theorem dyn4 {α : Type} {n1 n2 n3 : ℕ} (x : (⟨4, ![4096, n1, n2, n3]⟩ : Shape).Idx → α) (k : Fin 4096) (start : Fin 4 → Int)
    (h0 : start 0 = k.val) (h1 : start 1 = 0) (h2 : start 2 = 0) (h3 : start 3 = 0)
    (h : (⟨4, ![4096, n1, n2, n3]⟩ : Shape).Slices (fun _ => 0) ⟨4, ![1, n1, n2, n3]⟩) :
    Host.dynamicSlice ⟨4, ![1, n1, n2, n3]⟩ x start h = fun j => x (ix4 k (j 1) (j 2) (j 3)) := by
  funext j
  have hk := k.isLt
  rw [Host.dynamicSlice_apply]
  refine congrArg x (funext fun a => Fin.ext ?_)
  match a with
  | ⟨0, _⟩ =>
    have hj : (j 0).val < 1 := (j 0).isLt
    have e := Host.clampedStart_of_le h.1 start 0 k.val h0 (show k.val + 1 ≤ 4096 by omega)
    show Host.clampedStart _ _ h.1 start 0 + (j 0).val = k.val
    omega
  | ⟨1, _⟩ =>
    have e := Host.clampedStart_of_le h.1 start 1 0 h1 (show 0 + n1 ≤ n1 by omega)
    show Host.clampedStart _ _ h.1 start 1 + (j 1).val = (j 1).val
    omega
  | ⟨2, _⟩ =>
    have e := Host.clampedStart_of_le h.1 start 2 0 h2 (show 0 + n2 ≤ n2 by omega)
    show Host.clampedStart _ _ h.1 start 2 + (j 2).val = (j 2).val
    omega
  | ⟨3, _⟩ =>
    have e := Host.clampedStart_of_le h.1 start 3 0 h3 (show 0 + n3 ≤ n3 by omega)
    show Host.clampedStart _ _ h.1 start 3 + (j 3).val = (j 3).val
    omega

theorem dyn5 {α : Type} {n1 n2 n3 n4 : ℕ} (x : (⟨5, ![4096, n1, n2, n3, n4]⟩ : Shape).Idx → α) (k : Fin 4096) (start : Fin 5 → Int)
    (h0 : start 0 = k.val) (h1 : start 1 = 0) (h2 : start 2 = 0) (h3 : start 3 = 0) (h4 : start 4 = 0)
    (h : (⟨5, ![4096, n1, n2, n3, n4]⟩ : Shape).Slices (fun _ => 0) ⟨5, ![1, n1, n2, n3, n4]⟩) :
    Host.dynamicSlice ⟨5, ![1, n1, n2, n3, n4]⟩ x start h = fun j => x (ix5 k (j 1) (j 2) (j 3) (j 4)) := by
  funext j
  have hk := k.isLt
  rw [Host.dynamicSlice_apply]
  refine congrArg x (funext fun a => Fin.ext ?_)
  match a with
  | ⟨0, _⟩ =>
    have hj : (j 0).val < 1 := (j 0).isLt
    have e := Host.clampedStart_of_le h.1 start 0 k.val h0 (show k.val + 1 ≤ 4096 by omega)
    show Host.clampedStart _ _ h.1 start 0 + (j 0).val = k.val
    omega
  | ⟨1, _⟩ =>
    have e := Host.clampedStart_of_le h.1 start 1 0 h1 (show 0 + n1 ≤ n1 by omega)
    show Host.clampedStart _ _ h.1 start 1 + (j 1).val = (j 1).val
    omega
  | ⟨2, _⟩ =>
    have e := Host.clampedStart_of_le h.1 start 2 0 h2 (show 0 + n2 ≤ n2 by omega)
    show Host.clampedStart _ _ h.1 start 2 + (j 2).val = (j 2).val
    omega
  | ⟨3, _⟩ =>
    have e := Host.clampedStart_of_le h.1 start 3 0 h3 (show 0 + n3 ≤ n3 by omega)
    show Host.clampedStart _ _ h.1 start 3 + (j 3).val = (j 3).val
    omega
  | ⟨4, _⟩ =>
    have e := Host.clampedStart_of_le h.1 start 4 0 h4 (show 0 + n4 ≤ n4 by omega)
    show Host.clampedStart _ _ h.1 start 4 + (j 4).val = (j 4).val
    omega

/-- An array over time with step `k` replaced. -/
theorem upd5 {α : Type} {n1 n2 n3 n4 : ℕ} (x : (⟨5, ![4096, n1, n2, n3, n4]⟩ : Shape).Idx → α)
    (u : (⟨5, ![1, n1, n2, n3, n4]⟩ : Shape).Idx → α) (k : Fin 4096) (start : Fin 5 → Int)
    (h0 : start 0 = k.val) (h1 : start 1 = 0) (h2 : start 2 = 0) (h3 : start 3 = 0) (h4 : start 4 = 0)
    (h : (⟨5, ![4096, n1, n2, n3, n4]⟩ : Shape).Slices (fun _ => 0) ⟨5, ![1, n1, n2, n3, n4]⟩)
    (t : Fin 4096) (i : Fin n1) (g : Fin n2) (r : Fin n3) (q : Fin n4) :
    Host.dynamicUpdateSlice x u start h (ix5 t i g r q) = if t = k then u (ix5 0 i g r q) else x (ix5 t i g r q) := by
  have hk := k.isLt
  have e0 := Host.clampedStart_of_le h.1 start 0 k.val h0 (show k.val + 1 ≤ 4096 by omega)
  have e1 := Host.clampedStart_of_le h.1 start 1 0 h1 (show 0 + n1 ≤ n1 by omega)
  have e2 := Host.clampedStart_of_le h.1 start 2 0 h2 (show 0 + n2 ≤ n2 by omega)
  have e3 := Host.clampedStart_of_le h.1 start 3 0 h3 (show 0 + n3 ≤ n3 by omega)
  have e4 := Host.clampedStart_of_le h.1 start 4 0 h4 (show 0 + n4 ≤ n4 by omega)
  rw [Host.dynamicUpdateSlice_apply]
  by_cases hj : t = k
  · subst hj
    rw [if_pos rfl, dif_pos]
    · refine congrArg u (funext fun a => Fin.ext ?_)
      match a with
      | ⟨0, _⟩ => show t.val - Host.clampedStart _ _ h.1 start 0 = 0; omega
      | ⟨1, _⟩ => show i.val - Host.clampedStart _ _ h.1 start 1 = i.val; omega
      | ⟨2, _⟩ => show g.val - Host.clampedStart _ _ h.1 start 2 = g.val; omega
      | ⟨3, _⟩ => show r.val - Host.clampedStart _ _ h.1 start 3 = r.val; omega
      | ⟨4, _⟩ => show q.val - Host.clampedStart _ _ h.1 start 4 = q.val; omega
    · intro a
      match a with
      | ⟨0, _⟩ => show Host.clampedStart _ _ h.1 start 0 ≤ t.val ∧ t.val < Host.clampedStart _ _ h.1 start 0 + 1; omega
      | ⟨1, _⟩ => show Host.clampedStart _ _ h.1 start 1 ≤ i.val ∧ i.val < Host.clampedStart _ _ h.1 start 1 + n1; omega
      | ⟨2, _⟩ => show Host.clampedStart _ _ h.1 start 2 ≤ g.val ∧ g.val < Host.clampedStart _ _ h.1 start 2 + n2; omega
      | ⟨3, _⟩ => show Host.clampedStart _ _ h.1 start 3 ≤ r.val ∧ r.val < Host.clampedStart _ _ h.1 start 3 + n3; omega
      | ⟨4, _⟩ => show Host.clampedStart _ _ h.1 start 4 ≤ q.val ∧ q.val < Host.clampedStart _ _ h.1 start 4 + n4; omega
  · rw [if_neg hj, dif_neg]
    intro hin
    have h0' : Host.clampedStart _ _ h.1 start 0 ≤ t.val ∧ t.val < Host.clampedStart _ _ h.1 start 0 + 1 := hin 0
    exact hj (Fin.ext (by omega))

/-- The state after a step. -/
def stepState (x : FVec Ideal S4096x8x4x8x64 .f32) (a : FVec Ideal S4096x8x4x8 .f32) (b : FVec Ideal S4096x8x4x128 .f32)
    (k : IVec S_ 32) (h : FVec Ideal S8x4x8x64x128 .f32) : FVec Ideal S8x4x8x64x128 .f32 :=
  addf (mulf h (broadcastInDim S8x4x8x64x128 ![0, 1, 2, 3, 4] bcast_S8x4x8x1x1_S8x4x8x64x128_0_1_2_3_4 (broadcastInDim S8x4x8x1x1 ![0, 1, 2] bcast_S8x4x8_S8x4x8x1x1_0_1_2 (Host.exp (shapeCast S8x4x8 (Host.dynamicSlice S1x8x4x8 a (fun i => (((![k, constantI S_ 32 0#32, constantI S_ 32 0#32, constantI S_ 32 0#32] : Fin 4 → IVec S_ 32)) i (Shape.Idx.first h_S_)).toInt) sliceFits_S4096x8x4x8_S1x8x4x8) shapeCasts_S1x8x4x8_S8x4x8))))) (mulf (broadcastInDim S8x4x8x64x128 ![0, 1, 2, 3, 4] bcast_S8x4x8x64x1_S8x4x8x64x128_0_1_2_3_4 (broadcastInDim S8x4x8x64x1 ![0, 1, 2, 3] bcast_S8x4x8x64_S8x4x8x64x1_0_1_2_3 (shapeCast S8x4x8x64 (Host.dynamicSlice S1x8x4x8x64 x (fun i => (((![k, constantI S_ 32 0#32, constantI S_ 32 0#32, constantI S_ 32 0#32, constantI S_ 32 0#32] : Fin 5 → IVec S_ 32)) i (Shape.Idx.first h_S_)).toInt) sliceFits_S4096x8x4x8x64_S1x8x4x8x64) shapeCasts_S1x8x4x8x64_S8x4x8x64))) (broadcastInDim S8x4x8x64x128 ![0, 1, 2, 3, 4] bcast_S8x4x1x1x128_S8x4x8x64x128_0_1_2_3_4 (broadcastInDim S8x4x1x1x128 ![0, 1, 4] bcast_S8x4x128_S8x4x1x1x128_0_1_4 (shapeCast S8x4x128 (Host.dynamicSlice S1x8x4x128 b (fun i => (((![k, constantI S_ 32 0#32, constantI S_ 32 0#32, constantI S_ 32 0#32] : Fin 4 → IVec S_ 32)) i (Shape.Idx.first h_S_)).toInt) sliceFits_S4096x8x4x128_S1x8x4x128) shapeCasts_S1x8x4x128_S8x4x128))))

theorem step5_eq (V : Valuation τ sig (Elt Ideal)) : step_main_v30_5 V
    = stepState (V (Proc.devRef .tc main_v30_0)) (V (Proc.devRef .tc main_v30_1)) (V (Proc.devRef .tc main_v30_2))
        (V (Proc.devRef .tc main_v30_4)) (V (Proc.devRef .tc main_v30_5)) := rfl

theorem stepState_apply (x : FVec Ideal S4096x8x4x8x64 .f32) (a : FVec Ideal S4096x8x4x8 .f32) (b : FVec Ideal S4096x8x4x128 .f32)
    (k : Fin 4096) (h : FVec Ideal S8x4x8x64x128 .f32) (i : Fin 8) (g : Fin 4) (r : Fin 8) (p : Fin 64) (n : Fin 128) :
    stepState x a b (fun _ => BitVec.ofNat 32 k.val) h (ix5 i g r p n)
      = h (ix5 i g r p n) * Ideal.exp (a (ix4 k i g r)) + x (ix5 k i g r p) * b (ix4 k i g n) := by
  unfold stepState
  have ea := dyn4 a k (fun i => (((![fun _ => BitVec.ofNat 32 k.val, constantI S_ 32 0#32, constantI S_ 32 0#32, constantI S_ 32 0#32] : Fin 4 → IVec S_ 32)) i (Shape.Idx.first h_S_)).toInt)
    (toInt_step k) rfl rfl rfl sliceFits_S4096x8x4x8_S1x8x4x8
  have eb := dyn4 b k (fun i => (((![fun _ => BitVec.ofNat 32 k.val, constantI S_ 32 0#32, constantI S_ 32 0#32, constantI S_ 32 0#32] : Fin 4 → IVec S_ 32)) i (Shape.Idx.first h_S_)).toInt)
    (toInt_step k) rfl rfl rfl sliceFits_S4096x8x4x128_S1x8x4x128
  have ex := dyn5 x k (fun i => (((![fun _ => BitVec.ofNat 32 k.val, constantI S_ 32 0#32, constantI S_ 32 0#32, constantI S_ 32 0#32, constantI S_ 32 0#32] : Fin 5 → IVec S_ 32)) i (Shape.Idx.first h_S_)).toInt)
    (toInt_step k) rfl rfl rfl rfl sliceFits_S4096x8x4x8x64_S1x8x4x8x64
  erw [ea, eb, ex]
  pointwise

/-- The outputs after a step. -/
def stepOut (c : FVec Ideal S4096x8x4x128 .f32) (k : IVec S_ 32) (h : FVec Ideal S8x4x8x64x128 .f32)
    (y : FVec Ideal S4096x8x4x8x64 .f32) : FVec Ideal S4096x8x4x8x64 .f32 :=
  Host.dynamicUpdateSlice y (broadcastInDim S1x8x4x8x64 ![1, 2, 3, 4] bcast_S8x4x8x64_S1x8x4x8x64_1_2_3_4 (Host.dotGeneral dot_S8x4x8x64x128_S8x4x128_S8x4x8x64_4_2_23_n_01_01 none h (shapeCast S8x4x128 (Host.dynamicSlice S1x8x4x128 c (fun i => (((![k, constantI S_ 32 0#32, constantI S_ 32 0#32, constantI S_ 32 0#32] : Fin 4 → IVec S_ 32)) i (Shape.Idx.first h_S_)).toInt) sliceFits_S4096x8x4x128_S1x8x4x128) shapeCasts_S1x8x4x128_S8x4x128))) (fun i => (((![k, constantI S_ 32 0#32, constantI S_ 32 0#32, constantI S_ 32 0#32, constantI S_ 32 0#32] : Fin 5 → IVec S_ 32)) i (Shape.Idx.first h_S_)).toInt) updateFits_S4096x8x4x8x64_S1x8x4x8x64

theorem step6_eq (V : Valuation τ sig (Elt Ideal)) : step_main_v30_6 V
    = stepOut (V (Proc.devRef .tc main_v30_3)) (V (Proc.devRef .tc main_v30_4)) (step_main_v30_5 V)
        (V (Proc.devRef .tc main_v30_6)) := by
  unfold step_main_v30_6 step_main_v30_5 stepOut
  simp only [id]
  rfl

theorem stepOut_apply (c : FVec Ideal S4096x8x4x128 .f32) (k : Fin 4096) (h : FVec Ideal S8x4x8x64x128 .f32)
    (y : FVec Ideal S4096x8x4x8x64 .f32) (t : Fin 4096) (i : Fin 8) (g : Fin 4) (r : Fin 8) (p : Fin 64) :
    stepOut c (fun _ => BitVec.ofNat 32 k.val) h y (ix5 t i g r p)
      = if t = k then ∑ n : Fin 128, h (ix5 i g r p n) * c (ix4 k i g n) else y (ix5 t i g r p) := by
  unfold stepOut
  have ec := dyn4 c k (fun i => (((![fun _ => BitVec.ofNat 32 k.val, constantI S_ 32 0#32, constantI S_ 32 0#32, constantI S_ 32 0#32] : Fin 4 → IVec S_ 32)) i (Shape.Idx.first h_S_)).toInt)
    (toInt_step k) rfl rfl rfl sliceFits_S4096x8x4x128_S1x8x4x128
  erw [ec]
  generalize hu : broadcastInDim S1x8x4x8x64 _ _ _ = u
  refine (upd5 y u k (fun i => (((![fun _ => BitVec.ofNat 32 k.val, constantI S_ 32 0#32, constantI S_ 32 0#32, constantI S_ 32 0#32, constantI S_ 32 0#32] : Fin 5 → IVec S_ 32)) i (Shape.Idx.first h_S_)).toInt)
    (toInt_step k) rfl rfl rfl rfl updateFits_S4096x8x4x8x64_S1x8x4x8x64 t i g r p).trans ?_
  subst hu
  refine if_congr Iff.rfl ?_ rfl
  pointwise

end Cert.ReferenceIdeal.Loop
-- ==== Proof.RefValue.lean ====
module

public import proofs.«01_k».proof.Proof.RefLoop
public import proofs.«01_k».proof.Proof.BlockMath
public import Idealize.ShloMosaic.Lib.StableHlo.RunRead

/-! # What the reference computes

The loop's invariant (the state and the outputs so far are those of the recurrence), and the operations before and after
the loop as functions of the arguments. -/

@[expose] public section

set_option maxRecDepth 16384

noncomputable section

namespace Cert.ReferenceIdeal.Loop

open Cert.ReferenceIdeal Cert.ReferenceIdeal.Gen Cert.ReferenceIdeal.Value Cert.Ssd
open Idealize.ShloMosaic Idealize.ShloMosaic.TcCoe Idealize.SL.Sem Idealize.ShloMosaic.StableHlo

/-- The loop's operands hold the recurrence's decays, inputs and directions; the state is zero and the counter 0. -/
structure Entry (V : Valuation τ sig (Elt Ideal)) (xr D : ℕ → ℕ → ℕ → ℝ) (ea : ℕ → ℝ) : Prop where
  hx : ∀ (k : Fin 4096) (i : Fin 8) (g : Fin 4) (r : Fin 8) (p : Fin 64),
    (V (Proc.devRef .tc main_v30_0) : FVec Ideal S4096x8x4x8x64 .f32) (ix5 k i g r p)
      = ((inp (xr i) (D i) (512 * g.val + 64 * r.val + p.val) k : ℝ) : EReal)
  ha : ∀ (k : Fin 4096) (i : Fin 8) (g : Fin 4) (r : Fin 8),
    (V (Proc.devRef .tc main_v30_1) : FVec Ideal S4096x8x4x8 .f32) (ix4 k i g r)
      = ((dec (D i) ea (8 * g.val + r.val) k : ℝ) : EReal)
  hb : ∀ (k : Fin 4096) (i : Fin 8) (g : Fin 4) (n : Fin 128),
    (V (Proc.devRef .tc main_v30_2) : FVec Ideal S4096x8x4x128 .f32) (ix4 k i g n) = ((xr i k (2048 + 128 * g.val + n) : ℝ) : EReal)
  hc : ∀ (k : Fin 4096) (i : Fin 8) (g : Fin 4) (n : Fin 128),
    (V (Proc.devRef .tc main_v30_3) : FVec Ideal S4096x8x4x128 .f32) (ix4 k i g n) = ((xr i k (2560 + 128 * g.val + n) : ℝ) : EReal)
  hk : (V (Proc.devRef .tc main_v30_4) : IVec S_ 32) = fun _ => BitVec.ofNat 32 0
  hs : ∀ (i : Fin 8) (g : Fin 4) (r : Fin 8) (p : Fin 64) (n : Fin 128),
    (V (Proc.devRef .tc main_v30_5) : FVec Ideal S8x4x8x64x128 .f32) (ix5 i g r p n) = ((0 : ℝ) : EReal)

variable {V : Valuation τ sig (Elt Ideal)} {xr D : ℕ → ℕ → ℕ → ℝ} {ea : ℕ → ℝ}

theorem keep0 (k : ℕ) : STEP^[k] V (Proc.devRef .tc main_v30_0) = V (Proc.devRef .tc main_v30_0) := by
  induction k with
  | zero => rfl
  | succ k ih => rw [Function.iterate_succ_apply', STEP_main_v30_0, ih]
theorem keep1 (k : ℕ) : STEP^[k] V (Proc.devRef .tc main_v30_1) = V (Proc.devRef .tc main_v30_1) := by
  induction k with
  | zero => rfl
  | succ k ih => rw [Function.iterate_succ_apply', STEP_main_v30_1, ih]
theorem keep2 (k : ℕ) : STEP^[k] V (Proc.devRef .tc main_v30_2) = V (Proc.devRef .tc main_v30_2) := by
  induction k with
  | zero => rfl
  | succ k ih => rw [Function.iterate_succ_apply', STEP_main_v30_2, ih]
theorem keep3 (k : ℕ) : STEP^[k] V (Proc.devRef .tc main_v30_3) = V (Proc.devRef .tc main_v30_3) := by
  induction k with
  | zero => rfl
  | succ k ih => rw [Function.iterate_succ_apply', STEP_main_v30_3, ih]

theorem counter (h0 : (V (Proc.devRef .tc main_v30_4) : IVec S_ 32) = fun _ => BitVec.ofNat 32 0) (k : ℕ) :
    (STEP^[k] V (Proc.devRef .tc main_v30_4) : IVec S_ 32) = fun _ => BitVec.ofNat 32 k := by
  induction k with
  | zero => exact h0
  | succ k ih =>
    rw [Function.iterate_succ_apply', STEP_main_v30_4]
    unfold step_main_v30_4
    rw [ih]
    funext j
    show BitVec.ofNat 32 k + 1#32 = BitVec.ofNat 32 (k + 1)
    rw [BitVec.ofNat_add]

/-- One step of the recurrence, at the channel and the direction of one entry of the state. -/
theorem St_succ (xr D : ℕ → ℕ → ℝ) (ea : ℕ → ℝ) (g : Fin 4) (r : Fin 8) (p : Fin 64) (n k : ℕ) :
    St xr D ea (512 * g.val + 64 * r.val + p.val) n (k + 1)
      = St xr D ea (512 * g.val + 64 * r.val + p.val) n k * Real.exp (dec D ea (8 * g.val + r.val) k)
        + inp xr D (512 * g.val + 64 * r.val + p.val) k * xr k (2048 + 128 * g.val + n) := by
  have e1 : (512 * g.val + 64 * r.val + p.val) / 64 = 8 * g.val + r.val := by omega
  have e2 : (512 * g.val + 64 * r.val + p.val) / 512 = g.val := by omega
  unfold St
  rw [e1, e2, state, mul_comm (Real.exp _)]

theorem state_real (E : Entry V xr D ea) (k : ℕ) (hk : k ≤ 4096) (i : Fin 8) (g : Fin 4) (r : Fin 8) (p : Fin 64) (n : Fin 128) :
    (STEP^[k] V (Proc.devRef .tc main_v30_5) : FVec Ideal S8x4x8x64x128 .f32) (ix5 i g r p n)
      = ((St (xr i) (D i) ea (512 * g.val + 64 * r.val + p.val) n k : ℝ) : EReal) := by
  induction k with
  | zero => exact E.hs i g r p n
  | succ k ih =>
    rw [Function.iterate_succ_apply', STEP_main_v30_5, step5_eq, keep0, keep1, keep2, counter E.hk]
    refine (stepState_apply _ _ _ (⟨k, hk⟩ : Fin 4096) _ i g r p n).trans ?_
    rw [ih (Nat.le_of_succ_le hk), E.hx, E.ha, E.hb, Ideal.exp_coe, ← EReal.coe_mul,
      ← EReal.coe_mul, ← EReal.coe_add, St_succ]

theorem out_real (E : Entry V xr D ea) (k : ℕ) (hk : k ≤ 4096) (t : Fin 4096) (ht : t.val < k) (i : Fin 8) (g : Fin 4) (r : Fin 8)
    (p : Fin 64) :
    (STEP^[k] V (Proc.devRef .tc main_v30_6) : FVec Ideal S4096x8x4x8x64 .f32) (ix5 t i g r p)
      = ((Y (xr i) (D i) ea (512 * g.val + 64 * r.val + p.val) t : ℝ) : EReal) := by
  induction k with
  | zero => omega
  | succ k ih =>
    rw [Function.iterate_succ_apply', STEP_main_v30_6, step6_eq, keep3, counter E.hk]
    refine (stepOut_apply _ (⟨k, hk⟩ : Fin 4096) _ _ t i g r p).trans ?_
    split_ifs with h
    · subst h
      rw [Y, coe_sum]
      refine Finset.sum_congr rfl fun n _ => ?_
      have e := state_real E (k + 1) hk i g r p n
      rw [Function.iterate_succ_apply', STEP_main_v30_5] at e
      have e2 : (512 * g.val + 64 * r.val + p.val) / 512 = g.val := by omega
      rw [e, E.hc, ← EReal.coe_mul, mul_comm, e2]
    · exact ih (Nat.le_of_succ_le hk) (by
        have : t.val ≠ k := fun e => h (Fin.ext e)
        omega)

end Cert.ReferenceIdeal.Loop
-- ==== Proof.RefEnds.lean ====
module

public import proofs.«01_k».proof.Proof.RefValue

/-! # The reference's operations before and after its loop -/

@[expose] public section

set_option maxRecDepth 16384

noncomputable section

namespace Cert.ReferenceIdeal.Loop

open Cert.ReferenceIdeal Cert.ReferenceIdeal.Gen Cert.ReferenceIdeal.Value Cert.Ssd
open Idealize.ShloMosaic Idealize.ShloMosaic.TcCoe Idealize.SL.Sem Idealize.ShloMosaic.StableHlo

/-- dt + bias -/
def hDt (dt : FVec Ideal S32768x128 .f32) (bias : FVec Ideal S32 .f32) : FVec Ideal S8x4096x32 .f32 :=
  addf (extractStridedSlice S8x4096x32 ![0, 0, 0] (shapeCast S8x4096x128 dt shapeCasts_S32768x128_S8x4096x128) slices_S8x4096x128_S8x4096x32_0_0_0)
    (broadcastInDim S8x4096x32 ![0, 1, 2] bcast_S1x1x32_S8x4096x32_0_1_2 (broadcastInDim S1x1x32 ![2] bcast_S32_S1x1x32_2 bias))

/-- The softplus, as the host writes it. -/
def hSoft (x : FVec Ideal S8x4096x32 .f32) : FVec Ideal S8x4096x32 .f32 :=
  let z : FVec Ideal S8x4096x32 .f32 := broadcastInDim S8x4096x32 ![] bcast_S_S8x4096x32 (constant S_ .f32 0x00000000#32)
  select (cmpf .une (subf x z) (subf x z)) (addf x z)
    (addf (maximumf x z) (Host.log1p (Host.exp (Host.negf (Host.absf (subf x z))))))

/-- −exp(a_log) times the step, over time. -/
def hA (alog : FVec Ideal S32 .f32) (s : FVec Ideal S8x4096x32 .f32) : FVec Ideal S4096x8x4x8 .f32 :=
  transpose S4096x8x4x8 [1, 0, 2, 3] (shapeCast S8x4096x4x8 (mulf (broadcastInDim S8x4096x32 ![0, 1, 2] bcast_S1x1x32_S8x4096x32_0_1_2 (broadcastInDim S1x1x32 ![2] bcast_S32_S1x1x32_2 (Host.negf (Host.exp alog)))) s) shapeCasts_S8x4096x32_S8x4096x4x8)
    transposes_S8x4096x4x8_S4096x8x4x8_1_0_2_3

/-- The inputs, by head. -/
def hXs (xbc : FVec Ideal S32768x3072 .f32) : FVec Ideal S8x4096x32x64 .f32 :=
  shapeCast S8x4096x32x64 (extractStridedSlice S8x4096x2048 ![0, 0, 0] (shapeCast S8x4096x3072 xbc shapeCasts_S32768x3072_S8x4096x3072) slices_S8x4096x3072_S8x4096x2048_0_0_0)
    shapeCasts_S8x4096x2048_S8x4096x32x64

/-- The inputs times the step, over time. -/
def hX (xs : FVec Ideal S8x4096x32x64 .f32) (s : FVec Ideal S8x4096x32 .f32) : FVec Ideal S4096x8x4x8x64 .f32 :=
  transpose S4096x8x4x8x64 [1, 0, 2, 3, 4] (shapeCast S8x4096x4x8x64 (mulf xs (broadcastInDim S8x4096x32x64 ![0, 1, 2, 3] bcast_S8x4096x32x1_S8x4096x32x64_0_1_2_3 (broadcastInDim S8x4096x32x1 ![0, 1, 2] bcast_S8x4096x32_S8x4096x32x1_0_1_2 s))) shapeCasts_S8x4096x32x64_S8x4096x4x8x64)
    transposes_S8x4096x4x8x64_S4096x8x4x8x64_1_0_2_3_4

/-- The directions b, over time. -/
def hB (xbc : FVec Ideal S32768x3072 .f32) : FVec Ideal S4096x8x4x128 .f32 :=
  transpose S4096x8x4x128 [1, 0, 2, 3] (shapeCast S8x4096x4x128 (extractStridedSlice S8x4096x512 ![0, 0, 2048] (shapeCast S8x4096x3072 xbc shapeCasts_S32768x3072_S8x4096x3072) slices_S8x4096x3072_S8x4096x512_0_0_2048)
    shapeCasts_S8x4096x512_S8x4096x4x128) transposes_S8x4096x4x128_S4096x8x4x128_1_0_2_3

/-- The directions c, over time. -/
def hC (xbc : FVec Ideal S32768x3072 .f32) : FVec Ideal S4096x8x4x128 .f32 :=
  transpose S4096x8x4x128 [1, 0, 2, 3] (shapeCast S8x4096x4x128 (extractStridedSlice S8x4096x512 ![0, 0, 2560] (shapeCast S8x4096x3072 xbc shapeCasts_S32768x3072_S8x4096x3072) slices_S8x4096x3072_S8x4096x512_0_0_2560)
    shapeCasts_S8x4096x512_S8x4096x4x128) transposes_S8x4096x4x128_S4096x8x4x128_1_0_2_3

/-- The skip and the gate. -/
def hU (y : FVec Ideal S4096x8x4x8x64 .f32) (xs : FVec Ideal S8x4096x32x64 .f32) (z : FVec Ideal S8x4096x2048 .f32) (d : FVec Ideal S32 .f32) :
    FVec Ideal S8x4096x2048 .f32 :=
  let one : FVec Ideal S8x4096x2048 .f32 := broadcastInDim S8x4096x2048 ![] bcast_S_S8x4096x2048 (constant S_ .f32 0x3F800000#32)
  mulf (shapeCast S8x4096x2048 (addf (shapeCast S8x4096x32x64 (transpose S8x4096x4x8x64 [1, 0, 2, 3, 4] y transposes_S4096x8x4x8x64_S8x4096x4x8x64_1_0_2_3_4) shapeCasts_S8x4096x4x8x64_S8x4096x32x64)
      (mulf (broadcastInDim S8x4096x32x64 ![0, 1, 2, 3] bcast_S1x1x32x1_S8x4096x32x64_0_1_2_3 (broadcastInDim S1x1x32x1 ![2, 3] bcast_S32x1_S1x1x32x1_2_3 (broadcastInDim S32x1 ![0] bcast_S32_S32x1_0 d))) xs)) shapeCasts_S8x4096x32x64_S8x4096x2048)
    (mulf z (Host.divf one (addf one (Host.exp (Host.negf z)))))

/-- The root mean square over each group's columns, and the weight. -/
def hN (u : FVec Ideal S8x4096x2048 .f32) (w : FVec Ideal S2048 .f32) : FVec Ideal S32768x2048 .bf16 :=
  let v : FVec Ideal S8x4096x4x512 .f32 := shapeCast S8x4096x4x512 u shapeCasts_S8x4096x2048_S8x4096x4x512
  let s : FVec Ideal S8x4096x4 .f32 := Host.reduceAdd (mulf v v) (constant (F := Ideal) S_ .f32 0x00000000#32) reducesTo_S8x4096x4x512_S8x4096x4_d3 h_S_
  let r : FVec Ideal S8x4096x4x1 .f32 := Host.rsqrt (addf (Host.divf (broadcastInDim S8x4096x4x1 ![0, 1, 2] bcast_S8x4096x4_S8x4096x4x1_0_1_2 s)
      (broadcastInDim S8x4096x4x1 ![] bcast_S_S8x4096x4x1 (constant (F := Ideal) S_ .f32 0x44000000#32)))
      (broadcastInDim S8x4096x4x1 ![] bcast_S_S8x4096x4x1 (constant (F := Ideal) S_ .f32 0x358637BD#32)))
  truncf .bf16 (shapeCast S32768x2048 (mulf (mulf v (broadcastInDim S8x4096x4x512 ![0, 1, 2, 3] bcast_S8x4096x4x1_S8x4096x4x512_0_1_2_3 r))
      (broadcastInDim S8x4096x4x512 ![0, 1, 2, 3] bcast_S1x1x4x512_S8x4096x4x512_0_1_2_3 (broadcastInDim S1x1x4x512 ![2, 3] bcast_S4x512_S1x1x4x512_2_3 (shapeCast S4x512 w shapeCasts_S2048_S4x512))))
    shapeCasts_S8x4096x4x512_S32768x2048) bitsLt_bf16_f32

set_option maxHeartbeats 2000000

/-- The result, from the loop's outputs. -/
theorem post_v57 (V : Valuation τ sig (Elt Ideal)) : afterL postI V (Proc.devRef .tc main_v57)
    = hN (hU (V (Proc.devRef .tc main_v30_6)) (V (Proc.devRef .tc main_v7)) (V (Proc.devRef .tc main_v1)) (V (Proc.devRef .tc main_arg5)))
        (V (Proc.devRef .tc main_arg6)) := by
  simp only [afterL_cons, afterL_nil]
  after_reads_simp
  rfl

variable (V : Valuation τ sig (Elt Ideal))

theorem pre_v7 : afterL preI V (Proc.devRef .tc main_v7) = hXs (V (Proc.devRef .tc main_arg0)) := by
  simp only [afterL_cons, afterL_nil]
  after_reads_simp
  rfl
theorem pre_v1 : afterL preI V (Proc.devRef .tc main_v1)
    = shapeCast S8x4096x2048 (V (Proc.devRef .tc main_arg1) : FVec Ideal S32768x2048 .f32) shapeCasts_S32768x2048_S8x4096x2048 := by
  simp only [afterL_cons, afterL_nil]
  after_reads_simp
  rfl
theorem pre_arg5 : afterL preI V (Proc.devRef .tc main_arg5) = V (Proc.devRef .tc main_arg5) := by
  simp only [afterL_cons, afterL_nil]
  after_reads_simp
theorem pre_arg6 : afterL preI V (Proc.devRef .tc main_arg6) = V (Proc.devRef .tc main_arg6) := by
  simp only [afterL_cons, afterL_nil]
  after_reads_simp
theorem pre_0 : afterL preI V (Proc.devRef .tc main_v30_0)
    = hX (hXs (V (Proc.devRef .tc main_arg0))) (hSoft (hDt (V (Proc.devRef .tc main_arg2)) (V (Proc.devRef .tc main_arg3)))) := by
  simp only [afterL_cons, afterL_nil]
  after_reads_simp
  rfl
theorem pre_1 : afterL preI V (Proc.devRef .tc main_v30_1)
    = hA (V (Proc.devRef .tc main_arg4)) (hSoft (hDt (V (Proc.devRef .tc main_arg2)) (V (Proc.devRef .tc main_arg3)))) := by
  simp only [afterL_cons, afterL_nil]
  after_reads_simp
  rfl
theorem pre_2 : afterL preI V (Proc.devRef .tc main_v30_2) = hB (V (Proc.devRef .tc main_arg0)) := by
  simp only [afterL_cons, afterL_nil]
  after_reads_simp
  rfl
theorem pre_3 : afterL preI V (Proc.devRef .tc main_v30_3) = hC (V (Proc.devRef .tc main_arg0)) := by
  simp only [afterL_cons, afterL_nil]
  after_reads_simp
  rfl
theorem pre_4 : afterL preI V (Proc.devRef .tc main_v30_4) = fun _ => BitVec.ofNat 32 0 := by
  simp only [afterL_cons, afterL_nil]
  after_reads_simp
  rfl
theorem pre_5 : afterL preI V (Proc.devRef .tc main_v30_5)
    = broadcastInDim S8x4x8x64x128 ![] bcast_S_S8x4x8x64x128 (constant (F := Ideal) S_ .f32 0x00000000#32) := by
  simp only [afterL_cons, afterL_nil]
  after_reads_simp
  rfl

/-- A buffer that neither the loop's condition nor its body writes. -/
theorem loop_keep (W₀ : Dev nD → Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W)
    (k : ℕ) (c : Dev nD) : atTrip condOps bodyI W₀ k c (Proc.devRef .tc r) = W₀ c (Proc.devRef .tc r) := by
  induction k with
  | zero => rfl
  | succ k ih =>
    simp only [atTrip_succ, afterL_cons, afterL_nil]
    rw [after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, ih]

end Cert.ReferenceIdeal.Loop
-- ==== Proof.RefElems.lean ====
module

public import proofs.«01_k».proof.Proof.RefEnds

/-! # The reference's operations around the loop, entry by entry -/

@[expose] public section

set_option maxRecDepth 16384

noncomputable section

namespace Cert.ReferenceIdeal.Loop

open Cert.ReferenceIdeal Cert.ReferenceIdeal.Gen Cert.ReferenceIdeal.Value Cert.Ssd
open Idealize.ShloMosaic Idealize.ShloMosaic.TcCoe Idealize.SL.Sem Idealize.ShloMosaic.StableHlo
open Cert.KernelIdeal.Blk (softplus)

theorem hDt_apply (dt : Vec Ideal S32768x128 .f32) (bias : Vec Ideal S32 .f32) (i : Fin 8) (t : Fin 4096) (h : Fin 32) :
    hDt dt bias (ix3 i t h) = dt (ix2 ⟨4096 * i.val + t.val, by omega⟩ ⟨h.val, by omega⟩) + bias (ix1 h) := by
  pointwise [hDt]
  simp only [Nat.mul_comm _ 4096]

theorem hSoft_apply (x : Vec Ideal S8x4096x32 .f32) (i : Fin 8) (t : Fin 4096) (h : Fin 32) :
    hSoft x (ix3 i t h) = softplus (x (ix3 i t h)) := by
  unfold softplus
  pointwise [hSoft]
  rw [if_neg (not_not.mpr rfl), zero_sub]
  rfl

theorem hA_apply (alog : Vec Ideal S32 .f32) (s : Vec Ideal S8x4096x32 .f32) (t : Fin 4096) (i : Fin 8) (g : Fin 4) (r : Fin 8) :
    hA alog s (ix4 t i g r) = -(Ideal.exp (alog (ix1 ⟨8 * g.val + r.val, by omega⟩))) * s (ix3 i t ⟨8 * g.val + r.val, by omega⟩) := by
  pointwise [hA]
  simp only [Nat.mul_comm _ 8]

theorem hXs_apply (xbc : Vec Ideal S32768x3072 .f32) (i : Fin 8) (t : Fin 4096) (h : Fin 32) (p : Fin 64) :
    hXs xbc (ix4 i t h p) = xbc (ix2 ⟨4096 * i.val + t.val, by omega⟩ ⟨64 * h.val + p.val, by omega⟩) := by
  pointwise [hXs]
  simp only [Nat.mul_comm _ 4096, Nat.mul_comm _ 64]

theorem hX_apply (xs : Vec Ideal S8x4096x32x64 .f32) (s : Vec Ideal S8x4096x32 .f32) (t : Fin 4096) (i : Fin 8) (g : Fin 4) (r : Fin 8) (p : Fin 64) :
    hX xs s (ix5 t i g r p) = xs (ix4 i t ⟨8 * g.val + r.val, by omega⟩ p) * s (ix3 i t ⟨8 * g.val + r.val, by omega⟩) := by
  pointwise [hX]
  simp only [Nat.mul_comm _ 8]

theorem hB_apply (xbc : Vec Ideal S32768x3072 .f32) (t : Fin 4096) (i : Fin 8) (g : Fin 4) (n : Fin 128) :
    hB xbc (ix4 t i g n) = xbc (ix2 ⟨4096 * i.val + t.val, by omega⟩ ⟨2048 + 128 * g.val + n.val, by omega⟩) := by
  pointwise [hB]
  simp only [Nat.mul_comm _ 4096, Nat.mul_comm _ 128, Nat.add_assoc]

theorem hC_apply (xbc : Vec Ideal S32768x3072 .f32) (t : Fin 4096) (i : Fin 8) (g : Fin 4) (n : Fin 128) :
    hC xbc (ix4 t i g n) = xbc (ix2 ⟨4096 * i.val + t.val, by omega⟩ ⟨2560 + 128 * g.val + n.val, by omega⟩) := by
  pointwise [hC]
  simp only [Nat.mul_comm _ 4096, Nat.mul_comm _ 128, Nat.add_assoc]

theorem hU_apply (y : Vec Ideal S4096x8x4x8x64 .f32) (xs : Vec Ideal S8x4096x32x64 .f32) (z : Vec Ideal S8x4096x2048 .f32) (d : Vec Ideal S32 .f32)
    (i : Fin 8) (t : Fin 4096) (c : Fin 2048) :
    hU y xs z d (ix3 i t c)
      = (y (ix5 t i ⟨c.val / 512, by omega⟩ ⟨c.val / 64 % 8, by omega⟩ ⟨c.val % 64, by omega⟩)
          + d (ix1 ⟨c.val / 64, by omega⟩) * xs (ix4 i t ⟨c.val / 64, by omega⟩ ⟨c.val % 64, by omega⟩))
        * (z (ix3 i t c) * Ideal.logistic (z (ix3 i t c))) := by
  pointwise [hU]
  simp only [Nat.div_div_eq_div_mul]
  rfl

theorem hN_apply (u : Vec Ideal S8x4096x2048 .f32) (w : Vec Ideal S2048 .f32) (i : Fin 8) (t : Fin 4096) (c : Fin 2048) :
    hN u w (ix2 ⟨4096 * i.val + t.val, by omega⟩ c)
      = u (ix3 i t c)
        * Ideal.rsqrt (Ideal.div (∑ k : Fin 512, u (ix3 i t ⟨512 * (c.val / 512) + k.val, by omega⟩) * u (ix3 i t ⟨512 * (c.val / 512) + k.val, by omega⟩))
            (Ideal.ofBits .f32 0x44000000#32) + Ideal.ofBits .f32 0x358637BD#32)
        * w (ix1 c) := by
  pointwise [hN]
  simp only [Nat.mul_comm _ 512]

end Cert.ReferenceIdeal.Loop
-- ==== Proof.RefSpec.lean ====
module

public import proofs.«01_k».proof.Proof.RefElems
public import proofs.«01_k».proof.Proof.Spec

/-! # The reference computes `result` -/

@[expose] public section

set_option maxRecDepth 16384

noncomputable section

namespace Cert.ReferenceIdeal.Loop

open Cert.ReferenceIdeal Cert.ReferenceIdeal.Gen Cert.ReferenceIdeal.Value Cert.Ssd
open Idealize.ShloMosaic Idealize.ShloMosaic.TcCoe Idealize.SL.Sem Idealize.ShloMosaic.StableHlo
open Cert.KernelIdeal.Blk (softplus)

variable {m : (ℓ : Loc nD τ sig) → Buf (Elt Ideal) ℓ} {c : Dev nD} {xr D : ℕ → ℕ → ℕ → ℝ} {ea : ℕ → ℝ}

/-- An argument on core `c`. -/
abbrev argR (m : (ℓ : Loc nD τ sig) → Buf (Elt Ideal) ℓ) (c : Dev nD) (r : Ref sig .tc) : (Proc.devRef .tc r : DevRef τ sig).ty.Contents (Elt Ideal) :=
  m ((c.tc : Thread nD τ).loc r)

theorem entry (H : Data (argR m c main_arg0) (argR m c main_arg2) (argR m c main_arg3) (argR m c main_arg4) xr D ea) :
    Entry (entryContents preI m c) xr D ea where
  hx k i g r p := by
    have e := congrFun (pre_0 (launchContents m c)) (ix5 k i g r p)
    refine e.trans ?_
    rw [hX_apply, hXs_apply, hSoft_apply, hDt_apply]
    refine (congrArg₂ (· * ·) (H.hx i k ⟨64 * (8 * g.val + r.val) + p.val, by omega⟩) (H.hd i k ⟨8 * g.val + r.val, by omega⟩)).trans ?_
    rw [← EReal.coe_mul, inp]
    have e1 : 64 * (8 * g.val + r.val) + p.val = 512 * g.val + 64 * r.val + p.val := by omega
    have e2 : (512 * g.val + 64 * r.val + p.val) / 64 = 8 * g.val + r.val := by omega
    simp only [e1, e2]
  ha k i g r := by
    have e := congrFun (pre_1 (launchContents m c)) (ix4 k i g r)
    refine e.trans ?_
    rw [hA_apply, hSoft_apply, hDt_apply]
    refine (congrArg₂ (· * ·) (H.ha ⟨8 * g.val + r.val, by omega⟩) (H.hd i k ⟨8 * g.val + r.val, by omega⟩)).trans ?_
    rw [← EReal.coe_mul, dec]
  hb k i g n := by
    have e := congrFun (pre_2 (launchContents m c)) (ix4 k i g n)
    refine e.trans ?_
    rw [hB_apply]
    exact H.hx i k ⟨2048 + 128 * g.val + n.val, by omega⟩
  hc k i g n := by
    have e := congrFun (pre_3 (launchContents m c)) (ix4 k i g n)
    refine e.trans ?_
    rw [hC_apply]
    exact H.hx i k ⟨2560 + 128 * g.val + n.val, by omega⟩
  hk := pre_4 (launchContents m c)
  hs i g r p n := by
    have e := congrFun (pre_5 (launchContents m c)) (ix5 i g r p n)
    refine e.trans ?_
    pointwise
    exact EReal.coe_zero.symm

theorem z_apply (z : Vec Ideal S32768x2048 .f32) (i : Fin 8) (t : Fin 4096) (j : Fin 2048) :
    shapeCast S8x4096x2048 z shapeCasts_S32768x2048_S8x4096x2048 (ix3 i t j) = z (ix2 ⟨4096 * i.val + t.val, by omega⟩ j) := by
  pointwise
  simp only [Nat.mul_comm _ 4096]

/-- The loop's outputs. -/
theorem loop_out (H : Data (argR m c main_arg0) (argR m c main_arg2) (argR m c main_arg3) (argR m c main_arg4) xr D ea) :
    ∃ ys : Vec Ideal S4096x8x4x8x64 .f32,
      after condOps (atTrip condOps bodyI (entryContents preI m) 4096 c) (Proc.devRef .tc main_v30_6) = ys
      ∧ ∀ (t : Fin 4096) (i : Fin 8) (g : Fin 4) (r : Fin 8) (p : Fin 64),
          ys (ix5 t i g r p) = ((Y (xr i) (D i) ea (512 * g.val + 64 * r.val + p.val) t : ℝ) : EReal) := by
  obtain ⟨n, hn⟩ : ∃ n, n = 4096 := ⟨_, rfl⟩
  have ky : after condOps (atTrip condOps bodyI (entryContents preI m) n c) (Proc.devRef .tc main_v30_6)
      = STEP^[n] (entryContents preI m c) (Proc.devRef .tc main_v30_6) :=
    (cond_keeps _ main_v30_6 (by decide)).trans (atK_agree m c n main_v30_6 (by decide))
  have hy := out_real (entry H) n hn.le
  refine ⟨_, (by rw [← hn]), fun t i g r p => ?_⟩
  rw [ky]
  exact hy t (by omega) i g r p

/-- The reference's result. -/
theorem value (H : Data (argR m c main_arg0) (argR m c main_arg2) (argR m c main_arg3) (argR m c main_arg4) xr D ea) :
    finalContents condOps preI bodyI postI 4096 m c (Proc.devRef .tc main_v57)
      = result xr D ea (argR m c main_arg0) (argR m c main_arg1) (argR m c main_arg5) (argR m c main_arg6) := by
  set W := entryContents preI m
  have keep := fun r hc h0 h1 h2 h3 h4 h5 h6 =>
    (after_of_writes_sub _ (atTrip condOps bodyI W 4096 c) condOps_writes hc).trans (loop_keep W r hc h0 h1 h2 h3 h4 h5 h6 4096 c)
  have k7 := (keep main_v7 (by decide) (by decide) (by decide) (by decide) (by decide) (by decide) (by decide) (by decide)).trans (pre_v7 (launchContents m c))
  have k1 := (keep main_v1 (by decide) (by decide) (by decide) (by decide) (by decide) (by decide) (by decide) (by decide)).trans (pre_v1 (launchContents m c))
  have k5 := (keep main_arg5 (by decide) (by decide) (by decide) (by decide) (by decide) (by decide) (by decide) (by decide)).trans (pre_arg5 (launchContents m c))
  have k6 := (keep main_arg6 (by decide) (by decide) (by decide) (by decide) (by decide) (by decide) (by decide) (by decide)).trans (pre_arg6 (launchContents m c))
  obtain ⟨ys, ky, hy⟩ := loop_out H
  refine (post_v57 (after condOps (atTrip condOps bodyI W 4096 c))).trans ?_
  rw [k7, k1, k5, k6, ky]
  funext j
  obtain ⟨i, t, q, rfl⟩ : ∃ (i : Fin 8) (t : Fin 4096) (q : Fin 2048), j = ix2 ⟨4096 * i.val + t.val, by omega⟩ q := by
    have hj : (j 0).val < 32768 := (j 0).isLt
    refine ⟨⟨(j 0).val / 4096, by omega⟩, ⟨(j 0).val % 4096, by omega⟩, j 1, ?_⟩
    funext a
    match a with
    | ⟨0, _⟩ => exact Fin.ext (show (j 0).val = 4096 * ((j 0).val / 4096) + (j 0).val % 4096 by omega)
    | ⟨1, _⟩ => rfl
  have hu : ∀ q : Fin 2048, hU ys (hXs (argR m c main_arg0))
      (shapeCast S8x4096x2048 (argR m c main_arg1) shapeCasts_S32768x2048_S8x4096x2048) (argR m c main_arg5) (ix3 i t q)
      = gated xr D ea (argR m c main_arg0) (argR m c main_arg1) (argR m c main_arg5) i t q := by
    intro q
    have e2 : 512 * (q.val / 512) + 64 * (q.val / 64 % 8) + q.val % 64 = q.val := by omega
    have e3 : 64 * (q.val / 64) + q.val % 64 = q.val := by omega
    have o := hy t i ⟨q.val / 512, by omega⟩ ⟨q.val / 64 % 8, by omega⟩ ⟨q.val % 64, by omega⟩
    rw [hU_apply, hXs_apply, z_apply, gated]
    simp only [e2] at o
    simp only [e3]
    exact congrArg (fun y => (y + _) * _) o
  have hi : (4096 * i.val + t.val) / 4096 = i.val := by omega
  have ht : (4096 * i.val + t.val) % 4096 = t.val := by omega
  have hr : result xr D ea (argR m c main_arg0) (argR m c main_arg1) (argR m c main_arg5) (argR m c main_arg6) (ix2 ⟨4096 * i.val + t.val, by omega⟩ q)
      = grouped (gated xr D ea (argR m c main_arg0) (argR m c main_arg1) (argR m c main_arg5) i t) (argR m c main_arg6) q := by
    have a : (⟨(4096 * i.val + t.val) / 4096, by omega⟩ : Fin 8) = i := Fin.ext hi
    have b : (⟨(4096 * i.val + t.val) % 4096, by omega⟩ : Fin 4096) = t := Fin.ext ht
    show grouped (gated _ _ _ _ _ _ ⟨(4096 * i.val + t.val) / 4096, _⟩ ⟨(4096 * i.val + t.val) % 4096, _⟩) _ _ = _
    rw [a, b]
    rfl
  rw [hr]
  refine (hN_apply _ _ i t q).trans ?_
  unfold grouped
  refine congrArg₂ (· * ·) (congrArg₂ (· * ·) (hu q) (congrArg (fun s => Ideal.rsqrt (Ideal.div s _ + _)) ?_)) rfl
  exact Finset.sum_congr rfl fun k _ => congrArg₂ (· * ·) (hu _) (hu _)

end Cert.ReferenceIdeal.Loop
-- ==== Proof.RefKept.lean ====
module

public import proofs.«01_k».proof.Proof.RefSpec
public import Idealize.ShloMosaic.Lib.Quiescent

/-! # The reference leaves its arguments and the counters as they were -/

@[expose] public section

set_option maxRecDepth 16384

noncomputable section

namespace Cert.ReferenceIdeal.Loop

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that neither the operations before the loop nor the loop's write. -/
def Untouched (r : Ref sig .tc) : Prop :=
  (r ∉ hostOps0_W ∧ r ∉ hostOps0_1_W ∧ r ∉ hostOps0_2_W) ∧ r ∉ condOps_W
    ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W

theorem kept (c : Dev nD) (r : Ref sig .tc) (h : Untouched r)
    (hp : ∀ V : Valuation τ sig (Elt Ideal), afterL postI V (Proc.devRef .tc r) = V (Proc.devRef .tc r)) :
    finalContents condOps preI bodyI postI 4096 m c (Proc.devRef .tc r) = m ((c.tc : Thread nD τ).loc r) := by
  obtain ⟨⟨a0, a1, a2⟩, hc, h0, h1, h2, h3, h4, h5, h6⟩ := h
  refine Eq.trans (b := after condOps (atTrip condOps bodyI (entryContents preI m) 4096 c) (Proc.devRef .tc r)) ?_ ?_
  · exact hp _
  · rw [after_of_writes_sub _ _ condOps_writes hc, loop_keep _ r hc h0 h1 h2 h3 h4 h5 h6]
    show afterL preI (launchContents m c) (Proc.devRef .tc r) = _
    simp only [afterL_cons, afterL_nil]
    rw [after_of_writes_sub _ _ hostOps0_2_writes a2, after_of_writes_sub _ _ hostOps0_1_writes a1, after_of_writes_sub _ _ hostOps0_writes a0]

theorem post_arg0 (V : Valuation τ sig (Elt Ideal)) : afterL postI V (Proc.devRef .tc main_arg0) = V (Proc.devRef .tc main_arg0) := by
  simp only [afterL_cons, afterL_nil]
  after_reads_simp
theorem post_arg1 (V : Valuation τ sig (Elt Ideal)) : afterL postI V (Proc.devRef .tc main_arg1) = V (Proc.devRef .tc main_arg1) := by
  simp only [afterL_cons, afterL_nil]
  after_reads_simp
theorem post_arg2 (V : Valuation τ sig (Elt Ideal)) : afterL postI V (Proc.devRef .tc main_arg2) = V (Proc.devRef .tc main_arg2) := by
  simp only [afterL_cons, afterL_nil]
  after_reads_simp
theorem post_arg3 (V : Valuation τ sig (Elt Ideal)) : afterL postI V (Proc.devRef .tc main_arg3) = V (Proc.devRef .tc main_arg3) := by
  simp only [afterL_cons, afterL_nil]
  after_reads_simp
theorem post_arg4 (V : Valuation τ sig (Elt Ideal)) : afterL postI V (Proc.devRef .tc main_arg4) = V (Proc.devRef .tc main_arg4) := by
  simp only [afterL_cons, afterL_nil]
  after_reads_simp
theorem post_arg5 (V : Valuation τ sig (Elt Ideal)) : afterL postI V (Proc.devRef .tc main_arg5) = V (Proc.devRef .tc main_arg5) := by
  simp only [afterL_cons, afterL_nil]
  after_reads_simp
theorem post_arg6 (V : Valuation τ sig (Elt Ideal)) : afterL postI V (Proc.devRef .tc main_arg6) = V (Proc.devRef .tc main_arg6) := by
  simp only [afterL_cons, afterL_nil]
  after_reads_simp

theorem untouched_arg : Untouched main_arg0 ∧ Untouched main_arg1 ∧ Untouched main_arg2 ∧ Untouched main_arg3 ∧ Untouched main_arg4
    ∧ Untouched main_arg5 ∧ Untouched main_arg6 := by
  refine ⟨?_, ?_, ?_, ?_, ?_, ?_, ?_⟩ <;>
    exact ⟨⟨by decide, by decide, by decide⟩, by decide, by decide, by decide, by decide, by decide, by decide, by decide, by decide⟩

/-- What the run leaves: the fold's result, the arguments. -/
theorem run (v : Dev nD → (Proc.devRef .tc main_v57 : DevRef τ sig).ty.Contents (Elt Ideal))
    (hv : ∀ c, finalContents condOps preI bodyI postI 4096 m c (Proc.devRef .tc main_v57) = v c) :
    θ_run (defs (F := Ideal)) (onTc (τ := τ) (main (F := Ideal))) ⟨m, fun _ => 0, ρ⟩ (fun r => ∀ c : Dev nD,
      r.2.mem ((c.tc : Thread nD τ).loc main_v57) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain ⟨u0, u1, u2, u3, u4, u5, u6⟩ := untouched_arg
  exact (θ_run _ _ _).mono (fun r h c => ⟨(h c main_v57 rfl).trans (hv c), (h c _ rfl).trans (kept m c _ u0 post_arg0), (h c _ rfl).trans (kept m c _ u1 post_arg1),
    (h c _ rfl).trans (kept m c _ u2 post_arg2), (h c _ rfl).trans (kept m c _ u3 post_arg3), (h c _ rfl).trans (kept m c _ u4 post_arg4),
    (h c _ rfl).trans (kept m c _ u5 post_arg5), (h c _ rfl).trans (kept m c _ u6 post_arg6)⟩) (Value.run_fold m ρ)

end Cert.ReferenceIdeal.Loop
-- ==== Proof.Inputs.lean ====
module

public import proofs.«01_k».proof.Defs
public import proofs.«01_k».proof.Proof.Spec
public import Idealize.ShloMosaic.Lib.Pointwise

/-! # The condition on the inputs gives the reals that the recurrence runs on -/

@[expose] public section

set_option maxRecDepth 16384

noncomputable section

namespace Cert.Ssd

open Idealize.ShloMosaic
open Cert.KernelIdeal.Blk (softplus)

theorem inf_eq : Ideal.ofBits .f32 0x7F800000#32 = ⊤ := by
  simp [Ideal.ofBits, Ideal.ieee]

theorem lt_of_cmp {x y : EReal} (h : Ideal.cmp .olt x y = 1#1) : x < y := by
  by_contra hn
  simp [Ideal.cmp, hn] at h

/-- A number whose absolute value is below ∞ is real. -/
theorem real_of_abs {x : EReal} (h : max x (-x) < ⊤) : ∃ r : ℝ, x = (r : EReal) := by
  induction x with
  | bot => simp at h
  | top => simp at h
  | coe r => exact ⟨r, rfl⟩

/-- The softplus of a number below ∞ is real. -/
theorem softplus_real {u : EReal} (h : u < ⊤) : ∃ r : ℝ, softplus u = (r : EReal) := by
  have log1p_exp : ∀ v : ℝ, Ideal.log1p (Ideal.exp (v : EReal)) = ((Real.log (1 + Real.exp v) : ℝ) : EReal) := by
    intro v
    have hp := Real.exp_pos v
    rw [Ideal.exp_coe, Ideal.log1p, ← EReal.coe_one, ← EReal.coe_add, Ideal.log_coe, if_neg (by linarith)]
  induction u with
  | bot =>
    refine ⟨0, ?_⟩
    have e : Ideal.log (1 : EReal) = 0 := by rw [← EReal.coe_one, Ideal.log_coe, if_neg (by norm_num), Real.log_one, EReal.coe_zero]
    simp [softplus, Ideal.log1p, e]
  | top => simp at h
  | coe r =>
    refine ⟨max r 0 + Real.log (1 + Real.exp (0 - max r (-r))), ?_⟩
    unfold softplus
    have e : (0 : EReal) - max (r : EReal) (-(r : EReal)) = ((0 - max r (-r) : ℝ) : EReal) := by
      rw [← EReal.coe_neg, ← EReal.coe_zero, EReal.coe_sub, EReal.coe_strictMono.monotone.map_max]
    rw [e, log1p_exp, EReal.coe_add, EReal.coe_strictMono.monotone.map_max, EReal.coe_zero]

/-- −exp of a number below ∞ is real. -/
theorem neg_exp_real {u : EReal} (h : u < ⊤) : ∃ r : ℝ, -(Ideal.exp u) = (r : EReal) := by
  induction u with
  | bot => exact ⟨0, by simp⟩
  | top => simp at h
  | coe r => exact ⟨-Real.exp r, by rw [Ideal.exp_coe, EReal.coe_neg]⟩

/-- From bounds on the inputs, the recurrence's data. -/
theorem exists_data {xbc : Rows 3072 .f32} {dt : Rows 128 .f32} {bias alog : Line 32}
    (hx : ∀ (r : Fin 32768) (c : Fin 3072), max (xbc (ix2 r c)) (-(xbc (ix2 r c))) < ⊤)
    (hd : ∀ (r : Fin 32768) (h : Fin 32), dt (ix2 r ⟨h.val, by omega⟩) + bias (ix1 h) < ⊤)
    (ha : ∀ h : Fin 32, alog (ix1 h) < ⊤) : ∃ xr D ea, Data xbc dt bias alog xr D ea := by
  choose X hX using fun r c => real_of_abs (hx r c)
  choose E hE using fun r h => softplus_real (hd r h)
  choose A hA using fun h => neg_exp_real (ha h)
  have ext : ∀ {n k : ℕ} (f : Fin n → Fin k → ℝ), ∃ g : ℕ → ℕ → ℝ, ∀ i j, g i.val j.val = f i j := fun {n k} f =>
    ⟨fun i j => if h : i < n ∧ j < k then f ⟨i, h.1⟩ ⟨j, h.2⟩ else 0, fun i j => dif_pos ⟨i.isLt, j.isLt⟩⟩
  obtain ⟨X', hX'⟩ := ext X
  obtain ⟨E', hE'⟩ := ext E
  obtain ⟨A', hA'⟩ := ext (fun (_ : Fin 1) => A)
  refine ⟨fun i t c => X' (4096 * i + t) c, fun i t h => E' (4096 * i + t) h, A' 0, fun i t c => ?_, fun i t h => ?_, fun h => ?_⟩
  · rw [hX]
    exact congrArg _ (hX' ⟨4096 * i.val + t.val, by omega⟩ c).symm
  · rw [hE]
    exact congrArg _ (hE' ⟨4096 * i.val + t.val, by omega⟩ h).symm
  · rw [hA]
    exact congrArg _ (hA' 0 h).symm

theorem facts : Cert.Pre_real_inputs.Facts where
  bcast_S_S32768x3072 := by decide
  slices_S32768x128_S32768x32_0_0 := by decide
  bcast_S32_S1x32_1 := by decide
  bcast_S1x32_S32768x32_0_1 := by decide
  bcast_S_S32768x32 := by decide
  bcast_S_S32 := by decide

theorem data_of_pre [Cert.Pre_real_inputs.Facts] (a0 : Rows 3072 .f32) (a1 : Rows 2048 .f32) (a2 : Rows 128 .f32) (a3 a4 a5 : Line 32) (a6 : Line 2048)
    (h : (Cert.Pre_real_inputs.fn (F := Ideal) a0 a1 a2 a3 a4 a5 a6).1 = (fun _ => 1)
      ∧ (Cert.Pre_real_inputs.fn (F := Ideal) a0 a1 a2 a3 a4 a5 a6).2.1 = (fun _ => 1)
      ∧ (Cert.Pre_real_inputs.fn (F := Ideal) a0 a1 a2 a3 a4 a5 a6).2.2 = (fun _ => 1)) :
    ∃ xr D ea, Data a0 a2 a3 a4 xr D ea := by
  obtain ⟨h1, h2, h3⟩ := h
  refine exists_data (fun r c => ?_) (fun r h => ?_) (fun h => ?_)
  · have e := congrFun h1 (ix2 r c)
    have e' := lt_of_cmp e
    exact lt_of_lt_of_eq e' inf_eq
  · have e := congrFun h2 (ix2 r h)
    have e' := lt_of_cmp e
    refine lt_of_eq_of_lt ?_ (lt_of_lt_of_eq e' inf_eq)
    pointwise
  · have e := congrFun h3 (ix1 h)
    have e' := lt_of_cmp e
    exact lt_of_lt_of_eq e' inf_eq

end Cert.Ssd
-- ==== Proof.Ssd.lean ====
module

public import proofs.«01_k».proof.Proof.Gen.Kernel.Frame
public import proofs.«01_k».proof.Proof.Gen.KernelIdeal
public import proofs.«01_k».proof.Proof.KerGrid
public import proofs.«01_k».proof.Proof.RefKept
public import proofs.«01_k».proof.Proof.Inputs

/-! # The claims about the selective-state layer -/

@[expose] public section

set_option maxRecDepth 16384

noncomputable section

namespace Cert.Proof.Ssd

open Idealize.ShloMosaic Idealize.ShloMosaic.TcCoe Idealize.SL.Sem
open Cert.Ssd
open Cert.ReferenceIdeal.Loop (argR)
open Cert.KernelIdeal.Blk (argK)

attribute [local instance] Cert.Ssd.facts

theorem frame_k : Cert.quiescent_Kernel := fun m ρ _ => Cert.Kernel.Gen.frame m ρ
theorem frame_ki : Cert.quiescent_KernelIdeal := fun m ρ _ => Cert.KernelIdeal.Gen.frame m ρ
theorem frame_ki_pre : Cert.quiescent_KernelIdeal_pre_real_inputs := fun m ρ _ => Cert.KernelIdeal.Gen.frame m ρ
theorem frame_ri : Cert.quiescent_ReferenceIdeal := fun m ρ _ =>
  (θ_run _ _ _).mono (fun r h => ⟨fun c => (h c).2, sem_eq_zero_of_no_sems rfl r.2⟩) (Cert.ReferenceIdeal.Loop.run m ρ _ fun _ => rfl)
theorem frame_ri_pre : Cert.quiescent_ReferenceIdeal_pre_real_inputs := fun m ρ _ => frame_ri m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_real_inputs := by
  intro m ρ m' ρ' hpre hag
  refine ⟨_, Cert.KernelIdeal.Value.run (F := Ideal) m ρ, Cert.ReferenceIdeal.Loop.run m' ρ' _ fun c => ?_⟩
  obtain ⟨xr, D, ea, H⟩ := data_of_pre _ _ _ _ _ _ _ (hpre c)
  obtain ⟨h0, h1, h2, h3, h4, h5, h6⟩ := hag c
  have e0 : (argR m' c Cert.ReferenceIdeal.main_arg0 : Rows 3072 .f32) = (argK m c Cert.KernelIdeal.main_arg0 : Rows 3072 .f32) := h0
  have e1 : (argR m' c Cert.ReferenceIdeal.main_arg1 : Rows 2048 .f32) = (argK m c Cert.KernelIdeal.main_arg1 : Rows 2048 .f32) := h1
  have e2 : (argR m' c Cert.ReferenceIdeal.main_arg2 : Rows 128 .f32) = (argK m c Cert.KernelIdeal.main_arg2 : Rows 128 .f32) := h2
  have e3 : (argR m' c Cert.ReferenceIdeal.main_arg3 : Line 32) = (argK m c Cert.KernelIdeal.main_arg3 : Line 32) := h3
  have e4 : (argR m' c Cert.ReferenceIdeal.main_arg4 : Line 32) = (argK m c Cert.KernelIdeal.main_arg4 : Line 32) := h4
  have e5 : (argR m' c Cert.ReferenceIdeal.main_arg5 : Line 32) = (argK m c Cert.KernelIdeal.main_arg5 : Line 32) := h5
  have e6 : (argR m' c Cert.ReferenceIdeal.main_arg6 : Line 2048) = (argK m c Cert.KernelIdeal.main_arg6 : Line 2048) := h6
  have H' : Data (argR m' c Cert.ReferenceIdeal.main_arg0) (argR m' c Cert.ReferenceIdeal.main_arg2) (argR m' c Cert.ReferenceIdeal.main_arg3)
      (argR m' c Cert.ReferenceIdeal.main_arg4) xr D ea := by
    rw [e0, e2, e3, e4]
    exact H
  refine (Cert.ReferenceIdeal.Loop.value H').trans ?_
  rw [e0, e1, e5, e6]
  exact (Cert.KernelIdeal.Blk.G8_eq H).symm

end Cert.Proof.Ssd
-- ==== Proof.FfnSpec.lean ====
module

public import Idealize.ShloMosaic.PureOps.Ideal
public import Idealize.ShloMosaic.Lib.Pointwise

/-! # One row of the feed-forward call -/

@[expose] public section

noncomputable section

namespace Cert.Ffn

open Idealize.ShloMosaic

/-- A row divided by the root of its mean square (with the constant added), times the weight. -/
def rms (x w : Fin 1024 → EReal) (j : Fin 1024) : EReal :=
  x j * Ideal.rsqrt (Ideal.div (∑ k, x k * x k) (Ideal.ofBits .f32 0x44800000#32) + Ideal.ofBits .f32 0x358637BD#32) * w j

/-- A row times a matrix. -/
def row {n p : ℕ} (x : Fin n → EReal) (w : Fin n → Fin p → EReal) (k : Fin p) : EReal := ∑ i, x i * w i k

/-- The gate times its sigmoid times the other projection, projected back. -/
def swi (x : Fin 1024 → EReal) (g u : Fin 1024 → Fin 2816 → EReal) (d : Fin 2816 → Fin 1024 → EReal) : Fin 1024 → EReal :=
  row (fun k => row x g k * Ideal.logistic (row x g k) * row x u k) d

/-- The half step: normalized before and after. -/
def ffn (x pre post : Fin 1024 → EReal) (g u : Fin 1024 → Fin 2816 → EReal) (d : Fin 2816 → Fin 1024 → EReal) (j : Fin 1024) : EReal :=
  x j + Ideal.ofBits .f32 0x3F000000#32 * rms (swi (rms x pre) g u d) post j

/-- A whole array of rows. -/
abbrev Rows (n : ℕ) (t : FTy) := FVec Ideal ⟨2, ![32768, n]⟩ t
/-- A row of weights. -/
abbrev Line (n : ℕ) := FVec Ideal ⟨1, ![n]⟩ .f32
/-- A matrix of weights. -/
abbrev Mat (n p : ℕ) := FVec Ideal ⟨2, ![n, p]⟩ .f32

/-- The entries of a line. -/
abbrev ln {n : ℕ} (w : Line n) : Fin n → EReal := fun k => w (ix1 k)
/-- The entries of a matrix of any format. -/
abbrev mt {n p : ℕ} {t : FTy} (w : FVec Ideal ⟨2, ![n, p]⟩ t) : Fin n → Fin p → EReal := fun i k => w (ix2 i k)

/-- The half step of every row of `x`, whose rows `x` gives. -/
def out (x : Fin 32768 → Fin 1024 → EReal) (pre post : Line 1024) (g u : Mat 1024 2816) (d : Mat 2816 1024) : Rows 1024 .f32 := fun i =>
  ffn (x (i 0)) (ln pre) (ln post) (mt g) (mt u) (mt d) (i 1)

/-- The rows after a mixer: its projected rows, normalized, are added. -/
def mixed {n : ℕ} (h : Rows 1024 .f32) (o : Fin 32768 → Fin n → EReal) (w : Mat n 1024) (mw : Line 1024) (i : Fin 32768) (j : Fin 1024) : EReal :=
  h (ix2 i j) + rms (row (o i) (mt w)) (ln mw) j

/-- The rows of two mixers side by side, the first held 128 lanes at a time. -/
def beside (a : FVec Ideal ⟨3, ![4, 32768, 128]⟩ .bf16) (b : Rows 512 .bf16) (i : Fin 32768) (k : Fin 1024) : EReal :=
  if h : k.val < 512 then a (ix3 ⟨k.val / 128, by omega⟩ i ⟨k.val % 128, by omega⟩) else b (ix2 i ⟨k.val - 512, by omega⟩)

/-- A row times a matrix, the first 512 terms apart. -/
theorem row_split {p : ℕ} (x : Fin 1024 → EReal) (w : Fin 1024 → Fin p → EReal) (j : Fin p) :
    row x w j = row (fun k : Fin 512 => x ⟨k.val, by omega⟩) (fun k => w ⟨k.val, by omega⟩) j
      + row (fun k : Fin 512 => x ⟨512 + k.val, by omega⟩) (fun k => w ⟨512 + k.val, by omega⟩) j :=
  Fin.sum_univ_add (a := 512) (b := 512) fun k => x k * w k j

end Cert.Ffn
-- ==== Proof.FfnKer.lean ====
module

public import proofs.«01_k».proof.Proof.Gen.Kernel2Ideal
public import proofs.«01_k».proof.Proof.FfnSpec
public import Idealize.ShloMosaic.Lib.Pipeline.FrameBody

/-! # The feed-forward call's operations on a block of 512 rows -/

@[expose] public section

set_option maxRecDepth 16384

noncomputable section

namespace Cert.Ffn

open Cert.Kernel2Ideal Cert.Kernel2Ideal.Gen
open Idealize.ShloMosaic Idealize.ShloMosaic.TcCoe Idealize.SL.Sem

variable (x : FVec Ideal S512x1024 .f32) (w pre post : FVec Ideal S1x1024 .f32) (g u : FVec Ideal S1024x2816 .bf16) (d : FVec Ideal S2816x1024 .bf16)

/-- The rows without their weight. -/
def kUnit : FVec Ideal S512x1024 .f32 :=
  mulf x (broadcastTo S512x1024 (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

def kRms : FVec Ideal S512x1024 .f32 := mulf (kUnit x) (broadcastTo S512x1024 (shapeCast S1x1024 w shapeCasts_S1x1024_S1x1024) broadcasts_S1x1024_S512x1024)

theorem kRms_apply (r : Fin 512) (j : Fin 1024) : kRms x w (ix2 r j) = rms (mt x r) (mt w 0) j := by
  pointwise [kRms, kUnit, rms]

/-- A projection to the hidden width. -/
def kUp (x : FVec Ideal S512x1024 .bf16) : FVec Ideal S512x2816 .f32 :=
  matmul dot_S512x1024_S1024x2816_S512x2816_1_0_0_1_n_n none x (shapeCast S1024x2816 g shapeCasts_S1024x2816_S1024x2816) (constant S512x2816 .f32 0x00000000#32)

theorem kUp_apply (x : FVec Ideal S512x1024 .bf16) (r : Fin 512) (j : Fin 2816) : kUp g x (ix2 r j) = row (mt x r) (mt g) j := by
  pointwise [kUp, row]

def kDown (a : FVec Ideal S512x2816 .bf16) : FVec Ideal S512x1024 .f32 :=
  matmul dot_S512x2816_S2816x1024_S512x1024_1_0_0_1_n_n none a (shapeCast S2816x1024 d shapeCasts_S2816x1024_S2816x1024) (constant S512x1024 .f32 0x00000000#32)

theorem kDown_apply (a : FVec Ideal S512x2816 .bf16) (r : Fin 512) (j : Fin 1024) : kDown d a (ix2 r j) = row (mt a r) (mt d) j := by
  pointwise [kDown, row]

def kAct (a b : FVec Ideal S512x2816 .f32) : FVec Ideal S512x2816 .bf16 := truncf .bf16 (mulf (mulf a (logistic a)) b) bitsLt_bf16_f32

theorem kAct_apply (a b : FVec Ideal S512x2816 .f32) (r : Fin 512) (j : Fin 2816) :
    kAct a b (ix2 r j) = a (ix2 r j) * Ideal.logistic (a (ix2 r j)) * b (ix2 r j) := by
  pointwise [kAct]

/-- The whole half step of a block. -/
def kFfn : FVec Ideal S512x1024 .f32 :=
  let n : FVec Ideal S512x1024 .bf16 := truncf .bf16 (kRms x pre) bitsLt_bf16_f32
  addf x (mulf (broadcast S512x1024 (Scalar.ofBits .f32 0x3F000000#32)) (kRms (kDown d (kAct (kUp g n) (kUp u n))) post))

theorem kFfn_apply (r : Fin 512) (j : Fin 1024) :
    kFfn x pre post g u d (ix2 r j) = ffn (mt x r) (mt pre 0) (mt post 0) (mt g) (mt u) (mt d) j := by
  have e : ∀ n : FVec Ideal S512x1024 .bf16, n = truncf .bf16 (kRms x pre) bitsLt_bf16_f32 → mt n r = rms (mt x r) (mt pre 0) := fun n hn => by
    subst hn
    funext k
    exact kRms_apply x pre r k
  show x (ix2 r j) + Ideal.ofBits .f32 0x3F000000#32 * kRms _ post (ix2 r j) = _
  rw [kRms_apply]
  unfold ffn swi
  refine congrArg (fun f => _ + _ * rms f _ _) ?_
  funext k
  show kDown d _ (ix2 r k) = _
  rw [kDown_apply]
  refine congrArg (fun f => row f _ k) ?_
  funext q
  show kAct _ _ (ix2 r q) = _
  rw [kAct_apply, kUp_apply, kUp_apply, e _ rfl]

/-- The same against weights held as the reference holds them, the rows read elsewhere. -/
theorem kFfn_row {x pre post g u d} (X : Fin 1024 → EReal) (PRE POST : Line 1024) (G U : Mat 1024 2816) (D : Mat 2816 1024) (r : Fin 512) (j : Fin 1024)
    (ex : ∀ k, x (ix2 r k) = X k) (e1 : ∀ k, pre (ix2 0 k) = PRE (ix1 k)) (e2 : ∀ k, post (ix2 0 k) = POST (ix1 k))
    (e3 : ∀ i k, g (ix2 i k) = G (ix2 i k)) (e4 : ∀ i k, u (ix2 i k) = U (ix2 i k)) (e5 : ∀ i k, d (ix2 i k) = D (ix2 i k)) :
    kFfn x pre post g u d (ix2 r j) = ffn X (ln PRE) (ln POST) (mt G) (mt U) (mt D) j := by
  have e0 : mt x r = X := funext ex
  have e1 : mt pre 0 = ln PRE := funext e1
  have e2 : mt post 0 = ln POST := funext e2
  have e3 : mt g = mt G := funext fun i => funext (e3 i)
  have e4 : mt u = mt U := funext fun i => funext (e4 i)
  have e5 : mt d = mt D := funext fun i => funext (e5 i)
  rw [kFfn_apply, e0, e1, e2, e3, e4, e5]

end Cert.Ffn
-- ==== Proof.FfnKer2.lean ====
module

public import proofs.«01_k».proof.Proof.Gen.Kernel2Ideal.Value
public import proofs.«01_k».proof.Proof.FfnKer
public import Idealize.ShloMosaic.Lib.Pipeline.ValueKit
public import Idealize.ShloMosaic.Lib.StableHlo.RunRead

/-! # The feed-forward call alone: what its array holds -/

@[expose] public section

set_option maxRecDepth 16384

noncomputable section

namespace Cert.Kernel2Ideal.Out

open Cert.Kernel2Ideal Cert.Kernel2Ideal.Gen Cert.Ffn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

theorem hz2 : (![0, 0] : Fin 2 → ℕ) = fun _ => 0 := by decide

/-- The block stored is the half step of the block loaded. -/
theorem out_eq (x0 : FVec Ideal S512x1024 .f32) (x1 x2 : FVec Ideal S1x1024 .f32) (x3 x4 : FVec Ideal S1024x2816 .bf16) (x5 : FVec Ideal S2816x1024 .bf16) :
    out0_6 (F := Ideal) x0 x1 x2 x3 x4 x5 = kFfn x0 x1 x2 x3 x4 x5 := by
  unfold out0_6 r0_0 r0_1 r0_2 r0_3
  rw [View.canon_unit_zero hz2]
  simp (disch := decide) only [View.ld_unit_lit]
  rfl

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] := (by decide +kernel : ∀ t : Fin grid0.N, _)

theorem t_lt (t : Fin cfg0.N) : t.val < 64 := lt_of_lt_of_eq t.isLt N_0

/-- An argument on core `c`. -/
abbrev arg (r : Ref sig .tc) : (Proc.devRef .tc r : DevRef τ sig).ty.Contents (Elt Ideal) := m ((c.tc : Thread nD τ).loc r)

theorem blk0 (t : Fin cfg0.N) (r : Fin 512) (k : Fin 1024) :
    (iblk m c 0 t : FVec Ideal S512x1024 .f32) (ix2 r k) = (arg m c main_arg0 : FVec Ideal S32768x1024 .f32) (ix2 ⟨t.val * 512 + r.val, by have := t_lt t; omega⟩ k) := by
  blk_ext [iblk, V, idx t]

theorem blk1 (t : Fin cfg0.N) (k : Fin 1024) :
    (iblk m c 1 t : FVec Ideal S1x1024 .f32) (ix2 0 k) = (arg m c main_arg1 : FVec Ideal S1024 .f32) (ix1 k) := by
  blk_point [iblk, V, idx t]

theorem blk2 (t : Fin cfg0.N) (k : Fin 1024) :
    (iblk m c 2 t : FVec Ideal S1x1024 .f32) (ix2 0 k) = (arg m c main_arg2 : FVec Ideal S1024 .f32) (ix1 k) := by
  blk_point [iblk, V, idx t]

theorem blk3 (t : Fin cfg0.N) (i : Fin 1024) (k : Fin 2816) :
    (iblk m c 3 t : FVec Ideal S1024x2816 .bf16) (ix2 i k) = (arg m c main_arg3 : FVec Ideal S1024x2816 .f32) (ix2 i k) := by
  blk_point [iblk, V, idx t]

theorem blk4 (t : Fin cfg0.N) (i : Fin 1024) (k : Fin 2816) :
    (iblk m c 4 t : FVec Ideal S1024x2816 .bf16) (ix2 i k) = (arg m c main_arg4 : FVec Ideal S1024x2816 .f32) (ix2 i k) := by
  blk_point [iblk, V, idx t]

theorem blk5 (t : Fin cfg0.N) (i : Fin 2816) (k : Fin 1024) :
    (iblk m c 5 t : FVec Ideal S2816x1024 .bf16) (ix2 i k) = (arg m c main_arg5 : FVec Ideal S2816x1024 .f32) (ix2 i k) := by
  blk_point [iblk, V, idx t]

theorem final : (dats m 0 c).arrAt 6 cfg0.N = Cert.Ffn.out (mt (t := .f32) (arg m c main_arg0 : FVec Ideal S32768x1024 .f32)) (arg m c main_arg1) (arg m c main_arg2)
    (arg m c main_arg3) (arg m c main_arg4) (arg m c main_arg5) := by
  refine (dats m 0 c).arrAt_eq_of_covers 6 _ (by decide +kernel) fun t hf y => ?_
  blk_simp
  rw [after0_6]
  rw [out_eq]
  obtain ⟨r, k, rfl⟩ : ∃ (r : Fin 512) (k : Fin 1024), y = ix2 r k := ⟨y 0, y 1, by funext a; match a with | ⟨0, _⟩ => rfl | ⟨1, _⟩ => rfl⟩
  have ey : (win0_6.blk t).view.emb (ix2 r k) = ix2 ⟨t.val * 512 + r.val, by have := t_lt t; omega⟩ k := by
    blk_ext [idx t]
  rw [ey]
  exact kFfn_row _ _ _ _ _ _ r k (blk0 m c t r) (blk1 m c t) (blk2 m c t) (blk3 m c t) (blk4 m c t) (blk5 m c t)

end Cert.Kernel2Ideal.Out
-- ==== Proof.FfnKer3.lean ====
module

public import proofs.«01_k».proof.Proof.Gen.Kernel3Ideal.Value
public import proofs.«01_k».proof.Proof.FfnKer
public import Idealize.ShloMosaic.Lib.Pipeline.ValueKit
public import Idealize.ShloMosaic.Lib.StableHlo.RunRead

/-! # The feed-forward call after the selective-state mixer: what its array holds -/

@[expose] public section

set_option maxRecDepth 16384

noncomputable section

namespace Cert.Kernel3Ideal.Out

open Cert.Kernel3Ideal Cert.Kernel3Ideal.Gen Cert.Ffn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- The mixer's rows, projected. -/
def proj (y : FVec Ideal S512x2048 .bf16) (w : FVec Ideal S2048x1024 .bf16) : FVec Ideal S512x1024 .f32 :=
  matmul dot_S512x2048_S2048x1024_S512x1024_1_0_0_1_n_n none y (shapeCast S2048x1024 w shapeCasts_S2048x1024_S2048x1024) (constant S512x1024 .f32 0x00000000#32)

theorem proj_apply (y : FVec Ideal S512x2048 .bf16) (w : FVec Ideal S2048x1024 .bf16) (r : Fin 512) (j : Fin 1024) :
    proj y w (ix2 r j) = row (Ffn.mt y r) (Ffn.mt w) j := by
  pointwise [proj, row]

/-- The block stored is the half step of the block loaded plus the mixer's rows. -/
theorem out_eq (x0 : FVec Ideal S512x1024 .f32) (x1 x2 : FVec Ideal S1x1024 .f32) (x3 x4 : FVec Ideal S1024x2816 .bf16) (x5 : FVec Ideal S2816x1024 .bf16)
    (x6 : FVec Ideal S1x1024 .f32) (x7 : FVec Ideal S512x2048 .bf16) (x8 : FVec Ideal S2048x1024 .bf16) :
    out0_9 (F := Ideal) x0 x1 x2 x3 x4 x5 x6 x7 x8 = kFfn (addf x0 (kRms (proj x7 x8) x6)) x1 x2 x3 x4 x5 := by
  unfold out0_9 r0_0 r0_1 r0_2 r0_3 r0_4 r0_5
  rw [View.canon_unit_zero (by decide)]
  simp (disch := decide) only [View.ld_unit_lit]
  rfl

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![0, 0]
    ∧ win0_9.index t = ![t.val, 0] := (by decide +kernel : ∀ t : Fin grid0.N, _)

theorem t_lt (t : Fin cfg0.N) : t.val < 64 := lt_of_lt_of_eq t.isLt N_0

/-- An argument on core `c`. -/
abbrev arg (r : Ref sig .tc) : (Proc.devRef .tc r : DevRef τ sig).ty.Contents (Elt Ideal) := m ((c.tc : Thread nD τ).loc r)

theorem blk0 (t : Fin cfg0.N) (r : Fin 512) (k : Fin 1024) :
    (iblk m c 0 t : FVec Ideal S512x1024 .f32) (ix2 r k) = (arg m c main_arg0 : FVec Ideal S32768x1024 .f32) (ix2 ⟨t.val * 512 + r.val, by have := t_lt t; omega⟩ k) := by
  blk_ext [iblk, V, idx t]

theorem blk1 (t : Fin cfg0.N) (k : Fin 1024) :
    (iblk m c 1 t : FVec Ideal S1x1024 .f32) (ix2 0 k) = (arg m c main_arg3 : FVec Ideal S1024 .f32) (ix1 k) := by
  blk_point [iblk, V, idx t]

theorem blk2 (t : Fin cfg0.N) (k : Fin 1024) :
    (iblk m c 2 t : FVec Ideal S1x1024 .f32) (ix2 0 k) = (arg m c main_arg4 : FVec Ideal S1024 .f32) (ix1 k) := by
  blk_point [iblk, V, idx t]

theorem blk3 (t : Fin cfg0.N) (i : Fin 1024) (k : Fin 2816) :
    (iblk m c 3 t : FVec Ideal S1024x2816 .bf16) (ix2 i k) = (arg m c main_arg5 : FVec Ideal S1024x2816 .f32) (ix2 i k) := by
  blk_point [iblk, V, idx t]

theorem blk4 (t : Fin cfg0.N) (i : Fin 1024) (k : Fin 2816) :
    (iblk m c 4 t : FVec Ideal S1024x2816 .bf16) (ix2 i k) = (arg m c main_arg6 : FVec Ideal S1024x2816 .f32) (ix2 i k) := by
  blk_point [iblk, V, idx t]

theorem blk5 (t : Fin cfg0.N) (i : Fin 2816) (k : Fin 1024) :
    (iblk m c 5 t : FVec Ideal S2816x1024 .bf16) (ix2 i k) = (arg m c main_arg7 : FVec Ideal S2816x1024 .f32) (ix2 i k) := by
  blk_point [iblk, V, idx t]

theorem blk6 (t : Fin cfg0.N) (k : Fin 1024) :
    (iblk m c 6 t : FVec Ideal S1x1024 .f32) (ix2 0 k) = (arg m c main_arg2 : FVec Ideal S1024 .f32) (ix1 k) := by
  blk_point [iblk, V, idx t]

theorem blk7 (t : Fin cfg0.N) (r : Fin 512) (k : Fin 2048) :
    (iblk m c 7 t : FVec Ideal S512x2048 .bf16) (ix2 r k) = (arg m c main_arg1 : FVec Ideal S32768x2048 .bf16) (ix2 ⟨t.val * 512 + r.val, by have := t_lt t; omega⟩ k) := by
  blk_ext [iblk, V, idx t]

theorem blk8 (t : Fin cfg0.N) (i : Fin 2048) (k : Fin 1024) :
    (iblk m c 8 t : FVec Ideal S2048x1024 .bf16) (ix2 i k) = (arg m c main_arg8 : FVec Ideal S2048x1024 .f32) (ix2 i k) := by
  blk_point [iblk, V, idx t]

theorem final : (dats m 0 c).arrAt 9 cfg0.N
    = Cert.Ffn.out (mixed (arg m c main_arg0) (Ffn.mt (t := .bf16) (arg m c main_arg1 : FVec Ideal S32768x2048 .bf16)) (arg m c main_arg8) (arg m c main_arg2))
      (arg m c main_arg3) (arg m c main_arg4) (arg m c main_arg5) (arg m c main_arg6) (arg m c main_arg7) := by
  refine (dats m 0 c).arrAt_eq_of_covers 9 _ (by decide +kernel) fun t hf y => ?_
  blk_simp
  rw [after0_9]
  rw [out_eq]
  obtain ⟨r, k, rfl⟩ : ∃ (r : Fin 512) (k : Fin 1024), y = ix2 r k := ⟨y 0, y 1, by funext a; match a with | ⟨0, _⟩ => rfl | ⟨1, _⟩ => rfl⟩
  have ey : (win0_9.blk t).view.emb (ix2 r k) = ix2 ⟨t.val * 512 + r.val, by have := t_lt t; omega⟩ k := by
    blk_ext [idx t]
  rw [ey]
  refine kFfn_row _ _ _ _ _ _ r k (fun j => ?_) (blk1 m c t) (blk2 m c t) (blk3 m c t) (blk4 m c t) (blk5 m c t)
  refine congrArg₂ (fun a b : EReal => a + b) (blk0 m c t r j) ((kRms_apply ..).trans ?_)
  have e6 : Ffn.mt (t := .f32) (iblk m c 6 t : FVec Ideal S1x1024 .f32) 0 = ln (arg m c main_arg2 : FVec Ideal S1024 .f32) := funext (blk6 m c t)
  have e7 : Ffn.mt (t := .bf16) (iblk m c 7 t : FVec Ideal S512x2048 .bf16) r = Ffn.mt (t := .bf16) (arg m c main_arg1 : FVec Ideal S32768x2048 .bf16) _ := funext (blk7 m c t r)
  have e8 : Ffn.mt (t := .bf16) (iblk m c 8 t : FVec Ideal S2048x1024 .bf16) = Ffn.mt (t := .f32) (arg m c main_arg8 : FVec Ideal S2048x1024 .f32) := funext fun i => funext (blk8 m c t i)
  refine congrArg₂ (fun a b => rms a b j) (funext fun q => (proj_apply ..).trans ?_) e6
  rw [e7, e8]
  rfl

end Cert.Kernel3Ideal.Out
-- ==== Proof.FfnKer4.lean ====
module

public import proofs.«01_k».proof.Proof.Gen.Kernel4Ideal.Value
public import proofs.«01_k».proof.Proof.FfnKer
public import Idealize.ShloMosaic.Lib.Pipeline.ValueKit
public import Idealize.ShloMosaic.Lib.StableHlo.RunRead

/-! # The feed-forward call after the two attention mixers: what its array holds -/

@[expose] public section

set_option maxRecDepth 16384

noncomputable section

namespace Cert.Kernel4Ideal.Out

open Cert.Kernel4Ideal Cert.Kernel4Ideal.Gen Cert.Ffn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-- One mixer's four slabs side by side. -/
def cat (a : FVec Ideal S4x512x128 .bf16) : FVec Ideal S512x512 .bf16 :=
  concatenate S512x512 1 [⟨S512x128, shapeCast S512x128 (View.ld (Val := Elt Ideal) (e' := .bf16) a r0_1) shapeCasts_S1x512x128_S512x128⟩, ⟨S512x128, shapeCast S512x128 (View.ld (Val := Elt Ideal) (e' := .bf16) a r0_2) shapeCasts_S1x512x128_S512x128⟩,
    ⟨S512x128, shapeCast S512x128 (View.ld (Val := Elt Ideal) (e' := .bf16) a r0_3) shapeCasts_S1x512x128_S512x128⟩, ⟨S512x128, shapeCast S512x128 (View.ld (Val := Elt Ideal) (e' := .bf16) a r0_4) shapeCasts_S1x512x128_S512x128⟩]
    concatenates_S512x128_S512x128_S512x128_S512x128_S512x512_d1

theorem cat_apply (a : FVec Ideal S4x512x128 .bf16) (r k : Fin 512) : cat a (ix2 r k) = a (ix3 ⟨k.val / 128, by omega⟩ r ⟨k.val % 128, by omega⟩) := by
  pointwise [cat]
  have e : ∀ {s s' : Fin 4} {q q' : Fin 128}, s.val = s'.val → q.val = q'.val → a (ix3 s r q) = a (ix3 s' r q') := fun hs hq => by
    rw [Fin.ext hs, Fin.ext hq]
  by_cases h0 : k.val < 128
  · rw [dif_pos h0]
    exact e (show 0 = k.val / 128 by omega) (show k.val = k.val % 128 by omega)
  rw [dif_neg h0]
  by_cases h1 : k.val - 128 < 128
  · rw [dif_pos h1]
    exact e (show 1 = k.val / 128 by omega) (show k.val - 128 = k.val % 128 by omega)
  rw [dif_neg h1]
  by_cases h2 : k.val - 128 - 128 < 128
  · rw [dif_pos h2]
    exact e (show 2 = k.val / 128 by omega) (show k.val - 128 - 128 = k.val % 128 by omega)
  rw [dif_neg h2]
  exact e (show 3 = k.val / 128 by omega) (show k.val - 128 - 128 - 128 = k.val % 128 by omega)

/-- Half of the projection. -/
def half (y : FVec Ideal S512x512 .bf16) (w : FVec Ideal S512x1024 .bf16) : FVec Ideal S512x1024 .f32 :=
  matmul dot_S512x512_S512x1024_S512x1024_1_0_0_1_n_n none y (shapeCast S512x1024 w shapeCasts_S512x1024_S512x1024) (constant S512x1024 .f32 0x00000000#32)

theorem half_apply (y : FVec Ideal S512x512 .bf16) (w : FVec Ideal S512x1024 .bf16) (r : Fin 512) (j : Fin 1024) :
    half y w (ix2 r j) = row (Ffn.mt y r) (Ffn.mt w) j := by
  pointwise [half, row]

/-- The block stored is the half step of the block loaded plus the mixers' rows. -/
theorem out_eq (x0 : FVec Ideal S512x1024 .f32) (x1 x2 : FVec Ideal S1x1024 .f32) (x3 x4 : FVec Ideal S1024x2816 .bf16) (x5 : FVec Ideal S2816x1024 .bf16)
    (x6 : FVec Ideal S1x1024 .f32) (x7 : FVec Ideal S4x512x128 .bf16) (x8 : FVec Ideal S512x512 .bf16) (x9 x10 : FVec Ideal S512x1024 .bf16) :
    out0_11 (F := Ideal) x0 x1 x2 x3 x4 x5 x6 x7 x8 x9 x10
      = kFfn (addf x0 (kRms (addf (half (cat x7) x9) (half x8 x10)) x6)) x1 x2 x3 x4 x5 := by
  unfold out0_11 k0_pay6 r0_0 r0_5 r0_6 r0_7 r0_8
  rw [View.canon_unit_zero (by decide)]
  simp (disch := decide) only [View.ld_unit_lit]
  rfl

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, t.val, 0] ∧ win0_8.index t = ![t.val, 0]
    ∧ win0_9.index t = ![0, 0] ∧ win0_10.index t = ![0, 0] ∧ win0_11.index t = ![t.val, 0] := (by decide +kernel : ∀ t : Fin grid0.N, _)

theorem t_lt (t : Fin cfg0.N) : t.val < 64 := lt_of_lt_of_eq t.isLt N_0

/-- An argument on core `c`. -/
abbrev arg (r : Ref sig .tc) : (Proc.devRef .tc r : DevRef τ sig).ty.Contents (Elt Ideal) := m ((c.tc : Thread nD τ).loc r)

theorem blk0 (t : Fin cfg0.N) (r : Fin 512) (k : Fin 1024) :
    (iblk m c 0 t : FVec Ideal S512x1024 .f32) (ix2 r k) = (arg m c main_arg0 : FVec Ideal S32768x1024 .f32) (ix2 ⟨t.val * 512 + r.val, by have := t_lt t; omega⟩ k) := by
  blk_ext [iblk, V, idx t]

theorem blk1 (t : Fin cfg0.N) (k : Fin 1024) :
    (iblk m c 1 t : FVec Ideal S1x1024 .f32) (ix2 0 k) = (arg m c main_arg4 : FVec Ideal S1024 .f32) (ix1 k) := by
  blk_point [iblk, V, idx t]

theorem blk2 (t : Fin cfg0.N) (k : Fin 1024) :
    (iblk m c 2 t : FVec Ideal S1x1024 .f32) (ix2 0 k) = (arg m c main_arg5 : FVec Ideal S1024 .f32) (ix1 k) := by
  blk_point [iblk, V, idx t]

theorem blk3 (t : Fin cfg0.N) (i : Fin 1024) (k : Fin 2816) :
    (iblk m c 3 t : FVec Ideal S1024x2816 .bf16) (ix2 i k) = (arg m c main_arg6 : FVec Ideal S1024x2816 .f32) (ix2 i k) := by
  blk_point [iblk, V, idx t]

theorem blk4 (t : Fin cfg0.N) (i : Fin 1024) (k : Fin 2816) :
    (iblk m c 4 t : FVec Ideal S1024x2816 .bf16) (ix2 i k) = (arg m c main_arg7 : FVec Ideal S1024x2816 .f32) (ix2 i k) := by
  blk_point [iblk, V, idx t]

theorem blk5 (t : Fin cfg0.N) (i : Fin 2816) (k : Fin 1024) :
    (iblk m c 5 t : FVec Ideal S2816x1024 .bf16) (ix2 i k) = (arg m c main_arg8 : FVec Ideal S2816x1024 .f32) (ix2 i k) := by
  blk_point [iblk, V, idx t]

theorem blk6 (t : Fin cfg0.N) (k : Fin 1024) :
    (iblk m c 6 t : FVec Ideal S1x1024 .f32) (ix2 0 k) = (arg m c main_arg3 : FVec Ideal S1024 .f32) (ix1 k) := by
  blk_point [iblk, V, idx t]

theorem blk7 (t : Fin cfg0.N) (s : Fin 4) (r : Fin 512) (k : Fin 128) :
    (iblk m c 7 t : FVec Ideal S4x512x128 .bf16) (ix3 s r k)
      = (arg m c main_arg1 : FVec Ideal S4x32768x128 .bf16) (ix3 s ⟨t.val * 512 + r.val, by have := t_lt t; omega⟩ k) := by
  blk_ext [iblk, V, idx t]

theorem blk8 (t : Fin cfg0.N) (r k : Fin 512) :
    (iblk m c 8 t : FVec Ideal S512x512 .bf16) (ix2 r k) = (arg m c main_arg2 : FVec Ideal S32768x512 .bf16) (ix2 ⟨t.val * 512 + r.val, by have := t_lt t; omega⟩ k) := by
  blk_ext [iblk, V, idx t]

theorem blk9 (t : Fin cfg0.N) (i : Fin 512) (k : Fin 1024) :
    (iblk m c 9 t : FVec Ideal S512x1024 .bf16) (ix2 i k) = (arg m c main_arg9 : FVec Ideal S1024x1024 .f32) (ix2 ⟨i.val, by omega⟩ k) := by
  blk_point [iblk, V, idx t]

theorem blk10 (t : Fin cfg0.N) (i : Fin 512) (k : Fin 1024) :
    (iblk m c 10 t : FVec Ideal S512x1024 .bf16) (ix2 i k) = (arg m c main_arg9 : FVec Ideal S1024x1024 .f32) (ix2 ⟨512 + i.val, by omega⟩ k) := by
  blk_point [iblk, V, idx t]

/-- A row of the two half projections' sum is the whole row projected. -/
theorem mix_row (t : Fin cfg0.N) (r : Fin 512) (q : Fin 1024) :
    addf (half (cat (iblk m c 7 t)) (iblk m c 9 t)) (half (iblk m c 8 t) (iblk m c 10 t)) (ix2 r q)
      = row (beside (arg m c main_arg1) (arg m c main_arg2) ⟨t.val * 512 + r.val, by have := t_lt t; omega⟩) (Ffn.mt (t := .f32) (arg m c main_arg9 : FVec Ideal S1024x1024 .f32)) q := by
  rw [row_split]
  refine congrArg₂ (fun a b : EReal => a + b) ((half_apply ..).trans ?_) ((half_apply ..).trans ?_)
  · refine Finset.sum_congr rfl fun k _ => congrArg₂ (fun a b : EReal => a * b) ((cat_apply ..).trans ((blk7 ..).trans ?_)) (blk9 ..)
    dsimp only [beside]
    rw [dif_pos k.isLt]
  · refine Finset.sum_congr rfl fun k _ => congrArg₂ (fun a b : EReal => a * b) ((blk8 ..).trans ?_) (blk10 ..)
    dsimp only [beside]
    rw [dif_neg (by omega)]
    simp only [Nat.add_sub_cancel_left]

theorem final : (dats m 0 c).arrAt 11 cfg0.N
    = Cert.Ffn.out (mixed (arg m c main_arg0) (beside (arg m c main_arg1) (arg m c main_arg2)) (arg m c main_arg9) (arg m c main_arg3))
      (arg m c main_arg4) (arg m c main_arg5) (arg m c main_arg6) (arg m c main_arg7) (arg m c main_arg8) := by
  refine (dats m 0 c).arrAt_eq_of_covers 11 _ (by decide +kernel) fun t hf y => ?_
  blk_simp
  rw [after0_11]
  rw [out_eq]
  obtain ⟨r, k, rfl⟩ : ∃ (r : Fin 512) (k : Fin 1024), y = ix2 r k := ⟨y 0, y 1, by funext a; match a with | ⟨0, _⟩ => rfl | ⟨1, _⟩ => rfl⟩
  have ey : (win0_11.blk t).view.emb (ix2 r k) = ix2 ⟨t.val * 512 + r.val, by have := t_lt t; omega⟩ k := by
    blk_ext [idx t]
  rw [ey]
  refine kFfn_row _ _ _ _ _ _ r k (fun j => ?_) (blk1 m c t) (blk2 m c t) (blk3 m c t) (blk4 m c t) (blk5 m c t)
  refine congrArg₂ (fun a b : EReal => a + b) (blk0 m c t r j) ((kRms_apply ..).trans ?_)
  exact congrArg₂ (fun a b => rms a b j) (funext (mix_row m c t r)) (funext (blk6 m c t))

end Cert.Kernel4Ideal.Out
-- ==== Proof.FfnRef.lean ====
module

public import proofs.«01_k».proof.Proof.Gen.Reference2Ideal
public import proofs.«01_k».proof.Proof.FfnSpec
public import Idealize.ShloMosaic.Lib.Pipeline.FrameBody

/-! # The references' host operations, row by row -/

@[expose] public section

set_option maxRecDepth 16384

noncomputable section

namespace Cert.Ffn

open Cert.Reference2Ideal Cert.Reference2Ideal.Gen
open Idealize.ShloMosaic Idealize.ShloMosaic.TcCoe Idealize.SL.Sem

variable (x : FVec Ideal S32768x1024 .f32) (w pre post : FVec Ideal S1024 .f32) (g u : FVec Ideal S1024x2816 .f32) (d : FVec Ideal S2816x1024 .f32)

/-- The root mean square normalization of a whole array. -/
def rRms : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

theorem rRms_apply (i : Fin 32768) (j : Fin 1024) : rRms x w (ix2 i j) = rms (mt x i) (ln w) j := by
  pointwise [rRms, rms]

def rUp : FVec Ideal S32768x2816 .f32 := Host.dotGeneral dot_S32768x1024_S1024x2816_S32768x2816_1_0_0_1_n_n none x g

theorem rUp_apply (i : Fin 32768) (j : Fin 2816) : rUp x g (ix2 i j) = row (mt x i) (mt g) j := by
  pointwise [rUp, row]

def rDown (a : FVec Ideal S32768x2816 .f32) : FVec Ideal S32768x1024 .f32 := Host.dotGeneral dot_S32768x2816_S2816x1024_S32768x1024_1_0_0_1_n_n none a d

theorem rDown_apply (a : FVec Ideal S32768x2816 .f32) (i : Fin 32768) (j : Fin 1024) : rDown d a (ix2 i j) = row (mt a i) (mt d) j := by
  pointwise [rDown, row]

/-- The gate's activation times the other projection. -/
def rAct (a b : FVec Ideal S32768x2816 .f32) : FVec Ideal S32768x2816 .f32 :=
  mulf (mulf a (Host.divf (broadcastInDim S32768x2816 ![] bcast_S_S32768x2816 (constant S_ .f32 0x3F800000#32))
    (addf (broadcastInDim S32768x2816 ![] bcast_S_S32768x2816 (constant S_ .f32 0x3F800000#32)) (Host.exp (Host.negf a))))) b

theorem rAct_apply (a b : FVec Ideal S32768x2816 .f32) (i : Fin 32768) (j : Fin 2816) :
    rAct a b (ix2 i j) = a (ix2 i j) * Ideal.logistic (a (ix2 i j)) * b (ix2 i j) := by
  pointwise [rAct]
  rfl

/-- The half step of a whole array. -/
def rFfn : FVec Ideal S32768x1024 .f32 :=
  addf x (mulf (broadcastInDim S32768x1024 ![] bcast_S_S32768x1024 (constant S_ .f32 0x3F000000#32))
    (rRms (rDown d (rAct (rUp (rRms x pre) g) (rUp (rRms x pre) u))) post))

theorem rFfn_eq : rFfn x pre post g u d = out (mt x) pre post g u d := by
  funext y
  obtain ⟨i, j, rfl⟩ : ∃ i j, y = ix2 i j := ⟨y 0, y 1, by funext a; match a with | ⟨0, _⟩ => rfl | ⟨1, _⟩ => rfl⟩
  have e : mt (rRms x pre) i = rms (mt x i) (ln pre) := funext fun k => rRms_apply x pre i k
  show x (ix2 i j) + Ideal.ofBits .f32 0x3F000000#32 * rRms _ post (ix2 i j) = ffn (mt x i) (ln pre) (ln post) (mt g) (mt u) (mt d) j
  rw [rRms_apply]
  unfold ffn swi
  refine congrArg (fun f => _ + _ * rms f _ _) ?_
  funext k
  show rDown d _ (ix2 i k) = _
  rw [rDown_apply]
  refine congrArg (fun f => row f _ k) ?_
  funext q
  show rAct _ _ (ix2 i q) = _
  rw [rAct_apply, rUp_apply, rUp_apply, e]

end Cert.Ffn
-- ==== Proof.FfnRes.lean ====
module

public import proofs.«01_k».proof.Proof.Gen.Reference2Ideal.Run
public import proofs.«01_k».proof.Proof.Gen.Reference3Ideal.Run
public import proofs.«01_k».proof.Proof.Gen.Reference4Ideal.Run
public import proofs.«01_k».proof.Proof.FfnRef

/-! # What the three references compute -/

@[expose] public section

set_option maxRecDepth 16384

noncomputable section

namespace Cert.Ffn

open Idealize.ShloMosaic Idealize.ShloMosaic.TcCoe Idealize.SL.Sem Idealize.ShloMosaic.StableHlo
open Idealize.ShloMosaic.Pipeline (Dat)

/-- The reference's rows after a mixer. -/
theorem rMix_apply {n : ℕ} (x p : FVec Ideal Cert.Reference2Ideal.S32768x1024 .f32) (w : FVec Ideal Cert.Reference2Ideal.S1024 .f32) (o : Fin 32768 → Fin n → EReal) (W : Mat n 1024)
    (hp : ∀ i j, p (ix2 i j) = row (o i) (Ffn.mt W) j) : Ffn.mt (addf x (rRms p w)) = mixed x o W w := by
  funext i j
  show x (ix2 i j) + rRms p w (ix2 i j) = _
  rw [rRms_apply]
  unfold mixed
  rw [show Ffn.mt p i = row (o i) (Ffn.mt W) from funext (hp i)]

section
open Cert.Reference2Ideal Cert.Reference2Ideal.Gen
variable (m : (ℓ : Loc nD τ sig) → Buf (Elt Ideal) ℓ) (c : Dev nD)

/-- An argument on core `c`. -/
abbrev arg2 (r : Ref sig .tc) : (Proc.devRef .tc r : DevRef τ sig).ty.Contents (Elt Ideal) := m ((c.tc : Thread nD τ).loc r)

theorem res2 : Cert.Reference2Ideal.Value.res_out0 m c
    = out (Ffn.mt (t := .f32) (arg2 m c main_arg0 : Rows 1024 .f32)) (arg2 m c main_arg1) (arg2 m c main_arg2) (arg2 m c main_arg3) (arg2 m c main_arg4) (arg2 m c main_arg5) := by
  refine Eq.trans ?_ (rFfn_eq ..)
  unfold Cert.Reference2Ideal.Value.res_out0 Cert.Reference2Ideal.Value.res_main_v33
  rfl
end

section
open Cert.Reference3Ideal Cert.Reference3Ideal.Gen
variable (m : (ℓ : Loc nD τ sig) → Buf (Elt Ideal) ℓ) (c : Dev nD)

abbrev arg3 (r : Ref sig .tc) : (Proc.devRef .tc r : DevRef τ sig).ty.Contents (Elt Ideal) := m ((c.tc : Thread nD τ).loc r)

/-- The mixer's rows, projected. -/
def rProj3 (y : FVec Ideal S32768x2048 .bf16) (w : FVec Ideal S2048x1024 .f32) : FVec Ideal S32768x1024 .f32 :=
  Host.dotGeneral dot_S32768x2048_S2048x1024_S32768x1024_1_0_0_1_n_n none (extf .f32 y bitsLt_bf16_f32) w

theorem rProj3_apply (y : FVec Ideal S32768x2048 .bf16) (w : FVec Ideal S2048x1024 .f32) (i : Fin 32768) (j : Fin 1024) :
    rProj3 y w (ix2 i j) = row (Ffn.mt y i) (Ffn.mt w) j := by
  pointwise [rProj3, row]

theorem res3 : Cert.Reference3Ideal.Value.res_out0 m c
    = out (mixed (arg3 m c main_arg0) (Ffn.mt (t := .bf16) (arg3 m c main_arg1 : Rows 2048 .bf16)) (arg3 m c main_arg8) (arg3 m c main_arg2))
      (arg3 m c main_arg3) (arg3 m c main_arg4) (arg3 m c main_arg5) (arg3 m c main_arg6) (arg3 m c main_arg7) := by
  rw [← rMix_apply _ (rProj3 (arg3 m c main_arg1) (arg3 m c main_arg8)) _ _ _ (rProj3_apply _ _)]
  refine Eq.trans ?_ (rFfn_eq ..)
  unfold Cert.Reference3Ideal.Value.res_out0 Cert.Reference3Ideal.Value.res_main_v49
  rfl
end

section
open Cert.Reference4Ideal Cert.Reference4Ideal.Gen
variable (m : (ℓ : Loc nD τ sig) → Buf (Elt Ideal) ℓ) (c : Dev nD)

abbrev arg4 (r : Ref sig .tc) : (Proc.devRef .tc r : DevRef τ sig).ty.Contents (Elt Ideal) := m ((c.tc : Thread nD τ).loc r)

/-- Both mixers' rows side by side. -/
def rCat (a : FVec Ideal S4x32768x128 .bf16) (b : FVec Ideal S32768x512 .bf16) : FVec Ideal S32768x1024 .f32 :=
  concatenate S32768x1024 1 [⟨S32768x512, (shapeCast S32768x512 (transpose S32768x4x128 [1, 0, 2] (extf .f32 a bitsLt_bf16_f32) transposes_S4x32768x128_S32768x4x128_1_0_2)
    shapeCasts_S32768x4x128_S32768x512)⟩, ⟨S32768x512, (extf .f32 b bitsLt_bf16_f32)⟩] concatenates_S32768x512_S32768x512_S32768x1024_d1

theorem rCat_apply (a : FVec Ideal S4x32768x128 .bf16) (b : FVec Ideal S32768x512 .bf16) (i : Fin 32768) (k : Fin 1024) :
    rCat a b (ix2 i k) = beside a b i k := by
  pointwise [rCat, beside]

def rProj4 (y : FVec Ideal S32768x1024 .f32) (w : FVec Ideal S1024x1024 .f32) : FVec Ideal S32768x1024 .f32 :=
  Host.dotGeneral dot_S32768x1024_S1024x1024_S32768x1024_1_0_0_1_n_n none y w

theorem rProj4_apply (y : FVec Ideal S32768x1024 .f32) (w : FVec Ideal S1024x1024 .f32) (i : Fin 32768) (j : Fin 1024) :
    rProj4 y w (ix2 i j) = row (Ffn.mt y i) (Ffn.mt w) j := by
  pointwise [rProj4, row]

theorem res4 : Cert.Reference4Ideal.Value.res_out0 m c
    = out (mixed (arg4 m c main_arg0) (beside (arg4 m c main_arg1) (arg4 m c main_arg2)) (arg4 m c main_arg9) (arg4 m c main_arg3))
      (arg4 m c main_arg4) (arg4 m c main_arg5) (arg4 m c main_arg6) (arg4 m c main_arg7) (arg4 m c main_arg8) := by
  rw [← rMix_apply _ (rProj4 (rCat (arg4 m c main_arg1) (arg4 m c main_arg2)) (arg4 m c main_arg9)) _ _ _ (fun i j => (rProj4_apply _ _ i j).trans
    (congrArg (fun f => row f _ j) (funext (rCat_apply _ _ i))))]
  refine Eq.trans ?_ (rFfn_eq ..)
  unfold Cert.Reference4Ideal.Value.res_out0 Cert.Reference4Ideal.Value.res_main_v53
  rfl
end

end Cert.Ffn
-- ==== Proof.Ffn.lean ====
module

public import proofs.«01_k».proof.Proof.Gen.Kernel2.Frame
public import proofs.«01_k».proof.Proof.FfnKer2
public import proofs.«01_k».proof.Proof.Gen.Kernel3.Frame
public import proofs.«01_k».proof.Proof.FfnKer3
public import proofs.«01_k».proof.Proof.Gen.Kernel4.Frame
public import proofs.«01_k».proof.Proof.FfnKer4
public import proofs.«01_k».proof.Proof.FfnRes
public import proofs.«01_k».proof.Defs

/-! # The claims about the feed-forward calls -/

@[expose] public section

set_option maxRecDepth 16384

noncomputable section

namespace Cert.Proof.Ffn

open Idealize.ShloMosaic Idealize.ShloMosaic.TcCoe Idealize.SL.Sem
open Cert.Ffn

theorem frame2 : Cert.quiescent_Kernel2 := fun m ρ _ => Cert.Kernel2.Gen.frame m ρ
theorem frame2i : Cert.quiescent_Kernel2Ideal := fun m ρ _ => Cert.Kernel2Ideal.Gen.frame m ρ
theorem frame2r : Cert.quiescent_Reference2Ideal := fun m ρ _ =>
  (θ_run _ _ _).mono (fun r h => ⟨fun c => (h c).2, sem_eq_zero_of_no_sems rfl r.2⟩) (Cert.Reference2Ideal.Value.run m ρ)
theorem preserves2 : Cert.preserves_Kernel2_Kernel2Ideal := trivial

theorem algebraic2 : Cert.algebraic_Kernel2Ideal_Reference2Ideal := by
  intro m ρ m' ρ' _ hag
  refine ⟨_, Cert.Kernel2Ideal.Value.run_blocks m ρ, (θ_run _ _ _).mono (fun r h c => ⟨(h c).1.trans ?_, (h c).2⟩) (Cert.Reference2Ideal.Value.run m' ρ')⟩
  obtain ⟨h0, h1, h2, h3, h4, h5⟩ := hag c
  have e0 : (arg2 m' c Cert.Reference2Ideal.main_arg0 : Rows 1024 .f32) = Cert.Kernel2Ideal.Out.arg m c Cert.Kernel2Ideal.main_arg0 := h0
  have e1 : (arg2 m' c Cert.Reference2Ideal.main_arg1 : Line 1024) = Cert.Kernel2Ideal.Out.arg m c Cert.Kernel2Ideal.main_arg1 := h1
  have e2 : (arg2 m' c Cert.Reference2Ideal.main_arg2 : Line 1024) = Cert.Kernel2Ideal.Out.arg m c Cert.Kernel2Ideal.main_arg2 := h2
  have e3 : (arg2 m' c Cert.Reference2Ideal.main_arg3 : Mat 1024 2816) = Cert.Kernel2Ideal.Out.arg m c Cert.Kernel2Ideal.main_arg3 := h3
  have e4 : (arg2 m' c Cert.Reference2Ideal.main_arg4 : Mat 1024 2816) = Cert.Kernel2Ideal.Out.arg m c Cert.Kernel2Ideal.main_arg4 := h4
  have e5 : (arg2 m' c Cert.Reference2Ideal.main_arg5 : Mat 2816 1024) = Cert.Kernel2Ideal.Out.arg m c Cert.Kernel2Ideal.main_arg5 := h5
  refine (res2 m' c).trans (Eq.trans ?_ (Cert.Kernel2Ideal.Out.final m c).symm)
  rw [e0, e1, e2, e3, e4, e5]

theorem frame3 : Cert.quiescent_Kernel3 := fun m ρ _ => Cert.Kernel3.Gen.frame m ρ
theorem frame3i : Cert.quiescent_Kernel3Ideal := fun m ρ _ => Cert.Kernel3Ideal.Gen.frame m ρ
theorem frame3r : Cert.quiescent_Reference3Ideal := fun m ρ _ =>
  (θ_run _ _ _).mono (fun r h => ⟨fun c => (h c).2, sem_eq_zero_of_no_sems rfl r.2⟩) (Cert.Reference3Ideal.Value.run m ρ)
theorem preserves3 : Cert.preserves_Kernel3_Kernel3Ideal := trivial

theorem algebraic3 : Cert.algebraic_Kernel3Ideal_Reference3Ideal := by
  intro m ρ m' ρ' _ hag
  refine ⟨_, Cert.Kernel3Ideal.Value.run_blocks m ρ, (θ_run _ _ _).mono (fun r h c => ⟨(h c).1.trans ?_, (h c).2⟩) (Cert.Reference3Ideal.Value.run m' ρ')⟩
  obtain ⟨h0, h1, h2, h3, h4, h5, h6, h7, h8⟩ := hag c
  have e0 : (arg3 m' c Cert.Reference3Ideal.main_arg0 : Rows 1024 .f32) = Cert.Kernel3Ideal.Out.arg m c Cert.Kernel3Ideal.main_arg0 := h0
  have e1 : (arg3 m' c Cert.Reference3Ideal.main_arg1 : Rows 2048 .bf16) = Cert.Kernel3Ideal.Out.arg m c Cert.Kernel3Ideal.main_arg1 := h1
  have e2 : (arg3 m' c Cert.Reference3Ideal.main_arg2 : Line 1024) = Cert.Kernel3Ideal.Out.arg m c Cert.Kernel3Ideal.main_arg2 := h2
  have e3 : (arg3 m' c Cert.Reference3Ideal.main_arg3 : Line 1024) = Cert.Kernel3Ideal.Out.arg m c Cert.Kernel3Ideal.main_arg3 := h3
  have e4 : (arg3 m' c Cert.Reference3Ideal.main_arg4 : Line 1024) = Cert.Kernel3Ideal.Out.arg m c Cert.Kernel3Ideal.main_arg4 := h4
  have e5 : (arg3 m' c Cert.Reference3Ideal.main_arg5 : Mat 1024 2816) = Cert.Kernel3Ideal.Out.arg m c Cert.Kernel3Ideal.main_arg5 := h5
  have e6 : (arg3 m' c Cert.Reference3Ideal.main_arg6 : Mat 1024 2816) = Cert.Kernel3Ideal.Out.arg m c Cert.Kernel3Ideal.main_arg6 := h6
  have e7 : (arg3 m' c Cert.Reference3Ideal.main_arg7 : Mat 2816 1024) = Cert.Kernel3Ideal.Out.arg m c Cert.Kernel3Ideal.main_arg7 := h7
  have e8 : (arg3 m' c Cert.Reference3Ideal.main_arg8 : Mat 2048 1024) = Cert.Kernel3Ideal.Out.arg m c Cert.Kernel3Ideal.main_arg8 := h8
  refine (res3 m' c).trans (Eq.trans ?_ (Cert.Kernel3Ideal.Out.final m c).symm)
  rw [e0, e1, e2, e3, e4, e5, e6, e7, e8]

theorem frame4 : Cert.quiescent_Kernel4 := fun m ρ _ => Cert.Kernel4.Gen.frame m ρ
theorem frame4i : Cert.quiescent_Kernel4Ideal := fun m ρ _ => Cert.Kernel4Ideal.Gen.frame m ρ
theorem frame4r : Cert.quiescent_Reference4Ideal := fun m ρ _ =>
  (θ_run _ _ _).mono (fun r h => ⟨fun c => (h c).2, sem_eq_zero_of_no_sems rfl r.2⟩) (Cert.Reference4Ideal.Value.run m ρ)
theorem preserves4 : Cert.preserves_Kernel4_Kernel4Ideal := trivial

theorem algebraic4 : Cert.algebraic_Kernel4Ideal_Reference4Ideal := by
  intro m ρ m' ρ' _ hag
  refine ⟨_, Cert.Kernel4Ideal.Value.run_blocks m ρ, (θ_run _ _ _).mono (fun r h c => ⟨(h c).1.trans ?_, (h c).2⟩) (Cert.Reference4Ideal.Value.run m' ρ')⟩
  obtain ⟨h0, h1, h2, h3, h4, h5, h6, h7, h8, h9⟩ := hag c
  have e0 : (arg4 m' c Cert.Reference4Ideal.main_arg0 : Rows 1024 .f32) = Cert.Kernel4Ideal.Out.arg m c Cert.Kernel4Ideal.main_arg0 := h0
  have e1 : (arg4 m' c Cert.Reference4Ideal.main_arg1 : FVec Ideal ⟨3, ![4, 32768, 128]⟩ .bf16) = Cert.Kernel4Ideal.Out.arg m c Cert.Kernel4Ideal.main_arg1 := h1
  have e2 : (arg4 m' c Cert.Reference4Ideal.main_arg2 : Rows 512 .bf16) = Cert.Kernel4Ideal.Out.arg m c Cert.Kernel4Ideal.main_arg2 := h2
  have e3 : (arg4 m' c Cert.Reference4Ideal.main_arg3 : Line 1024) = Cert.Kernel4Ideal.Out.arg m c Cert.Kernel4Ideal.main_arg3 := h3
  have e4 : (arg4 m' c Cert.Reference4Ideal.main_arg4 : Line 1024) = Cert.Kernel4Ideal.Out.arg m c Cert.Kernel4Ideal.main_arg4 := h4
  have e5 : (arg4 m' c Cert.Reference4Ideal.main_arg5 : Line 1024) = Cert.Kernel4Ideal.Out.arg m c Cert.Kernel4Ideal.main_arg5 := h5
  have e6 : (arg4 m' c Cert.Reference4Ideal.main_arg6 : Mat 1024 2816) = Cert.Kernel4Ideal.Out.arg m c Cert.Kernel4Ideal.main_arg6 := h6
  have e7 : (arg4 m' c Cert.Reference4Ideal.main_arg7 : Mat 1024 2816) = Cert.Kernel4Ideal.Out.arg m c Cert.Kernel4Ideal.main_arg7 := h7
  have e8 : (arg4 m' c Cert.Reference4Ideal.main_arg8 : Mat 2816 1024) = Cert.Kernel4Ideal.Out.arg m c Cert.Kernel4Ideal.main_arg8 := h8
  have e9 : (arg4 m' c Cert.Reference4Ideal.main_arg9 : Mat 1024 1024) = Cert.Kernel4Ideal.Out.arg m c Cert.Kernel4Ideal.main_arg9 := h9
  refine (res4 m' c).trans (Eq.trans ?_ (Cert.Kernel4Ideal.Out.final m c).symm)
  rw [e0, e1, e2, e3, e4, e5, e6, e7, e8, e9]

end Cert.Proof.Ffn
-- ==== Proof.ProjSpec.lean ====
module

public import proofs.«01_k».proof.Proof.FfnSpec

/-! # The input projections: rows, and the causal convolution along a sequence -/

@[expose] public section

noncomputable section

namespace Cert.Proj

open Idealize.ShloMosaic Cert.Ffn

/-- One entry of the normalized rows' projection. -/
def proj {p : ℕ} (h : Rows 1024 .f32) (pre : Line 1024) (w : Mat 1024 p) (j : Fin p) (i : Fin 32768) : EReal :=
  row (rms (mt h i) (ln pre)) (mt w) j

/-- A column `s` steps earlier in the same sequence of 4096, zero before the sequence begins. -/
def back (f : Fin 32768 → EReal) (i : Fin 32768) (s : ℕ) : EReal := if s ≤ i.val % 4096 then f ⟨i.val - s, by omega⟩ else 0

/-- An entry times its sigmoid. -/
def silu (y : EReal) : EReal := y * Ideal.logistic y

/-- The convolution of a column with four taps, the oldest first, and a bias. -/
def conv (f : Fin 32768 → EReal) (w : Fin 4 → EReal) (b : EReal) (i : Fin 32768) : EReal :=
  silu (w 0 * back f i 3 + w 1 * back f i 2 + w 2 * back f i 1 + w 3 * back f i 0 + b)

/-- A row of block `t`. -/
abbrev here (t : ℕ) (ht : t < 64) (r : Fin 512) : Fin 32768 := ⟨t * 512 + r.val, by omega⟩
/-- A row of the eight before block `t` (its own first eight where there are none before). -/
abbrev ahead (t : ℕ) (ht : t < 64) (r : Fin 8) : Fin 32768 := ⟨(t * 64 - 1) * 8 + r.val, by omega⟩

/-- The gates' rows. -/
def gate {p : ℕ} (h : Rows 1024 .f32) (pre : Line 1024) (w : Mat 1024 p) (n o : ℕ) (ho : o + n ≤ p) : Rows n .f32 := fun i =>
  proj h pre w ⟨o + (i 1).val, by have : (i 1).val < n := (i 1).isLt; omega⟩ (i 0)

/-- The convolved rows. -/
def mixIn {p : ℕ} (h : Rows 1024 .f32) (pre : Line 1024) (w : Mat 1024 p) (n o : ℕ) (ho : o + n ≤ p) (cw : Mat 4 n) (b : Fin n → EReal) : Rows n .f32 := fun i =>
  conv (proj h pre w ⟨o + (i 1).val, by have : (i 1).val < n := (i 1).isLt; omega⟩) (fun k => mt cw k (i 1)) (b (i 1)) (i 0)

/-- The last columns, in 128 lanes. -/
def lanes {p : ℕ} (h : Rows 1024 .f32) (pre : Line 1024) (w : Mat 1024 p) (n o : ℕ) (ho : o + n ≤ p) : Rows 128 .f32 := fun i =>
  if hj : (i 1).val < n then proj h pre w ⟨o + (i 1).val, by omega⟩ (i 0) else 0

theorem lanes_in {p : ℕ} (h : Rows 1024 .f32) (pre : Line 1024) (w : Mat 1024 p) (n o : ℕ) (ho : o + n ≤ p) (i : Fin 32768) (j : Fin 128) (hj : j.val < n) (hp : o + j.val < p) :
    lanes h pre w n o ho (ix2 i j) = proj h pre w ⟨o + j.val, hp⟩ i := dif_pos hj

theorem lanes_off {p : ℕ} (h : Rows 1024 .f32) (pre : Line 1024) (w : Mat 1024 p) (n o : ℕ) (ho : o + n ≤ p) (i : Fin 32768) (j : Fin 128) (hj : ¬ j.val < n) :
    lanes h pre w n o ho (ix2 i j) = 0 := dif_neg hj

/-- A column with three zeros before each sequence, read `k` places on, is the column `3 - k` steps back. -/
theorem back_past (f : Fin 32768 → EReal) (i : Fin 32768) (k : ℕ) (hk : k ≤ 3) (hlt : 3 ≤ k + i.val % 4096 → i.val / 4096 * 4096 + (k + i.val % 4096 - 3) < 32768) :
    (if h : 3 ≤ k + i.val % 4096 then f ⟨i.val / 4096 * 4096 + (k + i.val % 4096 - 3), hlt h⟩ else 0) = back f i (3 - k) := by
  unfold back
  by_cases h : 3 ≤ k + i.val % 4096
  · rw [dif_pos h, if_pos (by omega)]
    exact congrArg f (Fin.ext (by show i.val / 4096 * 4096 + (k + i.val % 4096 - 3) = i.val - (3 - k); omega))
  · rw [dif_neg h, if_neg (by omega)]

/-- 512 columns of the projection, 128 lanes at a time. -/
def slab {p : ℕ} (h : Rows 1024 .f32) (pre : Line 1024) (w : Mat 1024 p) (o : ℕ) (ho : o + 512 ≤ p) : FVec Ideal ⟨3, ![4, 32768, 128]⟩ .f32 := fun i =>
  proj h pre w ⟨o + ((i 0).val * 128 + (i 2).val), by have a : (i 0).val < 4 := (i 0).isLt; have b : (i 2).val < 128 := (i 2).isLt; omega⟩ (i 1)

/-- The same, an eighth of it. -/
def eighth {p : ℕ} (h : Rows 1024 .f32) (pre : Line 1024) (w : Mat 1024 p) (o : ℕ) (ho : o + 512 ≤ p) : FVec Ideal ⟨3, ![4, 32768, 128]⟩ .f32 := fun i =>
  slab h pre w o ho i * Ideal.ofBits .f32 0x3E000000#32

/-- A row times a matrix whose column is scaled. -/
theorem row_scale {n q : ℕ} (x : Fin n → EReal) (w : Fin n → Fin q → EReal) (k : Fin q) (c : EReal) (h0 : 0 ≤ c) (ht : c ≠ ⊤) :
    ∑ i, x i * (w i k * c) = row x w k * c := by
  unfold row
  refine Eq.trans (Finset.sum_congr rfl fun i _ => (mul_assoc _ _ _).symm) ?_
  induction (Finset.univ : Finset (Fin n)) using Finset.induction_on with
  | empty => simp
  | insert a s ha ih => rw [Finset.sum_insert ha, Finset.sum_insert ha, ih, EReal.right_distrib_of_nonneg_of_ne_top h0 ht]

end Cert.Proj
-- ==== Proof.ProjKer.lean ====
module

public import proofs.«01_k».proof.Proof.Gen.Kernel5Ideal
public import proofs.«01_k».proof.Proof.FfnKer
public import proofs.«01_k».proof.Proof.ProjSpec
public import Idealize.ShloMosaic.Lib.Pipeline.ValueKit

/-! # The input projections' operations on a block of 512 rows -/

@[expose] public section

set_option maxRecDepth 16384

noncomputable section

namespace Cert.Proj

open Cert.Kernel5Ideal Cert.Kernel5Ideal.Gen Cert.Ffn
open Idealize.ShloMosaic Idealize.ShloMosaic.TcCoe Idealize.SL.Sem

variable (x : FVec Ideal S512x1024 .f32) (u : FVec Ideal S8x1024 .f32) (w : FVec Ideal S1x1024 .f32) (v : FVec Ideal S1024x512 .bf16)

/-- The normalized rows of the block. -/
def kN : FVec Ideal S512x1024 .bf16 := truncf .bf16 (kRms x w) bitsLt_bf16_f32

theorem kN_apply (r : Fin 512) (j : Fin 1024) : kN x w (ix2 r j) = rms (Ffn.mt x r) (Ffn.mt w 0) j := kRms_apply x w r j

/-- The normalized eight rows before the block. -/
def kU : FVec Ideal S8x1024 .bf16 :=
  truncf .bf16 (mulf (mulf u (broadcastTo S8x1024 (rsqrt (addf (divf (shapeCast S8x1 (multiReduction .add [1] S8 (mulf u u) 0x00000000#32 reduces_S8x1024_S8 (.inl rfl) rfl) shapeCasts_S8_S8x1)
    (broadcast S8x1 (Scalar.ofBits .f32 0x44800000#32))) (broadcast S8x1 (Scalar.ofBits .f32 0x358637BD#32)))) broadcasts_S8x1_S8x1024))
    (broadcastTo S8x1024 (shapeCast S1x1024 w shapeCasts_S1x1024_S1x1024) broadcasts_S1x1024_S8x1024)) bitsLt_bf16_f32

theorem kU_apply (r : Fin 8) (j : Fin 1024) : kU u w (ix2 r j) = rms (Ffn.mt u r) (Ffn.mt w 0) j := by
  pointwise [kU, rms]

/-- Both, the earlier rows first. -/
def kExt : FVec Ideal S520x1024 .bf16 := concatenate S520x1024 0 [⟨S8x1024, kU u w⟩, ⟨S512x1024, kN x w⟩] concatenates_S8x1024_S512x1024_S520x1024_d0

theorem kExt_apply (r : Fin 520) (j : Fin 1024) :
    kExt x u w (ix2 r j) = if h : r.val < 8 then kU u w (ix2 ⟨r.val, h⟩ j) else kN x w (ix2 ⟨r.val - 8, by omega⟩ j) := by
  pointwise [kExt]

/-- 512 columns of the block's projection. -/
def kPlain (n : FVec Ideal S512x1024 .bf16) : FVec Ideal S512x512 .f32 :=
  matmul dot_S512x1024_S1024x512_S512x512_1_0_0_1_n_n none n (shapeCast S1024x512 v shapeCasts_S1024x512_S1024x512) (constant S512x512 .f32 0x00000000#32)

theorem kPlain_apply (n : FVec Ideal S512x1024 .bf16) (r j : Fin 512) : kPlain v n (ix2 r j) = row (Ffn.mt n r) (Ffn.mt v) j := by
  pointwise [kPlain, row]

/-- The last 128 columns. -/
def kLast (v : FVec Ideal S1024x128 .bf16) (n : FVec Ideal S512x1024 .bf16) : FVec Ideal S512x128 .f32 :=
  matmul dot_S512x1024_S1024x128_S512x128_1_0_0_1_n_n none n (shapeCast S1024x128 v shapeCasts_S1024x128_S1024x128) (constant S512x128 .f32 0x00000000#32)

theorem kLast_apply (v : FVec Ideal S1024x128 .bf16) (n : FVec Ideal S512x1024 .bf16) (r : Fin 512) (j : Fin 128) :
    kLast v n (ix2 r j) = row (Ffn.mt n r) (Ffn.mt v) j := by
  pointwise [kLast, row]

/-- 512 columns of the extended block's projection. -/
def kLong (e : FVec Ideal S520x1024 .bf16) : FVec Ideal S520x512 .f32 :=
  matmul dot_S520x1024_S1024x512_S520x512_1_0_0_1_n_n none e (shapeCast S1024x512 v shapeCasts_S1024x512_S1024x512) (constant S520x512 .f32 0x00000000#32)

theorem kLong_apply (e : FVec Ideal S520x1024 .bf16) (r : Fin 520) (j : Fin 512) : kLong v e (ix2 r j) = row (Ffn.mt e r) (Ffn.mt v) j := by
  pointwise [kLong, row]

/-- The earlier rows kept or cleared. -/
def kHead (k : EReal) (a : FVec Ideal S520x512 .f32) : FVec Ideal S520x512 .f32 :=
  concatenate S520x512 0 [⟨S8x512, mulf (extractStridedSlice S8x512 ![0, 0] a slices_S520x512_o0_0_S8x512) (broadcast S8x512 k)⟩,
    ⟨S512x512, extractStridedSlice S512x512 ![8, 0] a slices_S520x512_o8_0_S512x512⟩] concatenates_S8x512_S512x512_S520x512_d0

theorem kHead_apply (k : EReal) (a : FVec Ideal S520x512 .f32) (r : Fin 520) (j : Fin 512) :
    kHead k a (ix2 r j) = if r.val < 8 then a (ix2 r j) * k else a (ix2 r j) := by
  pointwise [kHead]
  by_cases h : r.val < 8
  · rw [dif_pos h, if_pos h]
  · rw [dif_neg h, if_neg h]
    exact congrArg (fun q => a (ix2 q j)) (Fin.ext (show 8 + (r.val - 8) = r.val by omega))

/-- The four taps' rows, weighted, with the bias and the activation. -/
def kConv (a : FVec Ideal S520x512 .f32) (b w3 w2 w1 w0 : FVec Ideal S1x512 .f32) : FVec Ideal S512x512 .f32 :=
  let y : FVec Ideal S512x512 .f32 := addf (addf (addf (addf (broadcastTo S512x512 (shapeCast S1x512 b shapeCasts_S1x512_S1x512) broadcasts_S1x512_S512x512)
      (mulf (broadcastTo S512x512 w3 broadcasts_S1x512_S512x512) (extractStridedSlice S512x512 ![8, 0] a slices_S520x512_o8_0_S512x512)))
      (mulf (broadcastTo S512x512 w2 broadcasts_S1x512_S512x512) (extractStridedSlice S512x512 ![8, 0] (dynamicRotate 0 1#32 none a rotates_S520x512_d0) slices_S520x512_o8_0_S512x512)))
      (mulf (broadcastTo S512x512 w1 broadcasts_S1x512_S512x512) (extractStridedSlice S512x512 ![8, 0] (dynamicRotate 0 2#32 none a rotates_S520x512_d0) slices_S520x512_o8_0_S512x512)))
      (mulf (broadcastTo S512x512 w0 broadcasts_S1x512_S512x512) (extractStridedSlice S512x512 ![8, 0] (dynamicRotate 0 3#32 none a rotates_S520x512_d0) slices_S520x512_o8_0_S512x512))
  mulf y (logistic y)

theorem kConv_apply (a : FVec Ideal S520x512 .f32) (b w3 w2 w1 w0 : FVec Ideal S1x512 .f32) (r j : Fin 512) :
    kConv a b w3 w2 w1 w0 (ix2 r j) = silu (b (ix2 0 j) + w3 (ix2 0 j) * a (ix2 ⟨8 + r.val, by omega⟩ j) + w2 (ix2 0 j) * a (ix2 ⟨7 + r.val, by omega⟩ j)
      + w1 (ix2 0 j) * a (ix2 ⟨6 + r.val, by omega⟩ j) + w0 (ix2 0 j) * a (ix2 ⟨5 + r.val, by omega⟩ j)) := by
  have e : ∀ {s s' : ℕ} {hs : s < 520} {hs' : s' < 520}, s = s' → a (ix2 ⟨s, hs⟩ j) = a (ix2 ⟨s', hs'⟩ j) := fun h => by subst h; rfl
  have hr := r.isLt
  pointwise [kConv, silu]
  rw [e (show (8 + r.val + 520 - 1) % 520 = 7 + r.val by omega), e (show (8 + r.val + 520 - 2) % 520 = 6 + r.val by omega),
    e (show (8 + r.val + 520 - 3) % 520 = 5 + r.val by omega)]

/-- 128 of 512 columns as a slab. -/
def kSlab (o : ℕ) (h : S512x512.Slices ![0, o] S512x128) (h' : S512x128.ShapeCasts ⟨3, ![1, 512, 128]⟩) (a : FVec Ideal S512x512 .f32) : FVec Ideal ⟨3, ![1, 512, 128]⟩ .f32 :=
  shapeCast ⟨3, ![1, 512, 128]⟩ (extractStridedSlice S512x128 ![0, o] a h) h'

theorem kSlab_apply (o : ℕ) (ho : o + 128 ≤ 512) (h : S512x512.Slices ![0, o] S512x128) (h' : S512x128.ShapeCasts ⟨3, ![1, 512, 128]⟩) (a : FVec Ideal S512x512 .f32)
    (r : Fin 512) (j : Fin 128) : kSlab o h h' a (ix3 0 r j) = a (ix2 r ⟨o + j.val, by omega⟩) := by
  pointwise [kSlab]

theorem slab_piece (o k : ℕ) (ho : o = k * 128) (h : S512x512.Slices ![0, o] S512x128) (h' : S512x128.ShapeCasts ⟨3, ![1, 512, 128]⟩) (a : FVec Ideal S512x512 .f32)
    (x : (⟨3, ![1, 512, 128]⟩ : Shape).Idx) (s : Fin 4) (r : Fin 512) (j : Fin 128) (hs : s.val = k + (x 0).val) (hr : r.val = (x 1).val) (hj : j.val = (x 2).val) :
    kSlab o h h' a x = a (ix2 r ⟨s.val * 128 + j.val, by omega⟩) := by
  obtain ⟨q, b, d, rfl⟩ : ∃ q b d, x = ix3 q b d := ⟨x 0, x 1, x 2, by funext q; match q with | ⟨0, _⟩ => rfl | ⟨1, _⟩ => rfl | ⟨2, _⟩ => rfl⟩
  obtain rfl : q = 0 := Subsingleton.elim _ _
  obtain rfl : r = b := Fin.ext hr
  obtain rfl : j = d := Fin.ext hj
  have e : s.val = k := hs
  rw [kSlab_apply o (by omega)]
  exact congrArg (fun z => a (ix2 r z)) (Fin.ext (by show o + j.val = s.val * 128 + j.val; rw [ho, e]))

/-- 512 columns loaded at once, read where they lie. -/
theorem ld_cols {n q : ℕ} {e : EltTy} (X : (⟨2, ![n, q]⟩ : Shape).Idx → Elt Ideal e) (a o : ℕ) {n' : ℕ} (inb) (i : Fin n') (k : Fin 512) (i' : Fin n) (k' : Fin q) (hi : i'.val = a + i.val) (hk : k'.val = o + k.val) :
    View.ld (Val := Elt Ideal) (e' := e) X (Rect.unit (s := ⟨2, ![n, q]⟩) ![a, o] (⟨2, ![n', 512]⟩ : Shape).size inb) (ix2 i k) = X (ix2 i' k') :=
  View.ld_unit_apply_of X _ _ _ _ _ (Fin.forall_fin_two.mpr ⟨hi, hk⟩)

section
variable {x u w v} {p : ℕ} {h : Rows 1024 .f32} {pre : Line 1024} {W : Mat 1024 p} {col : Fin p} {t : ℕ} {k : EReal} {j : Fin 512} (ht : t < 64)
  (e0 : ∀ (r : Fin 512) k, x (ix2 r k) = h (ix2 (here t ht r) k)) (e1 : ∀ (r : Fin 8) k, u (ix2 r k) = h (ix2 (ahead t ht r) k))
  (e2 : ∀ k, w (ix2 0 k) = pre (ix1 k)) (hw : ∀ i, v (ix2 i j) = W (ix2 i col)) (hk : k = if t % 8 = 0 then 0 else 1)
include e0 e2

theorem kN_row (r : Fin 512) : Ffn.mt (kN x w) r = rms (Ffn.mt h (here t ht r)) (ln pre) := by
  funext q
  show kN x w (ix2 r q) = _
  rw [kN_apply, show Ffn.mt x r = _ from funext (e0 r), show Ffn.mt w 0 = _ from funext e2]

include e1 hw hk

/-- A tap's row: the projection some steps back. -/
theorem tap_at (r : Fin 512) (s : ℕ) (hs : s ≤ 3) (q : Fin 520) (hq : q.val = 8 + r.val - s) :
    kHead k (kLong v (kExt x u w)) (ix2 q j) = back (proj h pre W col) (here t ht r) s := by
  have hr := r.isLt
  rw [kHead_apply, kLong_apply]
  have hrow : ∀ z : Fin 32768, (∀ l, kExt x u w (ix2 q l) = rms (Ffn.mt h z) (ln pre) l) → row (Ffn.mt (kExt x u w) q) (Ffn.mt v) j = proj h pre W col z :=
    fun z hz => Finset.sum_congr rfl fun i _ => congrArg₂ (fun a b : EReal => a * b) (hz i) (hw i)
  unfold back
  by_cases c : q.val < 8
  · rw [if_pos c, hk]
    by_cases d : t % 8 = 0
    · rw [if_pos d, mul_zero, if_neg (show ¬ s ≤ (t * 512 + r.val) % 4096 by omega)]
    · rw [if_neg d, mul_one, if_pos (show s ≤ (t * 512 + r.val) % 4096 by omega)]
      refine hrow _ fun l => ?_
      rw [kExt_apply, dif_pos c, kU_apply, show Ffn.mt w 0 = _ from funext e2]
      refine congrArg (fun f => rms f _ l) (funext fun i => (e1 _ i).trans (congrArg (fun z => h (ix2 z i)) (Fin.ext ?_)))
      show (t * 64 - 1) * 8 + q.val = t * 512 + r.val - s
      omega
  · rw [if_neg c, if_pos (show s ≤ (t * 512 + r.val) % 4096 by omega)]
    refine hrow _ fun l => ?_
    rw [kExt_apply, dif_neg c]
    refine (congrFun (kN_row ht e0 e2 _) l).trans (congrArg (fun z => rms (Ffn.mt h z) (ln pre) l) (Fin.ext ?_))
    show t * 512 + (q.val - 8) = t * 512 + r.val - s
    omega

/-- The convolved columns of a block. -/
theorem conv_at {b w3 w2 w1 w0 : FVec Ideal S1x512 .f32} {cw : Fin 4 → EReal} {cb : EReal} (eb : b (ix2 0 j) = cb) (c3 : w3 (ix2 0 j) = cw 3) (c2 : w2 (ix2 0 j) = cw 2)
    (c1 : w1 (ix2 0 j) = cw 1) (c0 : w0 (ix2 0 j) = cw 0) (r : Fin 512) :
    kConv (kHead k (kLong v (kExt x u w))) b w3 w2 w1 w0 (ix2 r j) = conv (proj h pre W col) cw cb (here t ht r) := by
  have T := tap_at ht e0 e1 e2 hw hk r
  rw [kConv_apply, T 0 (by omega) _ rfl, T 1 (by omega) _ (by show 7 + r.val = _; omega), T 2 (by omega) _ (by show 6 + r.val = _; omega),
    T 3 (by omega) _ (by show 5 + r.val = _; omega), eb, c3, c2, c1, c0]
  unfold conv
  refine congrArg silu ?_
  ac_rfl
end

end Cert.Proj
-- ==== Proof.ProjKer5.lean ====
module

public import proofs.«01_k».proof.Proof.Gen.Kernel5Ideal.Value
public import proofs.«01_k».proof.Proof.ProjKer
public import Idealize.ShloMosaic.Lib.Pipeline.ValueKit
public import Idealize.ShloMosaic.Lib.StableHlo.RunRead

/-! # The odd layers' input projection: what its arrays hold -/

@[expose] public section

set_option maxRecDepth 16384

noncomputable section

namespace Cert.Kernel5Ideal.Out

open Cert.Kernel5Ideal Cert.Kernel5Ideal.Gen Cert.Ffn Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val * 64 - 1, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] := (by decide +kernel : ∀ t : Fin grid0.N, _)

theorem t_lt (t : Fin cfg0.N) : t.val < 64 := lt_of_lt_of_eq t.isLt N_0

/-- An argument on core `c`. -/
abbrev arg (r : Ref sig .tc) : (Proc.devRef .tc r : DevRef τ sig).ty.Contents (Elt Ideal) := m ((c.tc : Thread nD τ).loc r)

theorem blk0 (t : Fin cfg0.N) (r : Fin 512) (k : Fin 1024) :
    (iblk m c 0 t : FVec Ideal S512x1024 .f32) (ix2 r k) = (arg m c main_arg0 : FVec Ideal S32768x1024 .f32) (ix2 (here t.val (t_lt t) r) k) := by
  blk_ext [iblk, V, idx t]

theorem blk1 (t : Fin cfg0.N) (r : Fin 8) (k : Fin 1024) :
    (iblk m c 1 t : FVec Ideal S8x1024 .f32) (ix2 r k)
      = (arg m c main_arg0 : FVec Ideal S32768x1024 .f32) (ix2 (ahead t.val (t_lt t) r) k) := by
  blk_ext [iblk, V, idx t]

theorem V_v5 (k : Fin 1024) : (V m c main_v5 : FVec Ideal S1x1024 .f32) (ix2 0 k) = (arg m c main_arg1 : FVec Ideal S1024 .f32) (ix1 k) := by
  unfold V
  simp only [List.flatten_cons, List.flatten_nil, List.append_nil, after_append]
  after_reads_simp
  pointwise

theorem V_v6 (k : Fin 3072) : (V m c main_v6 : FVec Ideal S1x3072 .f32) (ix2 0 k) = (arg m c main_arg4 : FVec Ideal S3072 .f32) (ix1 k) := by
  unfold V
  simp only [List.flatten_cons, List.flatten_nil, List.append_nil, after_append]
  after_reads_simp
  pointwise

theorem V_v1 (i : Fin 1024) (k : Fin 2048) : (V m c main_v1 : FVec Ideal S1024x2048 .bf16) (ix2 i k) = (arg m c main_arg2 : FVec Ideal S1024x5152 .f32) (ix2 i ⟨0 + k.val, by omega⟩) := by
  unfold V
  simp only [List.flatten_cons, List.flatten_nil, List.append_nil, after_append]
  after_reads_simp
  pointwise

theorem V_v2 (i : Fin 1024) (k : Fin 3072) : (V m c main_v2 : FVec Ideal S1024x3072 .bf16) (ix2 i k) = (arg m c main_arg2 : FVec Ideal S1024x5152 .f32) (ix2 i ⟨2048 + k.val, by omega⟩) := by
  unfold V
  simp only [List.flatten_cons, List.flatten_nil, List.append_nil, after_append]
  after_reads_simp
  pointwise

/-- The last columns of the weights, padded to 128 lanes. -/
def hPad (x : FVec Ideal S1024x5152 .f32) : FVec Ideal S1024x128 .bf16 :=
  pad S1024x128 ![0, 0] ![0, 96] ![0, 0] (extractStridedSlice S1024x32 ![0, 5120] (truncf .bf16 x bitsLt_bf16_f32) slices_S1024x5152_S1024x32_0_5120)
    (sitofp (F := Ideal) .bf16 (constantI S_ 32 0#32)) pads_S1024x32_S1024x128_000_0960 h_S_

theorem V_v4 : (V m c main_v4 : FVec Ideal S1024x128 .bf16) = hPad (arg m c main_arg2) := by
  unfold V
  simp only [List.flatten_cons, List.flatten_nil, List.append_nil, after_append]
  after_reads_simp
  rfl

theorem hPad_apply (x : FVec Ideal S1024x5152 .f32) (i : Fin 1024) (k : Fin 128) :
    hPad x (ix2 i k) = if h : k.val < 32 then x (ix2 i ⟨5120 + k.val, by omega⟩) else (0 : EReal) := by
  by_cases h : k.val < 32
  · rw [dif_pos h]
    pointwise [hPad]
    exact dif_pos h
  · rw [dif_neg h]
    pointwise [hPad]
    rw [dif_neg h]
    show ((((0#32).toInt : ℝ)) : EReal) = 0
    simp

theorem blk2 (t : Fin cfg0.N) (k : Fin 1024) : (iblk m c 2 t : FVec Ideal S1x1024 .f32) (ix2 0 k) = (arg m c main_arg1 : FVec Ideal S1024 .f32) (ix1 k) :=
  (by blk_ext [iblk, idx t] : (iblk m c 2 t : FVec Ideal S1x1024 .f32) (ix2 0 k) = (V m c main_v5 : FVec Ideal S1x1024 .f32) (ix2 0 k)).trans (V_v5 m c k)

theorem blk3 (t : Fin cfg0.N) (i : Fin 4) (k : Fin 3072) : (iblk m c 3 t : FVec Ideal S4x3072 .f32) (ix2 i k) = (arg m c main_arg3 : FVec Ideal S4x3072 .f32) (ix2 i k) :=
  (by blk_ext [iblk, idx t] : (iblk m c 3 t : FVec Ideal S4x3072 .f32) (ix2 i k) = (V m c main_arg3 : FVec Ideal S4x3072 .f32) (ix2 i k)).trans
    (congrFun (V_main_arg3 m c) (ix2 i k))

theorem blk4 (t : Fin cfg0.N) (k : Fin 3072) : (iblk m c 4 t : FVec Ideal S1x3072 .f32) (ix2 0 k) = (arg m c main_arg4 : FVec Ideal S3072 .f32) (ix1 k) :=
  (by blk_ext [iblk, idx t] : (iblk m c 4 t : FVec Ideal S1x3072 .f32) (ix2 0 k) = (V m c main_v6 : FVec Ideal S1x3072 .f32) (ix2 0 k)).trans (V_v6 m c k)

theorem blk5 (t : Fin cfg0.N) (i : Fin 1024) (k : Fin 2048) :
    (iblk m c 5 t : FVec Ideal S1024x2048 .bf16) (ix2 i k) = (arg m c main_arg2 : FVec Ideal S1024x5152 .f32) (ix2 i ⟨0 + k.val, by omega⟩) :=
  (by blk_ext [iblk, idx t] : (iblk m c 5 t : FVec Ideal S1024x2048 .bf16) (ix2 i k) = (V m c main_v1 : FVec Ideal S1024x2048 .bf16) (ix2 i k)).trans (V_v1 m c i k)

theorem blk6 (t : Fin cfg0.N) (i : Fin 1024) (k : Fin 3072) :
    (iblk m c 6 t : FVec Ideal S1024x3072 .bf16) (ix2 i k) = (arg m c main_arg2 : FVec Ideal S1024x5152 .f32) (ix2 i ⟨2048 + k.val, by omega⟩) :=
  (by blk_ext [iblk, idx t] : (iblk m c 6 t : FVec Ideal S1024x3072 .bf16) (ix2 i k) = (V m c main_v2 : FVec Ideal S1024x3072 .bf16) (ix2 i k)).trans (V_v2 m c i k)

theorem blk7 (t : Fin cfg0.N) (i : Fin 1024) (k : Fin 128) :
    (iblk m c 7 t : FVec Ideal S1024x128 .bf16) (ix2 i k)
      = if h : k.val < 32 then (arg m c main_arg2 : FVec Ideal S1024x5152 .f32) (ix2 i ⟨5120 + k.val, by omega⟩) else (0 : EReal) :=
  (by blk_ext [iblk, idx t] : (iblk m c 7 t : FVec Ideal S1024x128 .bf16) (ix2 i k) = (V m c main_v4 : FVec Ideal S1024x128 .bf16) (ix2 i k)).trans
    ((congrFun (V_v4 m c) (ix2 i k)).trans (hPad_apply _ i k))

/-- The step's place in its sequence, as the kernel reckons it. -/
abbrev word (i : grid0.Coords) : BitVec 32 :=
  Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))

theorem word_eq : ∀ t : Fin cfg0.N, Scalar.cmpi .eq (word (grid0.coords t)) 0#32 = if t.val % 8 = 0 then 1#1 else 0#1 := (by decide +kernel : ∀ t : Fin grid0.N, _)

/-- What the rows before the block are multiplied by. -/
def keep (t : Fin cfg0.N) : EReal := k0_pay5 (F := Ideal) (word (grid0.coords t))

theorem keep_eq (t : Fin cfg0.N) : keep t = if t.val % 8 = 0 then 0 else 1 := by
  have z : Ideal.ofBits .f32 0x00000000#32 = 0 := by simp [Ideal.ofBits, Ideal.ieee]
  have o : Ideal.ofBits .f32 0x3F800000#32 = 1 := by
    simp [Ideal.ofBits, Ideal.ieee, -EReal.coe_mul]; norm_num
  unfold keep k0_pay5
  simp only [word_eq]
  split
  · exact z
  · exact o

abbrev H : Rows 1024 .f32 := arg m c main_arg0
abbrev PRE : Line 1024 := arg m c main_arg1
abbrev W : Mat 1024 5152 := arg m c main_arg2
abbrev CW : Mat 4 3072 := arg m c main_arg3
abbrev CB : Line 3072 := arg m c main_arg4

theorem z_piece (t : Fin cfg0.N) (o : ℕ) (inb) (x : S512x512.Idx) (r : Fin 512) (j : Fin 2048) (hr : r.val = (x 0).val) (hj : j.val = o + (x 1).val) :
    kPlain (View.ld (Val := Elt Ideal) (e' := .bf16) (iblk m c 5 t : FVec Ideal S1024x2048 .bf16) (Rect.unit (s := S1024x2048) ![0, o] S1024x512.size inb))
      (kN (iblk m c 0 t) (iblk m c 2 t)) x = gate (H m c) (PRE m c) (W m c) 2048 0 (by omega) (ix2 (here t.val (t_lt t) r) j) := by
  obtain ⟨a, b, rfl⟩ : ∃ a b, x = ix2 a b := ⟨x 0, x 1, by funext q; match q with | ⟨0, _⟩ => rfl | ⟨1, _⟩ => rfl⟩
  obtain rfl : r = a := Fin.ext hr
  rw [kPlain_apply, kN_row (t_lt t) (blk0 m c t) (blk2 m c t)]
  exact Finset.sum_congr rfl fun i _ => congrArg₂ (fun a b : EReal => a * b) rfl ((ld_cols _ 0 o inb i b i j (Nat.zero_add _).symm hj).trans (blk5 m c t i j))

theorem z_at (t : Fin cfg0.N) (r : Fin 512) (j : Fin 2048) :
    out0_8 (F := Ideal) (grid0.coords t) (iblk m c 0 t) (iblk m c 1 t) (iblk m c 2 t) (iblk m c 3 t) (iblk m c 4 t) (iblk m c 5 t) (iblk m c 6 t) (iblk m c 7 t) (ix2 r j)
      = gate (H m c) (PRE m c) (W m c) 2048 0 (by omega) (ix2 (here t.val (t_lt t) r) j) := by
  unfold out0_8 k0_pay36 r0_0 r0_1
  simp (disch := decide) only [View.ld_unit_lit]
  canon_tiles x h
  · exact z_piece m c t 1536 _ x r j h0 h1
  · exact z_piece m c t 1024 _ x r j h0 h1
  · exact z_piece m c t 512 _ x r j h0 h1
  · exact z_piece m c t 0 _ x r j h0 (h1.trans (Nat.zero_add _).symm)

theorem x_piece (t : Fin cfg0.N) (o o' : ℕ) (ho : o' = o) (inb inc in3 in2 in1 in0) (x : S512x512.Idx) (r : Fin 512) (j : Fin 3072) (hr : r.val = (x 0).val) (hj : j.val = o + (x 1).val) :
    kConv (kHead (keep t) (kLong (View.ld (Val := Elt Ideal) (e' := .bf16) (iblk m c 6 t : FVec Ideal S1024x3072 .bf16) (Rect.unit (s := S1024x3072) ![0, o'] S1024x512.size inb))
        (kExt (iblk m c 0 t) (iblk m c 1 t) (iblk m c 2 t))))
      (View.ld (Val := Elt Ideal) (e' := .f32) (iblk m c 4 t : FVec Ideal S1x3072 .f32) (Rect.unit (s := S1x3072) ![0, o] S1x512.size inc))
      (View.ld (Val := Elt Ideal) (e' := .f32) (iblk m c 3 t : FVec Ideal S4x3072 .f32) (Rect.unit (s := S4x3072) ![3, o] S1x512.size in3))
      (View.ld (Val := Elt Ideal) (e' := .f32) (iblk m c 3 t : FVec Ideal S4x3072 .f32) (Rect.unit (s := S4x3072) ![2, o] S1x512.size in2))
      (View.ld (Val := Elt Ideal) (e' := .f32) (iblk m c 3 t : FVec Ideal S4x3072 .f32) (Rect.unit (s := S4x3072) ![1, o] S1x512.size in1))
      (View.ld (Val := Elt Ideal) (e' := .f32) (iblk m c 3 t : FVec Ideal S4x3072 .f32) (Rect.unit (s := S4x3072) ![0, o] S1x512.size in0)) x
      = mixIn (H m c) (PRE m c) (W m c) 3072 2048 (by omega) (CW m c) (ln (CB m c)) (ix2 (here t.val (t_lt t) r) j) := by
  obtain ⟨a, b, rfl⟩ : ∃ a b, x = ix2 a b := ⟨x 0, x 1, by funext q; match q with | ⟨0, _⟩ => rfl | ⟨1, _⟩ => rfl⟩
  obtain rfl : r = a := Fin.ext hr
  subst ho
  exact conv_at (W := W m c) (t_lt t) (blk0 m c t) (blk1 m c t) (blk2 m c t) (fun i => (ld_cols _ 0 o' inb i b i j (Nat.zero_add _).symm hj).trans (blk6 m c t i j)) (keep_eq t)
    ((ld_cols _ 0 o' inc 0 b 0 j rfl hj).trans (blk4 m c t j)) ((ld_cols _ 3 o' in3 0 b 3 j rfl hj).trans (blk3 m c t 3 j)) ((ld_cols _ 2 o' in2 0 b 2 j rfl hj).trans (blk3 m c t 2 j))
    ((ld_cols _ 1 o' in1 0 b 1 j rfl hj).trans (blk3 m c t 1 j)) ((ld_cols _ 0 o' in0 0 b 0 j rfl hj).trans (blk3 m c t 0 j)) r

theorem x_at (t : Fin cfg0.N) (r : Fin 512) (j : Fin 3072) :
    out0_9 (F := Ideal) (grid0.coords t) (iblk m c 0 t) (iblk m c 1 t) (iblk m c 2 t) (iblk m c 3 t) (iblk m c 4 t) (iblk m c 5 t) (iblk m c 6 t) (iblk m c 7 t) (ix2 r j)
      = mixIn (H m c) (PRE m c) (W m c) 3072 2048 (by omega) (CW m c) (ln (CB m c)) (ix2 (here t.val (t_lt t) r) j) := by
  unfold out0_9 k0_pay38 k0_pay39 k0_pay40 k0_pay41 k0_pay37 r0_0 r0_1 r0_2
  simp (disch := decide) only [View.ld_unit_lit]
  canon_tiles x h
  · exact x_piece m c t 2560 _ rfl _ _ _ _ _ _ x r j h0 h1
  · exact x_piece m c t 2048 _ rfl _ _ _ _ _ _ x r j h0 h1
  · exact x_piece m c t 1536 _ rfl _ _ _ _ _ _ x r j h0 h1
  · exact x_piece m c t 1024 _ rfl _ _ _ _ _ _ x r j h0 h1
  · exact x_piece m c t 512 _ rfl _ _ _ _ _ _ x r j h0 h1
  · exact x_piece m c t 0 _ rfl _ _ _ _ _ _ x r j h0 (h1.trans (Nat.zero_add _).symm)

theorem d_at (t : Fin cfg0.N) (r : Fin 512) (j : Fin 128) :
    out0_10 (F := Ideal) (grid0.coords t) (iblk m c 0 t) (iblk m c 1 t) (iblk m c 2 t) (iblk m c 3 t) (iblk m c 4 t) (iblk m c 5 t) (iblk m c 6 t) (iblk m c 7 t) (ix2 r j)
      = lanes (H m c) (PRE m c) (W m c) 32 5120 (by omega) (ix2 (here t.val (t_lt t) r) j) := by
  have e : out0_10 (F := Ideal) (grid0.coords t) (iblk m c 0 t) (iblk m c 1 t) (iblk m c 2 t) (iblk m c 3 t) (iblk m c 4 t) (iblk m c 5 t) (iblk m c 6 t) (iblk m c 7 t)
      = kLast (iblk m c 7 t) (kN (iblk m c 0 t) (iblk m c 2 t)) := by
    unfold out0_10 k0_pay36 r0_0 r0_1 r0_41 r0_42
    rw [View.canon_unit_zero (by decide)]
    simp (disch := decide) only [View.ld_unit_lit]
    rfl
  rw [e, kLast_apply, kN_row (t_lt t) (blk0 m c t) (blk2 m c t)]
  by_cases hj : j.val < 32
  · refine Eq.trans ?_ (lanes_in _ _ _ _ _ _ _ _ hj (by omega)).symm
    exact Finset.sum_congr rfl fun i _ => congrArg₂ (fun a b : EReal => a * b) rfl ((blk7 m c t i j).trans (dif_pos hj))
  · refine Eq.trans ?_ (lanes_off _ _ _ _ _ _ _ _ hj).symm
    exact Finset.sum_eq_zero fun i _ => (congrArg₂ (fun a b : EReal => a * b) rfl ((blk7 m c t i j).trans (dif_neg hj))).trans (mul_zero _)

theorem final8 : (dats m 0 c).arrAt 8 cfg0.N = gate (H m c) (PRE m c) (W m c) 2048 0 (by omega) := by
  refine (dats m 0 c).arrAt_eq_of_covers 8 _ (by decide +kernel) fun t hf y => ?_
  blk_simp
  rw [after0_8]
  obtain ⟨r, k, rfl⟩ : ∃ (r : Fin 512) (k : Fin 2048), y = ix2 r k := ⟨y 0, y 1, by funext a; match a with | ⟨0, _⟩ => rfl | ⟨1, _⟩ => rfl⟩
  have ey : (win0_8.blk t).view.emb (ix2 r k) = ix2 (here t.val (t_lt t) r) k := by
    blk_ext [idx t]
  rw [ey]
  exact z_at m c t r k

theorem final9 : (dats m 0 c).arrAt 9 cfg0.N = mixIn (H m c) (PRE m c) (W m c) 3072 2048 (by omega) (CW m c) (ln (CB m c)) := by
  refine (dats m 0 c).arrAt_eq_of_covers 9 _ (by decide +kernel) fun t hf y => ?_
  blk_simp
  rw [after0_9]
  obtain ⟨r, k, rfl⟩ : ∃ (r : Fin 512) (k : Fin 3072), y = ix2 r k := ⟨y 0, y 1, by funext a; match a with | ⟨0, _⟩ => rfl | ⟨1, _⟩ => rfl⟩
  have ey : (win0_9.blk t).view.emb (ix2 r k) = ix2 (here t.val (t_lt t) r) k := by
    blk_ext [idx t]
  rw [ey]
  exact x_at m c t r k

theorem final10 : (dats m 0 c).arrAt 10 cfg0.N = lanes (H m c) (PRE m c) (W m c) 32 5120 (by omega) := by
  refine (dats m 0 c).arrAt_eq_of_covers 10 _ (by decide +kernel) fun t hf y => ?_
  blk_simp
  rw [after0_10]
  obtain ⟨r, k, rfl⟩ : ∃ (r : Fin 512) (k : Fin 128), y = ix2 r k := ⟨y 0, y 1, by funext a; match a with | ⟨0, _⟩ => rfl | ⟨1, _⟩ => rfl⟩
  have ey : (win0_10.blk t).view.emb (ix2 r k) = ix2 (here t.val (t_lt t) r) k := by
    blk_ext [idx t]
  rw [ey]
  exact d_at m c t r k

end Cert.Kernel5Ideal.Out
-- ==== Proof.ProjRef5.lean ====
module

public import proofs.«01_k».proof.Proof.Gen.Reference5Ideal.Run
public import proofs.«01_k».proof.Proof.FfnRef
public import proofs.«01_k».proof.Proof.ProjSpec

/-! # The reference's rows of program 5 -/

@[expose] public section

set_option maxRecDepth 16384

noncomputable section

namespace Cert.Reference5Ideal.Rows

open Cert.Reference5Ideal Cert.Reference5Ideal.Gen Cert.Ffn Cert.Proj
open Idealize.ShloMosaic Idealize.ShloMosaic.TcCoe Idealize.SL.Sem

variable (x : FVec Ideal S32768x1024 .f32) (w : FVec Ideal S1024 .f32) (W : FVec Ideal S1024x5152 .f32) (cw : FVec Ideal S4x3072 .f32) (cb : FVec Ideal S3072 .f32)

/-- The projected rows. -/
def rProj : FVec Ideal S32768x5152 .f32 := Host.dotGeneral dot_S32768x1024_S1024x5152_S32768x5152_1_0_0_1_n_n none (rRms x w) W

theorem rProj_apply (i : Fin 32768) (j : Fin 5152) : rProj x w W (ix2 i j) = proj x w W j i := by
  have e : mt (rRms x w) i = rms (mt x i) (ln w) := funext fun k => rRms_apply x w i k
  refine Eq.trans (b := row (mt (rRms x w) i) (mt W) j) ?_ (congrArg (fun f => row f (mt W) j) e)
  pointwise [rProj, row]

def rGate : FVec Ideal S32768x2048 .f32 := extractStridedSlice S32768x2048 ![0, 0] (rProj x w W) slices_S32768x5152_S32768x2048_0_0

theorem rGate_eq : rGate x w W = gate x w W 2048 0 (by omega) := by
  funext y
  obtain ⟨i, j, rfl⟩ : ∃ i j, y = ix2 i j := ⟨y 0, y 1, by funext a; match a with | ⟨0, _⟩ => rfl | ⟨1, _⟩ => rfl⟩
  refine Eq.trans ?_ (rProj_apply x w W i ⟨0 + j.val, by omega⟩)
  pointwise [rGate]

def rLanes : FVec Ideal S32768x128 .f32 :=
  pad S32768x128 ![0, 0] ![0, 96] ![0, 0] (extractStridedSlice S32768x32 ![0, 5120] (rProj x w W) slices_S32768x5152_S32768x32_0_5120)
    (sitofp (F := Ideal) .f32 (constantI S_ 32 0#32)) pads_S32768x32_S32768x128_000_0960 h_S_

theorem rLanes_eq : rLanes x w W = lanes x w W 32 5120 (by omega) := by
  funext y
  obtain ⟨i, j, rfl⟩ : ∃ i j, y = ix2 i j := ⟨y 0, y 1, by funext a; match a with | ⟨0, _⟩ => rfl | ⟨1, _⟩ => rfl⟩
  by_cases hj : j.val < 32
  · refine Eq.trans ?_ ((rProj_apply x w W i ⟨5120 + j.val, by omega⟩).trans (lanes_in _ _ _ _ _ _ _ _ hj (by omega)).symm)
    pointwise [rLanes]
    exact dif_pos hj
  · refine Eq.trans ?_ (lanes_off _ _ _ _ _ _ _ _ hj).symm
    pointwise [rLanes]
    rw [dif_neg hj]
    show ((((0#32).toInt : ℝ)) : EReal) = 0
    simp

/-- The columns to convolve, three zeros before each sequence. -/
def rPast : FVec Ideal S8x4099x3072 .f32 :=
  pad S8x4099x3072 ![0, 3, 0] ![0, 0, 0] ![0, 0, 0] (shapeCast S8x4096x3072 (extractStridedSlice S32768x3072 ![0, 2048] (rProj x w W) slices_S32768x5152_S32768x3072_0_2048) shapeCasts_S32768x3072_S8x4096x3072)
    (sitofp (F := Ideal) .f32 (constantI S_ 32 0#32)) pads_S8x4096x3072_S8x4099x3072_000_300_000 h_S_

theorem rPast_apply (b : Fin 8) (s : Fin 4099) (j : Fin 3072) :
    rPast x w W (ix3 b s j) = if h : 3 ≤ s.val then proj x w W ⟨2048 + j.val, by omega⟩ ⟨b.val * 4096 + (s.val - 3), by omega⟩ else 0 := by
  by_cases h : 3 ≤ s.val
  · rw [dif_pos h, ← rProj_apply]
    pointwise [rPast]
    exact dif_pos ⟨h, by omega⟩
  · rw [dif_neg h]
    pointwise [rPast]
    rw [dif_neg fun e => h e.1]
    show ((((0#32).toInt : ℝ)) : EReal) = 0
    simp

/-- One tap of the convolution. -/
def rTap (k : ℕ) (h : S4x3072.Slices ![k, 0] S1x3072) (h' : S8x4099x3072.Slices ![0, k, 0] S8x4096x3072) : FVec Ideal S8x4096x3072 .f32 :=
  mulf (broadcastInDim S8x4096x3072 ![0, 1, 2] bcast_S1x1x3072_S8x4096x3072_0_1_2 (broadcastInDim S1x1x3072 ![2] bcast_S3072_S1x1x3072_2
      (shapeCast S3072 (extractStridedSlice S1x3072 ![k, 0] cw h) shapeCasts_S1x3072_S3072)))
    (extractStridedSlice S8x4096x3072 ![0, k, 0] (rPast x w W) h')

theorem rTap_apply (k : ℕ) (hk : k < 4) (h : S4x3072.Slices ![k, 0] S1x3072) (h' : S8x4099x3072.Slices ![0, k, 0] S8x4096x3072) (b : Fin 8) (s : Fin 4096) (j : Fin 3072) :
    rTap x w W cw k h h' (ix3 b s j) = cw (ix2 ⟨k, hk⟩ j) * rPast x w W (ix3 b ⟨k + s.val, by omega⟩ j) := by
  pointwise [rTap]

/-- The four taps added to zero, and the bias. -/
def rSum : FVec Ideal S8x4096x3072 .f32 :=
  addf (addf (addf (addf (addf (broadcastInDim S8x4096x3072 ![] bcast_S_S8x4096x3072 (constant S_ .f32 0x00000000#32))
      (rTap x w W cw 0 slices_S4x3072_S1x3072_0_0 slices_S8x4099x3072_S8x4096x3072_0_0_0))
      (rTap x w W cw 1 slices_S4x3072_S1x3072_1_0 slices_S8x4099x3072_S8x4096x3072_0_1_0))
      (rTap x w W cw 2 slices_S4x3072_S1x3072_2_0 slices_S8x4099x3072_S8x4096x3072_0_2_0))
      (rTap x w W cw 3 slices_S4x3072_S1x3072_3_0 slices_S8x4099x3072_S8x4096x3072_0_3_0))
    (broadcastInDim S8x4096x3072 ![0, 1, 2] bcast_S1x1x3072_S8x4096x3072_0_1_2 (broadcastInDim S1x1x3072 ![2] bcast_S3072_S1x1x3072_2 cb))

theorem rSum_apply (b : Fin 8) (s : Fin 4096) (j : Fin 3072) :
    rSum x w W cw cb (ix3 b s j) = cw (ix2 0 j) * rPast x w W (ix3 b ⟨0 + s.val, by omega⟩ j) + cw (ix2 1 j) * rPast x w W (ix3 b ⟨1 + s.val, by omega⟩ j)
      + cw (ix2 2 j) * rPast x w W (ix3 b ⟨2 + s.val, by omega⟩ j) + cw (ix2 3 j) * rPast x w W (ix3 b ⟨3 + s.val, by omega⟩ j) + cb (ix1 j) := by
  pointwise [rSum]
  rw [rTap_apply _ _ _ _ 0 (by omega), rTap_apply _ _ _ _ 1 (by omega), rTap_apply _ _ _ _ 2 (by omega), rTap_apply _ _ _ _ 3 (by omega)]
  refine congrArg (fun a : EReal => a + _ + _ + _ + _) ?_
  exact congrArg (fun q => cw (ix2 0 j) * rPast x w W (ix3 b q j)) (Fin.ext (Nat.zero_add _))

/-- The convolved rows. -/
def rMix : FVec Ideal S32768x3072 .f32 :=
  shapeCast S32768x3072 (mulf (rSum x w W cw cb) (Host.divf (broadcastInDim S8x4096x3072 ![] bcast_S_S8x4096x3072 (constant S_ .f32 0x3F800000#32))
    (addf (broadcastInDim S8x4096x3072 ![] bcast_S_S8x4096x3072 (constant S_ .f32 0x3F800000#32)) (Host.exp (Host.negf (rSum x w W cw cb)))))) shapeCasts_S8x4096x3072_S32768x3072

theorem rMix_apply (i : Fin 32768) (j : Fin 3072) :
    rMix x w W cw cb (ix2 i j) = silu (rSum x w W cw cb (ix3 ⟨i.val / 4096, by omega⟩ ⟨i.val % 4096, by omega⟩ j)) := by
  pointwise [rMix]
  rfl

theorem rMix_eq : rMix x w W cw cb = mixIn x w W 3072 2048 (by omega) cw (ln cb) := by
  funext y
  obtain ⟨i, j, rfl⟩ : ∃ i j, y = ix2 i j := ⟨y 0, y 1, by funext a; match a with | ⟨0, _⟩ => rfl | ⟨1, _⟩ => rfl⟩
  rw [rMix_apply, rSum_apply]
  have e (k : ℕ) (hk : k ≤ 3) : rPast x w W (ix3 ⟨i.val / 4096, by omega⟩ ⟨k + i.val % 4096, by omega⟩ j) = back (proj x w W ⟨2048 + j.val, by omega⟩) i (3 - k) :=
    (rPast_apply x w W _ _ j).trans (back_past _ i k hk fun _ => by omega)
  rw [e 0 (by omega), e 1 (by omega), e 2 (by omega), e 3 (by omega)]
  rfl

variable (m : (ℓ : Loc nD τ sig) → Buf (Elt Ideal) ℓ) (c : Dev nD)

abbrev arg (r : Ref sig .tc) : (Proc.devRef .tc r : DevRef τ sig).ty.Contents (Elt Ideal) := m ((c.tc : Thread nD τ).loc r)

theorem mix_res : Value.res_out1 m c = rMix (arg m c main_arg0) (arg m c main_arg1) (arg m c main_arg2) (arg m c main_arg3) (arg m c main_arg4) := by
  unfold Value.res_out1 Value.res_main_v52
  rfl

end Cert.Reference5Ideal.Rows
-- ==== Proof.ProjKer6.lean ====
module

public import proofs.«01_k».proof.Proof.Gen.Kernel6Ideal.Value
public import proofs.«01_k».proof.Proof.ProjKer
public import Idealize.ShloMosaic.Lib.Pipeline.ValueKit
public import Idealize.ShloMosaic.Lib.StableHlo.RunRead

/-! # The even layers' input projection: what its arrays hold -/

@[expose] public section

set_option maxRecDepth 16384

noncomputable section

namespace Cert.Kernel6Ideal.Out

open Cert.Kernel6Ideal Cert.Kernel6Ideal.Gen Cert.Ffn Cert.Proj
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val * 64 - 1, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, t.val, 0] ∧ win0_12.index t = ![0, t.val, 0] ∧ win0_13.index t = ![0, t.val, 0]
    ∧ win0_14.index t = ![t.val, 0] ∧ win0_15.index t = ![t.val, 0] ∧ win0_16.index t = ![t.val, 0] := (by decide +kernel : ∀ t : Fin grid0.N, _)

theorem t_lt (t : Fin cfg0.N) : t.val < 64 := lt_of_lt_of_eq t.isLt N_0

/-- An argument on core `c`. -/
abbrev arg (r : Ref sig .tc) : (Proc.devRef .tc r : DevRef τ sig).ty.Contents (Elt Ideal) := m ((c.tc : Thread nD τ).loc r)

theorem blk0 (t : Fin cfg0.N) (r : Fin 512) (k : Fin 1024) :
    (iblk m c 0 t : FVec Ideal S512x1024 .f32) (ix2 r k) = (arg m c main_arg0 : FVec Ideal S32768x1024 .f32) (ix2 (here t.val (t_lt t) r) k) := by
  blk_ext [iblk, V, idx t]

theorem blk1 (t : Fin cfg0.N) (r : Fin 8) (k : Fin 1024) :
    (iblk m c 1 t : FVec Ideal S8x1024 .f32) (ix2 r k)
      = (arg m c main_arg0 : FVec Ideal S32768x1024 .f32) (ix2 (ahead t.val (t_lt t) r) k) := by
  blk_ext [iblk, V, idx t]

theorem V_v11 (k : Fin 1024) : (V m c main_v11 : FVec Ideal S1x1024 .f32) (ix2 0 k) = (arg m c main_arg1 : FVec Ideal S1024 .f32) (ix1 k) := by
  unfold V
  simp only [List.flatten_cons, List.flatten_nil, List.append_nil, after_append]
  after_reads_simp
  pointwise

theorem V_v10 (k : Fin 1536) : (V m c main_v10 : FVec Ideal S1x1536 .f32) (ix2 0 k) = (0 : EReal) := by
  unfold V
  simp only [List.flatten_cons, List.flatten_nil, List.append_nil, after_append]
  after_reads_simp
  pointwise

theorem V_v3 (i : Fin 1024) (k : Fin 512) : (V m c main_v3 : FVec Ideal S1024x512 .bf16) (ix2 i k) = HMul.hMul (α := EReal) (β := EReal) (γ := EReal) ((arg m c main_arg2 : FVec Ideal S1024x3592 .f32) (ix2 i ⟨0 + k.val, by omega⟩)) (Ideal.ofBits .bf16 0x3E00#16) := by
  unfold V
  simp only [List.flatten_cons, List.flatten_nil, List.append_nil, after_append]
  after_reads_simp
  pointwise

theorem V_v4 (i : Fin 1024) (k : Fin 512) : (V m c main_v4 : FVec Ideal S1024x512 .bf16) (ix2 i k) = (arg m c main_arg2 : FVec Ideal S1024x3592 .f32) (ix2 i ⟨512 + k.val, by omega⟩) := by
  unfold V
  simp only [List.flatten_cons, List.flatten_nil, List.append_nil, after_append]
  after_reads_simp
  pointwise

theorem V_v5 (i : Fin 1024) (k : Fin 512) : (V m c main_v5 : FVec Ideal S1024x512 .bf16) (ix2 i k) = (arg m c main_arg2 : FVec Ideal S1024x3592 .f32) (ix2 i ⟨1024 + k.val, by omega⟩) := by
  unfold V
  simp only [List.flatten_cons, List.flatten_nil, List.append_nil, after_append]
  after_reads_simp
  pointwise

theorem V_v6 (i : Fin 1024) (k : Fin 1536) : (V m c main_v6 : FVec Ideal S1024x1536 .bf16) (ix2 i k) = (arg m c main_arg2 : FVec Ideal S1024x3592 .f32) (ix2 i ⟨1536 + k.val, by omega⟩) := by
  unfold V
  simp only [List.flatten_cons, List.flatten_nil, List.append_nil, after_append]
  after_reads_simp
  pointwise

theorem V_v7 (i : Fin 1024) (k : Fin 512) : (V m c main_v7 : FVec Ideal S1024x512 .bf16) (ix2 i k) = (arg m c main_arg2 : FVec Ideal S1024x3592 .f32) (ix2 i ⟨3072 + k.val, by omega⟩) := by
  unfold V
  simp only [List.flatten_cons, List.flatten_nil, List.append_nil, after_append]
  after_reads_simp
  pointwise

/-- The last columns of the weights, padded to 128 lanes. -/
def hPad (x : FVec Ideal S1024x3592 .f32) : FVec Ideal S1024x128 .bf16 :=
  pad S1024x128 ![0, 0] ![0, 120] ![0, 0] (extractStridedSlice S1024x8 ![0, 3584] (truncf .bf16 x bitsLt_bf16_f32) slices_S1024x3592_S1024x8_0_3584)
    (sitofp (F := Ideal) .bf16 (constantI S_ 32 0#32)) pads_S1024x8_S1024x128_000_01200 h_S_

theorem V_v9 : (V m c main_v9 : FVec Ideal S1024x128 .bf16) = hPad (arg m c main_arg2) := by
  unfold V
  simp only [List.flatten_cons, List.flatten_nil, List.append_nil, after_append]
  after_reads_simp
  rfl

theorem hPad_apply (x : FVec Ideal S1024x3592 .f32) (i : Fin 1024) (k : Fin 128) :
    hPad x (ix2 i k) = if h : k.val < 8 then x (ix2 i ⟨3584 + k.val, by omega⟩) else (0 : EReal) := by
  by_cases h : k.val < 8
  · rw [dif_pos h]
    pointwise [hPad]
    exact dif_pos h
  · rw [dif_neg h]
    pointwise [hPad]
    rw [dif_neg h]
    show ((((0#32).toInt : ℝ)) : EReal) = 0
    simp

theorem blk2 (t : Fin cfg0.N) (k : Fin 1024) : (iblk m c 2 t : FVec Ideal S1x1024 .f32) (ix2 0 k) = (arg m c main_arg1 : FVec Ideal S1024 .f32) (ix1 k) :=
  (by blk_ext [iblk, idx t] : (iblk m c 2 t : FVec Ideal S1x1024 .f32) (ix2 0 k) = (V m c main_v11 : FVec Ideal S1x1024 .f32) (ix2 0 k)).trans (V_v11 m c k)

theorem blk3 (t : Fin cfg0.N) (i : Fin 4) (k : Fin 1536) : (iblk m c 3 t : FVec Ideal S4x1536 .f32) (ix2 i k) = (arg m c main_arg3 : FVec Ideal S4x1536 .f32) (ix2 i k) :=
  (by blk_ext [iblk, idx t] : (iblk m c 3 t : FVec Ideal S4x1536 .f32) (ix2 i k) = (V m c main_arg3 : FVec Ideal S4x1536 .f32) (ix2 i k)).trans (congrFun (V_main_arg3 m c) (ix2 i k))

theorem blk4 (t : Fin cfg0.N) (k : Fin 1536) : (iblk m c 4 t : FVec Ideal S1x1536 .f32) (ix2 0 k) = (0 : EReal) :=
  (by blk_ext [iblk, idx t] : (iblk m c 4 t : FVec Ideal S1x1536 .f32) (ix2 0 k) = (V m c main_v10 : FVec Ideal S1x1536 .f32) (ix2 0 k)).trans (V_v10 m c k)

theorem blk5 (t : Fin cfg0.N) (i : Fin 1024) (k : Fin 512) : (iblk m c 5 t : FVec Ideal S1024x512 .bf16) (ix2 i k) = HMul.hMul (α := EReal) (β := EReal) (γ := EReal) ((arg m c main_arg2 : FVec Ideal S1024x3592 .f32) (ix2 i ⟨0 + k.val, by omega⟩)) (Ideal.ofBits .bf16 0x3E00#16) :=
  (by blk_ext [iblk, idx t] : (iblk m c 5 t : FVec Ideal S1024x512 .bf16) (ix2 i k) = (V m c main_v3 : FVec Ideal S1024x512 .bf16) (ix2 i k)).trans (V_v3 m c i k)

theorem blk6 (t : Fin cfg0.N) (i : Fin 1024) (k : Fin 512) : (iblk m c 6 t : FVec Ideal S1024x512 .bf16) (ix2 i k) = (arg m c main_arg2 : FVec Ideal S1024x3592 .f32) (ix2 i ⟨512 + k.val, by omega⟩) :=
  (by blk_ext [iblk, idx t] : (iblk m c 6 t : FVec Ideal S1024x512 .bf16) (ix2 i k) = (V m c main_v4 : FVec Ideal S1024x512 .bf16) (ix2 i k)).trans (V_v4 m c i k)

theorem blk7 (t : Fin cfg0.N) (i : Fin 1024) (k : Fin 512) : (iblk m c 7 t : FVec Ideal S1024x512 .bf16) (ix2 i k) = (arg m c main_arg2 : FVec Ideal S1024x3592 .f32) (ix2 i ⟨1024 + k.val, by omega⟩) :=
  (by blk_ext [iblk, idx t] : (iblk m c 7 t : FVec Ideal S1024x512 .bf16) (ix2 i k) = (V m c main_v5 : FVec Ideal S1024x512 .bf16) (ix2 i k)).trans (V_v5 m c i k)

theorem blk8 (t : Fin cfg0.N) (i : Fin 1024) (k : Fin 1536) : (iblk m c 8 t : FVec Ideal S1024x1536 .bf16) (ix2 i k) = (arg m c main_arg2 : FVec Ideal S1024x3592 .f32) (ix2 i ⟨1536 + k.val, by omega⟩) :=
  (by blk_ext [iblk, idx t] : (iblk m c 8 t : FVec Ideal S1024x1536 .bf16) (ix2 i k) = (V m c main_v6 : FVec Ideal S1024x1536 .bf16) (ix2 i k)).trans (V_v6 m c i k)

theorem blk9 (t : Fin cfg0.N) (i : Fin 1024) (k : Fin 512) : (iblk m c 9 t : FVec Ideal S1024x512 .bf16) (ix2 i k) = (arg m c main_arg2 : FVec Ideal S1024x3592 .f32) (ix2 i ⟨3072 + k.val, by omega⟩) :=
  (by blk_ext [iblk, idx t] : (iblk m c 9 t : FVec Ideal S1024x512 .bf16) (ix2 i k) = (V m c main_v7 : FVec Ideal S1024x512 .bf16) (ix2 i k)).trans (V_v7 m c i k)

theorem blk10 (t : Fin cfg0.N) (i : Fin 1024) (k : Fin 128) : (iblk m c 10 t : FVec Ideal S1024x128 .bf16) (ix2 i k) = if h : k.val < 8 then (arg m c main_arg2 : FVec Ideal S1024x3592 .f32) (ix2 i ⟨3584 + k.val, by omega⟩) else (0 : EReal) :=
  (by blk_ext [iblk, idx t] : (iblk m c 10 t : FVec Ideal S1024x128 .bf16) (ix2 i k) = (V m c main_v9 : FVec Ideal S1024x128 .bf16) (ix2 i k)).trans ((congrFun (V_v9 m c) (ix2 i k)).trans (hPad_apply _ i k))

/-- The step's place in its sequence, as the kernel reckons it. -/
abbrev word (i : grid0.Coords) : BitVec 32 :=
  Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))

theorem word_eq : ∀ t : Fin cfg0.N, Scalar.cmpi .eq (word (grid0.coords t)) 0#32 = if t.val % 8 = 0 then 1#1 else 0#1 := (by decide +kernel : ∀ t : Fin grid0.N, _)

/-- What the rows before the block are multiplied by. -/
def keep (t : Fin cfg0.N) : EReal := k0_pay5 (F := Ideal) (word (grid0.coords t))

theorem keep_eq (t : Fin cfg0.N) : keep t = if t.val % 8 = 0 then 0 else 1 := by
  have z : Ideal.ofBits .f32 0x00000000#32 = 0 := by simp [Ideal.ofBits, Ideal.ieee]
  have o : Ideal.ofBits .f32 0x3F800000#32 = 1 := by
    simp [Ideal.ofBits, Ideal.ieee, -EReal.coe_mul]; norm_num
  unfold keep k0_pay5
  simp only [word_eq]
  split
  · exact z
  · exact o

abbrev H : Rows 1024 .f32 := arg m c main_arg0
abbrev PRE : Line 1024 := arg m c main_arg1
abbrev W : Mat 1024 3592 := arg m c main_arg2
abbrev CW : Mat 4 1536 := arg m c main_arg3

/-- 512 whole columns of the block's projection. -/
theorem col_at (t : Fin cfg0.N) (v : FVec Ideal S1024x512 .bf16) (o : ℕ) (ho : o + 512 ≤ 3592) (r k : Fin 512) (hv : ∀ i, v (ix2 i k) = W m c (ix2 i ⟨o + k.val, by omega⟩)) :
    kPlain v (kN (iblk m c 0 t) (iblk m c 2 t)) (ix2 r k) = proj (H m c) (PRE m c) (W m c) ⟨o + k.val, by omega⟩ (here t.val (t_lt t) r) := by
  rw [kPlain_apply, kN_row (t_lt t) (blk0 m c t) (blk2 m c t)]
  exact Finset.sum_congr rfl fun i _ => congrArg₂ (fun a b : EReal => a * b) rfl (hv i)

/-- An eighth in either format is the real number 1/8. -/
theorem eighth_b : Ideal.ofBits .bf16 0x3E00#16 = ((1 / 8 : ℝ) : EReal) := by
  simp [Ideal.ofBits, Ideal.ieee, -EReal.coe_mul]; norm_num

theorem eighth_f : Ideal.ofBits .f32 0x3E000000#32 = ((1 / 8 : ℝ) : EReal) := by
  simp [Ideal.ofBits, Ideal.ieee, -EReal.coe_mul]; norm_num

theorem col_eighth (t : Fin cfg0.N) (r k : Fin 512) :
    kPlain (iblk m c 5 t) (kN (iblk m c 0 t) (iblk m c 2 t)) (ix2 r k)
      = proj (H m c) (PRE m c) (W m c) ⟨0 + k.val, by omega⟩ (here t.val (t_lt t) r) * Ideal.ofBits .f32 0x3E000000#32 := by
  rw [kPlain_apply, kN_row (t_lt t) (blk0 m c t) (blk2 m c t), eighth_f]
  refine Eq.trans ?_ (row_scale _ _ _ _ (EReal.coe_nonneg.mpr (by norm_num)) (EReal.coe_ne_top _))
  exact Finset.sum_congr rfl fun i _ => congrArg₂ (fun a b : EReal => a * b) rfl ((blk5 m c t i k).trans (congrArg (fun z : EReal => _ * z) eighth_b))

theorem q_at (t : Fin cfg0.N) (s : Fin 4) (r : Fin 512) (j : Fin 128) :
    out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r j)
      = eighth (H m c) (PRE m c) (W m c) 0 (by omega) (ix3 s (here t.val (t_lt t) r) j) := by
  refine Eq.trans (b := kPlain (iblk m c 5 t) (kN (iblk m c 0 t) (iblk m c 2 t)) (ix2 r ⟨s.val * 128 + j.val, by omega⟩)) ?_ (col_eighth m c t r _)
  unfold out0_11 k0_pay38 r0_0 r0_1 r0_5
  simp (disch := decide) only [View.ld_unit_lit]
  canon_tiles x h
  · exact slab_piece 384 3 rfl slices_S512x512_o0_384_S512x128 shapeCasts_S512x128_S1x512x128 (kPlain _ _) x s r j h0 h1 h2
  · exact slab_piece 256 2 rfl slices_S512x512_o0_256_S512x128 shapeCasts_S512x128_S1x512x128 (kPlain _ _) x s r j h0 h1 h2
  · exact slab_piece 128 1 rfl slices_S512x512_o0_128_S512x128 shapeCasts_S512x128_S1x512x128 (kPlain _ _) x s r j h0 h1 h2
  · exact slab_piece 0 0 rfl slices_S512x512_o0_0_S512x128 shapeCasts_S512x128_S1x512x128 (kPlain _ _) x s r j (h0.trans (Nat.zero_add _).symm) h1 h2

theorem k_at (t : Fin cfg0.N) (s : Fin 4) (r : Fin 512) (j : Fin 128) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r j)
      = slab (H m c) (PRE m c) (W m c) 512 (by omega) (ix3 s (here t.val (t_lt t) r) j) := by
  refine Eq.trans (b := kPlain (iblk m c 6 t) (kN (iblk m c 0 t) (iblk m c 2 t)) (ix2 r ⟨s.val * 128 + j.val, by omega⟩)) ?_ (col_at m c t (iblk m c 6 t) 512 (by omega) r _ fun i => blk6 m c t i _)
  unfold out0_12 k0_pay43 k0_pay40 k0_pay38 r0_0 r0_1 r0_5
  simp (disch := decide) only [View.ld_unit_lit]
  canon_tiles x h
  · exact slab_piece 384 3 rfl slices_S512x512_o0_384_S512x128 shapeCasts_S512x128_S1x512x128 (kPlain _ _) x s r j h0 h1 h2
  · exact slab_piece 256 2 rfl slices_S512x512_o0_256_S512x128 shapeCasts_S512x128_S1x512x128 (kPlain _ _) x s r j h0 h1 h2
  · exact slab_piece 128 1 rfl slices_S512x512_o0_128_S512x128 shapeCasts_S512x128_S1x512x128 (kPlain _ _) x s r j h0 h1 h2
  · exact slab_piece 0 0 rfl slices_S512x512_o0_0_S512x128 shapeCasts_S512x128_S1x512x128 (kPlain _ _) x s r j (h0.trans (Nat.zero_add _).symm) h1 h2

theorem v_at (t : Fin cfg0.N) (s : Fin 4) (r : Fin 512) (j : Fin 128) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r j)
      = slab (H m c) (PRE m c) (W m c) 1024 (by omega) (ix3 s (here t.val (t_lt t) r) j) := by
  refine Eq.trans (b := kPlain (iblk m c 7 t) (kN (iblk m c 0 t) (iblk m c 2 t)) (ix2 r ⟨s.val * 128 + j.val, by omega⟩)) ?_ (col_at m c t (iblk m c 7 t) 1024 (by omega) r _ fun i => blk7 m c t i _)
  unfold out0_13 k0_pay38 r0_0 r0_1 r0_5
  simp (disch := decide) only [View.ld_unit_lit]
  canon_tiles x h
  · exact slab_piece 384 3 rfl slices_S512x512_o0_384_S512x128 shapeCasts_S512x128_S1x512x128 (kPlain _ _) x s r j h0 h1 h2
  · exact slab_piece 256 2 rfl slices_S512x512_o0_256_S512x128 shapeCasts_S512x128_S1x512x128 (kPlain _ _) x s r j h0 h1 h2
  · exact slab_piece 128 1 rfl slices_S512x512_o0_128_S512x128 shapeCasts_S512x128_S1x512x128 (kPlain _ _) x s r j h0 h1 h2
  · exact slab_piece 0 0 rfl slices_S512x512_o0_0_S512x128 shapeCasts_S512x128_S1x512x128 (kPlain _ _) x s r j (h0.trans (Nat.zero_add _).symm) h1 h2

theorem x_piece (t : Fin cfg0.N) (o o' : ℕ) (ho : o' = o) (inb inc in3 in2 in1 in0) (x : S512x512.Idx) (r : Fin 512) (j : Fin 1536) (hr : r.val = (x 0).val) (hj : j.val = o + (x 1).val) :
    kConv (kHead (keep t) (kLong (View.ld (Val := Elt Ideal) (e' := .bf16) (iblk m c 8 t : FVec Ideal S1024x1536 .bf16) (Rect.unit (s := S1024x1536) ![0, o'] S1024x512.size inb))
        (kExt (iblk m c 0 t) (iblk m c 1 t) (iblk m c 2 t))))
      (View.ld (Val := Elt Ideal) (e' := .f32) (iblk m c 4 t : FVec Ideal S1x1536 .f32) (Rect.unit (s := S1x1536) ![0, o] S1x512.size inc))
      (View.ld (Val := Elt Ideal) (e' := .f32) (iblk m c 3 t : FVec Ideal S4x1536 .f32) (Rect.unit (s := S4x1536) ![3, o] S1x512.size in3))
      (View.ld (Val := Elt Ideal) (e' := .f32) (iblk m c 3 t : FVec Ideal S4x1536 .f32) (Rect.unit (s := S4x1536) ![2, o] S1x512.size in2))
      (View.ld (Val := Elt Ideal) (e' := .f32) (iblk m c 3 t : FVec Ideal S4x1536 .f32) (Rect.unit (s := S4x1536) ![1, o] S1x512.size in1))
      (View.ld (Val := Elt Ideal) (e' := .f32) (iblk m c 3 t : FVec Ideal S4x1536 .f32) (Rect.unit (s := S4x1536) ![0, o] S1x512.size in0)) x
      = mixIn (H m c) (PRE m c) (W m c) 1536 1536 (by omega) (CW m c) (fun _ => 0) (ix2 (here t.val (t_lt t) r) j) := by
  obtain ⟨a, b, rfl⟩ : ∃ a b, x = ix2 a b := ⟨x 0, x 1, by funext q; match q with | ⟨0, _⟩ => rfl | ⟨1, _⟩ => rfl⟩
  obtain rfl : r = a := Fin.ext hr
  subst ho
  exact conv_at (W := W m c) (t_lt t) (blk0 m c t) (blk1 m c t) (blk2 m c t) (fun i => (ld_cols _ 0 o' inb i b i j (Nat.zero_add _).symm hj).trans (blk8 m c t i j)) (keep_eq t)
    ((ld_cols _ 0 o' inc 0 b 0 j rfl hj).trans (blk4 m c t j)) ((ld_cols _ 3 o' in3 0 b 3 j rfl hj).trans (blk3 m c t 3 j)) ((ld_cols _ 2 o' in2 0 b 2 j rfl hj).trans (blk3 m c t 2 j))
    ((ld_cols _ 1 o' in1 0 b 1 j rfl hj).trans (blk3 m c t 1 j)) ((ld_cols _ 0 o' in0 0 b 0 j rfl hj).trans (blk3 m c t 0 j)) r

theorem x_at (t : Fin cfg0.N) (r : Fin 512) (j : Fin 1536) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = mixIn (H m c) (PRE m c) (W m c) 1536 1536 (by omega) (CW m c) (fun _ => 0) (ix2 (here t.val (t_lt t) r) j) := by
  unfold out0_14 k0_pay44 k0_pay42 k0_pay41 k0_pay39 r0_0 r0_1 r0_2
  simp (disch := decide) only [View.ld_unit_lit]
  canon_tiles x h
  · exact x_piece m c t 1024 _ rfl _ _ _ _ _ _ x r j h0 h1
  · exact x_piece m c t 512 _ rfl _ _ _ _ _ _ x r j h0 h1
  · exact x_piece m c t 0 _ rfl _ _ _ _ _ _ x r j h0 (h1.trans (Nat.zero_add _).symm)

theorem z_at (t : Fin cfg0.N) (r : Fin 512) (j : Fin 512) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = gate (H m c) (PRE m c) (W m c) 512 3072 (by omega) (ix2 (here t.val (t_lt t) r) j) := by
  refine Eq.trans (b := kPlain (iblk m c 9 t) (kN (iblk m c 0 t) (iblk m c 2 t)) (ix2 r j)) ?_ (col_at m c t (iblk m c 9 t) 3072 (by omega) r _ fun i => blk9 m c t i _)
  unfold out0_15 k0_pay38 r0_0 r0_1 r0_5 r0_17
  rw [View.canon_unit_zero (by decide)]
  simp (disch := decide) only [View.ld_unit_lit]
  rfl

theorem d_at (t : Fin cfg0.N) (r : Fin 512) (j : Fin 128) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = lanes (H m c) (PRE m c) (W m c) 8 3584 (by omega) (ix2 (here t.val (t_lt t) r) j) := by
  have e : out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = kLast (iblk m c 10 t) (kN (iblk m c 0 t) (iblk m c 2 t)) := by
    unfold out0_16 k0_pay38 r0_0 r0_1 r0_24 r0_25
    rw [View.canon_unit_zero (by decide)]
    simp (disch := decide) only [View.ld_unit_lit]
    rfl
  rw [e, kLast_apply, kN_row (t_lt t) (blk0 m c t) (blk2 m c t)]
  by_cases hj : j.val < 8
  · refine Eq.trans ?_ (lanes_in _ _ _ _ _ _ _ _ hj (by omega)).symm
    exact Finset.sum_congr rfl fun i _ => congrArg₂ (fun a b : EReal => a * b) rfl ((blk10 m c t i j).trans (dif_pos hj))
  · refine Eq.trans ?_ (lanes_off _ _ _ _ _ _ _ _ hj).symm
    exact Finset.sum_eq_zero fun i _ => (congrArg₂ (fun a b : EReal => a * b) rfl ((blk10 m c t i j).trans (dif_neg hj))).trans (mul_zero _)

theorem final11 : (dats m 0 c).arrAt 11 cfg0.N = eighth (H m c) (PRE m c) (W m c) 0 (by omega) := by
  refine (dats m 0 c).arrAt_eq_of_covers 11 _ (by decide +kernel) fun t hf y => ?_
  blk_simp
  rw [after0_11]
  obtain ⟨s, r, k, rfl⟩ : ∃ (s : Fin 4) (r : Fin 512) (k : Fin 128), y = ix3 s r k := ⟨y 0, y 1, y 2, by funext a; match a with | ⟨0, _⟩ => rfl | ⟨1, _⟩ => rfl | ⟨2, _⟩ => rfl⟩
  have ey : (win0_11.blk t).view.emb (ix3 s r k) = ix3 s (here t.val (t_lt t) r) k := by
    blk_ext [idx t]
  rw [ey]
  exact q_at m c t s r k

theorem final12 : (dats m 0 c).arrAt 12 cfg0.N = slab (H m c) (PRE m c) (W m c) 512 (by omega) := by
  refine (dats m 0 c).arrAt_eq_of_covers 12 _ (by decide +kernel) fun t hf y => ?_
  blk_simp
  rw [after0_12]
  obtain ⟨s, r, k, rfl⟩ : ∃ (s : Fin 4) (r : Fin 512) (k : Fin 128), y = ix3 s r k := ⟨y 0, y 1, y 2, by funext a; match a with | ⟨0, _⟩ => rfl | ⟨1, _⟩ => rfl | ⟨2, _⟩ => rfl⟩
  have ey : (win0_12.blk t).view.emb (ix3 s r k) = ix3 s (here t.val (t_lt t) r) k := by
    blk_ext [idx t]
  rw [ey]
  exact k_at m c t s r k

theorem final13 : (dats m 0 c).arrAt 13 cfg0.N = slab (H m c) (PRE m c) (W m c) 1024 (by omega) := by
  refine (dats m 0 c).arrAt_eq_of_covers 13 _ (by decide +kernel) fun t hf y => ?_
  blk_simp
  rw [after0_13]
  obtain ⟨s, r, k, rfl⟩ : ∃ (s : Fin 4) (r : Fin 512) (k : Fin 128), y = ix3 s r k := ⟨y 0, y 1, y 2, by funext a; match a with | ⟨0, _⟩ => rfl | ⟨1, _⟩ => rfl | ⟨2, _⟩ => rfl⟩
  have ey : (win0_13.blk t).view.emb (ix3 s r k) = ix3 s (here t.val (t_lt t) r) k := by
    blk_ext [idx t]
  rw [ey]
  exact v_at m c t s r k

theorem final14 : (dats m 0 c).arrAt 14 cfg0.N = mixIn (H m c) (PRE m c) (W m c) 1536 1536 (by omega) (CW m c) (fun _ => 0) := by
  refine (dats m 0 c).arrAt_eq_of_covers 14 _ (by decide +kernel) fun t hf y => ?_
  blk_simp
  rw [after0_14]
  obtain ⟨r, k, rfl⟩ : ∃ (r : Fin 512) (k : Fin 1536), y = ix2 r k := ⟨y 0, y 1, by funext a; match a with | ⟨0, _⟩ => rfl | ⟨1, _⟩ => rfl⟩
  have ey : (win0_14.blk t).view.emb (ix2 r k) = ix2 (here t.val (t_lt t) r) k := by
    blk_ext [idx t]
  rw [ey]
  exact x_at m c t r k

theorem final15 : (dats m 0 c).arrAt 15 cfg0.N = gate (H m c) (PRE m c) (W m c) 512 3072 (by omega) := by
  refine (dats m 0 c).arrAt_eq_of_covers 15 _ (by decide +kernel) fun t hf y => ?_
  blk_simp
  rw [after0_15]
  obtain ⟨r, k, rfl⟩ : ∃ (r : Fin 512) (k : Fin 512), y = ix2 r k := ⟨y 0, y 1, by funext a; match a with | ⟨0, _⟩ => rfl | ⟨1, _⟩ => rfl⟩
  have ey : (win0_15.blk t).view.emb (ix2 r k) = ix2 (here t.val (t_lt t) r) k := by
    blk_ext [idx t]
  rw [ey]
  exact z_at m c t r k

theorem final16 : (dats m 0 c).arrAt 16 cfg0.N = lanes (H m c) (PRE m c) (W m c) 8 3584 (by omega) := by
  refine (dats m 0 c).arrAt_eq_of_covers 16 _ (by decide +kernel) fun t hf y => ?_
  blk_simp
  rw [after0_16]
  obtain ⟨r, k, rfl⟩ : ∃ (r : Fin 512) (k : Fin 128), y = ix2 r k := ⟨y 0, y 1, by funext a; match a with | ⟨0, _⟩ => rfl | ⟨1, _⟩ => rfl⟩
  have ey : (win0_16.blk t).view.emb (ix2 r k) = ix2 (here t.val (t_lt t) r) k := by
    blk_ext [idx t]
  rw [ey]
  exact d_at m c t r k

end Cert.Kernel6Ideal.Out
-- ==== Proof.ProjRef6.lean ====
module

public import proofs.«01_k».proof.Proof.Gen.Reference6Ideal.Run
public import proofs.«01_k».proof.Proof.FfnRef
public import proofs.«01_k».proof.Proof.ProjSpec

/-! # The reference's rows of program 6 -/

@[expose] public section

set_option maxRecDepth 16384

noncomputable section

namespace Cert.Reference6Ideal.Rows

open Cert.Reference6Ideal Cert.Reference6Ideal.Gen Cert.Ffn Cert.Proj
open Idealize.ShloMosaic Idealize.ShloMosaic.TcCoe Idealize.SL.Sem

variable (x : FVec Ideal S32768x1024 .f32) (w : FVec Ideal S1024 .f32) (W : FVec Ideal S1024x3592 .f32) (cw : FVec Ideal S4x1536 .f32)

/-- The projected rows. -/
def rProj : FVec Ideal S32768x3592 .f32 := Host.dotGeneral dot_S32768x1024_S1024x3592_S32768x3592_1_0_0_1_n_n none (rRms x w) W

theorem rProj_apply (i : Fin 32768) (j : Fin 3592) : rProj x w W (ix2 i j) = proj x w W j i := by
  have e : mt (rRms x w) i = rms (mt x i) (ln w) := funext fun k => rRms_apply x w i k
  refine Eq.trans (b := row (mt (rRms x w) i) (mt W) j) ?_ (congrArg (fun f => row f (mt W) j) e)
  pointwise [rProj, row]

def rGate : FVec Ideal S32768x512 .f32 := extractStridedSlice S32768x512 ![0, 3072] (rProj x w W) slices_S32768x3592_S32768x512_0_3072

theorem rGate_eq : rGate x w W = gate x w W 512 3072 (by omega) := by
  funext y
  obtain ⟨i, j, rfl⟩ : ∃ i j, y = ix2 i j := ⟨y 0, y 1, by funext a; match a with | ⟨0, _⟩ => rfl | ⟨1, _⟩ => rfl⟩
  refine Eq.trans ?_ (rProj_apply x w W i ⟨3072 + j.val, by omega⟩)
  pointwise [rGate]

/-- 512 columns, 128 lanes at a time. -/
def rCols (o : ℕ) (h : S32768x3592.Slices ![0, o] S32768x512) : FVec Ideal S32768x512 .f32 := extractStridedSlice S32768x512 ![0, o] (rProj x w W) h

/-- 512 columns' lanes apart. -/
def rApart (a : FVec Ideal S32768x512 .f32) : FVec Ideal S4x32768x128 .f32 :=
  transpose S4x32768x128 [1, 0, 2] (shapeCast S32768x4x128 a shapeCasts_S32768x512_S32768x4x128) transposes_S32768x4x128_S4x32768x128_1_0_2

theorem rApart_apply (a : FVec Ideal S32768x512 .f32) (s : Fin 4) (i : Fin 32768) (j : Fin 128) : rApart a (ix3 s i j) = a (ix2 i ⟨s.val * 128 + j.val, by omega⟩) := by
  pointwise [rApart]

theorem rCols_apply (o : ℕ) (ho : o + 512 ≤ 3592) (h : S32768x3592.Slices ![0, o] S32768x512) (i : Fin 32768) (j : Fin 512) : rCols x w W o h (ix2 i j) = proj x w W ⟨o + j.val, by omega⟩ i := by
  refine Eq.trans ?_ (rProj_apply x w W i ⟨o + j.val, by omega⟩)
  pointwise [rCols]

theorem rSlab_eq (o : ℕ) (ho : o + 512 ≤ 3592) (h : S32768x3592.Slices ![0, o] S32768x512) : rApart (rCols x w W o h) = slab x w W o ho := by
  funext y
  obtain ⟨s, i, j, rfl⟩ : ∃ s i j, y = ix3 s i j := ⟨y 0, y 1, y 2, by funext a; match a with | ⟨0, _⟩ => rfl | ⟨1, _⟩ => rfl | ⟨2, _⟩ => rfl⟩
  rw [rApart_apply, rCols_apply x w W o ho]
  rfl

theorem rEighth_eq : rApart (mulf (rCols x w W 0 slices_S32768x3592_S32768x512_0_0) (broadcastInDim S32768x512 ![] bcast_S_S32768x512 (constant S_ .f32 0x3E000000#32)))
    = eighth x w W 0 (by omega) := by
  funext y
  obtain ⟨s, i, j, rfl⟩ : ∃ s i j, y = ix3 s i j := ⟨y 0, y 1, y 2, by funext a; match a with | ⟨0, _⟩ => rfl | ⟨1, _⟩ => rfl | ⟨2, _⟩ => rfl⟩
  rw [rApart_apply]
  exact congrArg (fun a : EReal => a * Ideal.ofBits .f32 0x3E000000#32) (rCols_apply x w W 0 (by omega) _ i _)

def rLanes : FVec Ideal S32768x128 .f32 :=
  pad S32768x128 ![0, 0] ![0, 120] ![0, 0] (extractStridedSlice S32768x8 ![0, 3584] (rProj x w W) slices_S32768x3592_S32768x8_0_3584)
    (sitofp (F := Ideal) .f32 (constantI S_ 32 0#32)) pads_S32768x8_S32768x128_000_01200 h_S_

theorem rLanes_eq : rLanes x w W = lanes x w W 8 3584 (by omega) := by
  funext y
  obtain ⟨i, j, rfl⟩ : ∃ i j, y = ix2 i j := ⟨y 0, y 1, by funext a; match a with | ⟨0, _⟩ => rfl | ⟨1, _⟩ => rfl⟩
  by_cases hj : j.val < 8
  · refine Eq.trans ?_ ((rProj_apply x w W i ⟨3584 + j.val, by omega⟩).trans (lanes_in _ _ _ _ _ _ _ _ hj (by omega)).symm)
    pointwise [rLanes]
    exact dif_pos hj
  · refine Eq.trans ?_ (lanes_off _ _ _ _ _ _ _ _ hj).symm
    pointwise [rLanes]
    rw [dif_neg hj]
    show ((((0#32).toInt : ℝ)) : EReal) = 0
    simp

/-- The columns to convolve, three zeros before each sequence. -/
def rPast : FVec Ideal S8x4099x1536 .f32 :=
  pad S8x4099x1536 ![0, 3, 0] ![0, 0, 0] ![0, 0, 0] (shapeCast S8x4096x1536 (extractStridedSlice S32768x1536 ![0, 1536] (rProj x w W) slices_S32768x3592_S32768x1536_0_1536) shapeCasts_S32768x1536_S8x4096x1536)
    (sitofp (F := Ideal) .f32 (constantI S_ 32 0#32)) pads_S8x4096x1536_S8x4099x1536_000_300_000 h_S_

theorem rPast_apply (b : Fin 8) (s : Fin 4099) (j : Fin 1536) :
    rPast x w W (ix3 b s j) = if h : 3 ≤ s.val then proj x w W ⟨1536 + j.val, by omega⟩ ⟨b.val * 4096 + (s.val - 3), by omega⟩ else 0 := by
  by_cases h : 3 ≤ s.val
  · rw [dif_pos h, ← rProj_apply]
    pointwise [rPast]
    exact dif_pos ⟨h, by omega⟩
  · rw [dif_neg h]
    pointwise [rPast]
    rw [dif_neg fun e => h e.1]
    show ((((0#32).toInt : ℝ)) : EReal) = 0
    simp

/-- One tap of the convolution. -/
def rTap (k : ℕ) (h : S4x1536.Slices ![k, 0] S1x1536) (h' : S8x4099x1536.Slices ![0, k, 0] S8x4096x1536) : FVec Ideal S8x4096x1536 .f32 :=
  mulf (broadcastInDim S8x4096x1536 ![0, 1, 2] bcast_S1x1x1536_S8x4096x1536_0_1_2 (broadcastInDim S1x1x1536 ![2] bcast_S1536_S1x1x1536_2
      (shapeCast S1536 (extractStridedSlice S1x1536 ![k, 0] cw h) shapeCasts_S1x1536_S1536)))
    (extractStridedSlice S8x4096x1536 ![0, k, 0] (rPast x w W) h')

theorem rTap_apply (k : ℕ) (hk : k < 4) (h : S4x1536.Slices ![k, 0] S1x1536) (h' : S8x4099x1536.Slices ![0, k, 0] S8x4096x1536) (b : Fin 8) (s : Fin 4096) (j : Fin 1536) :
    rTap x w W cw k h h' (ix3 b s j) = cw (ix2 ⟨k, hk⟩ j) * rPast x w W (ix3 b ⟨k + s.val, by omega⟩ j) := by
  pointwise [rTap]

/-- The four taps added to zero. -/
def rSum : FVec Ideal S8x4096x1536 .f32 :=
  addf (addf (addf (addf (broadcastInDim S8x4096x1536 ![] bcast_S_S8x4096x1536 (constant S_ .f32 0x00000000#32))
      (rTap x w W cw 0 slices_S4x1536_S1x1536_0_0 slices_S8x4099x1536_S8x4096x1536_0_0_0))
      (rTap x w W cw 1 slices_S4x1536_S1x1536_1_0 slices_S8x4099x1536_S8x4096x1536_0_1_0))
      (rTap x w W cw 2 slices_S4x1536_S1x1536_2_0 slices_S8x4099x1536_S8x4096x1536_0_2_0))
      (rTap x w W cw 3 slices_S4x1536_S1x1536_3_0 slices_S8x4099x1536_S8x4096x1536_0_3_0)

theorem rSum_apply (b : Fin 8) (s : Fin 4096) (j : Fin 1536) :
    rSum x w W cw (ix3 b s j) = cw (ix2 0 j) * rPast x w W (ix3 b ⟨0 + s.val, by omega⟩ j) + cw (ix2 1 j) * rPast x w W (ix3 b ⟨1 + s.val, by omega⟩ j)
      + cw (ix2 2 j) * rPast x w W (ix3 b ⟨2 + s.val, by omega⟩ j) + cw (ix2 3 j) * rPast x w W (ix3 b ⟨3 + s.val, by omega⟩ j) := by
  pointwise [rSum]
  rw [rTap_apply _ _ _ _ 0 (by omega), rTap_apply _ _ _ _ 1 (by omega), rTap_apply _ _ _ _ 2 (by omega), rTap_apply _ _ _ _ 3 (by omega)]
  refine congrArg (fun a : EReal => a + _ + _ + _) ?_
  exact congrArg (fun q => cw (ix2 0 j) * rPast x w W (ix3 b q j)) (Fin.ext (Nat.zero_add _))

/-- The convolved rows. -/
def rMix : FVec Ideal S32768x1536 .f32 :=
  shapeCast S32768x1536 (mulf (rSum x w W cw) (Host.divf (broadcastInDim S8x4096x1536 ![] bcast_S_S8x4096x1536 (constant S_ .f32 0x3F800000#32))
    (addf (broadcastInDim S8x4096x1536 ![] bcast_S_S8x4096x1536 (constant S_ .f32 0x3F800000#32)) (Host.exp (Host.negf (rSum x w W cw)))))) shapeCasts_S8x4096x1536_S32768x1536

theorem rMix_apply (i : Fin 32768) (j : Fin 1536) :
    rMix x w W cw (ix2 i j) = silu (rSum x w W cw (ix3 ⟨i.val / 4096, by omega⟩ ⟨i.val % 4096, by omega⟩ j)) := by
  pointwise [rMix]
  rfl

theorem rMix_eq : rMix x w W cw = mixIn x w W 1536 1536 (by omega) cw (fun _ => 0) := by
  funext y
  obtain ⟨i, j, rfl⟩ : ∃ i j, y = ix2 i j := ⟨y 0, y 1, by funext a; match a with | ⟨0, _⟩ => rfl | ⟨1, _⟩ => rfl⟩
  rw [rMix_apply, rSum_apply]
  have e (k : ℕ) (hk : k ≤ 3) : rPast x w W (ix3 ⟨i.val / 4096, by omega⟩ ⟨k + i.val % 4096, by omega⟩ j) = back (proj x w W ⟨1536 + j.val, by omega⟩) i (3 - k) :=
    (rPast_apply x w W _ _ j).trans (back_past _ i k hk fun _ => by omega)
  rw [e 0 (by omega), e 1 (by omega), e 2 (by omega), e 3 (by omega)]
  exact congrArg silu (add_zero _).symm

variable (m : (ℓ : Loc nD τ sig) → Buf (Elt Ideal) ℓ) (c : Dev nD)

abbrev arg (r : Ref sig .tc) : (Proc.devRef .tc r : DevRef τ sig).ty.Contents (Elt Ideal) := m ((c.tc : Thread nD τ).loc r)

theorem mix_res : Value.res_out3 m c = rMix (arg m c main_arg0) (arg m c main_arg1) (arg m c main_arg2) (arg m c main_arg3) := by
  unfold Value.res_out3 Value.res_main_v61
  rfl

end Cert.Reference6Ideal.Rows
-- ==== Proof.Proj.lean ====
module

public import proofs.«01_k».proof.Proof.Gen.Kernel5.Frame
public import proofs.«01_k».proof.Proof.ProjKer5
public import proofs.«01_k».proof.Proof.ProjRef5
public import proofs.«01_k».proof.Proof.Gen.Kernel6.Frame
public import proofs.«01_k».proof.Proof.ProjKer6
public import proofs.«01_k».proof.Proof.ProjRef6
public import proofs.«01_k».proof.Defs

/-! # The claims about the input projections -/

@[expose] public section

set_option maxRecDepth 16384

noncomputable section

namespace Cert.Proof.Proj

open Idealize.ShloMosaic Idealize.ShloMosaic.TcCoe Idealize.SL.Sem
open Cert.Ffn Cert.Proj
open Cert.Reference5Ideal.Rows (rGate_eq rMix_eq rLanes_eq mix_res)

theorem frame5 : Cert.quiescent_Kernel5 := fun m ρ _ => Cert.Kernel5.Gen.frame m ρ
theorem frame5i : Cert.quiescent_Kernel5Ideal := fun m ρ _ => Cert.Kernel5Ideal.Gen.frame m ρ
theorem frame5r : Cert.quiescent_Reference5Ideal := fun m ρ _ =>
  (θ_run _ _ _).mono (fun r h => ⟨fun c => (h c).2.2.2, sem_eq_zero_of_no_sems rfl r.2⟩) (Cert.Reference5Ideal.Value.run m ρ)
theorem preserves5 : Cert.preserves_Kernel5_Kernel5Ideal := trivial

theorem algebraic5 : Cert.algebraic_Kernel5Ideal_Reference5Ideal := by
  intro m ρ m' ρ' _ hag
  refine ⟨_, _, _, Cert.Kernel5Ideal.Value.run_blocks m ρ, (θ_run _ _ _).mono (fun r h c => ⟨(h c).1.trans ?_, (h c).2.1.trans ?_, (h c).2.2.1.trans ?_, (h c).2.2.2⟩)
    (Cert.Reference5Ideal.Value.run m' ρ')⟩
  all_goals
    obtain ⟨h0, h1, h2, h3, h4⟩ := hag c
    have e0 : (Cert.Reference5Ideal.Rows.arg m' c Cert.Reference5Ideal.main_arg0 : Rows 1024 .f32) = Cert.Kernel5Ideal.Out.H m c := h0
    have e1 : (Cert.Reference5Ideal.Rows.arg m' c Cert.Reference5Ideal.main_arg1 : Line 1024) = Cert.Kernel5Ideal.Out.PRE m c := h1
    have e2 : (Cert.Reference5Ideal.Rows.arg m' c Cert.Reference5Ideal.main_arg2 : Mat 1024 5152) = Cert.Kernel5Ideal.Out.W m c := h2
    have e3 : (Cert.Reference5Ideal.Rows.arg m' c Cert.Reference5Ideal.main_arg3 : Mat 4 3072) = Cert.Kernel5Ideal.Out.CW m c := h3
    have e4 : (Cert.Reference5Ideal.Rows.arg m' c Cert.Reference5Ideal.main_arg4 : Line 3072) = Cert.Kernel5Ideal.Out.CB m c := h4
  · refine (rGate_eq (Cert.Reference5Ideal.Rows.arg m' c Cert.Reference5Ideal.main_arg0) (Cert.Reference5Ideal.Rows.arg m' c Cert.Reference5Ideal.main_arg1) (Cert.Reference5Ideal.Rows.arg m' c Cert.Reference5Ideal.main_arg2)).trans (Eq.trans ?_ (Cert.Kernel5Ideal.Out.final8 m c).symm)
    rw [e0, e1, e2]
  · refine (mix_res m' c).trans ((rMix_eq (Cert.Reference5Ideal.Rows.arg m' c Cert.Reference5Ideal.main_arg0) (Cert.Reference5Ideal.Rows.arg m' c Cert.Reference5Ideal.main_arg1) (Cert.Reference5Ideal.Rows.arg m' c Cert.Reference5Ideal.main_arg2) (Cert.Reference5Ideal.Rows.arg m' c Cert.Reference5Ideal.main_arg3) (Cert.Reference5Ideal.Rows.arg m' c Cert.Reference5Ideal.main_arg4)).trans (Eq.trans ?_ (Cert.Kernel5Ideal.Out.final9 m c).symm))
    rw [e0, e1, e2, e3, e4]
  · refine (rLanes_eq (Cert.Reference5Ideal.Rows.arg m' c Cert.Reference5Ideal.main_arg0) (Cert.Reference5Ideal.Rows.arg m' c Cert.Reference5Ideal.main_arg1) (Cert.Reference5Ideal.Rows.arg m' c Cert.Reference5Ideal.main_arg2)).trans (Eq.trans ?_ (Cert.Kernel5Ideal.Out.final10 m c).symm)
    rw [e0, e1, e2]

theorem frame6 : Cert.quiescent_Kernel6 := fun m ρ _ => Cert.Kernel6.Gen.frame m ρ
theorem frame6i : Cert.quiescent_Kernel6Ideal := fun m ρ _ => Cert.Kernel6Ideal.Gen.frame m ρ
theorem frame6r : Cert.quiescent_Reference6Ideal := fun m ρ _ =>
  (θ_run _ _ _).mono (fun r h => ⟨fun c => (h c).2.2.2.2.2.2, sem_eq_zero_of_no_sems rfl r.2⟩) (Cert.Reference6Ideal.Value.run m ρ)
theorem preserves6 : Cert.preserves_Kernel6_Kernel6Ideal := trivial

theorem algebraic6 : Cert.algebraic_Kernel6Ideal_Reference6Ideal := by
  intro m ρ m' ρ' _ hag
  refine ⟨_, _, _, _, _, _, Cert.Kernel6Ideal.Value.run_blocks m ρ, (θ_run _ _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference6Ideal.Value.run m' ρ')⟩
  all_goals
    obtain ⟨h0, h1, h2, h3⟩ := hag c
    have e0 : (Cert.Reference6Ideal.Rows.arg m' c Cert.Reference6Ideal.main_arg0 : Rows 1024 .f32) = Cert.Kernel6Ideal.Out.H m c := h0
    have e1 : (Cert.Reference6Ideal.Rows.arg m' c Cert.Reference6Ideal.main_arg1 : Line 1024) = Cert.Kernel6Ideal.Out.PRE m c := h1
    have e2 : (Cert.Reference6Ideal.Rows.arg m' c Cert.Reference6Ideal.main_arg2 : Mat 1024 3592) = Cert.Kernel6Ideal.Out.W m c := h2
    have e3 : (Cert.Reference6Ideal.Rows.arg m' c Cert.Reference6Ideal.main_arg3 : Mat 4 1536) = Cert.Kernel6Ideal.Out.CW m c := h3
  · refine (Cert.Reference6Ideal.Rows.rEighth_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2)).trans (Eq.trans ?_ (Cert.Kernel6Ideal.Out.final11 m c).symm)
    rw [e0, e1, e2]
  · refine (Cert.Reference6Ideal.Rows.rSlab_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2) 512 (by omega) Cert.Reference6Ideal.Gen.slices_S32768x3592_S32768x512_0_512).trans (Eq.trans ?_ (Cert.Kernel6Ideal.Out.final12 m c).symm)
    rw [e0, e1, e2]
  · refine (Cert.Reference6Ideal.Rows.rSlab_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2) 1024 (by omega) Cert.Reference6Ideal.Gen.slices_S32768x3592_S32768x512_0_1024).trans (Eq.trans ?_ (Cert.Kernel6Ideal.Out.final13 m c).symm)
    rw [e0, e1, e2]
  · refine (Cert.Reference6Ideal.Rows.mix_res m' c).trans ((Cert.Reference6Ideal.Rows.rMix_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2) (Cert.Reference6Ideal.Rows.arg m' c Cert.Reference6Ideal.main_arg3)).trans (Eq.trans ?_ (Cert.Kernel6Ideal.Out.final14 m c).symm))
    rw [e0, e1, e2, e3]
  · refine (Cert.Reference6Ideal.Rows.rGate_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2)).trans (Eq.trans ?_ (Cert.Kernel6Ideal.Out.final15 m c).symm)
    rw [e0, e1, e2]
  · refine (Cert.Reference6Ideal.Rows.rLanes_eq (Cert.Reference6Ideal.Rows.arg m' c Cert.Reference6Ideal.main_arg0) (Cert.Reference6Ideal.Rows.arg m' c Cert.Reference6Ideal.main_arg1) (Cert.Reference6Ideal.Rows.arg m' c Cert.Reference6Ideal.main_arg2)).trans (Eq.trans ?_ (Cert.Kernel6Ideal.Out.final16 m c).symm)
    rw [e0, e1, e2]

end Cert.Proof.Proj
-- ==== Proof.GdnBlock.lean ====
module

public import proofs.«01_k».proof.Proof.Gen.Kernel7Ideal.Value

/-! # What one grid point of the gated delta rule computes

The body handles 4 chunks of 128 rows and 4 heads of 128 channels. The functions here state one head of one chunk;
the heads and chunks differ in their slices alone, so each function takes the two indices. -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

theorem slR (c : Fin 4) : S512x128.Slices ![128 * c.val, 0] S128x128 := by revert c; decide +kernel
theorem slQ (c h : Fin 4) : S512x1536.Slices ![128 * c.val, 128 * h.val] S128x128 := by revert c h; decide +kernel
theorem slK (c h : Fin 4) : S512x1536.Slices ![128 * c.val, 512 + 128 * h.val] S128x128 := by revert c h; decide +kernel
theorem slV (c h : Fin 4) : S512x1536.Slices ![128 * c.val, 1024 + 128 * h.val] S128x128 := by revert c h; decide +kernel
theorem slBeta (c h : Fin 4) : S512x128.Slices ![128 * c.val, h.val] S128x1 := by revert c h; decide +kernel
theorem slCol (h : Fin 4) : S128x128.Slices ![0, 4 + h.val] S128x1 := by revert h; decide +kernel
theorem slRow (h : Fin 4) : S128x128.Slices ![4 + h.val, 0] S1x128 := by revert h; decide +kernel
theorem slOne (h : Fin 4) : S1x128.Slices ![0, 4 + h.val] S1x1 := by revert h; decide +kernel
theorem inO (c h : Fin 4) : ∀ a, (![128 * c.val, 128 * h.val] : Fin 2 → ℕ) a + S128x128.size a ≤ S512x512.size a := by
  revert c h; decide +kernel
theorem inS (h : Fin 4) : ∀ a, (![h.val, 0, 0] : Fin 3 → ℕ) a + S1x128x128.size a ≤ S4x128x128.size a := by
  revert h; decide +kernel

/-- The product of two square matrices. -/
def mm (x y : FVec F S128x128 .bf16) : FVec F S128x128 .f32 :=
  matmul dot_S128x128_S128x128_S128x128_1_0_0_1_n_n none x y (constant S128x128 .f32 0x00000000#32)
/-- A column on every lane. -/
abbrev bt (x : FVec F S128x1 .f32) : FVec F S128x128 .f32 := broadcastTo S128x128 x broadcasts_S128x1_S128x128
abbrev tb (x : FVec F S128x128 .f32) : FVec F S128x128 .bf16 := truncf .bf16 x bitsLt_bf16_f32
abbrev zeros : FVec F S128x128 .f32 := broadcast S128x128 (Scalar.ofBits .f32 0x00000000#32)

/-! ## The inverse -/

abbrev rowI : IVec S128x128 32 := iota .tc S128x128 32 [0] iota_S128x128_d0_w32
abbrev colI : IVec S128x128 32 := iota .tc S128x128 32 [1] iota_S128x128_d1_w32

/-- The quotient of each entry by `n`, rounded down. -/
def fdiv (x : IVec S128x128 32) (n : BitVec 32) : IVec S128x128 32 :=
  select (andi
      (cmpi .ne (subi (extui 32 (cmpi .sgt x (broadcast S128x128 0#32)) natLt_1_32) (extui 32 (cmpi .slt x (broadcast S128x128 0#32)) natLt_1_32))
        (broadcast S128x128 (Scalar.subi (Scalar.extui (Scalar.cmpi .sgt n 0#32)) (Scalar.extui (Scalar.cmpi .slt n 0#32)))))
      (cmpi .ne (remsi x (broadcast S128x128 n)) (broadcast S128x128 0#32)))
    (subi (divsi x (broadcast S128x128 n)) (broadcast S128x128 1#32)) (divsi x (broadcast S128x128 n))
/-- The remainder of each entry by `n`. -/
def fmod (x : IVec S128x128 32) (n : BitVec 32) : IVec S128x128 32 :=
  let n' : BitVec 32 := Scalar.select (Scalar.cmpi .eq n 0#32) 1#32 n
  let r : IVec S128x128 32 := remsi x (broadcast S128x128 n')
  select (andi (xori (cmpi .slt r (broadcast S128x128 0#32))
        (broadcastTo S128x128 (broadcast S128x128 (Scalar.cmpi .slt n' 0#32) : IVec S128x128 1) broadcasts_S128x128_S128x128))
      (cmpi .ne r (broadcast S128x128 0#32)))
    (addi r (broadcast S128x128 n')) r
/-- The entries that join the halves, of size `b`, of each block of size `n`. -/
def joins (n b : BitVec 32) : IVec S128x128 1 :=
  andi (andi (cmpi .eq (fdiv rowI n) (fdiv colI n)) (cmpi .sge (fmod rowI n) (broadcast S128x128 b)))
    (cmpi .slt (fmod colI n) (broadcast S128x128 b))
/-- The inverse of the blocks of size 2. -/
def inv0 (a : FVec F S128x128 .f32) : FVec F S128x128 .f32 := subf k0_pay7 (select (joins 2#32 1#32) a zeros)
/-- The inverse of the blocks of size `n` from that of their halves. -/
def invStep (n b : BitVec 32) (a x : FVec F S128x128 .f32) : FVec F S128x128 .f32 :=
  subf x (mm (tb (mm (tb x) (select (joins n b) (tb a) (broadcast S128x128 (Scalar.ofBits .bf16 0x0000#16))))) (tb x))
def inv (a : FVec F S128x128 .f32) : FVec F S128x128 .f32 :=
  invStep 128#32 64#32 a (invStep 64#32 32#32 a (invStep 32#32 16#32 a (invStep 16#32 8#32 a
    (invStep 8#32 4#32 a (invStep 4#32 2#32 a (inv0 a))))))

/-! ## One head of one chunk, before the state -/

/-- The decays up to each time of a chunk. -/
def gcum (g : FVec F S512x128 .f32) (c : Fin 4) : FVec F S128x128 .f32 :=
  matmul dot_S128x128_S128x128_S128x128_1_0_0_1_n_n (some .fp32) k0_pay8
    (extractStridedSlice S128x128 ![128 * c.val, 0] g (slR c)) (constant S128x128 .f32 0x00000000#32)
def glast (gc : FVec F S128x128 .f32) : FVec F S1x128 .f32 := extractStridedSlice S1x128 ![127, 0] gc slices_S128x128_o127_0_S1x128
/-- The inverse norm of each row. -/
def nrm (x : FVec F S128x128 .f32) : FVec F S128x1 .f32 :=
  rsqrt (addf (shapeCast S128x1 (multiReduction .add [1] S128 (mulf x x) 0x00000000#32 reduces_S128x128_S128 (.inl rfl) rfl) shapeCasts_S128_S128x1)
    (broadcast S128x1 (Scalar.ofBits .f32 0x358637BD#32)))
def qn (v0 : Vec F S512x1536 .f32) (c h : Fin 4) : FVec F S128x128 .f32 :=
  let x : FVec F S128x128 .f32 := extractStridedSlice S128x128 ![128 * c.val, 128 * h.val] v0 (slQ c h)
  mulf x (bt (mulf (nrm x) (broadcast S128x1 (Scalar.ofBits .f32 0x3DB504F3#32))))
def kn (v0 : Vec F S512x1536 .f32) (c h : Fin 4) : FVec F S128x128 .f32 :=
  let x : FVec F S128x128 .f32 := extractStridedSlice S128x128 ![128 * c.val, 512 + 128 * h.val] v0 (slK c h)
  mulf x (bt (nrm x))
def vn (v0 : Vec F S512x1536 .f32) (c h : Fin 4) : FVec F S128x128 .f32 :=
  extractStridedSlice S128x128 ![128 * c.val, 1024 + 128 * h.val] v0 (slV c h)
def bcol (be : FVec F S512x128 .f32) (c h : Fin 4) : FVec F S128x1 .f32 := extractStridedSlice S128x1 ![128 * c.val, h.val] be (slBeta c h)
def col (x : FVec F S128x128 .f32) (h : Fin 4) : FVec F S128x1 .f32 := extractStridedSlice S128x1 ![0, 4 + h.val] x (slCol h)
/-- The decay from each earlier time to each time. -/
def decay (gc : FVec F S128x128 .f32) (h : Fin 4) : FVec F S128x128 .f32 :=
  exp (select k0_pay5 (subf (bt (col gc h))
      (broadcastTo S128x128 (extractStridedSlice S1x128 ![4 + h.val, 0] (transpose S128x128 [1, 0] gc transposes_S128x128_p1_0_S128x128) (slRow h)) broadcasts_S1x128_S128x128))
    (broadcast S128x128 (Named.named κ "mask" 0xF149F2CA#32)))
/-- The products of the queries and of the keys with the keys. -/
def qkkk (q k : FVec F S128x128 .f32) : FVec F S256x128 .f32 :=
  matmul dot_S256x128_S128x128_S256x128_1_1_0_0_n_n none
    (concatenate S256x128 0 [⟨S128x128, tb q⟩, ⟨S128x128, tb k⟩] concatenates_S128x128_S128x128_S256x128_d0) (tb k)
    (constant S256x128 .f32 0x00000000#32)
def qkM (q k d : FVec F S128x128 .f32) : FVec F S128x128 .bf16 :=
  tb (select k0_pay5 (mulf (extractStridedSlice S128x128 ![0, 0] (qkkk q k) slices_S256x128_o0_0_S128x128) d) zeros)
def aM (q k d : FVec F S128x128 .f32) (b : FVec F S128x1 .f32) : FVec F S128x128 .f32 :=
  mulf (select k0_pay6 (mulf (extractStridedSlice S128x128 ![128, 0] (qkkk q k) slices_S256x128_o128_0_S128x128) d) zeros) (bt b)
def rhs (k v : FVec F S128x128 .f32) (b e : FVec F S128x1 .f32) : FVec F S128x256 .bf16 :=
  truncf .bf16 (concatenate S128x256 1 [⟨S128x128, mulf v (bt b)⟩, ⟨S128x128, mulf k (bt (mulf b e))⟩]
    concatenates_S128x128_S128x128_S128x256_d1) bitsLt_bf16_f32

variable (v0 : Vec F S512x1536 .f32) (be g : FVec F S512x128 .f32) (hn : FVec F S1x128 .f32) (zR : Vec F S512x512 .f32)
  (c h : Fin 4)

def qk : FVec F S128x128 .bf16 := qkM (qn v0 c h) (kn v0 c h) (decay (gcum g c) h)
/-- The corrections before the state, and what the state's part multiplies. -/
def uw : FVec F S128x256 .f32 :=
  matmul dot_S128x128_S128x256_S128x256_1_0_0_1_n_n none
    (tb (inv (aM (qn v0 c h) (kn v0 c h) (decay (gcum g c) h) (bcol be c h))))
    (rhs (kn v0 c h) (vn v0 c h) (bcol be c h) (col (exp (gcum g c)) h)) (constant S128x256 .f32 0x00000000#32)
def qdec : FVec F S128x128 .bf16 := tb (mulf (qn v0 c h) (bt (col (exp (gcum g c)) h)))
def kdec : FVec F S128x128 .bf16 :=
  tb (mulf (kn v0 c h) (bt (col (exp (subf (broadcastTo S128x128 (glast (gcum g c)) broadcasts_S1x128_S128x128) (gcum g c))) h)))
def keep : FVec F S1x1 .f32 := extractStridedSlice S1x1 ![0, 4 + h.val] (exp (glast (gcum g c))) (slOne h)

/-! ## With the state -/

def st (s : Vec F S1x128x128 .f32) : FVec F S128x128 .f32 := shapeCast S128x128 s shapeCasts_S1x128x128_S128x128
variable (s : Vec F S1x128x128 .f32)
def wq : FVec F S256x128 .f32 :=
  matmul dot_S256x128_S128x128_S256x128_1_0_0_1_n_n none
    (concatenate S256x128 0 [⟨S128x128, tb (extractStridedSlice S128x128 ![0, 128] (uw v0 be g c h) slices_S128x256_o0_128_S128x128)⟩,
      ⟨S128x128, qdec v0 g c h⟩] concatenates_S128x128_S128x128_S256x128_d0) (tb (st s)) (constant S256x128 .f32 0x00000000#32)
/-- The corrections. -/
def vb : FVec F S128x128 .bf16 :=
  tb (subf (extractStridedSlice S128x128 ![0, 0] (uw v0 be g c h) slices_S128x256_o0_0_S128x128)
    (extractStridedSlice S128x128 ![0, 0] (wq v0 be g c h s) slices_S256x128_o0_0_S128x128))
/-- The output before its norm. -/
def out : FVec F S128x128 .f32 :=
  addf (extractStridedSlice S128x128 ![128, 0] (wq v0 be g c h s) slices_S256x128_o128_0_S128x128) (mm (qk v0 g c h) (vb v0 be g c h s))
/-- The state after the chunk. -/
def stNew : FVec F S1x128x128 .f32 :=
  shapeCast S1x128x128 (addf (mulf (st s) (broadcastTo S128x128 (keep g c h) broadcasts_S1x1_S128x128))
    (matmul dot_S128x128_S128x128_S128x128_0_0_1_1_n_n none (kdec v0 g c h) (vb v0 be g c h s) (constant S128x128 .f32 0x00000000#32)))
    shapeCasts_S128x128_S1x128x128
def zP : Vec F S128x128 .f32 := View.ld zR (Rect.unit (s := S512x512) ![128 * c.val, 128 * h.val] S128x128.size (inO c h))
/-- The stored output from the output before its norm. -/
def fin (x z : FVec F S128x128 .f32) : FVec F S128x128 .bf16 :=
  tb (mulf (mulf (mulf x (bt (rsqrt (addf (divf
      (shapeCast S128x1 (multiReduction .add [1] S128 (mulf x x) 0x00000000#32 reduces_S128x128_S128 (.inl rfl) rfl) shapeCasts_S128_S128x1)
      (broadcast S128x1 (Scalar.ofBits .f32 0x43000000#32))) (broadcast S128x1 (Scalar.ofBits .f32 0x358637BD#32))))))
    (broadcastTo S128x128 hn broadcasts_S1x128_S128x128)) (mulf z (logistic z)))
def res : FVec F S128x128 .bf16 := fin hn (out v0 be g c h s) (zP zR c h)

end Cert.Kernel7Ideal.Blk
-- ==== Proof.GdnRun.lean ====
module

public import proofs.«01_k».proof.Proof.GdnBlock

/-! # The gated delta rule's stores, generically

The body takes the chunks in turn and in each the heads in turn: it reads the head's state, stores the head's output,
and stores the state after the chunk. At the first block of a sequence (case A) it clears the state before. -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

/-- The stores of the output and of the state so far, the last one first. -/
abbrev Stores (F : FTy → Type) [FloatOps F] : Type :=
  List (View.Piece (Elt F) S512x512 .bf16) × List (View.Piece (Elt F) S4x128x128 .f32)
/-- How the state of a head is read after some stores. -/
abbrev Reader (F : FTy → Type) [FloatOps F] : Type :=
  List (View.Piece (Elt F) S4x128x128 .f32) → Fin 4 → Vec F S1x128x128 .f32

variable (v0 : Vec F S512x1536 .f32) (be g : FVec F S512x128 .f32) (hn : FVec F S1x128 .f32) (zR : Vec F S512x512 .f32)

/-- One head of one chunk. -/
def step (rd : Reader F) (c h : Fin 4) (L : Stores F) : Stores F :=
  (⟨Rect.unit (s := S512x512) ![128 * c.val, 128 * h.val] S128x128.size (inO c h), res v0 be g hn zR c h (rd L.2 h)⟩ :: L.1,
   ⟨Rect.unit (s := S4x128x128) ![h.val, 0, 0] S1x128x128.size (inS h), stNew v0 be g c h (rd L.2 h)⟩ :: L.2)
/-- One chunk. -/
def chunk (rd : Reader F) (c : Fin 4) (L : Stores F) : Stores F :=
  step v0 be g hn zR rd c 3 (step v0 be g hn zR rd c 2 (step v0 be g hn zR rd c 1 (step v0 be g hn zR rd c 0 L)))
/-- The weights and the decays of a block. -/
def gate (v4 : Vec F S512x128 .f32) (v6 v11 : Vec F S1x128 .f32) : FVec F S512x128 .f32 := k0_pay4 v4 v6 v11

/-- The store that clears the state. -/
def zeroStore : List (View.Piece (Elt F) S4x128x128 .f32) :=
  [⟨Rect.unit (s := S4x128x128) ![0, 0, 0] S4x128x128.size inb_S4x128x128_S4x128x128_0_0_0, k0_pay2⟩]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

/-- The chunk `k` of the body, from its buffers. -/
def chunkAt (rd : Reader F) (k : Fin 4) (L : Stores F) : Stores F :=
  chunk
    (View.readAt (Elt F) arg2.view (Rect.unit (s := S512x1536) ![0, 0] S512x1536.size inb_S512x1536_S512x1536_0_0).toLoadRect (harg2.unread x0))
    (k0_pay3 (View.readAt (Elt F) arg4.view (Rect.unit (s := S512x128) ![0, 0] S512x128.size inb_S512x128_S512x128_0_0).toLoadRect (harg4.unread x2)))
    (gate (View.readAt (Elt F) arg4.view (Rect.unit (s := S512x128) ![0, 0] S512x128.size inb_S512x128_S512x128_0_0).toLoadRect (harg4.unread x2))
      (View.readAt (Elt F) arg5.view (Rect.unit (s := S1x128) ![0, 0] S1x128.size inb_S1x128_S1x128_0_0).toLoadRect (harg5.unread x3))
      (View.readAt (Elt F) arg6.view (Rect.unit (s := S1x128) ![0, 0] S1x128.size inb_S1x128_S1x128_0_0).toLoadRect (harg6.unread x4)))
    (k0_pay9 (View.readAt (Elt F) arg7.view (Rect.unit (s := S1x128) ![0, 0] S1x128.size inb_S1x128_S1x128_0_0).toLoadRect (harg7.unread x5)))
    (arg3.view.read (Elt F) (harg3.unread x1)) rd k L

/-- How the body reads a head's state: from the stores, or from the state the block found. -/
abbrev rdS : Reader F := fun L h => arg9.view.readCov L (Rect.unit (s := S4x128x128) ![h.val, 0, 0] S1x128x128.size (inS h)).toLoadRect
abbrev rdX : Reader F := fun _ h => View.readAt (Elt F) arg9.view (Rect.unit (s := S4x128x128) ![h.val, 0, 0] S1x128x128.size (inS h)).toLoadRect (harg9.unread xs0)

end

end Cert.Kernel7Ideal.Blk
-- ==== Proof.GdnRunA.lean ====
module

public import proofs.«01_k».proof.Proof.GdnRun

/-! # The state's stores at a sequence's first block are the generic ones -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

set_option maxHeartbeats 20000000

theorem scrA_5 : (kernelRun0_A.sl.HS0_5 c arg2 harg2 arg4 harg4 arg5 harg5 arg6 harg6 arg9 x0 x2 x3 x4) = (chunkAt
    arg2 harg2 arg3 harg3 arg4 harg4 arg5 harg5 arg6 harg6 arg7 harg7 x0 x1 x2 x3 x4 x5 (rdS arg9) 0 ([],
    zeroStore)).2 := rfl
theorem scrA_9 : (kernelRun0_A.sl.HS0_9 c arg2 harg2 arg4 harg4 arg5 harg5 arg6 harg6 arg9 x0 x2 x3 x4) = (chunkAt
    arg2 harg2 arg3 harg3 arg4 harg4 arg5 harg5 arg6 harg6 arg7 harg7 x0 x1 x2 x3 x4 x5 (rdS arg9) 1 ([],
    (kernelRun0_A.sl.HS0_5 c arg2 harg2 arg4 harg4 arg5 harg5 arg6 harg6 arg9 x0 x2 x3 x4))).2 := rfl
theorem scrA_13 : (kernelRun0_A.sl.HS0_13 c arg2 harg2 arg4 harg4 arg5 harg5 arg6 harg6 arg9 x0 x2 x3 x4) = (chunkAt
    arg2 harg2 arg3 harg3 arg4 harg4 arg5 harg5 arg6 harg6 arg7 harg7 x0 x1 x2 x3 x4 x5 (rdS arg9) 2 ([],
    (kernelRun0_A.sl.HS0_9 c arg2 harg2 arg4 harg4 arg5 harg5 arg6 harg6 arg9 x0 x2 x3 x4))).2 := rfl
theorem scrA_17 (hc0 : cond0_0 i) : (kernelRun0_A c i arg2 harg2 arg3 harg3 arg4 harg4 arg5 harg5 arg6 harg6 arg7
    harg7 arg8 harg8 arg9 harg9 hc0 x0 x1 x2 x3 x4 x5).2.1 = (chunkAt arg2 harg2 arg3 harg3 arg4 harg4 arg5 harg5 arg6
    harg6 arg7 harg7 x0 x1 x2 x3 x4 x5 (rdS arg9) 3 ([], (kernelRun0_A.sl.HS0_13 c arg2 harg2 arg4 harg4 arg5 harg5
    arg6 harg6 arg9 x0 x2 x3 x4))).2 := rfl

end

end Cert.Kernel7Ideal.Blk
-- ==== Proof.GdnRunB.lean ====
module

public import proofs.«01_k».proof.Proof.GdnRun

/-! # The state's stores at a sequence's later blocks are the generic ones -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

set_option maxHeartbeats 20000000

theorem scrB_4 : (kernelRun0_B.sl.HS0_4 c arg2 harg2 arg4 harg4 arg5 harg5 arg6 harg6 arg9 harg9 x0 x2 x3 x4 xs0) =
    (chunkAt arg2 harg2 arg3 harg3 arg4 harg4 arg5 harg5 arg6 harg6 arg7 harg7 x0 x1 x2 x3 x4 x5 (rdX arg9 harg9 xs0)
    0 ([], [])).2 := rfl
theorem scrB_8 : (kernelRun0_B.sl.HS0_8 c arg2 harg2 arg4 harg4 arg5 harg5 arg6 harg6 arg9 harg9 x0 x2 x3 x4 xs0) =
    (chunkAt arg2 harg2 arg3 harg3 arg4 harg4 arg5 harg5 arg6 harg6 arg7 harg7 x0 x1 x2 x3 x4 x5 (rdS arg9) 1 ([],
    (kernelRun0_B.sl.HS0_4 c arg2 harg2 arg4 harg4 arg5 harg5 arg6 harg6 arg9 harg9 x0 x2 x3 x4 xs0))).2 := rfl
theorem scrB_12 : (kernelRun0_B.sl.HS0_12 c arg2 harg2 arg4 harg4 arg5 harg5 arg6 harg6 arg9 harg9 x0 x2 x3 x4 xs0) =
    (chunkAt arg2 harg2 arg3 harg3 arg4 harg4 arg5 harg5 arg6 harg6 arg7 harg7 x0 x1 x2 x3 x4 x5 (rdS arg9) 2 ([],
    (kernelRun0_B.sl.HS0_8 c arg2 harg2 arg4 harg4 arg5 harg5 arg6 harg6 arg9 harg9 x0 x2 x3 x4 xs0))).2 := rfl
theorem scrB_16 (hc0 : ¬cond0_0 i) : (kernelRun0_B c i arg2 harg2 arg3 harg3 arg4 harg4 arg5 harg5 arg6 harg6 arg7
    harg7 arg8 harg8 arg9 harg9 hc0 x0 x1 x2 x3 x4 x5 xs0).2.1 = (chunkAt arg2 harg2 arg3 harg3 arg4 harg4 arg5 harg5
    arg6 harg6 arg7 harg7 x0 x1 x2 x3 x4 x5 (rdS arg9) 3 ([], (kernelRun0_B.sl.HS0_12 c arg2 harg2 arg4 harg4 arg5
    harg5 arg6 harg6 arg9 harg9 x0 x2 x3 x4 xs0))).2 := rfl

end

end Cert.Kernel7Ideal.Blk
-- ==== Proof.GdnRunAO.lean ====
module

public import proofs.«01_k».proof.Proof.GdnRun

/-! # The output's stores at a sequence's first block are the generic ones -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

set_option maxHeartbeats 20000000

theorem outA_17 (hc0 : cond0_0 i) : (kernelRun0_A c i arg2 harg2 arg3 harg3 arg4 harg4 arg5 harg5 arg6 harg6 arg7
    harg7 arg8 harg8 arg9 harg9 hc0 x0 x1 x2 x3 x4 x5).1 = (chunkAt arg2 harg2 arg3 harg3 arg4 harg4 arg5 harg5 arg6
    harg6 arg7 harg7 x0 x1 x2 x3 x4 x5 (rdS arg9) 3 ([], (kernelRun0_A.sl.HS0_13 c arg2 harg2 arg4 harg4 arg5 harg5
    arg6 harg6 arg9 x0 x2 x3 x4))).1 ++ ((chunkAt arg2 harg2 arg3 harg3 arg4 harg4 arg5 harg5 arg6 harg6 arg7 harg7 x0
    x1 x2 x3 x4 x5 (rdS arg9) 2 ([], (kernelRun0_A.sl.HS0_9 c arg2 harg2 arg4 harg4 arg5 harg5 arg6 harg6 arg9 x0 x2
    x3 x4))).1 ++ ((chunkAt arg2 harg2 arg3 harg3 arg4 harg4 arg5 harg5 arg6 harg6 arg7 harg7 x0 x1 x2 x3 x4 x5 (rdS
    arg9) 1 ([], (kernelRun0_A.sl.HS0_5 c arg2 harg2 arg4 harg4 arg5 harg5 arg6 harg6 arg9 x0 x2 x3 x4))).1 ++
    (chunkAt arg2 harg2 arg3 harg3 arg4 harg4 arg5 harg5 arg6 harg6 arg7 harg7 x0 x1 x2 x3 x4 x5 (rdS arg9) 0 ([],
    zeroStore)).1)) := rfl

end

end Cert.Kernel7Ideal.Blk
-- ==== Proof.GdnRunBO.lean ====
module

public import proofs.«01_k».proof.Proof.GdnRun

/-! # The output's stores at a sequence's later blocks are the generic ones -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

set_option maxHeartbeats 20000000

theorem outB_16 (hc0 : ¬cond0_0 i) : (kernelRun0_B c i arg2 harg2 arg3 harg3 arg4 harg4 arg5 harg5 arg6 harg6 arg7
    harg7 arg8 harg8 arg9 harg9 hc0 x0 x1 x2 x3 x4 x5 xs0).1 = (chunkAt arg2 harg2 arg3 harg3 arg4 harg4 arg5 harg5
    arg6 harg6 arg7 harg7 x0 x1 x2 x3 x4 x5 (rdS arg9) 3 ([], (kernelRun0_B.sl.HS0_12 c arg2 harg2 arg4 harg4 arg5
    harg5 arg6 harg6 arg9 harg9 x0 x2 x3 x4 xs0))).1 ++ ((chunkAt arg2 harg2 arg3 harg3 arg4 harg4 arg5 harg5 arg6
    harg6 arg7 harg7 x0 x1 x2 x3 x4 x5 (rdS arg9) 2 ([], (kernelRun0_B.sl.HS0_8 c arg2 harg2 arg4 harg4 arg5 harg5
    arg6 harg6 arg9 harg9 x0 x2 x3 x4 xs0))).1 ++ ((chunkAt arg2 harg2 arg3 harg3 arg4 harg4 arg5 harg5 arg6 harg6
    arg7 harg7 x0 x1 x2 x3 x4 x5 (rdS arg9) 1 ([], (kernelRun0_B.sl.HS0_4 c arg2 harg2 arg4 harg4 arg5 harg5 arg6
    harg6 arg9 harg9 x0 x2 x3 x4 xs0))).1 ++ (chunkAt arg2 harg2 arg3 harg3 arg4 harg4 arg5 harg5 arg6 harg6 arg7
    harg7 x0 x1 x2 x3 x4 x5 (rdX arg9 harg9 xs0) 0 ([], [])).1)) := rfl

end

end Cert.Kernel7Ideal.Blk
-- ==== Proof.GdnVal.lean ====
module

public import proofs.«01_k».proof.Proof.GdnRun
public import Idealize.ShloMosaic.Lib.Pipeline.CanonAppend
public import Idealize.ShloMosaic.Lib.Pointwise
public import Idealize.ShloMosaic.Lib.ValueIdx

/-! # What the four chunks of a block leave, as functions of what the block reads -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

theorem hz2 : (![0, 0] : Fin 2 → ℕ) = fun _ => 0 := by decide
theorem hz3 : (![0, 0, 0] : Fin 3 → ℕ) = fun _ => 0 := by decide

/-- The states of the heads. -/
abbrev Heads (F : FTy → Type) [FloatOps F] : Type := Fin 4 → Vec F S1x128x128 .f32
/-- The states of the heads in the state array. -/
def stG (xs : Vec F S4x128x128 .f32) : Heads F := fun h =>
  View.ld xs (Rect.unit (s := S4x128x128) ![h.val, 0, 0] S1x128x128.size (inS h))
/-- The cleared state. -/
def zeroSt : Vec F S4x128x128 .f32 := k0_pay2

variable (v0 : Vec F S512x1536 .f32) (be g : FVec F S512x128 .f32) (hn : FVec F S1x128 .f32) (zR : Vec F S512x512 .f32)

/-- A head's store of the state, and the chunk's stores from the states that it reads. -/
abbrev sW (h : Fin 4) (w : Vec F S1x128x128 .f32) : View.Piece (Elt F) S4x128x128 .f32 :=
  ⟨Rect.unit (s := S4x128x128) ![h.val, 0, 0] S1x128x128.size (inS h), w⟩
def oP (c : Fin 4) (σ : Heads F) (h : Fin 4) : View.Piece (Elt F) S512x512 .bf16 :=
  ⟨Rect.unit (s := S512x512) ![128 * c.val, 128 * h.val] S128x128.size (inO c h), res v0 be g hn zR c h (σ h)⟩
def sP (c : Fin 4) (σ : Heads F) (h : Fin 4) : View.Piece (Elt F) S4x128x128 .f32 := sW h (stNew v0 be g c h (σ h))
def outs (c : Fin 4) (σ : Heads F) : List (View.Piece (Elt F) S512x512 .bf16) := [3, 2, 1, 0].map (oP v0 be g hn zR c σ)
def sts (c : Fin 4) (σ : Heads F) : List (View.Piece (Elt F) S4x128x128 .f32) := [3, 2, 1, 0].map (sP v0 be g c σ)
/-- The states before chunk `n`. -/
def bef (σ : Heads F) : ℕ → Heads F
  | 0 => σ
  | n + 1 => fun h => stNew v0 be g (Fin.ofNat 4 n) h (bef σ n h)

/-- A store of one head's state leaves the others' as they were. -/
def Apart (rd : Reader F) : Prop := ∀ (L : List (View.Piece (Elt F) S4x128x128 .f32)) (h h' : Fin 4) (w : Vec F S1x128x128 .f32),
  h ≠ h' → rd (sW h' w :: L) h = rd L h

theorem step_eq {rd : Reader F} {c h : Fin 4} {L : Stores F} {σ : Heads F} (e : rd L.2 h = σ h) :
    step v0 be g hn zR rd c h L = (oP v0 be g hn zR c σ h :: L.1, sP v0 be g c σ h :: L.2) := by
  unfold step oP sP
  rw [e]

theorem chunk_eq {rd : Reader F} (ha : Apart rd) {c : Fin 4} {L : Stores F} {σ : Heads F} (e : ∀ h, rd L.2 h = σ h) :
    chunk v0 be g hn zR rd c L = (outs v0 be g hn zR c σ ++ L.1, sts v0 be g c σ ++ L.2) := by
  unfold chunk
  rw [step_eq v0 be g hn zR (e 0), step_eq v0 be g hn zR (σ := σ) (h := 1) ((ha _ _ _ _ (by decide)).trans (e 1)),
    step_eq v0 be g hn zR (σ := σ) (h := 2) ((ha _ _ _ _ (by decide)).trans ((ha _ _ _ _ (by decide)).trans (e 2))),
    step_eq v0 be g hn zR (σ := σ) (h := 3)
      ((ha _ _ _ _ (by decide)).trans ((ha _ _ _ _ (by decide)).trans ((ha _ _ _ _ (by decide)).trans (e 3))))]
  rfl

section
variable (arg9 : Memref sig .tc .vmem S4x128x128 .f32)

theorem apart_rdS : Apart (F := F) (rdS arg9) := fun L h h' w ne =>
  View.readCov_cons_of_disjoint _ _ _ _ (Rect.unit_disjoint (inb := inS h') (inb' := inS h) 0 (by
    show h'.val + 1 ≤ h.val ∨ h.val + 1 ≤ h'.val
    have : h.val ≠ h'.val := fun e => ne (Fin.ext e)
    omega))
theorem rdS_self (L : List (View.Piece (Elt F) S4x128x128 .f32)) (h : Fin 4) (w : Vec F S1x128x128 .f32) : rdS arg9 (sW h w :: L) h = w :=
  View.readCov_cons_toLoadRect _ _ _ _

theorem rdS_sts (c : Fin 4) (σ : Heads F) (L : List (View.Piece (Elt F) S4x128x128 .f32)) (h : Fin 4) :
    rdS arg9 (sts v0 be g c σ ++ L) h = stNew v0 be g c h (σ h) := by
  have A := apart_rdS (F := F) arg9
  match h with
  | 3 => exact rdS_self _ _ _ _
  | 2 => exact (A _ _ _ _ (by decide)).trans (rdS_self _ _ _ _)
  | 1 => exact (A _ _ _ _ (by decide)).trans ((A _ _ _ _ (by decide)).trans (rdS_self _ _ _ _))
  | 0 => exact (A _ _ _ _ (by decide)).trans ((A _ _ _ _ (by decide)).trans ((A _ _ _ _ (by decide)).trans (rdS_self _ _ _ _)))

theorem rdS_zero (h : Fin 4) : rdS arg9 (zeroStore (F := F)) h = stG zeroSt h := by
  refine (View.readCov_eq_canon_ld _ _ _ (fun y => ⟨_, List.mem_cons_self,
    View.mem_set_unit_zero hz3 inb_S4x128x128_S4x128x128_0_0_0 y⟩)).trans ?_
  unfold stG zeroSt
  rw [View.canon_unit_zero hz3]

theorem rdX_eq (harg9 : arg9.IsWhole) (xs : Vec F S4x128x128 .f32) (L : List (View.Piece (Elt F) S4x128x128 .f32)) (h : Fin 4) :
    rdX arg9 harg9 xs L h = stG xs h := by
  show View.readAt (Elt F) _ _ _ = _
  rw [View.readAt_eq_ld, harg9.read_unread]
  rfl

/-- The block's stores, the last first. -/
def outL (σ : Heads F) : List (View.Piece (Elt F) S512x512 .bf16) :=
  outs v0 be g hn zR 3 (bef v0 be g σ 3) ++ (outs v0 be g hn zR 2 (bef v0 be g σ 2) ++ (outs v0 be g hn zR 1 (bef v0 be g σ 1)
    ++ outs v0 be g hn zR 0 (bef v0 be g σ 0)))

theorem stores_eq {rd0 : Reader F} (ha : Apart rd0) {base : List (View.Piece (Elt F) S4x128x128 .f32)} {σ : Heads F}
    (e : ∀ h, rd0 base h = σ h) {s1 s2 s3 : List (View.Piece (Elt F) S4x128x128 .f32)}
    (e1 : s1 = (chunk v0 be g hn zR rd0 0 ([], base)).2) (e2 : s2 = (chunk v0 be g hn zR (rdS arg9) 1 ([], s1)).2)
    (e3 : s3 = (chunk v0 be g hn zR (rdS arg9) 2 ([], s2)).2) :
    (chunk v0 be g hn zR (rdS arg9) 3 ([], s3)).1 ++ ((chunk v0 be g hn zR (rdS arg9) 2 ([], s2)).1
        ++ ((chunk v0 be g hn zR (rdS arg9) 1 ([], s1)).1 ++ (chunk v0 be g hn zR rd0 0 ([], base)).1)) = outL v0 be g hn zR σ
      ∧ ∃ L, (chunk v0 be g hn zR (rdS arg9) 3 ([], s3)).2 = sts v0 be g 3 (bef v0 be g σ 3) ++ L := by
  have A := apart_rdS (F := F) arg9
  have c0 := chunk_eq v0 be g hn zR ha (c := 0) (L := ([], base)) e
  rw [c0] at e1
  have c1 := chunk_eq v0 be g hn zR A (c := 1) (L := ([], s1)) (σ := bef v0 be g σ 1) fun h => by
    rw [e1]
    exact rdS_sts v0 be g arg9 0 _ _ h
  rw [c1] at e2
  have c2 := chunk_eq v0 be g hn zR A (c := 2) (L := ([], s2)) (σ := bef v0 be g σ 2) fun h => by
    rw [e2]
    exact rdS_sts v0 be g arg9 1 _ _ h
  rw [c2] at e3
  have c3 := chunk_eq v0 be g hn zR A (c := 3) (L := ([], s3)) (σ := bef v0 be g σ 3) fun h => by
    rw [e3]
    exact rdS_sts v0 be g arg9 2 _ _ h
  rw [c0, c1, c2, c3]
  refine ⟨?_, s3, rfl⟩
  simp only [List.append_nil]
  rfl
end

/-- The block's output, and the state after the block. -/
def outBlk (σ : Heads F) : Vec F S512x512 .bf16 := fun j =>
  have h0 : (j 0).val < 512 := (j 0).isLt
  have h1 : (j 1).val < 512 := (j 1).isLt
  res v0 be g hn zR ⟨(j 0).val / 128, by omega⟩ ⟨(j 1).val / 128, by omega⟩ (bef v0 be g σ ((j 0).val / 128) ⟨(j 1).val / 128, by omega⟩)
    (ix2 ⟨(j 0).val % 128, Nat.mod_lt _ (by decide)⟩ ⟨(j 1).val % 128, Nat.mod_lt _ (by decide)⟩)
def scrBlk (σ : Heads F) : Vec F S4x128x128 .f32 := fun j => bef v0 be g σ 4 (j 0) (ix3 0 (j 1) (j 2))

theorem mem_heads : ∀ q : Fin 4, q ∈ ([3, 2, 1, 0] : List (Fin 4)) := by decide

theorem mem_outL (σ : Heads F) (p : View.Piece (Elt F) S512x512 .bf16) :
    p ∈ outL v0 be g hn zR σ ↔ ∃ c h : Fin 4, p = oP v0 be g hn zR c (bef v0 be g σ c.val) h := by
  have m : ∀ (c : Fin 4), p ∈ outs v0 be g hn zR c (bef v0 be g σ c.val) ↔ ∃ h, p = oP v0 be g hn zR c (bef v0 be g σ c.val) h := fun c =>
    ⟨fun hp => (List.mem_map.mp hp).elim fun h e => ⟨h, e.2.symm⟩, fun ⟨h, e⟩ => e ▸ List.mem_map_of_mem (mem_heads h)⟩
  have a : p ∈ outL v0 be g hn zR σ ↔ _ := (List.mem_append.trans (or_congr (m 3) (List.mem_append.trans (or_congr (m 2)
    (List.mem_append.trans (or_congr (m 1) (m 0)))))))
  rw [a]
  constructor
  · rintro (h | h | h | h)
    exacts [⟨3, h⟩, ⟨2, h⟩, ⟨1, h⟩, ⟨0, h⟩]
  · rintro ⟨c, h⟩
    match c with
    | 0 => exact .inr (.inr (.inr h))
    | 1 => exact .inr (.inr (.inl h))
    | 2 => exact .inr (.inl h)
    | 3 => exact .inl h

theorem canon_out (σ : Heads F) : View.canon (outL v0 be g hn zR σ) = outBlk v0 be g hn zR σ := by
  funext y
  refine View.canon_apply_of_pieces _ _ (fun p hp x => ?_) y ?_
  · obtain ⟨c, h, rfl⟩ := (mem_outL v0 be g hn zR σ p).mp hp
    have h0 : ((oP v0 be g hn zR c (bef v0 be g σ c.val) h).1.emb x 0).val = 128 * c.val + (x 0).val := by
      show 128 * c.val + 1 * (x 0).val = _; omega
    have h1 : ((oP v0 be g hn zR c (bef v0 be g σ c.val) h).1.emb x 1).val = 128 * h.val + (x 1).val := by
      show 128 * h.val + 1 * (x 1).val = _; omega
    have hx0 : (x 0).val < 128 := (x 0).isLt
    have hx1 : (x 1).val < 128 := (x 1).isLt
    have key : ∀ (n : ℕ) (c' h' : Fin 4) (j : S128x128.Idx), n = c.val → c' = c → h' = h → j = x →
        res v0 be g hn zR c h (bef v0 be g σ c.val h) x = res v0 be g hn zR c' h' (bef v0 be g σ n h') j := by
      rintro _ _ _ _ rfl rfl rfl rfl; rfl
    refine key _ _ _ _ ?_ (Fin.ext ?_) (Fin.ext ?_) (funext fun a => ?_)
    · omega
    · show ((oP v0 be g hn zR c (bef v0 be g σ c.val) h).1.emb x 0).val / 128 = c.val
      omega
    · show ((oP v0 be g hn zR c (bef v0 be g σ c.val) h).1.emb x 1).val / 128 = h.val
      omega
    · match a with
      | ⟨0, _⟩ =>
        refine Fin.ext ?_
        show ((oP v0 be g hn zR c (bef v0 be g σ c.val) h).1.emb x 0).val % 128 = (x 0).val
        omega
      | ⟨1, _⟩ =>
        refine Fin.ext ?_
        show ((oP v0 be g hn zR c (bef v0 be g σ c.val) h).1.emb x 1).val % 128 = (x 1).val
        omega
  · have h0 : (y 0).val < 512 := (y 0).isLt
    have h1 : (y 1).val < 512 := (y 1).isLt
    refine ⟨_, (mem_outL v0 be g hn zR σ _).mpr ⟨⟨(y 0).val / 128, by omega⟩, ⟨(y 1).val / 128, by omega⟩, rfl⟩, ?_⟩
    refine (Rect.mem_set_unit (inb := inO _ _)).mpr fun a => ?_
    match a with
    | ⟨0, _⟩ =>
      show 128 * ((y 0).val / 128) ≤ (y 0).val ∧ (y 0).val < 128 * ((y 0).val / 128) + 128
      omega
    | ⟨1, _⟩ =>
      show 128 * ((y 1).val / 128) ≤ (y 1).val ∧ (y 1).val < 128 * ((y 1).val / 128) + 128
      omega

theorem canon_scr (σ : Heads F) (L' : List (View.Piece (Elt F) S4x128x128 .f32)) :
    View.canon (sts v0 be g 3 (bef v0 be g σ 3) ++ L') = scrBlk v0 be g σ := by
  funext y
  refine View.canon_append_of_pieces _ _ _ (fun p hp x => ?_) y ?_
  · obtain ⟨h, -, rfl⟩ := List.mem_map.mp hp
    have key : ∀ (h' : Fin 4) (j : S1x128x128.Idx), h' = h → j = x →
        stNew v0 be g 3 h (bef v0 be g σ 3 h) x = stNew v0 be g 3 h' (bef v0 be g σ 3 h') j := by
      rintro _ _ rfl rfl; rfl
    have hx0 : (x 0).val < 1 := (x 0).isLt
    refine key _ _ (Fin.ext ?_) (funext fun a => ?_)
    · show h.val + 1 * (x 0).val = h.val
      omega
    · match a with
      | ⟨0, _⟩ => refine Fin.ext ?_; show 0 = (x 0).val; omega
      | ⟨1, _⟩ => refine Fin.ext ?_; show 0 + 1 * (x 1).val = (x 1).val; omega
      | ⟨2, _⟩ => refine Fin.ext ?_; show 0 + 1 * (x 2).val = (x 2).val; omega
  · refine ⟨sP v0 be g 3 (bef v0 be g σ 3) (y 0), List.mem_map_of_mem (mem_heads (y 0)), ?_⟩
    refine (Rect.mem_set_unit (inb := inS _)).mpr fun a => ?_
    match a with
    | ⟨0, _⟩ => show (y 0).val ≤ (y 0).val ∧ (y 0).val < (y 0).val + 1; omega
    | ⟨1, _⟩ => exact ⟨Nat.zero_le _, (by have := (y 1).isLt; simpa using this)⟩
    | ⟨2, _⟩ => exact ⟨Nat.zero_le _, (by have := (y 2).isLt; simpa using this)⟩

end Cert.Kernel7Ideal.Blk
-- ==== Proof.GdnOut.lean ====
module

public import proofs.«01_k».proof.Proof.GdnRunA
public import proofs.«01_k».proof.Proof.GdnRunB
public import proofs.«01_k».proof.Proof.GdnRunAO
public import proofs.«01_k».proof.Proof.GdnRunBO
public import proofs.«01_k».proof.Proof.GdnVal

/-! # What one grid point of the gated delta rule leaves, as functions of what it reads -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem

variable {F : FTy → Type} [FloatOps F] [Named F]

/-- A load of a whole buffer reads its contents. -/
theorem readAt_whole {S : Shape} {e : EltTy} {off : Fin S.rank → ℕ} (hz : off = fun _ => 0)
    (a : Memref sig .tc .vmem S e) (h : a.IsWhole) (inb) (x : Vec F S e) :
    View.readAt (Elt F) a.view (Rect.unit (s := S) off S.size inb).toLoadRect (h.unread x) = x := by
  rw [View.readAt_eq_ld, h.read_unread, View.ld_unit_zero hz]

section
variable (c : Dev nD) (i : grid0.Coords) (arg2 : Memref sig .tc .vmem S512x1536 .f32) (harg2 : arg2.IsWhole) (arg3 :
  Memref sig .tc .vmem S512x512 .f32) (harg3 : arg3.IsWhole) (arg4 : Memref sig .tc .vmem S512x128 .f32) (harg4
  : arg4.IsWhole) (arg5 : Memref sig .tc .vmem S1x128 .f32) (harg5 : arg5.IsWhole) (arg6 : Memref sig .tc .vmem
  S1x128 .f32) (harg6 : arg6.IsWhole) (arg7 : Memref sig .tc .vmem S1x128 .f32) (harg7 : arg7.IsWhole) (arg8 :
  Memref sig .tc .vmem S512x512 .bf16) (harg8 : arg8.IsWhole) (arg9 : Memref sig .tc .vmem S4x128x128 .f32) (harg9 : arg9.IsWhole)
  (x0 : Vec F S512x1536 .f32) (x1 : Vec F S512x512 .f32) (x2 : Vec F S512x128 .f32) (x3 : Vec F S1x128 .f32)
  (x4 : Vec F S1x128 .f32) (x5 : Vec F S1x128 .f32) (xs0 : Vec F S4x128x128 .f32)

theorem chunkAt_eq (rd : Reader F) (k : Fin 4) (L : Stores F) :
    chunkAt arg2 harg2 arg3 harg3 arg4 harg4 arg5 harg5 arg6 harg6 arg7 harg7 x0 x1 x2 x3 x4 x5 rd k L
      = chunk x0 (k0_pay3 x2) (gate x2 x3 x4) (k0_pay9 x5) x1 rd k L := by
  unfold chunkAt
  rw [readAt_whole (S := S512x1536) hz2, readAt_whole (S := S512x128) hz2, readAt_whole (S := S1x128) hz2,
    readAt_whole (S := S1x128) hz2, readAt_whole (S := S1x128) hz2, harg3.read_unread]

theorem runB (hc0 : ¬cond0_0 i) :
    (kernelRun0_B c i arg2 harg2 arg3 harg3 arg4 harg4 arg5 harg5 arg6 harg6 arg7 harg7 arg8 harg8 arg9 harg9 hc0 x0 x1 x2 x3 x4 x5 xs0).1
        = outL x0 (k0_pay3 x2) (gate x2 x3 x4) (k0_pay9 x5) x1 (stG xs0)
      ∧ ∃ L, (kernelRun0_B c i arg2 harg2 arg3 harg3 arg4 harg4 arg5 harg5 arg6 harg6 arg7 harg7 arg8 harg8 arg9 harg9 hc0 x0 x1 x2 x3 x4 x5 xs0).2.1
        = sts x0 (k0_pay3 x2) (gate x2 x3 x4) 3 (bef x0 (k0_pay3 x2) (gate x2 x3 x4) (stG xs0) 3) ++ L := by
  have K := stores_eq x0 (k0_pay3 x2) (gate x2 x3 x4) (k0_pay9 x5) x1 arg9 (rd0 := rdX arg9 harg9 xs0) (fun _ _ _ _ _ => rfl) (base := [])
    (fun h => rdX_eq arg9 harg9 xs0 _ h)
    ((scrB_4 c arg2 harg2 arg3 harg3 arg4 harg4 arg5 harg5 arg6 harg6 arg7 harg7 arg9 harg9 x0 x1 x2 x3 x4 x5 xs0).trans (congrArg Prod.snd (chunkAt_eq arg2 harg2 arg3 harg3 arg4 harg4 arg5 harg5 arg6 harg6 arg7 harg7 x0 x1 x2 x3 x4 x5 _ _ _)))
    ((scrB_8 c arg2 harg2 arg3 harg3 arg4 harg4 arg5 harg5 arg6 harg6 arg7 harg7 arg9 harg9 x0 x1 x2 x3 x4 x5 xs0).trans (congrArg Prod.snd (chunkAt_eq arg2 harg2 arg3 harg3 arg4 harg4 arg5 harg5 arg6 harg6 arg7 harg7 x0 x1 x2 x3 x4 x5 _ _ _)))
    ((scrB_12 c arg2 harg2 arg3 harg3 arg4 harg4 arg5 harg5 arg6 harg6 arg7 harg7 arg9 harg9 x0 x1 x2 x3 x4 x5 xs0).trans (congrArg Prod.snd (chunkAt_eq arg2 harg2 arg3 harg3 arg4 harg4 arg5 harg5 arg6 harg6 arg7 harg7 x0 x1 x2 x3 x4 x5 _ _ _)))
  obtain ⟨K1, L, K2⟩ := K
  refine ⟨(outB_16 c i arg2 harg2 arg3 harg3 arg4 harg4 arg5 harg5 arg6 harg6 arg7 harg7 arg8 harg8 arg9 harg9 x0 x1 x2 x3 x4 x5 xs0 hc0).trans ?_,
    L, (scrB_16 c i arg2 harg2 arg3 harg3 arg4 harg4 arg5 harg5 arg6 harg6 arg7 harg7 arg8 harg8 arg9 harg9 x0 x1 x2 x3 x4 x5 xs0 hc0).trans
      ((congrArg Prod.snd (chunkAt_eq arg2 harg2 arg3 harg3 arg4 harg4 arg5 harg5 arg6 harg6 arg7 harg7 x0 x1 x2 x3 x4 x5 _ _ _)).trans K2)⟩
  simp only [chunkAt_eq]
  exact K1

theorem outB_eq (hc0 : ¬cond0_0 i) :
    out0_B_6 c i arg2 harg2 arg3 harg3 arg4 harg4 arg5 harg5 arg6 harg6 arg7 harg7 arg8 harg8 arg9 harg9 hc0 x0 x1 x2 x3 x4 x5 xs0 = outBlk x0 (k0_pay3 x2) (gate x2 x3 x4) (k0_pay9 x5) x1 (stG xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0),
    (runB c i arg2 harg2 arg3 harg3 arg4 harg4 arg5 harg5 arg6 harg6 arg7 harg7 arg8 harg8 arg9 harg9 x0 x1 x2 x3 x4 x5 xs0 hc0).1]
  exact canon_out ..

theorem scrB_eq (hc0 : ¬cond0_0 i) :
    sout0_B_0 c i arg2 harg2 arg3 harg3 arg4 harg4 arg5 harg5 arg6 harg6 arg7 harg7 arg8 harg8 arg9 harg9 hc0 x0 x1 x2 x3 x4 x5 xs0 = scrBlk x0 (k0_pay3 x2) (gate x2 x3 x4) (stG xs0) := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  obtain ⟨L, e⟩ := (runB c i arg2 harg2 arg3 harg3 arg4 harg4 arg5 harg5 arg6 harg6 arg7 harg7 arg8 harg8 arg9 harg9 x0 x1 x2 x3 x4 x5 xs0 hc0).2
  rw [e]
  exact canon_scr ..

theorem runA (hc0 : cond0_0 i) :
    (kernelRun0_A c i arg2 harg2 arg3 harg3 arg4 harg4 arg5 harg5 arg6 harg6 arg7 harg7 arg8 harg8 arg9 harg9 hc0 x0 x1 x2 x3 x4 x5).1
        = outL x0 (k0_pay3 x2) (gate x2 x3 x4) (k0_pay9 x5) x1 (stG zeroSt)
      ∧ ∃ L, (kernelRun0_A c i arg2 harg2 arg3 harg3 arg4 harg4 arg5 harg5 arg6 harg6 arg7 harg7 arg8 harg8 arg9 harg9 hc0 x0 x1 x2 x3 x4 x5).2.1
        = sts x0 (k0_pay3 x2) (gate x2 x3 x4) 3 (bef x0 (k0_pay3 x2) (gate x2 x3 x4) (stG zeroSt) 3) ++ L := by
  have K := stores_eq x0 (k0_pay3 x2) (gate x2 x3 x4) (k0_pay9 x5) x1 arg9 (apart_rdS arg9) (rdS_zero arg9)
    ((scrA_5 c arg2 harg2 arg3 harg3 arg4 harg4 arg5 harg5 arg6 harg6 arg7 harg7 arg9 x0 x1 x2 x3 x4 x5).trans (congrArg Prod.snd (chunkAt_eq arg2 harg2 arg3 harg3 arg4 harg4 arg5 harg5 arg6 harg6 arg7 harg7 x0 x1 x2 x3 x4 x5 _ _ _)))
    ((scrA_9 c arg2 harg2 arg3 harg3 arg4 harg4 arg5 harg5 arg6 harg6 arg7 harg7 arg9 x0 x1 x2 x3 x4 x5).trans (congrArg Prod.snd (chunkAt_eq arg2 harg2 arg3 harg3 arg4 harg4 arg5 harg5 arg6 harg6 arg7 harg7 x0 x1 x2 x3 x4 x5 _ _ _)))
    ((scrA_13 c arg2 harg2 arg3 harg3 arg4 harg4 arg5 harg5 arg6 harg6 arg7 harg7 arg9 x0 x1 x2 x3 x4 x5).trans (congrArg Prod.snd (chunkAt_eq arg2 harg2 arg3 harg3 arg4 harg4 arg5 harg5 arg6 harg6 arg7 harg7 x0 x1 x2 x3 x4 x5 _ _ _)))
  obtain ⟨K1, L, K2⟩ := K
  refine ⟨(outA_17 c i arg2 harg2 arg3 harg3 arg4 harg4 arg5 harg5 arg6 harg6 arg7 harg7 arg8 harg8 arg9 harg9 x0 x1 x2 x3 x4 x5 hc0).trans ?_,
    L, (scrA_17 c i arg2 harg2 arg3 harg3 arg4 harg4 arg5 harg5 arg6 harg6 arg7 harg7 arg8 harg8 arg9 harg9 x0 x1 x2 x3 x4 x5 hc0).trans
      ((congrArg Prod.snd (chunkAt_eq arg2 harg2 arg3 harg3 arg4 harg4 arg5 harg5 arg6 harg6 arg7 harg7 x0 x1 x2 x3 x4 x5 _ _ _)).trans K2)⟩
  simp only [chunkAt_eq]
  exact K1

theorem outA_eq (hc0 : cond0_0 i) :
    out0_A_6 c i arg2 harg2 arg3 harg3 arg4 harg4 arg5 harg5 arg6 harg6 arg7 harg7 arg8 harg8 arg9 harg9 hc0 x0 x1 x2 x3 x4 x5 = outBlk x0 (k0_pay3 x2) (gate x2 x3 x4) (k0_pay9 x5) x1 (stG zeroSt) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5),
    (runA c i arg2 harg2 arg3 harg3 arg4 harg4 arg5 harg5 arg6 harg6 arg7 harg7 arg8 harg8 arg9 harg9 x0 x1 x2 x3 x4 x5 hc0).1]
  exact canon_out ..

theorem scrA_eq (hc0 : cond0_0 i) :
    sout0_A_0 c i arg2 harg2 arg3 harg3 arg4 harg4 arg5 harg5 arg6 harg6 arg7 harg7 arg8 harg8 arg9 harg9 hc0 x0 x1 x2 x3 x4 x5 = scrBlk x0 (k0_pay3 x2) (gate x2 x3 x4) (stG zeroSt) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  obtain ⟨L, e⟩ := (runA c i arg2 harg2 arg3 harg3 arg4 harg4 arg5 harg5 arg6 harg6 arg7 harg7 arg8 harg8 arg9 harg9 x0 x1 x2 x3 x4 x5 hc0).2
  rw [e]
  exact canon_scr ..

end

end Cert.Kernel7Ideal.Blk
-- ==== Proof.Delta.lean ====
/-
  The gated delta rule over the real numbers, and its evaluation a chunk at a time.

  The state follows `S_{t+1} = exp(a_t) S_t + k_t u_tᵀ` with `u_t = β_t (v_t - (exp(a_t) S_t)ᵀ k_t)`. Within a chunk the
  corrections `u` solve a unit lower triangular system; its inverse is built by joining diagonal blocks of doubling size.
-/
module

public import proofs.«01_k».proof.Proof.Recurrence
public import Mathlib.Data.Matrix.Mul
public import Mathlib.LinearAlgebra.Matrix.NonsingularInverse

@[expose] public section

noncomputable section

namespace Cert.Gdn

open Finset Cert.Ssd

abbrev Mat := Matrix (Fin 128) (Fin 128) ℝ

/-! ## The inverse of a unit lower triangular matrix -/

/-- Row `i` lies in the second and column `j` in the first half of one diagonal block of size `2 b`. -/
def Joins (b i j : ℕ) : Prop := i / (2 * b) = j / (2 * b) ∧ b ≤ i % (2 * b) ∧ j % (2 * b) < b

instance (b i j : ℕ) : Decidable (Joins b i j) := by unfold Joins; infer_instance

theorem half_mod (b i : ℕ) : i % (2 * b) = i % b + b * (i / b % 2) := by
  rw [mul_comm 2 b, Nat.mod_mul]

theorem joins_iff {b : ℕ} (hb : 0 < b) (i j : ℕ) : Joins b i j ↔ i / b / 2 = j / b / 2 ∧ i / b % 2 = 1 ∧ j / b % 2 = 0 := by
  unfold Joins
  rw [half_mod b i, half_mod b j, mul_comm 2 b, ← Nat.div_div_eq_div_mul, ← Nat.div_div_eq_div_mul]
  have hi := Nat.mod_lt i hb
  have hj := Nat.mod_lt j hb
  have ei := Nat.mod_two_eq_zero_or_one (i / b)
  have ej := Nat.mod_two_eq_zero_or_one (j / b)
  rcases ei with ei | ei <;> rcases ej with ej | ej <;> rw [ei, ej] <;> omega

/-- The part of `A` that joins the halves of each block of size `2 b`. -/
def part (b : ℕ) (A : Mat) : Mat := fun i j => if Joins b i j then A i j else 0
/-- The diagonal blocks of size `b` of `1 + A`. -/
def diagPart (b : ℕ) (A : Mat) : Mat := fun i j => if i.val / b = j.val / b then (1 + A) i j else 0

theorem diagPart_double {b : ℕ} (hb : 0 < b) {A : Mat} (hA : ∀ i j, i ≤ j → A i j = 0) :
    diagPart (2 * b) A = diagPart b A + part b A := by
  ext i j
  show (if i.val / (2 * b) = j.val / (2 * b) then (1 + A) i j else 0)
    = (if i.val / b = j.val / b then (1 + A) i j else 0) + (if Joins b i j then A i j else 0)
  rw [mul_comm 2 b, ← Nat.div_div_eq_div_mul, ← Nat.div_div_eq_div_mul]
  have hj := joins_iff hb i.val j.val
  have hle : j ≤ i → j.val / b ≤ i.val / b := fun h => Nat.div_le_div_right h
  by_cases h1 : i.val / b / 2 = j.val / b / 2
  · rw [if_pos h1]
    by_cases h2 : i.val / b = j.val / b
    · rw [if_pos h2, if_neg (fun h => by have := hj.mp h; omega), add_zero]
    · have ne : i ≠ j := fun h => h2 (by rw [h])
      rw [if_neg h2, zero_add, Matrix.add_apply, Matrix.one_apply_ne ne, zero_add]
      by_cases h3 : Joins b i j
      · rw [if_pos h3]
      · rw [if_neg h3]
        refine hA i j (le_of_not_ge fun h => h3 (hj.mpr ?_))
        have := hle h
        omega
  · rw [if_neg h1, if_neg (fun h => h1 (by rw [h])), if_neg (fun h => h1 (hj.mp h).1), add_zero]

/-- `X` is the inverse of the diagonal blocks of size `b`, block by block. -/
structure Inv (b : ℕ) (A X : Mat) : Prop where
  diag : ∀ i j : Fin 128, i.val / b ≠ j.val / b → X i j = 0
  inv : diagPart b A * X = 1

theorem part_mul_part {b : ℕ} (hb : 0 < b) {A X : Mat} (h : Inv b A X) : part b A * X * part b A = 0 := by
  ext i j
  rw [Matrix.mul_apply, Matrix.zero_apply]
  refine sum_eq_zero fun q _ => ?_
  show _ * (if Joins b q j then A q j else 0) = 0
  by_cases hq : Joins b q j
  · rw [Matrix.mul_apply, sum_eq_zero fun p _ => ?_, zero_mul]
    show (if Joins b i p then A i p else 0) * X p q = 0
    by_cases hp : Joins b i p
    · rw [h.diag p q (fun e => by have := (joins_iff hb _ _).mp hp; have := (joins_iff hb _ _).mp hq; omega), mul_zero]
    · rw [if_neg hp, zero_mul]
  · rw [if_neg hq, mul_zero]

theorem Inv.step {b : ℕ} (hb : 0 < b) {A X : Mat} (hA : ∀ i j, i ≤ j → A i j = 0) (h : Inv b A X) :
    Inv (2 * b) A (X - X * part b A * X) where
  diag i j hij := by
    rw [mul_comm 2 b, ← Nat.div_div_eq_div_mul, ← Nat.div_div_eq_div_mul] at hij
    rw [Matrix.sub_apply, h.diag i j (fun e => hij (by rw [e])), Matrix.mul_apply, sum_eq_zero fun q _ => ?_, sub_zero]
    rw [Matrix.mul_apply]
    by_cases hq : q.val / b = j.val / b
    · rw [sum_eq_zero fun p _ => ?_, zero_mul]
      show X i p * (if Joins b p q then A p q else 0) = 0
      by_cases hp : i.val / b = p.val / b
      · rw [if_neg (fun e => hij (by have := (joins_iff hb _ _).mp e; rw [hp, ← hq]; exact this.1)), mul_zero]
      · rw [h.diag i p hp, zero_mul]
    · rw [h.diag q j hq, mul_zero]
  inv := by
    have e : (diagPart b A + part b A) * (X - X * part b A * X)
        = diagPart b A * X - diagPart b A * X * part b A * X + part b A * X - part b A * X * part b A * X := by
      noncomm_ring
    rw [diagPart_double hb hA, e, h.inv, part_mul_part hb h]
    simp

/-- The inverse after `n` further doublings. -/
def tinv (A : Mat) : ℕ → Mat
  | 0 => 1 - part 1 A
  | n + 1 => tinv A n - tinv A n * part (2 ^ (n + 1)) A * tinv A n

theorem tinv_inv {A : Mat} (hA : ∀ i j, i ≤ j → A i j = 0) (n : ℕ) : Inv (2 ^ (n + 1)) A (tinv A n) := by
  induction n with
  | zero =>
    have h1 : Inv 1 A 1 := by
      refine ⟨fun i j hij => Matrix.one_apply_ne fun h => hij (by rw [h]), ?_⟩
      rw [mul_one]
      ext i j
      show (if i.val / 1 = j.val / 1 then (1 + A) i j else 0) = _
      rw [Nat.div_one, Nat.div_one]
      by_cases h : i = j
      · rw [if_pos (by rw [h]), Matrix.add_apply, hA i j (le_of_eq h), add_zero]
      · rw [if_neg (fun e => h (Fin.ext e)), Matrix.one_apply_ne h]
    have := h1.step one_pos hA
    simp only [mul_one, one_mul] at this
    exact this
  | succ n ih =>
    have := ih.step (by positivity) hA
    rwa [← pow_succ'] at this

theorem tinv_mul {A : Mat} (hA : ∀ i j, i ≤ j → A i j = 0) : tinv A 6 * (1 + A) = 1 := by
  have h := (tinv_inv hA 6).inv
  have e : diagPart (2 ^ (6 + 1)) A = 1 + A := by
    ext i j
    show (if i.val / 128 = j.val / 128 then (1 + A) i j else 0) = _
    rw [if_pos (by omega)]
  rw [e] at h
  exact mul_eq_one_comm.mp h

/-! ## The recurrence -/

/-- The state before step `t`. -/
def S (k v : ℕ → Fin 128 → ℝ) (β a : ℕ → ℝ) : ℕ → Mat
  | 0 => fun _ _ => 0
  | t + 1 => fun p j => Real.exp (a t) * S k v β a t p j
      + k t p * (β t * (v t j - ∑ r, Real.exp (a t) * S k v β a t r j * k t r))

/-- The correction written at step `t`. -/
def u (k v : ℕ → Fin 128 → ℝ) (β a : ℕ → ℝ) (t : ℕ) (j : Fin 128) : ℝ :=
  β t * (v t j - ∑ r, Real.exp (a t) * S k v β a t r j * k t r)

/-- The output of step `t`. -/
def O (k v q : ℕ → Fin 128 → ℝ) (β a : ℕ → ℝ) (t : ℕ) (j : Fin 128) : ℝ := ∑ p, S k v β a (t + 1) p j * q t p

variable (k v q : ℕ → Fin 128 → ℝ) (β a : ℕ → ℝ)

theorem S_eq (t : ℕ) (p j : Fin 128) : S k v β a t p j = state a (fun t => u k v β a t j) (fun t => k t p) t := by
  induction t with
  | zero => rfl
  | succ t ih =>
    show Real.exp (a t) * S k v β a t p j + k t p * u k v β a t j = Real.exp (a t) * _ + u k v β a t j * k t p
    rw [ih]
    ring

/-- The chunk's system: each correction against the earlier ones. -/
def sysA (s : ℕ) : Mat := fun i l => if l.val < i.val then
  (∑ r, k (s + i) r * k (s + l) r) * Real.exp (cum a s (i + 1) - cum a s (l + 1)) * β (s + i) else 0

theorem sysA_low (s : ℕ) (i l : Fin 128) (h : i ≤ l) : sysA k β a s i l = 0 := if_neg (not_lt.mpr h)

/-- The corrections of a chunk. -/
def U (s : ℕ) : Mat := fun i j => u k v β a (s + i) j
/-- The values, weighted. -/
def bv (s : ℕ) : Mat := fun i j => v (s + i) j * β (s + i)
/-- The keys, weighted and decayed. -/
def bk (s : ℕ) : Mat := fun i p => k (s + i) p * (β (s + i) * Real.exp (cum a s (i + 1)))

theorem system (s : ℕ) : (1 + sysA k β a s) * U k v β a s = bv v β s - bk k β a s * S k v β a s := by
  ext i j
  rw [add_mul, one_mul, Matrix.add_apply, Matrix.sub_apply, Matrix.mul_apply, Matrix.mul_apply]
  have h1 : ∀ r, Real.exp (a (s + i)) * S k v β a (s + i) r j
      = Real.exp (cum a s (i + 1)) * S k v β a s r j
        + ∑ l : Fin 128, if l.val < i.val then Real.exp (cum a s (i + 1) - cum a s (l + 1)) * (u k v β a (s + l) j * k (s + l) r) else 0 := by
    intro r
    rw [S_eq, state_chunk, ← S_eq, mul_add, ← mul_assoc, ← Real.exp_add, cum_succ, add_comm (cum a s i)]
    congr 1
    rw [Fin.sum_univ_eq_sum_range fun l => if l < i.val then Real.exp (a (s + i) + cum a s i - cum a s (l + 1)) * (u k v β a (s + l) j * k (s + l) r) else 0,
      ← sum_subset (s₁ := range i.val) (range_subset_range.mpr i.isLt.le) (fun l _ hl => if_neg (fun h => hl (mem_range.mpr h))), mul_sum]
    refine sum_congr rfl fun l hl => ?_
    rw [if_pos (mem_range.mp hl), ← mul_assoc, ← Real.exp_add, add_sub_assoc]
  have h2 : ∑ r, Real.exp (a (s + i)) * S k v β a (s + i) r j * k (s + i) r
      = Real.exp (cum a s (i + 1)) * ∑ p, k (s + i) p * S k v β a s p j
        + ∑ l : Fin 128, if l.val < i.val then (∑ r, k (s + i) r * k (s + l) r) * Real.exp (cum a s (i + 1) - cum a s (l + 1)) * u k v β a (s + l) j else 0 := by
    rw [sum_congr rfl fun r _ => by rw [h1 r, add_mul, sum_mul], sum_add_distrib, mul_sum, sum_comm]
    congr 1
    · exact sum_congr rfl fun r _ => by ring
    · refine sum_congr rfl fun l _ => ?_
      split_ifs
      · rw [sum_mul, sum_mul]
        exact sum_congr rfl fun r _ => by ring
      · simp
  show u k v β a (s + i) j + ∑ l : Fin 128, (if l.val < i.val then _ else 0) * u k v β a (s + l) j = v (s + i) j * β (s + i) - ∑ p, k (s + i) p * (β (s + i) * _) * _
  have h3 : u k v β a (s + i) j = β (s + i) * (v (s + i) j - ∑ r, Real.exp (a (s + i)) * S k v β a (s + i) r j * k (s + i) r) := rfl
  rw [h3, h2]
  have h4 : ∑ l : Fin 128, (if l.val < i.val then (∑ r, k (s + i) r * k (s + l) r) * Real.exp (cum a s (i + 1) - cum a s (l + 1)) * β (s + i) else 0) * u k v β a (s + l) j
      = β (s + i) * ∑ l : Fin 128, (if l.val < i.val then (∑ r, k (s + i) r * k (s + l) r) * Real.exp (cum a s (i + 1) - cum a s (l + 1)) * u k v β a (s + l) j else 0) := by
    rw [mul_sum]
    refine sum_congr rfl fun l _ => ?_
    split_ifs
    · ring
    · simp
  have h5 : ∑ p, k (s + i) p * (β (s + i) * Real.exp (cum a s (i + 1))) * S k v β a s p j
      = β (s + i) * (Real.exp (cum a s (i + 1)) * ∑ p, k (s + i) p * S k v β a s p j) := by
    rw [mul_sum, mul_sum]
    exact sum_congr rfl fun p _ => by ring
  rw [h4, h5]
  ring

/-- The corrections, as the chunk's evaluation forms them. -/
theorem corrections (s : ℕ) : tinv (sysA k β a s) 6 * bv v β s - tinv (sysA k β a s) 6 * bk k β a s * S k v β a s = U k v β a s := by
  rw [mul_assoc, ← mul_sub, ← system, ← mul_assoc, tinv_mul (sysA_low k β a s), one_mul]

theorem update (s : ℕ) (p j : Fin 128) : S k v β a (s + 128) p j = S k v β a s p j * Real.exp (cum a s 128)
    + ∑ i : Fin 128, k (s + i) p * Real.exp (cum a s 128 - cum a s (i + 1)) * U k v β a s i j := by
  rw [S_eq, S_eq, state_update]
  congr 1
  refine sum_congr rfl fun i _ => ?_
  show _ = _ * u k v β a (s + i) j
  ring

theorem output (s : ℕ) (i j : Fin 128) : O k v q β a (s + i) j
    = ∑ p, q (s + i) p * Real.exp (cum a s (i + 1)) * S k v β a s p j
      + ∑ l : Fin 128, (if l.val ≤ i.val then (∑ r, q (s + i) r * k (s + l) r) * Real.exp (cum a s (i + 1) - cum a s (l + 1)) else 0) * U k v β a s l j := by
  unfold O
  have h := output_chunk a (fun t => u k v β a t j) (fun t p => k t p) (q (s + i)) s 128 i
  rw [sum_congr rfl fun p _ => by rw [mul_comm, S_eq], h, add_comm, sum_mul]
  congr 1
  · exact sum_congr rfl fun p _ => by rw [S_eq]; ring
  · refine sum_congr rfl fun l _ => ?_
    show _ = _ * u k v β a (s + l) j
    split_ifs <;> ring

end Cert.Gdn

end
-- ==== Proof.GdnSpec.lean ====
module

public import proofs.«01_k».proof.Proof.Delta
public import proofs.«01_k».proof.Proof.Spec
public import proofs.«01_k».proof.Proof.Inputs
public import proofs.«01_k».proof.Pre_real_rows

/-! # What the gated delta rule computes

`Data` says that the rows that enter the recurrence are real, `result` is the recurrence's output with its norm and its gate. -/

@[expose] public section

noncomputable section

namespace Cert.Gdn

open Idealize.ShloMosaic
open Cert.KernelIdeal.Blk (softplus)
open Cert.Ssd (Rows Line)

/-- A row divided by the root of the sum of its squares (with the constant added to the sum). -/
def unitv (x : Fin 128 → EReal) (p : Fin 128) : EReal := x p * Ideal.rsqrt ((∑ r, x r * x r) + Ideal.ofBits .f32 0x358637BD#32)

/-- Head `h`'s query, key and value at step `t` of sequence `i`. -/
def qRow (x : Rows 1536 .f32) (i : Fin 8) (t : Fin 4096) (h : Fin 4) (p : Fin 128) : EReal :=
  x (ix2 ⟨4096 * i.val + t.val, by omega⟩ ⟨128 * h.val + p.val, by omega⟩)
def kRow (x : Rows 1536 .f32) (i : Fin 8) (t : Fin 4096) (h : Fin 4) (p : Fin 128) : EReal :=
  x (ix2 ⟨4096 * i.val + t.val, by omega⟩ ⟨512 + 128 * h.val + p.val, by omega⟩)
def vRow (x : Rows 1536 .f32) (i : Fin 8) (t : Fin 4096) (h : Fin 4) (p : Fin 128) : EReal :=
  x (ix2 ⟨4096 * i.val + t.val, by omega⟩ ⟨1024 + 128 * h.val + p.val, by omega⟩)
/-- The weight of a step. -/
def bEnt (sm : Rows 128 .f32) (i : Fin 8) (t : Fin 4096) (h : Fin 4) : EReal :=
  Ideal.logistic (sm (ix2 ⟨4096 * i.val + t.val, by omega⟩ ⟨h.val, by omega⟩))
/-- The decay of a step. -/
def aEnt (sm : Rows 128 .f32) (al db : Line 4) (i : Fin 8) (t : Fin 4096) (h : Fin 4) : EReal :=
  -(Ideal.exp (al (ix1 h))) * softplus (sm (ix2 ⟨4096 * i.val + t.val, by omega⟩ ⟨4 + h.val, by omega⟩) + db (ix1 h))

structure Data (qkv : Rows 1536 .f32) (sm : Rows 128 .f32) (al db : Line 4) (q k v : ℕ → ℕ → ℕ → Fin 128 → ℝ)
    (β a : ℕ → ℕ → ℕ → ℝ) : Prop where
  hq : ∀ (i : Fin 8) (t : Fin 4096) (h : Fin 4) (p : Fin 128),
    unitv (qRow qkv i t h) p * Ideal.ofBits .f32 0x3DB504F3#32 = ((q i h t p : ℝ) : EReal)
  hk : ∀ (i : Fin 8) (t : Fin 4096) (h : Fin 4) (p : Fin 128), unitv (kRow qkv i t h) p = ((k i h t p : ℝ) : EReal)
  hv : ∀ (i : Fin 8) (t : Fin 4096) (h : Fin 4) (p : Fin 128), vRow qkv i t h p = ((v i h t p : ℝ) : EReal)
  hb : ∀ (i : Fin 8) (t : Fin 4096) (h : Fin 4), bEnt sm i t h = ((β i h t : ℝ) : EReal)
  ha : ∀ (i : Fin 8) (t : Fin 4096) (h : Fin 4), aEnt sm al db i t h = ((a i h t : ℝ) : EReal)

/-- A row divided by the root of the mean of its squares, times the weight and the gate z · sigmoid z. -/
def normed (o : Fin 128 → EReal) (w : Line 128) (z : EReal) (p : Fin 128) : EReal :=
  o p * Ideal.rsqrt (Ideal.div (∑ r, o r * o r) (Ideal.ofBits .f32 0x43000000#32) + Ideal.ofBits .f32 0x358637BD#32)
    * w (ix1 p) * (z * Ideal.logistic z)

/-- The result. -/
def result (q k v : ℕ → ℕ → ℕ → Fin 128 → ℝ) (β a : ℕ → ℕ → ℕ → ℝ) (z : Rows 512 .f32) (w : Line 128) : Rows 512 .bf16 := fun j =>
  let i := (j 0).val / 4096
  let h := (j 1).val / 128
  normed (fun p => ((O (k i h) (v i h) (q i h) (β i h) (a i h) ((j 0).val % 4096) p : ℝ) : EReal)) w (z j)
    ⟨(j 1).val % 128, Nat.mod_lt _ (by decide)⟩

/-! ## The inputs -/

theorem eps_pos : ∃ e : ℝ, 0 < e ∧ Ideal.ofBits .f32 0x358637BD#32 = (e : EReal) := by
  refine ⟨_, ?_, by simp [Ideal.ofBits, Ideal.ieee, -EReal.coe_mul]; rfl⟩
  positivity

theorem scale_real : ∃ e : ℝ, Ideal.ofBits .f32 0x3DB504F3#32 = (e : EReal) :=
  ⟨_, by simp [Ideal.ofBits, Ideal.ieee, -EReal.coe_mul]; rfl⟩

/-- A real row of unit length is real. -/
theorem unitv_real {x : Fin 128 → EReal} {r : Fin 128 → ℝ} (h : ∀ p, x p = (r p : EReal)) (p : Fin 128) :
    ∃ y : ℝ, unitv x p = (y : EReal) := by
  obtain ⟨e, he, hb⟩ := eps_pos
  have hs : 0 ≤ ∑ q, r q * r q := Finset.sum_nonneg fun q _ => mul_self_nonneg _
  refine ⟨r p * (√((∑ q, r q * r q) + e))⁻¹, ?_⟩
  have e1 : (∑ q, x q * x q) + Ideal.ofBits .f32 0x358637BD#32 = (((∑ q, r q * r q) + e : ℝ) : EReal) := by
    rw [hb, EReal.coe_add, Cert.Ssd.coe_sum]
    simp only [h, EReal.coe_mul]
  unfold unitv
  rw [e1, h, Ideal.rsqrt_coe, if_neg (by linarith), if_neg (by linarith), EReal.coe_mul]

theorem logistic_real (u : EReal) : ∃ r : ℝ, Ideal.logistic u = (r : EReal) := by
  induction u with
  | bot =>
    refine ⟨0, ?_⟩
    have h : (1 : EReal) + ⊤ = ⊤ := EReal.coe_add_top 1
    simp [Ideal.logistic, Ideal.div, h]
  | top => exact ⟨1, by simp [Ideal.logistic, Ideal.div]⟩
  | coe r => exact ⟨_, Ideal.logistic_coe r⟩

/-- From bounds on the inputs, the recurrence's data. -/
theorem exists_data {qkv : Rows 1536 .f32} {sm : Rows 128 .f32} {al db : Line 4}
    (hx : ∀ (r : Fin 32768) (c : Fin 1536), max (qkv (ix2 r c)) (-(qkv (ix2 r c))) < ⊤)
    (hd : ∀ (r : Fin 32768) (h : Fin 4), sm (ix2 r ⟨4 + h.val, by omega⟩) + db (ix1 h) < ⊤)
    (ha : ∀ h : Fin 4, al (ix1 h) < ⊤) : ∃ q k v β a, Data qkv sm al db q k v β a := by
  choose X hX using fun r c => Cert.Ssd.real_of_abs (hx r c)
  obtain ⟨sc, hsc⟩ := scale_real
  have ext : ∀ (f : Fin 8 → Fin 4096 → Fin 4 → Fin 128 → ℝ), ∃ g : ℕ → ℕ → ℕ → Fin 128 → ℝ,
      ∀ (i : Fin 8) (t : Fin 4096) (h : Fin 4) p, g i h t p = f i t h p := fun f =>
    ⟨fun i h t p => if e : i < 8 ∧ t < 4096 ∧ h < 4 then f ⟨i, e.1⟩ ⟨t, e.2.1⟩ ⟨h, e.2.2⟩ p else 0,
      fun i t h p => dif_pos ⟨i.isLt, t.isLt, h.isLt⟩⟩
  choose Q hQ using fun (i : Fin 8) (t : Fin 4096) (h : Fin 4) => unitv_real (x := qRow qkv i t h) (fun p => hX _ _)
  choose K hK using fun (i : Fin 8) (t : Fin 4096) (h : Fin 4) => unitv_real (x := kRow qkv i t h) (fun p => hX _ _)
  choose B hB using fun (i : Fin 8) (t : Fin 4096) (h : Fin 4) => logistic_real (sm (ix2 ⟨4096 * i.val + t.val, by omega⟩ ⟨h.val, by omega⟩))
  choose E hE using fun r h => Cert.Ssd.softplus_real (hd r h)
  choose A hA using fun h => Cert.Ssd.neg_exp_real (ha h)
  obtain ⟨q, hq⟩ := ext fun i t h p => Q i t h p * sc
  obtain ⟨k, hk⟩ := ext fun i t h p => K i t h p
  obtain ⟨v, hv⟩ := ext fun i t h p => X ⟨4096 * i.val + t.val, by omega⟩ ⟨1024 + 128 * h.val + p.val, by omega⟩
  obtain ⟨β, hβ⟩ := ext fun i t h _ => B i t h
  obtain ⟨a, ha⟩ := ext fun i t h _ => A h * E ⟨4096 * i.val + t.val, by omega⟩ h
  refine ⟨q, k, v, fun i h t => β i h t 0, fun i h t => a i h t 0, fun i t h p => ?_, fun i t h p => ?_, fun i t h p => ?_,
    fun i t h => ?_, fun i t h => ?_⟩
  · rw [hq, hQ, hsc, EReal.coe_mul]
  · rw [hk, hK]
  · rw [hv]
    exact hX _ _
  · rw [hβ]
    exact hB i t h
  · rw [ha, EReal.coe_mul, ← hA, ← hE]
    rfl

theorem facts : Cert.Pre_real_rows.Facts where
  bcast_S_S32768x1536 := by decide
  slices_S32768x128_S32768x4_0_4 := by decide
  bcast_S4_S1x4_1 := by decide
  bcast_S1x4_S32768x4_0_1 := by decide
  bcast_S_S32768x4 := by decide
  bcast_S_S4 := by decide

theorem data_of_pre [Cert.Pre_real_rows.Facts] (a0 : Rows 1536 .f32) (a1 : Rows 512 .f32) (a2 : Rows 128 .f32) (a3 a4 : Line 4) (a5 : Line 128)
    (h : (Cert.Pre_real_rows.fn (F := Ideal) a0 a1 a2 a3 a4 a5).1 = (fun _ => 1)
      ∧ (Cert.Pre_real_rows.fn (F := Ideal) a0 a1 a2 a3 a4 a5).2.1 = (fun _ => 1)
      ∧ (Cert.Pre_real_rows.fn (F := Ideal) a0 a1 a2 a3 a4 a5).2.2 = (fun _ => 1)) :
    ∃ q k v β a, Data a0 a2 a3 a4 q k v β a := by
  obtain ⟨h1, h2, h3⟩ := h
  refine exists_data (fun r c => ?_) (fun r h => ?_) (fun h => ?_)
  · exact lt_of_lt_of_eq (Cert.Ssd.lt_of_cmp (congrFun h1 (ix2 r c))) Cert.Ssd.inf_eq
  · refine lt_of_eq_of_lt ?_ (lt_of_lt_of_eq (Cert.Ssd.lt_of_cmp (congrFun h2 (ix2 r h))) Cert.Ssd.inf_eq)
    pointwise
  · exact lt_of_lt_of_eq (Cert.Ssd.lt_of_cmp (congrFun h3 (ix1 h))) Cert.Ssd.inf_eq

end Cert.Gdn
-- ==== Proof.GdnOps.lean ====
module

public import proofs.«01_k».proof.Proof.GdnBlock
public import proofs.«01_k».proof.Proof.GdnSpec
public import Idealize.ShloMosaic.PureOps.Ideal
public import Idealize.ShloMosaic.Lib.Pointwise
public import Idealize.ShloMosaic.Lib.WordCmp

/-! # The gated delta rule's operations over the extended reals, one entry at a time -/

@[expose] public section

set_option maxRecDepth 16384

noncomputable section

namespace Cert.Kernel7Ideal.Blk

open Cert.Kernel7Ideal Cert.Kernel7Ideal.Gen Cert.Gdn
open Idealize.ShloMosaic Idealize.ShloMosaic.TcCoe Idealize.SL.Sem
open Cert.KernelIdeal.Blk (softplus tri_sel)

/-! ## The masks -/

/-- `fdiv` of one word. -/
def fdivS (x n : BitVec 32) : BitVec 32 :=
  Scalar.select (IntOp.andi
      (IntOp.cmpi .ne (Scalar.subi (Scalar.extui (IntOp.cmpi .sgt x 0#32)) (Scalar.extui (IntOp.cmpi .slt x 0#32)))
        (Scalar.subi (Scalar.extui (Scalar.cmpi .sgt n 0#32)) (Scalar.extui (Scalar.cmpi .slt n 0#32))))
      (IntOp.cmpi .ne (IntOp.remsi .vector x n) 0#32))
    (Scalar.subi (IntOp.divsi .vector x n) 1#32) (IntOp.divsi .vector x n)
/-- `fmod` of one word. -/
def fmodS (x n : BitVec 32) : BitVec 32 :=
  let n' : BitVec 32 := Scalar.select (Scalar.cmpi .eq n 0#32) 1#32 n
  Scalar.select (IntOp.andi (IntOp.xori (IntOp.cmpi .slt (IntOp.remsi .vector x n') 0#32) (Scalar.cmpi .slt n' 0#32)) (IntOp.cmpi .ne (IntOp.remsi .vector x n') 0#32))
    (Scalar.addi (IntOp.remsi .vector x n') n') (IntOp.remsi .vector x n')

theorem fdiv_at (x : IVec S128x128 32) (n : BitVec 32) (j : S128x128.Idx) : fdiv x n j = fdivS (x j) n := rfl
theorem fmod_at (x : IVec S128x128 32) (n : BitVec 32) (j : S128x128.Idx) : fmod x n j = fmodS (x j) n := rfl
theorem fdivS_eq : ∀ (k : Fin 7) (i : Fin 128), fdivS (BitVec.ofNat 32 i.val) (BitVec.ofNat 32 (2 * 2 ^ k.val)) = BitVec.ofNat 32 (i.val / (2 * 2 ^ k.val)) := by
  decide +kernel
theorem fmodS_eq : ∀ (k : Fin 7) (i : Fin 128), fmodS (BitVec.ofNat 32 i.val) (BitVec.ofNat 32 (2 * 2 ^ k.val)) = BitVec.ofNat 32 (i.val % (2 * 2 ^ k.val)) := by
  decide +kernel

theorem rowI_at (i j : Fin 128) : rowI (ix2 i j) = BitVec.ofNat 32 i.val := by pointwise
theorem colI_at (i j : Fin 128) : colI (ix2 i j) = BitVec.ofNat 32 j.val := by pointwise

theorem joins_at (k : Fin 7) (i j : Fin 128) : joins (BitVec.ofNat 32 (2 * 2 ^ k.val)) (BitVec.ofNat 32 (2 ^ k.val)) (ix2 i j)
    = BitVec.ofBool (decide (Joins (2 ^ k.val) i j)) := by
  have e : joins (BitVec.ofNat 32 (2 * 2 ^ k.val)) (BitVec.ofNat 32 (2 ^ k.val)) (ix2 i j)
      = IntOp.andi (IntOp.andi (IntOp.cmpi .eq (fdivS (BitVec.ofNat 32 i.val) (BitVec.ofNat 32 (2 * 2 ^ k.val))) (fdivS (BitVec.ofNat 32 j.val) (BitVec.ofNat 32 (2 * 2 ^ k.val))))
          (IntOp.cmpi .sge (fmodS (BitVec.ofNat 32 i.val) (BitVec.ofNat 32 (2 * 2 ^ k.val))) (BitVec.ofNat 32 (2 ^ k.val))))
        (IntOp.cmpi .slt (fmodS (BitVec.ofNat 32 j.val) (BitVec.ofNat 32 (2 * 2 ^ k.val))) (BitVec.ofNat 32 (2 ^ k.val))) := by
    rw [← rowI_at i j, ← colI_at i j]
    rfl
  have hk : 2 ^ k.val ≤ 64 := by
    have : k.val ≤ 6 := by omega
    exact (Nat.pow_le_pow_right (by decide) this).trans (by decide)
  have hp : 0 < 2 ^ k.val := Nat.pow_pos (by decide)
  have hi := Nat.mod_lt i.val (y := 2 * 2 ^ k.val) (by omega)
  have hj := Nat.mod_lt j.val (y := 2 * 2 ^ k.val) (by omega)
  have di := Nat.div_le_self i.val (2 * 2 ^ k.val)
  have dj := Nat.div_le_self j.val (2 * 2 ^ k.val)
  rw [e, fdivS_eq, fdivS_eq, fmodS_eq, fmodS_eq]
  rw [WordCmp.cmpi_eq_eq, WordCmp.cmpi_sge_eq, WordCmp.cmpi_slt_eq, WordCmp.andi_ofBool, WordCmp.andi_ofBool,
    WordCmp.toInt_ofNat_of_lt (by omega), WordCmp.toInt_ofNat_of_lt (by omega), WordCmp.toInt_ofNat_of_lt (by omega)]
  refine congrArg BitVec.ofBool ?_
  rw [← Bool.decide_and, ← Bool.decide_and]
  refine decide_eq_decide.mpr ?_
  rw [WordCmp.ofNat_eq_ofNat_iff (by omega) (by omega), Int.ofNat_le, Int.ofNat_lt, and_assoc]
  exact Iff.rfl

theorem joins_sel {α : Type} (k : Fin 7) (i j : Fin 128) (x y : α) :
    Scalar.select (joins (BitVec.ofNat 32 (2 * 2 ^ k.val)) (BitVec.ofNat 32 (2 ^ k.val)) (ix2 i j)) x y = if Joins (2 ^ k.val) i j then x else y := by
  rw [joins_at]
  by_cases h : Joins (2 ^ k.val) i j <;> simp [h] <;> rfl

theorem lt_sel {α : Type} (i j : Fin 128) (x y : α) :
    Scalar.select (IntOp.cmpi CmpIPredicate.slt (BitVec.ofNat 32 j.val) (BitVec.ofNat 32 i.val)) x y = if j.val < i.val then x else y := by
  rw [WordCmp.cmpi_slt_ofNat (by omega) (by omega)]
  by_cases h : j.val < i.val <;> simp [h] <;> rfl
theorem eq_sel {α : Type} (i j : Fin 128) (x y : α) :
    Scalar.select (IntOp.cmpi CmpIPredicate.eq (BitVec.ofNat 32 j.val) (BitVec.ofNat 32 i.val)) x y = if j = i then x else y := by
  rw [WordCmp.cmpi_eq_eq]
  have e := WordCmp.ofNat_eq_ofNat_iff (w := 32) (a := j.val) (b := i.val) (by omega) (by omega)
  by_cases h : j = i
  · rw [if_pos h, decide_eq_true (e.mpr (congrArg Fin.val h))]
    rfl
  · rw [if_neg h, decide_eq_false (fun g => h (Fin.ext (e.mp g)))]
    rfl

/-! ## The inverse -/

theorem mm_apply (x y : FVec Ideal S128x128 .bf16) (i j : Fin 128) : mm x y (ix2 i j) = ∑ k : Fin 128, x (ix2 i k) * y (ix2 k j) := by
  pointwise [mm]

/-- A matrix of real numbers. -/
def IsMat (x : FVec Ideal S128x128 .f32) (A : Mat) : Prop := ∀ i j, x (ix2 i j) = ((A i j : ℝ) : EReal)

theorem inv0_real {a : FVec Ideal S128x128 .f32} {A : Mat} (h : IsMat a A) : IsMat (inv0 a) (1 - part 1 A) := fun i j => by
  have e : inv0 a (ix2 i j) = (if j = i then (1 : EReal) else 0)
      - Scalar.select (joins (BitVec.ofNat 32 (2 * 2 ^ (0 : Fin 7).val)) (BitVec.ofNat 32 (2 ^ (0 : Fin 7).val)) (ix2 i j)) (a (ix2 i j)) 0 := by
    have e7 : (k0_pay7 (F := Ideal)) (ix2 i j) = if j = i then (1 : EReal) else 0 := by
      pointwise [k0_pay7, eq_sel]
    rw [← e7]
    show _ - Scalar.select _ _ (Ideal.ofBits .f32 0x00000000#32) = _
    rw [Ideal.ofBits_zero_f32]
    rfl
  rw [e, joins_sel, h]
  show _ = (((1 : Mat) i j - (if Joins 1 i j then A i j else 0) : ℝ) : EReal)
  rw [Matrix.one_apply, EReal.coe_sub]
  refine congrArg₂ (· - ·) ?_ ?_
  · by_cases g : j = i
    · rw [if_pos g, if_pos g.symm, EReal.coe_one]
    · rw [if_neg g, if_neg fun x => g x.symm, EReal.coe_zero]
  · show (if Joins 1 i j then _ else _) = _
    split_ifs
    · rfl
    · exact EReal.coe_zero.symm

theorem invStep_real {a x : FVec Ideal S128x128 .f32} {A X : Mat} (k : Fin 7) (h : IsMat a A) (hx : IsMat x X) :
    IsMat (invStep (BitVec.ofNat 32 (2 * 2 ^ k.val)) (BitVec.ofNat 32 (2 ^ k.val)) a x) (X - X * part (2 ^ k.val) A * X) := fun i j => by
  have e : invStep (BitVec.ofNat 32 (2 * 2 ^ k.val)) (BitVec.ofNat 32 (2 ^ k.val)) a x (ix2 i j)
      = x (ix2 i j) - ∑ q : Fin 128, (∑ p : Fin 128, x (ix2 i p)
        * Scalar.select (joins (BitVec.ofNat 32 (2 * 2 ^ k.val)) (BitVec.ofNat 32 (2 ^ k.val)) (ix2 p q)) (a (ix2 p q)) (Ideal.ofBits .bf16 0x0000#16)) * x (ix2 q j) := by
    show x (ix2 i j) - mm (F := Ideal) _ _ (ix2 i j) = _
    rw [mm_apply]
    refine congrArg _ (Finset.sum_congr rfl fun q _ => congrArg (· * _) ?_)
    show mm (F := Ideal) _ _ (ix2 i q) = _
    rw [mm_apply]
    rfl
  have z : Ideal.ofBits .bf16 0x0000#16 = 0 := by simp [Ideal.ofBits, Ideal.ieee]
  rw [e, z]
  simp only [joins_sel, h _ _, hx _ _]
  show _ = ((X i j - ((X * part (2 ^ k.val) A) * X) i j : ℝ) : EReal)
  rw [Matrix.mul_apply, EReal.coe_sub, Cert.Ssd.coe_sum]
  refine congrArg _ (Finset.sum_congr rfl fun q _ => ?_)
  rw [EReal.coe_mul, Matrix.mul_apply, Cert.Ssd.coe_sum]
  refine congrArg (· * _) (Finset.sum_congr rfl fun p _ => ?_)
  rw [EReal.coe_mul]
  refine congrArg _ ?_
  show _ = ((if Joins (2 ^ k.val) p q then A p q else 0 : ℝ) : EReal)
  split_ifs
  · rfl
  · exact EReal.coe_zero.symm

theorem inv_real {a : FVec Ideal S128x128 .f32} {A : Mat} (h : IsMat a A) : IsMat (inv a) (tinv A 6) :=
  invStep_real 6 h (invStep_real 5 h (invStep_real 4 h (invStep_real 3 h (invStep_real 2 h (invStep_real 1 h (inv0_real h))))))

/-! ## One head of one chunk -/

variable (v0 : Vec Ideal S512x1536 .f32) (be g : FVec Ideal S512x128 .f32) (hn : FVec Ideal S1x128 .f32) (zR : Vec Ideal S512x512 .f32)
  (c h : Fin 4) (s : Vec Ideal S1x128x128 .f32)

theorem mask_bot : Named.named (F := Ideal) κ "mask" (φ := .f32) 0xF149F2CA#32 = (⊥ : EReal) := rfl

theorem pay3_apply (v4 : Vec Ideal S512x128 .f32) (i : Fin 512) (j : Fin 128) : k0_pay3 (F := Ideal) v4 (ix2 i j) = Ideal.logistic (v4 (ix2 i j)) := by
  pointwise [k0_pay3]
theorem gate_apply (v4 : Vec Ideal S512x128 .f32) (v6 v11 : Vec Ideal S1x128 .f32) (i : Fin 512) (j : Fin 128) :
    k0_pay4 (F := Ideal) v4 v6 v11 (ix2 i j) = (0 - Ideal.exp (v6 (ix2 0 j))) * softplus (v4 (ix2 i j) + v11 (ix2 0 j)) := by
  pointwise [k0_pay4, softplus]
  rfl
theorem pay9_apply (v : Vec Ideal S1x128 .f32) (j : Fin 128) : k0_pay9 (F := Ideal) v (ix2 0 j) = v (ix2 0 j) := by
  pointwise [k0_pay9]

theorem gcum_apply (i j : Fin 128) : gcum g c (ix2 i j)
    = ∑ k : Fin 128, (if k.val ≤ i.val then (1 : EReal) else 0) * g (ix2 ⟨128 * c.val + k.val, by omega⟩ j) := by
  pointwise [gcum, k0_pay8, k0_pay5, tri_sel]
theorem qn_apply (i p : Fin 128) : qn (F := Ideal) v0 c h (ix2 i p) = v0 (ix2 ⟨128 * c.val + i.val, by omega⟩ ⟨128 * h.val + p.val, by omega⟩)
    * (Ideal.rsqrt ((∑ r : Fin 128, v0 (ix2 ⟨128 * c.val + i.val, by omega⟩ ⟨128 * h.val + r.val, by omega⟩) * v0 (ix2 ⟨128 * c.val + i.val, by omega⟩ ⟨128 * h.val + r.val, by omega⟩))
      + Ideal.ofBits .f32 0x358637BD#32) * Ideal.ofBits .f32 0x3DB504F3#32) := by
  pointwise [qn, nrm]
theorem kn_apply (i p : Fin 128) : kn (F := Ideal) v0 c h (ix2 i p)
    = unitv (fun p => v0 (ix2 ⟨128 * c.val + i.val, by omega⟩ ⟨512 + 128 * h.val + p.val, by omega⟩)) p := by
  unfold unitv
  pointwise [kn, nrm]
theorem vn_apply (i p : Fin 128) : vn (F := Ideal) v0 c h (ix2 i p) = v0 (ix2 ⟨128 * c.val + i.val, by omega⟩ ⟨1024 + 128 * h.val + p.val, by omega⟩) := by
  pointwise [vn]
theorem bcol_apply (i : Fin 128) : bcol be c h (ix2 i 0) = be (ix2 ⟨128 * c.val + i.val, by omega⟩ ⟨h.val, by omega⟩) := by
  pointwise [bcol]
theorem col_apply (x : FVec Ideal S128x128 .f32) (i : Fin 128) : col x h (ix2 i 0) = x (ix2 i ⟨4 + h.val, by omega⟩) := by
  pointwise [col]
theorem decay_apply (x : FVec Ideal S128x128 .f32) (i j : Fin 128) : decay x h (ix2 i j)
    = Ideal.exp (if j.val ≤ i.val then x (ix2 i ⟨4 + h.val, by omega⟩) - x (ix2 j ⟨4 + h.val, by omega⟩) else ⊥) := by
  pointwise [decay, col, k0_pay5, tri_sel, mask_bot]
theorem qkM_apply (q k d : FVec Ideal S128x128 .f32) (i j : Fin 128) : qkM q k d (ix2 i j)
    = if j.val ≤ i.val then (∑ r : Fin 128, q (ix2 i r) * k (ix2 j r)) * d (ix2 i j) else 0 := by
  pointwise [qkM, qkkk, k0_pay5, tri_sel]
theorem aM_apply (q k d : FVec Ideal S128x128 .f32) (b : FVec Ideal S128x1 .f32) (i j : Fin 128) : aM q k d b (ix2 i j)
    = (if j.val < i.val then (∑ r : Fin 128, k (ix2 i r) * k (ix2 j r)) * d (ix2 i j) else 0) * b (ix2 i 0) := by
  pointwise [aM, qkkk, k0_pay6, lt_sel]
theorem rhsL_apply (k v : FVec Ideal S128x128 .f32) (b e : FVec Ideal S128x1 .f32) (i j : Fin 128) :
    rhs k v b e (ix2 i ⟨j.val, by omega⟩) = v (ix2 i j) * b (ix2 i 0) := by
  pointwise [rhs]
theorem rhsR_apply (k v : FVec Ideal S128x128 .f32) (b e : FVec Ideal S128x1 .f32) (i j : Fin 128) :
    rhs k v b e (ix2 i ⟨128 + j.val, by omega⟩) = k (ix2 i j) * (b (ix2 i 0) * e (ix2 i 0)) := by
  pointwise [rhs]
theorem uw_apply (i : Fin 128) (j : Fin 256) : uw v0 be g c h (ix2 i j)
    = ∑ l : Fin 128, inv (aM (qn v0 c h) (kn v0 c h) (decay (gcum g c) h) (bcol be c h)) (ix2 i l)
      * rhs (kn v0 c h) (vn v0 c h) (bcol be c h) (col (exp (gcum g c)) h) (ix2 l j) := by
  unfold uw
  generalize inv (F := Ideal) _ = A
  generalize rhs (F := Ideal) _ _ _ _ = B
  pointwise
theorem qdec_apply (i j : Fin 128) : qdec v0 g c h (ix2 i j) = qn v0 c h (ix2 i j) * Ideal.exp (gcum g c (ix2 i ⟨4 + h.val, by omega⟩)) := by
  unfold qdec
  generalize qn v0 c h = A
  generalize gcum g c = B
  pointwise [col]
theorem kdec_apply (i j : Fin 128) : kdec v0 g c h (ix2 i j)
    = kn v0 c h (ix2 i j) * Ideal.exp (gcum g c (ix2 127 ⟨4 + h.val, by omega⟩) - gcum g c (ix2 i ⟨4 + h.val, by omega⟩)) := by
  unfold kdec
  generalize kn v0 c h = A
  generalize gcum g c = B
  pointwise [col, glast]
theorem keep_apply : keep g c h (ix2 0 0) = Ideal.exp (gcum g c (ix2 127 ⟨4 + h.val, by omega⟩)) := by
  unfold keep
  generalize gcum g c = B
  pointwise [glast]
theorem st_apply (i j : Fin 128) : st (F := Ideal) s (ix2 i j) = s (ix3 0 i j) := by
  pointwise [st]
theorem wqL_apply (i j : Fin 128) : wq v0 be g c h s (ix2 ⟨i.val, by omega⟩ j)
    = ∑ p : Fin 128, uw v0 be g c h (ix2 i ⟨128 + p.val, by omega⟩) * s (ix3 0 p j) := by
  unfold wq st
  generalize uw v0 be g c h = A
  generalize qdec v0 g c h = B
  pointwise
theorem wqR_apply (i j : Fin 128) : wq v0 be g c h s (ix2 ⟨128 + i.val, by omega⟩ j)
    = ∑ p : Fin 128, qdec v0 g c h (ix2 i p) * s (ix3 0 p j) := by
  unfold wq st
  generalize uw v0 be g c h = A
  generalize qdec v0 g c h = B
  pointwise
theorem vb_apply (i j : Fin 128) : vb v0 be g c h s (ix2 i j)
    = uw v0 be g c h (ix2 i ⟨j.val, by omega⟩) - ∑ p : Fin 128, uw v0 be g c h (ix2 i ⟨128 + p.val, by omega⟩) * s (ix3 0 p j) := by
  rw [← wqL_apply]
  unfold vb
  generalize uw v0 be g c h = A
  generalize wq v0 be g c h s = B
  pointwise
theorem out_apply (i j : Fin 128) : out v0 be g c h s (ix2 i j)
    = (∑ p : Fin 128, qdec v0 g c h (ix2 i p) * s (ix3 0 p j)) + ∑ l : Fin 128, qk v0 g c h (ix2 i l) * vb v0 be g c h s (ix2 l j) := by
  rw [← wqR_apply (be := be)]
  unfold out
  generalize qk v0 g c h = A
  generalize wq v0 be g c h s = B
  generalize vb v0 be g c h s = C
  pointwise [mm]
theorem stNew_apply (p j : Fin 128) : stNew v0 be g c h s (ix3 0 p j)
    = s (ix3 0 p j) * keep g c h (ix2 0 0) + ∑ i : Fin 128, kdec v0 g c h (ix2 i p) * vb v0 be g c h s (ix2 i j) := by
  unfold stNew st
  generalize keep g c h = A
  generalize kdec v0 g c h = B
  generalize vb v0 be g c h s = C
  pointwise
theorem zP_apply (i j : Fin 128) : zP (F := Ideal) zR c h (ix2 i j) = zR (ix2 ⟨128 * c.val + i.val, by omega⟩ ⟨128 * h.val + j.val, by omega⟩) := by
  refine congrArg zR ?_
  funext a
  apply Fin.ext
  match a with
  | ⟨0, _⟩ => show 128 * c.val + 1 * i.val = 128 * c.val + i.val; omega
  | ⟨1, _⟩ => show 128 * h.val + 1 * j.val = 128 * h.val + j.val; omega
theorem fin_apply (x z : FVec Ideal S128x128 .f32) (w : Cert.Ssd.Line 128) (hw : ∀ p : Fin 128, hn (ix2 0 p) = w (ix1 p)) (i j : Fin 128) :
    fin hn x z (ix2 i j) = normed (fun p => x (ix2 i p)) w (z (ix2 i j)) j := by
  unfold normed
  rw [← hw]
  pointwise [fin]

end Cert.Kernel7Ideal.Blk
-- ==== Proof.GdnMath.lean ====
module

public import proofs.«01_k».proof.Proof.GdnOps

/-! # One chunk of one head is a stretch of the gated delta rule

Where a chunk's inputs are real numbers and the state it reads is the recurrence's at the chunk's first step, its
output is the recurrence's at each of its steps and the state it leaves is the recurrence's at the next chunk's
first step. -/

@[expose] public section

set_option maxRecDepth 16384

noncomputable section

namespace Cert.Kernel7Ideal.Blk

open Cert.Kernel7Ideal Cert.Kernel7Ideal.Gen Cert.Gdn Cert.Ssd
open Idealize.ShloMosaic Idealize.ShloMosaic.TcCoe Idealize.SL.Sem

variable (v0 : Vec Ideal S512x1536 .f32) (be g : FVec Ideal S512x128 .f32) (c h : Fin 4)
  (k v q : ℕ → Fin 128 → ℝ) (β a : ℕ → ℝ) (s : ℕ)

/-- What the chunk reads for its head: the recurrence's data from step `s` on. -/
structure Reads : Prop where
  hq : ∀ i p : Fin 128, qn v0 c h (ix2 i p) = ((q (s + i) p : ℝ) : EReal)
  hk : ∀ i p : Fin 128, kn v0 c h (ix2 i p) = ((k (s + i) p : ℝ) : EReal)
  hv : ∀ i p : Fin 128, vn v0 c h (ix2 i p) = ((v (s + i) p : ℝ) : EReal)
  hb : ∀ i : Fin 128, bcol be c h (ix2 i 0) = ((β (s + i) : ℝ) : EReal)
  ha : ∀ i : Fin 128, g (ix2 ⟨128 * c.val + i.val, by omega⟩ ⟨4 + h.val, by omega⟩) = ((a (s + i) : ℝ) : EReal)

/-- A state that is the recurrence's at step `s`. -/
def IsSt (st : Vec Ideal S1x128x128 .f32) (s : ℕ) : Prop := ∀ p j : Fin 128, st (ix3 0 p j) = ((S k v β a s p j : ℝ) : EReal)

variable {v0 be g c h k v q β a s}

theorem gcum_real (H : Reads v0 be g c h k v q β a s) (i : Fin 128) :
    gcum g c (ix2 i ⟨4 + h.val, by omega⟩) = ((cum a s (i + 1) : ℝ) : EReal) := by
  have e : cum a s (i + 1) = ∑ k : Fin 128, if k.val ≤ i.val then a (s + k) else 0 := by
    rw [Fin.sum_univ_eq_sum_range fun k => if k ≤ i.val then a (s + k) else 0, ← Finset.sum_filter]
    unfold cum
    refine Finset.sum_congr (Finset.ext fun k => ?_) fun _ _ => rfl
    have := i.isLt
    simp only [Finset.mem_range, Finset.mem_filter]
    omega
  rw [gcum_apply, e, coe_sum]
  refine Finset.sum_congr rfl fun k _ => ?_
  rw [H.ha k]
  split_ifs
  · rw [one_mul]
  · rw [zero_mul]; rfl

theorem decay_real (H : Reads v0 be g c h k v q β a s) (i j : Fin 128) : decay (gcum g c) h (ix2 i j)
    = (((if j.val ≤ i.val then Real.exp (cum a s (i + 1) - cum a s (j + 1)) else 0) : ℝ) : EReal) := by
  rw [decay_apply]
  split_ifs
  · rw [gcum_real H i, gcum_real H j, ← EReal.coe_sub, Ideal.exp_coe]
  · rw [Ideal.exp_bot]; rfl

theorem aM_real (H : Reads v0 be g c h k v q β a s) :
    IsMat (aM (qn v0 c h) (kn v0 c h) (decay (gcum g c) h) (bcol be c h)) (sysA k β a s) := fun i l => by
  rw [aM_apply, H.hb]
  unfold sysA
  by_cases e : l.val < i.val
  · rw [if_pos e, if_pos e, decay_real H, if_pos e.le, EReal.coe_mul, EReal.coe_mul, coe_sum]
    refine congrArg (· * _) (congrArg (· * _) (Finset.sum_congr rfl fun r _ => ?_))
    rw [H.hk, H.hk, EReal.coe_mul]
  · rw [if_neg e, if_neg e, zero_mul, EReal.coe_zero]

theorem qk_real (H : Reads v0 be g c h k v q β a s) (i l : Fin 128) : qk v0 g c h (ix2 i l)
    = (((if l.val ≤ i.val then (∑ r, q (s + i) r * k (s + l) r) * Real.exp (cum a s (i + 1) - cum a s (l + 1)) else 0) : ℝ) : EReal) := by
  unfold qk
  rw [qkM_apply]
  split_ifs with e
  · rw [decay_real H, if_pos e, EReal.coe_mul, coe_sum]
    refine congrArg (· * _) (Finset.sum_congr rfl fun r _ => ?_)
    rw [H.hq, H.hk, EReal.coe_mul]
  · exact EReal.coe_zero.symm

theorem uwL_real (H : Reads v0 be g c h k v q β a s) (i j : Fin 128) :
    uw v0 be g c h (ix2 i ⟨j.val, by omega⟩) = (((tinv (sysA k β a s) 6 * bv v β s) i j : ℝ) : EReal) := by
  rw [uw_apply, Matrix.mul_apply, coe_sum]
  refine Finset.sum_congr rfl fun l _ => ?_
  rw [inv_real (aM_real H) i l, rhsL_apply, H.hv, H.hb, ← EReal.coe_mul, ← EReal.coe_mul]
  rfl

theorem col_exp (x : FVec Ideal S128x128 .f32) (i : Fin 128) :
    col (exp x) h (ix2 i 0) = Ideal.exp (x (ix2 i ⟨4 + h.val, by omega⟩)) := by
  rw [col_apply]
  rfl

theorem uwR_real (H : Reads v0 be g c h k v q β a s) (i j : Fin 128) :
    uw v0 be g c h (ix2 i ⟨128 + j.val, by omega⟩) = (((tinv (sysA k β a s) 6 * bk k β a s) i j : ℝ) : EReal) := by
  rw [uw_apply, Matrix.mul_apply, coe_sum]
  refine Finset.sum_congr rfl fun l _ => ?_
  rw [inv_real (aM_real H) i l, rhsR_apply, H.hk, H.hb, col_exp, gcum_real H, Ideal.exp_coe, ← EReal.coe_mul, ← EReal.coe_mul, ← EReal.coe_mul]
  rfl

variable {st : Vec Ideal S1x128x128 .f32}

theorem vb_real (H : Reads v0 be g c h k v q β a s) (hs : IsSt k v β a st s) (i j : Fin 128) :
    vb v0 be g c h st (ix2 i j) = ((U k v β a s i j : ℝ) : EReal) := by
  rw [vb_apply, ← corrections, Matrix.sub_apply, EReal.coe_sub, uwL_real H]
  refine congrArg _ ?_
  rw [Matrix.mul_apply, coe_sum]
  refine Finset.sum_congr rfl fun p _ => ?_
  rw [uwR_real H, hs, EReal.coe_mul]

theorem out_real (H : Reads v0 be g c h k v q β a s) (hs : IsSt k v β a st s) (i j : Fin 128) :
    out v0 be g c h st (ix2 i j) = ((O k v q β a (s + i) j : ℝ) : EReal) := by
  rw [out_apply, output, EReal.coe_add, coe_sum, coe_sum]
  refine congrArg₂ (· + ·) (Finset.sum_congr rfl fun p _ => ?_) (Finset.sum_congr rfl fun l _ => ?_)
  · rw [qdec_apply, H.hq, gcum_real H, Ideal.exp_coe, hs, EReal.coe_mul, EReal.coe_mul]
  · rw [qk_real H, vb_real H hs, EReal.coe_mul]

theorem stNew_real (H : Reads v0 be g c h k v q β a s) (hs : IsSt k v β a st s) : IsSt k v β a (stNew v0 be g c h st) (s + 128) := fun p j => by
  rw [stNew_apply, update, EReal.coe_add, EReal.coe_mul, coe_sum, hs, keep_apply, gcum_real H, Ideal.exp_coe]
  refine congrArg₂ (· + ·) rfl (Finset.sum_congr rfl fun i _ => ?_)
  rw [kdec_apply, H.hk, gcum_real H, gcum_real H, vb_real H hs, ← EReal.coe_sub, Ideal.exp_coe, EReal.coe_mul, EReal.coe_mul]
  rfl

end Cert.Kernel7Ideal.Blk
-- ==== Proof.GdnHost.lean ====
module

public import proofs.«01_k».proof.Proof.Gen.Kernel7Ideal.Value
public import Idealize.ShloMosaic.Lib.StableHlo.RunRead
public import Idealize.ShloMosaic.Lib.Pointwise
public import Idealize.ShloMosaic.Lib.ValueIdx

/-! # What the gated delta rule's host code prepares, and the block that each window brings to a grid point -/

@[expose] public section

set_option maxRecDepth 16384

noncomputable section

namespace Cert.Kernel7Ideal.Blk

open Cert.Kernel7Ideal Cert.Kernel7Ideal.Gen
open Idealize.ShloMosaic Idealize.ShloMosaic.TcCoe Idealize.SL.Sem Idealize.ShloMosaic.StableHlo

variable (m : (ℓ : Loc nD τ sig) → Buf (Elt Ideal) ℓ) (c : Dev nD)

/-- An argument on core `c`. -/
abbrev argK (r : Ref sig .tc) : (Proc.devRef .tc r : DevRef τ sig).ty.Contents (Elt Ideal) := m ((c.tc : Thread nD τ).loc r)

/-- Four values in lanes 4 to 7 of 128. -/
def hPad (x : Vec Ideal S4 .f32) : Vec Ideal S1x128 .f32 :=
  pad S1x128 ![0, 4] ![0, 120] ![0, 0] (shapeCast S1x4 x shapeCasts_S4_S1x4) (sitofp (F := Ideal) .f32 (constantI S_ 32 0#32)) pads_S1x4_S1x128_000_41200 h_S_

theorem hPad_apply (x : Vec Ideal S4 .f32) (h : Fin 4) : hPad x (ix2 0 ⟨4 + h.val, by omega⟩) = x (ix1 h) := by
  unfold hPad pad
  rw [dif_pos (by
    intro a
    match a with
    | ⟨0, _⟩ => exact ⟨le_rfl, rfl, by show 0 / 1 < 1; decide⟩
    | ⟨1, _⟩ => exact ⟨Nat.le_add_right 4 h.val, by show (4 + h.val - 4) % 1 = 0; omega, by show (4 + h.val - 4) / 1 < 4; omega⟩)]
  have e : (fun a => ⟨(((ix2 (0 : Fin 1) (⟨4 + h.val, by omega⟩ : Fin 128) : S1x128.Idx) a).val - (![0, 4] : Fin 2 → ℕ) a) / ((![0, 0] : Fin 2 → ℕ) a + 1), by
      match a with
      | ⟨0, _⟩ => show 0 / 1 < 1; decide
      | ⟨1, _⟩ => show (4 + h.val - 4) / 1 < 4; omega⟩ : S1x4.Idx) = ix2 0 h := by
    funext a
    match a with
    | ⟨0, _⟩ => exact Fin.ext (show 0 / 1 = 0 from rfl)
    | ⟨1, _⟩ => exact Fin.ext (show (4 + h.val - 4) / 1 = h.val by omega)
  refine (congrArg (shapeCast S1x4 x shapeCasts_S4_S1x4) e).trans ?_
  pointwise

theorem V_v1 : V m c main_v1 = hPad (argK m c main_arg3) := by
  unfold V
  simp only [List.flatten_cons, List.flatten_nil, List.append_nil, after_append]
  after_reads_simp
  rfl

theorem V_v3 : V m c main_v3 = hPad (argK m c main_arg4) := by
  unfold V
  simp only [List.flatten_cons, List.flatten_nil, List.append_nil, after_append]
  after_reads_simp
  rfl

theorem V_v4 (q : Fin 128) : (V m c main_v4 : Vec Ideal S1x128 .f32) (ix2 0 q) = (argK m c main_arg5 : Vec Ideal S128 .f32) (ix1 q) := by
  unfold V
  simp only [List.flatten_cons, List.flatten_nil, List.append_nil, after_append]
  after_reads_simp
  pointwise

variable (t : Fin cfg0.N)

abbrev b0 : Vec Ideal S512x1536 .f32 := iblk m c 0 t
abbrev b1 : Vec Ideal S512x512 .f32 := iblk m c 1 t
abbrev b2 : Vec Ideal S512x128 .f32 := iblk m c 2 t
abbrev b3 : Vec Ideal S1x128 .f32 := iblk m c 3 t
abbrev b4 : Vec Ideal S1x128 .f32 := iblk m c 4 t
abbrev b5 : Vec Ideal S1x128 .f32 := iblk m c 5 t

theorem t_lt : t.val < 64 := lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem b0_apply (i : Fin 512) (k : Fin 1536) :
    b0 m c t (ix2 i k) = (argK m c main_arg0 : Vec Ideal S32768x1536 .f32) (ix2 ⟨512 * t.val + i.val, by have := t_lt t; omega⟩ k) := by
  show V m c main_arg0 (((cfg0.win 0).blk t).view.emb (ix2 i k)) = _
  rw [V_main_arg0]
  refine congrArg (argK m c main_arg0) ?_
  funext a
  apply Fin.ext
  obtain ⟨e0, e1⟩ := idx0 t
  match a with
  | ⟨0, _⟩ => show win0_0.index t (0 : Fin 2) * 512 + 1 * i.val = 512 * t.val + i.val; omega
  | ⟨1, _⟩ => show win0_0.index t (1 : Fin 2) * 1536 + 1 * k.val = k.val; omega

theorem b1_apply (i : Fin 512) (k : Fin 512) :
    b1 m c t (ix2 i k) = (argK m c main_arg1 : Vec Ideal S32768x512 .f32) (ix2 ⟨512 * t.val + i.val, by have := t_lt t; omega⟩ k) := by
  show V m c main_arg1 (((cfg0.win 1).blk t).view.emb (ix2 i k)) = _
  rw [V_main_arg1]
  refine congrArg (argK m c main_arg1) ?_
  funext a
  apply Fin.ext
  obtain ⟨e0, e1⟩ := idx1 t
  match a with
  | ⟨0, _⟩ => show win0_1.index t (0 : Fin 2) * 512 + 1 * i.val = 512 * t.val + i.val; omega
  | ⟨1, _⟩ => show win0_1.index t (1 : Fin 2) * 512 + 1 * k.val = k.val; omega

theorem b2_apply (i : Fin 512) (k : Fin 128) :
    b2 m c t (ix2 i k) = (argK m c main_arg2 : Vec Ideal S32768x128 .f32) (ix2 ⟨512 * t.val + i.val, by have := t_lt t; omega⟩ k) := by
  show V m c main_arg2 (((cfg0.win 2).blk t).view.emb (ix2 i k)) = _
  rw [V_main_arg2]
  refine congrArg (argK m c main_arg2) ?_
  funext a
  apply Fin.ext
  obtain ⟨e0, e1⟩ := idx2 t
  match a with
  | ⟨0, _⟩ => show win0_2.index t (0 : Fin 2) * 512 + 1 * i.val = 512 * t.val + i.val; omega
  | ⟨1, _⟩ => show win0_2.index t (1 : Fin 2) * 128 + 1 * k.val = k.val; omega

theorem b3_eq : b3 m c t = V m c main_v1 := by
  funext j
  show V m c main_v1 (((cfg0.win 3).blk t).view.emb j) = _
  refine congrArg (V m c main_v1) ?_
  funext a
  apply Fin.ext
  match a with
  | ⟨0, _⟩ => show 0 * 1 + 1 * (j 0).val = (j 0).val; omega
  | ⟨1, _⟩ => show 0 * 128 + 1 * (j 1).val = (j 1).val; omega

theorem b4_eq : b4 m c t = V m c main_v3 := by
  funext j
  show V m c main_v3 (((cfg0.win 4).blk t).view.emb j) = _
  refine congrArg (V m c main_v3) ?_
  funext a
  apply Fin.ext
  match a with
  | ⟨0, _⟩ => show 0 * 1 + 1 * (j 0).val = (j 0).val; omega
  | ⟨1, _⟩ => show 0 * 128 + 1 * (j 1).val = (j 1).val; omega

theorem b5_eq : b5 m c t = V m c main_v4 := by
  funext j
  show V m c main_v4 (((cfg0.win 5).blk t).view.emb j) = _
  refine congrArg (V m c main_v4) ?_
  funext a
  apply Fin.ext
  match a with
  | ⟨0, _⟩ => show 0 * 1 + 1 * (j 0).val = (j 0).val; omega
  | ⟨1, _⟩ => show 0 * 128 + 1 * (j 1).val = (j 1).val; omega

end Cert.Kernel7Ideal.Blk
-- ==== Proof.GdnGrid.lean ====
module

public import proofs.«01_k».proof.Proof.GdnOut
public import proofs.«01_k».proof.Proof.GdnMath
public import proofs.«01_k».proof.Proof.GdnHost

/-! # The gated delta rule's array: block by block it is the recurrence's result -/

@[expose] public section

set_option maxRecDepth 16384

noncomputable section

namespace Cert.Kernel7Ideal.Blk

open Cert.Kernel7Ideal Cert.Kernel7Ideal.Gen Cert.Gdn
open Cert.Ssd (Rows Line)
open Idealize.ShloMosaic Idealize.ShloMosaic.TcCoe Idealize.SL.Sem

variable {m : (ℓ : Loc nD τ sig) → Buf (Elt Ideal) ℓ} {c : Dev nD} {q k v : ℕ → ℕ → ℕ → Fin 128 → ℝ} {β a : ℕ → ℕ → ℕ → ℝ}

/-- The weights and the decays of a block, and its norm's weight. -/
abbrev wB (m : (ℓ : Loc nD τ sig) → Buf (Elt Ideal) ℓ) (c : Dev nD) (t : Fin cfg0.N) : FVec Ideal S512x128 .f32 := k0_pay3 (b2 m c t)
abbrev gB (m : (ℓ : Loc nD τ sig) → Buf (Elt Ideal) ℓ) (c : Dev nD) (t : Fin cfg0.N) : FVec Ideal S512x128 .f32 :=
  gate (b2 m c t) (b3 m c t) (b4 m c t)
abbrev hB (m : (ℓ : Loc nD τ sig) → Buf (Elt Ideal) ℓ) (c : Dev nD) (t : Fin cfg0.N) : FVec Ideal S1x128 .f32 := k0_pay9 (b5 m c t)

/-- Each head's state is its recurrence's at step `s`. -/
def AreSt (σ : Heads Ideal) (k v : ℕ → ℕ → Fin 128 → ℝ) (β a : ℕ → ℕ → ℝ) (s : ℕ) : Prop := ∀ h : Fin 4, IsSt (k h) (v h) (β h) (a h) (σ h) s

theorem areSt_zero (k v : ℕ → ℕ → Fin 128 → ℝ) (β a : ℕ → ℕ → ℝ) : AreSt (stG (zeroSt (F := Ideal))) k v β a 0 :=
  fun _ _ _ => Ideal.ofBits_zero_f32

theorem stG_apply (xs : Vec Ideal S4x128x128 .f32) (h : Fin 4) (p j : Fin 128) : stG xs h (ix3 0 p j) = xs (ix3 h p j) := by
  refine congrArg xs ?_
  funext a
  apply Fin.ext
  match a with
  | ⟨0, _⟩ => show h.val + 1 * 0 = h.val; omega
  | ⟨1, _⟩ => show 0 + 1 * p.val = p.val; omega
  | ⟨2, _⟩ => show 0 + 1 * j.val = j.val; omega

theorem row_eq (t n i : ℕ) : 512 * t + (128 * n + i) = 4096 * (t / 8) + (512 * (t % 8) + 128 * n + i) := by omega

theorem reads (H : Data (argK m c main_arg0) (argK m c main_arg2) (argK m c main_arg3) (argK m c main_arg4) q k v β a)
    (t : Fin cfg0.N) (n h : Fin 4) :
    Reads (b0 m c t) (wB m c t) (gB m c t) n h (k (t.val / 8) h) (v (t.val / 8) h) (q (t.val / 8) h) (β (t.val / 8) h) (a (t.val / 8) h)
      (512 * (t.val % 8) + 128 * n.val) := by
  have ht := t_lt t
  have row : ∀ (i : Fin 128) (h1 h2), (⟨512 * t.val + (128 * n.val + i.val), h1⟩ : Fin 32768)
      = ⟨4096 * (t.val / 8) + (512 * (t.val % 8) + 128 * n.val + i.val), h2⟩ := fun i h1 h2 => Fin.ext (row_eq _ _ _)
  have cell : ∀ (i : Fin 128) (p : Fin 1536), b0 m c t (ix2 ⟨128 * n.val + i.val, by omega⟩ p) = (argK m c main_arg0 : Vec Ideal S32768x1536 .f32)
      (ix2 ⟨4096 * (t.val / 8) + (512 * (t.val % 8) + 128 * n.val + i.val), by omega⟩ p) := fun i p => by
    rw [b0_apply]
    exact congrArg (fun r => (argK m c main_arg0 : Vec Ideal S32768x1536 .f32) (ix2 r p)) (row i _ _)
  have cell2 : ∀ (i : Fin 128) (p : Fin 128), b2 m c t (ix2 ⟨128 * n.val + i.val, by omega⟩ p) = (argK m c main_arg2 : Vec Ideal S32768x128 .f32)
      (ix2 ⟨4096 * (t.val / 8) + (512 * (t.val % 8) + 128 * n.val + i.val), by omega⟩ p) := fun i p => by
    rw [b2_apply]
    exact congrArg (fun r => (argK m c main_arg2 : Vec Ideal S32768x128 .f32) (ix2 r p)) (row i _ _)
  refine ⟨fun i p => ?_, fun i p => ?_, fun i p => ?_, fun i => ?_, fun i => ?_⟩
  · refine Eq.trans ?_ (H.hq ⟨t.val / 8, by omega⟩ ⟨512 * (t.val % 8) + 128 * n.val + i.val, by omega⟩ h p)
    rw [qn_apply]
    simp only [cell]
    exact (mul_assoc _ _ _).symm
  · refine Eq.trans ?_ (H.hk ⟨t.val / 8, by omega⟩ ⟨512 * (t.val % 8) + 128 * n.val + i.val, by omega⟩ h p)
    rw [kn_apply]
    simp only [cell]
    rfl
  · refine Eq.trans ?_ (H.hv ⟨t.val / 8, by omega⟩ ⟨512 * (t.val % 8) + 128 * n.val + i.val, by omega⟩ h p)
    rw [vn_apply, cell]
    rfl
  · refine Eq.trans ?_ (H.hb ⟨t.val / 8, by omega⟩ ⟨512 * (t.val % 8) + 128 * n.val + i.val, by omega⟩ h)
    rw [bcol_apply]
    refine (pay3_apply _ _ _).trans ?_
    rw [cell2]
    rfl
  · refine Eq.trans ?_ (H.ha ⟨t.val / 8, by omega⟩ ⟨512 * (t.val % 8) + 128 * n.val + i.val, by omega⟩ h)
    refine (gate_apply _ _ _ _ _).trans ?_
    rw [cell2, b3_eq, b4_eq, V_v1, V_v3, hPad_apply, hPad_apply, zero_sub]
    rfl

theorem bef_real (H : Data (argK m c main_arg0) (argK m c main_arg2) (argK m c main_arg3) (argK m c main_arg4) q k v β a)
    (t : Fin cfg0.N) {σ : Heads Ideal} (hσ : AreSt σ (k (t.val / 8)) (v (t.val / 8)) (β (t.val / 8)) (a (t.val / 8)) (512 * (t.val % 8))) :
    ∀ n : ℕ, n ≤ 4 → AreSt (bef (b0 m c t) (wB m c t) (gB m c t) σ n) (k (t.val / 8)) (v (t.val / 8)) (β (t.val / 8)) (a (t.val / 8))
      (512 * (t.val % 8) + 128 * n)
  | 0, _ => hσ
  | n + 1, hn => fun h => by
    have e : (Fin.ofNat 4 n).val = n := Nat.mod_eq_of_lt (by omega)
    have R := reads H t (Fin.ofNat 4 n) h
    rw [e] at R
    exact stNew_real R (bef_real H t hσ n (by omega) h)

/-- What the grid point leaves, from a state that is the recurrence's: the output block and the state array. -/
structure Leaves (m : (ℓ : Loc nD τ sig) → Buf (Elt Ideal) ℓ) (c : Dev nD) (q k v : ℕ → ℕ → ℕ → Fin 128 → ℝ) (β a : ℕ → ℕ → ℕ → ℝ)
    (t : Fin cfg0.N) (o : Vec Ideal S512x512 .bf16 × Vec Ideal S4x128x128 .f32) : Prop where
  out : ∀ i j : Fin 512, o.1 (ix2 i j) = result q k v β a (argK m c main_arg1) (argK m c main_arg5)
        (ix2 ⟨512 * t.val + i.val, by have := t_lt t; omega⟩ j)
  state : AreSt (stG o.2) (k (t.val / 8)) (v (t.val / 8)) (β (t.val / 8)) (a (t.val / 8)) (512 * (t.val % 8) + 512)

theorem leaves (H : Data (argK m c main_arg0) (argK m c main_arg2) (argK m c main_arg3) (argK m c main_arg4) q k v β a)
    (t : Fin cfg0.N) {σ : Heads Ideal} (hσ : AreSt σ (k (t.val / 8)) (v (t.val / 8)) (β (t.val / 8)) (a (t.val / 8)) (512 * (t.val % 8))) :
    Leaves m c q k v β a t (outBlk (b0 m c t) (wB m c t) (gB m c t) (hB m c t) (b1 m c t) σ,
      scrBlk (b0 m c t) (wB m c t) (gB m c t) σ) where
  out i j := by
    have ht := t_lt t
    have hi := i.isLt
    have hj := j.isLt
    have R := reads H t ⟨i.val / 128, by omega⟩ ⟨j.val / 128, by omega⟩
    have B := bef_real H t hσ (i.val / 128) (by omega) ⟨j.val / 128, by omega⟩
    have hw : ∀ p : Fin 128, hB m c t (ix2 0 p) = (argK m c main_arg5 : Line 128) (ix1 p) := fun p => by
      refine (pay9_apply _ _).trans ?_
      rw [b5_eq, V_v4]
    show res _ _ _ _ _ ⟨i.val / 128, _⟩ ⟨j.val / 128, _⟩ (bef _ _ _ σ (i.val / 128) ⟨j.val / 128, _⟩)
      (ix2 ⟨i.val % 128, _⟩ ⟨j.val % 128, _⟩) = _
    unfold res
    rw [fin_apply _ _ _ _ hw]
    have eo : ∀ p : Fin 128, out (b0 m c t) (wB m c t) (gB m c t) ⟨i.val / 128, by omega⟩ ⟨j.val / 128, by omega⟩
          (bef (b0 m c t) (wB m c t) (gB m c t) σ (i.val / 128) ⟨j.val / 128, by omega⟩) (ix2 ⟨i.val % 128, Nat.mod_lt _ (by decide)⟩ p)
        = ((O (k ((512 * t.val + i.val) / 4096) (j.val / 128)) (v ((512 * t.val + i.val) / 4096) (j.val / 128))
            (q ((512 * t.val + i.val) / 4096) (j.val / 128)) (β ((512 * t.val + i.val) / 4096) (j.val / 128))
            (a ((512 * t.val + i.val) / 4096) (j.val / 128)) ((512 * t.val + i.val) % 4096) p : ℝ) : EReal) := fun p => by
      refine (out_real R B _ p).trans ?_
      rw [show (512 * t.val + i.val) / 4096 = t.val / 8 by omega,
        show (512 * t.val + i.val) % 4096 = 512 * (t.val % 8) + 128 * (i.val / 128) + i.val % 128 by omega]
    have ez : zP (b1 m c t) ⟨i.val / 128, by omega⟩ ⟨j.val / 128, by omega⟩ (ix2 ⟨i.val % 128, Nat.mod_lt _ (by decide)⟩ ⟨j.val % 128, Nat.mod_lt _ (by decide)⟩)
        = (argK m c main_arg1 : Rows 512 .f32) (ix2 ⟨512 * t.val + i.val, by omega⟩ j) := by
      rw [zP_apply, b1_apply]
      refine congrArg (argK m c main_arg1 : Rows 512 .f32) (congrArg₂ ix2 (Fin.ext ?_) (Fin.ext ?_))
      · show 512 * t.val + (128 * (i.val / 128) + i.val % 128) = 512 * t.val + i.val
        omega
      · show 128 * (j.val / 128) + j.val % 128 = j.val
        omega
    rw [ez, funext eo]
    rfl
  state h p j := by
    rw [stG_apply]
    exact bef_real H t hσ 4 le_rfl h p j

theorem outs_first (t : Fin cfg0.N) (h0 : t.val % 8 = 0) : outsAt0 m c t.val t.isLt
    = (outBlk (b0 m c t) (wB m c t) (gB m c t) (hB m c t) (b1 m c t) (stG zeroSt), scrBlk (b0 m c t) (wB m c t) (gB m c t) (stG zeroSt)) := by
  rw [outsAt0_A m c t h0]
  exact congrArg₂ Prod.mk (outA_eq ..) (scrA_eq ..)

theorem outs_next (t : Fin cfg0.N) (h0 : ¬t.val % 8 = 0) (xs : Vec Ideal S4x128x128 .f32)
    (hS : (outsAt0 m c (t.val - 1) (Nat.lt_of_le_of_lt (Nat.sub_le _ _) t.isLt)).2 = xs) : outsAt0 m c t.val t.isLt
    = (outBlk (b0 m c t) (wB m c t) (gB m c t) (hB m c t) (b1 m c t) (stG xs), scrBlk (b0 m c t) (wB m c t) (gB m c t) (stG xs)) := by
  rw [outsAt0_B m c t h0, hS]
  exact congrArg₂ Prod.mk (outB_eq ..) (scrB_eq ..)

theorem leaves_all (H : Data (argK m c main_arg0) (argK m c main_arg2) (argK m c main_arg3) (argK m c main_arg4) q k v β a) :
    ∀ (n : ℕ) (t : Fin cfg0.N), t.val = n → Leaves m c q k v β a t (outsAt0 m c t.val t.isLt) := by
  intro n
  induction n with
  | zero =>
    intro t ht
    have h0 : t.val % 8 = 0 := by rw [ht]
    rw [outs_first t h0]
    refine leaves H t ?_
    rw [h0]
    exact areSt_zero _ _ _ _
  | succ n ih =>
    intro t ht
    by_cases h0 : t.val % 8 = 0
    · rw [outs_first t h0]
      refine leaves H t ?_
      rw [h0]
      exact areSt_zero _ _ _ _
    · have I := (ih ⟨t.val - 1, Nat.lt_of_le_of_lt (Nat.sub_le _ _) t.isLt⟩ (by show t.val - 1 = n; omega)).state
      rw [outs_next t h0 _ rfl]
      refine leaves H t ?_
      have e1 : t.val / 8 = (t.val - 1) / 8 := by omega
      have e2 : 512 * (t.val % 8) = 512 * ((t.val - 1) % 8) + 512 := by omega
      rw [e1, e2]
      exact I

theorem G6_eq (H : Data (argK m c main_arg0) (argK m c main_arg2) (argK m c main_arg3) (argK m c main_arg4) q k v β a) :
    Value.G6 m c = result q k v β a (argK m c main_arg1) (argK m c main_arg5) := by
  funext i
  have h0 : (i 0).val < 32768 := (i 0).isLt
  have h1 : (i 1).val < 512 := (i 1).isLt
  have hp : Value.pt6Of i = (i 0).val / 512 := by
    show 1 * ((i 0).val / 512 - 0) + 1 * ((i 1).val / 512 - 0) = _
    omega
  have hN : Value.pt6Of i < cfg0.N := by rw [hp]; exact lt_of_lt_of_eq (by omega) N_0.symm
  unfold Value.G6
  rw [dif_pos hN, ← Value.outsAt0_sweep m c _ hN]
  have e : Value.loc6Of i = ix2 (⟨(i 0).val % 512, Nat.mod_lt _ (by decide)⟩ : Fin 512) (⟨(i 1).val, h1⟩ : Fin 512) := by
    funext a
    apply Fin.ext
    match a with
    | ⟨0, _⟩ => rfl
    | ⟨1, _⟩ => exact Nat.mod_eq_of_lt h1
  rw [e, (leaves_all H _ ⟨_, hN⟩ rfl).out]
  refine congrArg _ ?_
  funext a
  apply Fin.ext
  match a with
  | ⟨0, _⟩ => show 512 * Value.pt6Of i + (i 0).val % 512 = (i 0).val; omega
  | ⟨1, _⟩ => rfl

end Cert.Kernel7Ideal.Blk
-- ==== Proof.GdnLoop.lean ====
module

public import proofs.«01_k».proof.Proof.Gen.Reference7Ideal.Run
public import proofs.«01_k».proof.Proof.RefLoop
public import proofs.«01_k».proof.Proof.GdnSpec

/-! # The reference's loop over time is the gated delta rule -/

@[expose] public section

set_option maxRecDepth 16384

noncomputable section

namespace Cert.Reference7Ideal.Loop

open Cert.Reference7Ideal Cert.Reference7Ideal.Gen Cert.Reference7Ideal.Value
open Idealize.ShloMosaic Idealize.ShloMosaic.TcCoe Idealize.SL.Sem Idealize.ShloMosaic.StableHlo
open Cert.ReferenceIdeal.Loop (toInt_step dyn4)

/-- The slice at step `k` of an array over time. -/
theorem dyn3 {α : Type} {n1 n2 : ℕ} (x : (⟨3, ![4096, n1, n2]⟩ : Shape).Idx → α) (k : Fin 4096) (start : Fin 3 → Int)
    (h0 : start 0 = k.val) (h1 : start 1 = 0) (h2 : start 2 = 0)
    (h : (⟨3, ![4096, n1, n2]⟩ : Shape).Slices (fun _ => 0) ⟨3, ![1, n1, n2]⟩) :
    Host.dynamicSlice ⟨3, ![1, n1, n2]⟩ x start h = fun j => x (ix3 k (j 1) (j 2)) := by
  funext j
  have hk := k.isLt
  rw [Host.dynamicSlice_apply]
  refine congrArg x (funext fun a => Fin.ext ?_)
  match a with
  | ⟨0, _⟩ =>
    have hj : (j 0).val < 1 := (j 0).isLt
    have e := Host.clampedStart_of_le h.1 start 0 k.val h0 (show k.val + 1 ≤ 4096 by omega)
    show Host.clampedStart _ _ h.1 start 0 + (j 0).val = k.val
    omega
  | ⟨1, _⟩ =>
    have e := Host.clampedStart_of_le h.1 start 1 0 h1 (show 0 + n1 ≤ n1 by omega)
    show Host.clampedStart _ _ h.1 start 1 + (j 1).val = (j 1).val
    omega
  | ⟨2, _⟩ =>
    have e := Host.clampedStart_of_le h.1 start 2 0 h2 (show 0 + n2 ≤ n2 by omega)
    show Host.clampedStart _ _ h.1 start 2 + (j 2).val = (j 2).val
    omega

/-- An array over time with step `k` replaced. -/
theorem upd4 {α : Type} {n1 n2 n3 : ℕ} (x : (⟨4, ![4096, n1, n2, n3]⟩ : Shape).Idx → α)
    (u : (⟨4, ![1, n1, n2, n3]⟩ : Shape).Idx → α) (k : Fin 4096) (start : Fin 4 → Int)
    (h0 : start 0 = k.val) (h1 : start 1 = 0) (h2 : start 2 = 0) (h3 : start 3 = 0)
    (h : (⟨4, ![4096, n1, n2, n3]⟩ : Shape).Slices (fun _ => 0) ⟨4, ![1, n1, n2, n3]⟩)
    (t : Fin 4096) (i : Fin n1) (g : Fin n2) (r : Fin n3) :
    Host.dynamicUpdateSlice x u start h (ix4 t i g r) = if t = k then u (ix4 0 i g r) else x (ix4 t i g r) := by
  have hk := k.isLt
  have e0 := Host.clampedStart_of_le h.1 start 0 k.val h0 (show k.val + 1 ≤ 4096 by omega)
  have e1 := Host.clampedStart_of_le h.1 start 1 0 h1 (show 0 + n1 ≤ n1 by omega)
  have e2 := Host.clampedStart_of_le h.1 start 2 0 h2 (show 0 + n2 ≤ n2 by omega)
  have e3 := Host.clampedStart_of_le h.1 start 3 0 h3 (show 0 + n3 ≤ n3 by omega)
  rw [Host.dynamicUpdateSlice_apply]
  by_cases hj : t = k
  · subst hj
    rw [if_pos rfl, dif_pos]
    · refine congrArg u (funext fun a => Fin.ext ?_)
      match a with
      | ⟨0, _⟩ => show t.val - Host.clampedStart _ _ h.1 start 0 = 0; omega
      | ⟨1, _⟩ => show i.val - Host.clampedStart _ _ h.1 start 1 = i.val; omega
      | ⟨2, _⟩ => show g.val - Host.clampedStart _ _ h.1 start 2 = g.val; omega
      | ⟨3, _⟩ => show r.val - Host.clampedStart _ _ h.1 start 3 = r.val; omega
    · intro a
      match a with
      | ⟨0, _⟩ => show Host.clampedStart _ _ h.1 start 0 ≤ t.val ∧ t.val < Host.clampedStart _ _ h.1 start 0 + 1; omega
      | ⟨1, _⟩ => show Host.clampedStart _ _ h.1 start 1 ≤ i.val ∧ i.val < Host.clampedStart _ _ h.1 start 1 + n1; omega
      | ⟨2, _⟩ => show Host.clampedStart _ _ h.1 start 2 ≤ g.val ∧ g.val < Host.clampedStart _ _ h.1 start 2 + n2; omega
      | ⟨3, _⟩ => show Host.clampedStart _ _ h.1 start 3 ≤ r.val ∧ r.val < Host.clampedStart _ _ h.1 start 3 + n3; omega
  · rw [if_neg hj, dif_neg]
    intro hin
    have h0' : Host.clampedStart _ _ h.1 start 0 ≤ t.val ∧ t.val < Host.clampedStart _ _ h.1 start 0 + 1 := hin 0
    exact hj (Fin.ext (by omega))

/-- Where the slices of step `k` start. -/
abbrev at4 (k : IVec S_ 32) : Fin 4 → Int :=
  fun i => (((![k, constantI S_ 32 0#32, constantI S_ 32 0#32, constantI S_ 32 0#32] : Fin 4 → IVec S_ 32)) i (Shape.Idx.first h_S_)).toInt
abbrev at3 (k : IVec S_ 32) : Fin 3 → Int :=
  fun i => (((![k, constantI S_ 32 0#32, constantI S_ 32 0#32] : Fin 3 → IVec S_ 32)) i (Shape.Idx.first h_S_)).toInt
/-- Step `k` of an array of vectors, and of numbers. -/
def vecAt (x : FVec Ideal S4096x8x4x128 .f32) (k : IVec S_ 32) : FVec Ideal S8x4x128 .f32 :=
  shapeCast S8x4x128 (Host.dynamicSlice S1x8x4x128 x (at4 k) sliceFits_S4096x8x4x128_S1x8x4x128) shapeCasts_S1x8x4x128_S8x4x128
def numAt (x : FVec Ideal S4096x8x4 .f32) (k : IVec S_ 32) : FVec Ideal S8x4 .f32 :=
  shapeCast S8x4 (Host.dynamicSlice S1x8x4 x (at3 k) sliceFits_S4096x8x4_S1x8x4) shapeCasts_S1x8x4_S8x4

/-- The decayed state. -/
def decayed (g : FVec Ideal S4096x8x4 .f32) (k : IVec S_ 32) (s : FVec Ideal S8x4x128x128 .f32) : FVec Ideal S8x4x128x128 .f32 :=
  mulf s (broadcastInDim S8x4x128x128 ![0, 1, 2, 3] bcast_S8x4x1x1_S8x4x128x128_0_1_2_3 (broadcastInDim S8x4x1x1 ![0, 1] bcast_S8x4_S8x4x1x1_0_1 (Host.exp (numAt g k))))
/-- The sum over the keys' channel. -/
def along (s : FVec Ideal S8x4x128x128 .f32) (x : FVec Ideal S8x4x128 .f32) : FVec Ideal S8x4x128 .f32 :=
  Host.dotGeneral dot_S8x4x128x128_S8x4x128_S8x4x128_2_2_3_n_01_01 none s x
/-- The state after a step. -/
def stepState (ks vs : FVec Ideal S4096x8x4x128 .f32) (g b : FVec Ideal S4096x8x4 .f32) (k : IVec S_ 32)
    (s : FVec Ideal S8x4x128x128 .f32) : FVec Ideal S8x4x128x128 .f32 :=
  addf (decayed g k s) (mulf (broadcastInDim S8x4x128x128 ![0, 1, 2, 3] bcast_S8x4x128x1_S8x4x128x128_0_1_2_3 (broadcastInDim S8x4x128x1 ![0, 1, 2] bcast_S8x4x128_S8x4x128x1_0_1_2 (vecAt ks k)))
    (broadcastInDim S8x4x128x128 ![0, 1, 2, 3] bcast_S8x4x1x128_S8x4x128x128_0_1_2_3 (broadcastInDim S8x4x1x128 ![0, 1, 3] bcast_S8x4x128_S8x4x1x128_0_1_3
      (mulf (broadcastInDim S8x4x128 ![0, 1, 2] bcast_S8x4x1_S8x4x128_0_1_2 (broadcastInDim S8x4x1 ![0, 1] bcast_S8x4_S8x4x1_0_1 (numAt b k)))
        (subf (vecAt vs k) (along (decayed g k s) (vecAt ks k)))))))

theorem step6_eq (V : Valuation τ sig (Elt Ideal)) : step_main_v51_6 V
    = stepState (V (Proc.devRef .tc main_v51_1)) (V (Proc.devRef .tc main_v51_2)) (V (Proc.devRef .tc main_v51_3))
        (V (Proc.devRef .tc main_v51_4)) (V (Proc.devRef .tc main_v51_5)) (V (Proc.devRef .tc main_v51_6)) := rfl

theorem vecAt_apply (x : FVec Ideal S4096x8x4x128 .f32) (k : Fin 4096) (i : Fin 8) (h : Fin 4) (p : Fin 128) :
    vecAt x (fun _ => BitVec.ofNat 32 k.val) (ix3 i h p) = x (ix4 k i h p) := by
  unfold vecAt
  have e := dyn4 x k (at4 fun _ => BitVec.ofNat 32 k.val) (toInt_step k) rfl rfl rfl sliceFits_S4096x8x4x128_S1x8x4x128
  erw [e]
  pointwise
theorem numAt_apply (x : FVec Ideal S4096x8x4 .f32) (k : Fin 4096) (i : Fin 8) (h : Fin 4) :
    numAt x (fun _ => BitVec.ofNat 32 k.val) (ix2 i h) = x (ix3 k i h) := by
  unfold numAt
  have e := dyn3 x k (at3 fun _ => BitVec.ofNat 32 k.val) (toInt_step k) rfl rfl sliceFits_S4096x8x4_S1x8x4
  erw [e]
  pointwise

theorem decayed_apply (g : FVec Ideal S4096x8x4 .f32) (k : Fin 4096) (s : FVec Ideal S8x4x128x128 .f32) (i : Fin 8) (h : Fin 4) (p j : Fin 128) :
    decayed g (fun _ => BitVec.ofNat 32 k.val) s (ix4 i h p j) = s (ix4 i h p j) * Ideal.exp (g (ix3 k i h)) := by
  rw [← numAt_apply g k i h]
  unfold decayed
  generalize numAt g _ = A
  pointwise
theorem along_apply (s : FVec Ideal S8x4x128x128 .f32) (x : FVec Ideal S8x4x128 .f32) (i : Fin 8) (h : Fin 4) (j : Fin 128) :
    along s x (ix3 i h j) = ∑ r : Fin 128, s (ix4 i h r j) * x (ix3 i h r) := by
  pointwise [along]

theorem stepState_apply (ks vs : FVec Ideal S4096x8x4x128 .f32) (g b : FVec Ideal S4096x8x4 .f32) (k : Fin 4096)
    (s : FVec Ideal S8x4x128x128 .f32) (i : Fin 8) (h : Fin 4) (p j : Fin 128) :
    stepState ks vs g b (fun _ => BitVec.ofNat 32 k.val) s (ix4 i h p j)
      = s (ix4 i h p j) * Ideal.exp (g (ix3 k i h)) + ks (ix4 k i h p)
        * (b (ix3 k i h) * (vs (ix4 k i h j) - ∑ r : Fin 128, s (ix4 i h r j) * Ideal.exp (g (ix3 k i h)) * ks (ix4 k i h r))) := by
  have e : ∀ j, along (decayed g (fun _ => BitVec.ofNat 32 k.val) s) (vecAt ks (fun _ => BitVec.ofNat 32 k.val)) (ix3 i h j)
      = ∑ r : Fin 128, s (ix4 i h r j) * Ideal.exp (g (ix3 k i h)) * ks (ix4 k i h r) := fun j => by
    rw [along_apply]
    exact Finset.sum_congr rfl fun r _ => by rw [decayed_apply, vecAt_apply]
  rw [← e, ← decayed_apply, ← vecAt_apply ks, ← vecAt_apply vs, ← numAt_apply b]
  unfold stepState
  generalize along _ _ = A
  generalize vecAt ks _ = K
  generalize vecAt vs _ = W
  generalize numAt b _ = B
  generalize decayed _ _ _ = D
  pointwise

/-- The outputs after a step. -/
def stepOut (q : FVec Ideal S4096x8x4x128 .f32) (k : IVec S_ 32) (s : FVec Ideal S8x4x128x128 .f32)
    (y : FVec Ideal S4096x8x4x128 .f32) : FVec Ideal S4096x8x4x128 .f32 :=
  Host.dynamicUpdateSlice y (broadcastInDim S1x8x4x128 ![1, 2, 3] bcast_S8x4x128_S1x8x4x128_1_2_3 (along s (vecAt q k))) (at4 k)
    updateFits_S4096x8x4x128_S1x8x4x128

theorem step7_eq (V : Valuation τ sig (Elt Ideal)) : step_main_v51_7 V
    = stepOut (V (Proc.devRef .tc main_v51_0)) (V (Proc.devRef .tc main_v51_5)) (step_main_v51_6 V) (V (Proc.devRef .tc main_v51_7)) := by
  unfold step_main_v51_7 step_main_v51_6 stepOut
  simp only [id]
  rfl

theorem stepOut_apply (q : FVec Ideal S4096x8x4x128 .f32) (k : Fin 4096) (s : FVec Ideal S8x4x128x128 .f32)
    (y : FVec Ideal S4096x8x4x128 .f32) (t : Fin 4096) (i : Fin 8) (h : Fin 4) (j : Fin 128) :
    stepOut q (fun _ => BitVec.ofNat 32 k.val) s y (ix4 t i h j)
      = if t = k then ∑ r : Fin 128, s (ix4 i h r j) * q (ix4 k i h r) else y (ix4 t i h j) := by
  unfold stepOut
  have e : along s (vecAt q (fun _ => BitVec.ofNat 32 k.val)) (ix3 i h j) = ∑ r : Fin 128, s (ix4 i h r j) * q (ix4 k i h r) := by
    rw [along_apply]
    exact Finset.sum_congr rfl fun r _ => by rw [vecAt_apply]
  rw [← e]
  generalize along _ _ = A
  refine (upd4 y _ k (at4 fun _ => BitVec.ofNat 32 k.val) (toInt_step k) rfl rfl rfl updateFits_S4096x8x4x128_S1x8x4x128 t i h j).trans ?_
  refine if_congr Iff.rfl ?_ rfl
  pointwise

/-! ## The loop's invariant -/

variable (q kk vv : ℕ → ℕ → ℕ → Fin 128 → ℝ) (β a : ℕ → ℕ → ℕ → ℝ)

/-- The loop's operands hold the recurrence's vectors and numbers; the state is zero and the counter 0. -/
structure Entry (V : Valuation τ sig (Elt Ideal)) : Prop where
  hq : ∀ (t : Fin 4096) (i : Fin 8) (h : Fin 4) (p : Fin 128),
    (V (Proc.devRef .tc main_v51_0) : FVec Ideal S4096x8x4x128 .f32) (ix4 t i h p) = ((q i h t p : ℝ) : EReal)
  hk : ∀ (t : Fin 4096) (i : Fin 8) (h : Fin 4) (p : Fin 128),
    (V (Proc.devRef .tc main_v51_1) : FVec Ideal S4096x8x4x128 .f32) (ix4 t i h p) = ((kk i h t p : ℝ) : EReal)
  hv : ∀ (t : Fin 4096) (i : Fin 8) (h : Fin 4) (p : Fin 128),
    (V (Proc.devRef .tc main_v51_2) : FVec Ideal S4096x8x4x128 .f32) (ix4 t i h p) = ((vv i h t p : ℝ) : EReal)
  ha : ∀ (t : Fin 4096) (i : Fin 8) (h : Fin 4),
    (V (Proc.devRef .tc main_v51_3) : FVec Ideal S4096x8x4 .f32) (ix3 t i h) = ((a i h t : ℝ) : EReal)
  hb : ∀ (t : Fin 4096) (i : Fin 8) (h : Fin 4),
    (V (Proc.devRef .tc main_v51_4) : FVec Ideal S4096x8x4 .f32) (ix3 t i h) = ((β i h t : ℝ) : EReal)
  hc : (V (Proc.devRef .tc main_v51_5) : IVec S_ 32) = fun _ => BitVec.ofNat 32 0
  hs : ∀ (i : Fin 8) (h : Fin 4) (p j : Fin 128),
    (V (Proc.devRef .tc main_v51_6) : FVec Ideal S8x4x128x128 .f32) (ix4 i h p j) = ((0 : ℝ) : EReal)

/-- A buffer that one trip leaves, after any number of trips. -/
theorem keep {r : DevRef τ sig} (h : ∀ V : Valuation τ sig (Elt Ideal), STEP V r = V r) (V : Valuation τ sig (Elt Ideal)) (n : ℕ) :
    STEP^[n] V r = V r := by
  induction n with
  | zero => rfl
  | succ n ih => rw [Function.iterate_succ_apply', h, ih]

variable {V : Valuation τ sig (Elt Ideal)}

theorem counter (h0 : (V (Proc.devRef .tc main_v51_5) : IVec S_ 32) = fun _ => BitVec.ofNat 32 0) (n : ℕ) :
    (STEP^[n] V (Proc.devRef .tc main_v51_5) : IVec S_ 32) = fun _ => BitVec.ofNat 32 n := by
  induction n with
  | zero => exact h0
  | succ n ih =>
    rw [Function.iterate_succ_apply', STEP_main_v51_5]
    unfold step_main_v51_5
    rw [ih]
    funext j
    show BitVec.ofNat 32 n + 1#32 = BitVec.ofNat 32 (n + 1)
    rw [BitVec.ofNat_add]

variable {q kk vv β a}

theorem state_real (E : Entry q kk vv β a V) (n : ℕ) (hn : n ≤ 4096) (i : Fin 8) (h : Fin 4) (p j : Fin 128) :
    (STEP^[n] V (Proc.devRef .tc main_v51_6) : FVec Ideal S8x4x128x128 .f32) (ix4 i h p j)
      = ((Cert.Gdn.S (kk i h) (vv i h) (β i h) (a i h) n p j : ℝ) : EReal) := by
  induction n generalizing p j with
  | zero => exact E.hs i h p j
  | succ n ih =>
    rw [Function.iterate_succ_apply', STEP_main_v51_6, step6_eq, keep STEP_main_v51_1, keep STEP_main_v51_2, keep STEP_main_v51_3,
      keep STEP_main_v51_4, counter E.hc]
    refine (stepState_apply _ _ _ _ (⟨n, hn⟩ : Fin 4096) _ i h p j).trans ?_
    simp only [ih (Nat.le_of_succ_le hn), E.hk, E.hv, E.ha, E.hb, Ideal.exp_coe, ← EReal.coe_mul]
    rw [← Cert.Ssd.coe_sum, ← EReal.coe_sub, ← EReal.coe_mul, ← EReal.coe_mul, ← EReal.coe_add]
    refine congrArg _ ?_
    simp only [mul_comm (Cert.Gdn.S _ _ _ _ _ _ _) (Real.exp _)]
    rfl

theorem out_real (E : Entry q kk vv β a V) (n : ℕ) (hn : n ≤ 4096) (t : Fin 4096) (ht : t.val < n) (i : Fin 8) (h : Fin 4) (j : Fin 128) :
    (STEP^[n] V (Proc.devRef .tc main_v51_7) : FVec Ideal S4096x8x4x128 .f32) (ix4 t i h j)
      = ((Cert.Gdn.O (kk i h) (vv i h) (q i h) (β i h) (a i h) t j : ℝ) : EReal) := by
  induction n with
  | zero => omega
  | succ n ih =>
    rw [Function.iterate_succ_apply', STEP_main_v51_7, step7_eq, keep STEP_main_v51_0, counter E.hc]
    refine (stepOut_apply _ (⟨n, hn⟩ : Fin 4096) _ _ t i h j).trans ?_
    split_ifs with e
    · subst e
      rw [Cert.Gdn.O, Cert.Ssd.coe_sum]
      refine Finset.sum_congr rfl fun r _ => ?_
      have e := state_real E (n + 1) hn i h r j
      rw [Function.iterate_succ_apply', STEP_main_v51_6] at e
      rw [e, E.hq, ← EReal.coe_mul]
    · exact ih (Nat.le_of_succ_le hn) (by
        have : t.val ≠ n := fun x => e (Fin.ext x)
        omega)

end Cert.Reference7Ideal.Loop
-- ==== Proof.GdnEnds.lean ====
module

public import proofs.«01_k».proof.Proof.GdnLoop

/-! # The reference's operations before and after its loop -/

@[expose] public section

set_option maxRecDepth 16384

noncomputable section

namespace Cert.Reference7Ideal.Loop

open Cert.Reference7Ideal Cert.Reference7Ideal.Gen Cert.Reference7Ideal.Value Cert.Gdn
open Idealize.ShloMosaic Idealize.ShloMosaic.TcCoe Idealize.SL.Sem Idealize.ShloMosaic.StableHlo
open Cert.KernelIdeal.Blk (softplus)

/-- The softplus, as the host writes it. -/
def hSoft (x : FVec Ideal S8x4096x4 .f32) : FVec Ideal S8x4096x4 .f32 :=
  let z : FVec Ideal S8x4096x4 .f32 := broadcastInDim S8x4096x4 ![] bcast_S_S8x4096x4 (constant S_ .f32 0x00000000#32)
  select (cmpf .une (subf x z) (subf x z)) (addf x z)
    (addf (maximumf x z) (Host.log1p (Host.exp (Host.negf (Host.absf (subf x z))))))

/-- The decay's lanes plus the bias. -/
def hDt (sm : FVec Ideal S32768x128 .f32) (bias : FVec Ideal S4 .f32) : FVec Ideal S8x4096x4 .f32 :=
  addf (extractStridedSlice S8x4096x4 ![0, 0, 4] (shapeCast S8x4096x128 sm shapeCasts_S32768x128_S8x4096x128) slices_S8x4096x128_S8x4096x4_0_0_4)
    (broadcastInDim S8x4096x4 ![0, 1, 2] bcast_S1x1x4_S8x4096x4_0_1_2 (broadcastInDim S1x1x4 ![2] bcast_S4_S1x1x4_2 bias))

/-- −exp(a_log) times the softplus, over time. -/
def hG (alog : FVec Ideal S4 .f32) (s : FVec Ideal S8x4096x4 .f32) : FVec Ideal S4096x8x4 .f32 :=
  transpose S4096x8x4 [1, 0, 2] (mulf (broadcastInDim S8x4096x4 ![0, 1, 2] bcast_S1x1x4_S8x4096x4_0_1_2 (broadcastInDim S1x1x4 ![2] bcast_S4_S1x1x4_2 (Host.negf (Host.exp alog)))) s)
    transposes_S8x4096x4_S4096x8x4_1_0_2

/-- The logistic of the weight's lanes, over time. -/
def hBeta (sm : FVec Ideal S32768x128 .f32) : FVec Ideal S4096x8x4 .f32 :=
  let one : FVec Ideal S8x4096x4 .f32 := broadcastInDim S8x4096x4 ![] bcast_S_S8x4096x4 (constant S_ .f32 0x3F800000#32)
  transpose S4096x8x4 [1, 0, 2] (Host.divf one (addf one (Host.exp (Host.negf
    (extractStridedSlice S8x4096x4 ![0, 0, 0] (shapeCast S8x4096x128 sm shapeCasts_S32768x128_S8x4096x128) slices_S8x4096x128_S8x4096x4_0_0_0)))))
    transposes_S8x4096x4_S4096x8x4_1_0_2

/-- The queries, keys and values, by head. -/
def hQ0 (x : FVec Ideal S32768x1536 .f32) : FVec Ideal S8x4096x4x128 .f32 :=
  shapeCast S8x4096x4x128 (extractStridedSlice S8x4096x512 ![0, 0, 0] (shapeCast S8x4096x1536 x shapeCasts_S32768x1536_S8x4096x1536) slices_S8x4096x1536_S8x4096x512_0_0_0) shapeCasts_S8x4096x512_S8x4096x4x128
def hK0 (x : FVec Ideal S32768x1536 .f32) : FVec Ideal S8x4096x4x128 .f32 :=
  shapeCast S8x4096x4x128 (extractStridedSlice S8x4096x512 ![0, 0, 512] (shapeCast S8x4096x1536 x shapeCasts_S32768x1536_S8x4096x1536) slices_S8x4096x1536_S8x4096x512_0_0_512) shapeCasts_S8x4096x512_S8x4096x4x128
def hV0 (x : FVec Ideal S32768x1536 .f32) : FVec Ideal S8x4096x4x128 .f32 :=
  shapeCast S8x4096x4x128 (extractStridedSlice S8x4096x512 ![0, 0, 1024] (shapeCast S8x4096x1536 x shapeCasts_S32768x1536_S8x4096x1536) slices_S8x4096x1536_S8x4096x512_0_0_1024) shapeCasts_S8x4096x512_S8x4096x4x128

/-- Rows of unit length. -/
def hUnit (x : FVec Ideal S8x4096x4x128 .f32) : FVec Ideal S8x4096x4x128 .f32 :=
  mulf x (broadcastInDim S8x4096x4x128 ![0, 1, 2, 3] bcast_S8x4096x4x1_S8x4096x4x128_0_1_2_3 (Host.rsqrt (addf
    (broadcastInDim S8x4096x4x1 ![0, 1, 2] bcast_S8x4096x4_S8x4096x4x1_0_1_2 (Host.reduceAdd (mulf x x) (constant (F := Ideal) S_ .f32 0x00000000#32) reducesTo_S8x4096x4x128_S8x4096x4_d3 h_S_))
    (broadcastInDim S8x4096x4x1 ![] bcast_S_S8x4096x4x1 (constant (F := Ideal) S_ .f32 0x358637BD#32)))))
/-- Times the scale. -/
def hScale (x : FVec Ideal S8x4096x4x128 .f32) : FVec Ideal S8x4096x4x128 .f32 :=
  mulf x (broadcastInDim S8x4096x4x128 ![] bcast_S_S8x4096x4x128 (constant S_ .f32 0x3DB504F3#32))
/-- Over time. -/
def hT (x : FVec Ideal S8x4096x4x128 .f32) : FVec Ideal S4096x8x4x128 .f32 :=
  transpose S4096x8x4x128 [1, 0, 2, 3] x transposes_S8x4096x4x128_S4096x8x4x128_1_0_2_3
/-- Back from time. -/
def hBack (y : FVec Ideal S4096x8x4x128 .f32) : FVec Ideal S8x4096x4x128 .f32 :=
  transpose S8x4096x4x128 [1, 0, 2, 3] y transposes_S4096x8x4x128_S8x4096x4x128_1_0_2_3
/-- The gate by head. -/
def hZ (z : FVec Ideal S32768x512 .f32) : FVec Ideal S8x4096x4x128 .f32 := shapeCast S8x4096x4x128 z shapeCasts_S32768x512_S8x4096x4x128

/-- The root mean square over each head's columns, the weight and the gate. -/
def hN (o z : FVec Ideal S8x4096x4x128 .f32) (w : FVec Ideal S128 .f32) : FVec Ideal S32768x512 .bf16 :=
  let s : FVec Ideal S8x4096x4 .f32 := Host.reduceAdd (mulf o o) (constant (F := Ideal) S_ .f32 0x00000000#32) reducesTo_S8x4096x4x128_S8x4096x4_d3 h_S_
  let r : FVec Ideal S8x4096x4x1 .f32 := Host.rsqrt (addf (Host.divf (broadcastInDim S8x4096x4x1 ![0, 1, 2] bcast_S8x4096x4_S8x4096x4x1_0_1_2 s)
      (broadcastInDim S8x4096x4x1 ![] bcast_S_S8x4096x4x1 (constant (F := Ideal) S_ .f32 0x43000000#32)))
      (broadcastInDim S8x4096x4x1 ![] bcast_S_S8x4096x4x1 (constant (F := Ideal) S_ .f32 0x358637BD#32)))
  let one : FVec Ideal S8x4096x4x128 .f32 := broadcastInDim S8x4096x4x128 ![] bcast_S_S8x4096x4x128 (constant S_ .f32 0x3F800000#32)
  truncf .bf16 (shapeCast S32768x512 (mulf (mulf (mulf o (broadcastInDim S8x4096x4x128 ![0, 1, 2, 3] bcast_S8x4096x4x1_S8x4096x4x128_0_1_2_3 r))
      (broadcastInDim S8x4096x4x128 ![0, 1, 2, 3] bcast_S1x1x1x128_S8x4096x4x128_0_1_2_3 (broadcastInDim S1x1x1x128 ![3] bcast_S128_S1x1x1x128_3 w)))
      (mulf z (Host.divf one (addf one (Host.exp (Host.negf z)))))) shapeCasts_S8x4096x4x128_S32768x512) bitsLt_bf16_f32

/-! ## Entry by entry -/

theorem hSoft_apply (x : Vec Ideal S8x4096x4 .f32) (i : Fin 8) (t : Fin 4096) (h : Fin 4) :
    hSoft x (ix3 i t h) = softplus (x (ix3 i t h)) := by
  unfold softplus
  pointwise [hSoft]
  rw [if_neg (not_not.mpr rfl), zero_sub]
  rfl

theorem hDt_apply (sm : Vec Ideal S32768x128 .f32) (bias : Vec Ideal S4 .f32) (i : Fin 8) (t : Fin 4096) (h : Fin 4) :
    hDt sm bias (ix3 i t h) = sm (ix2 ⟨4096 * i.val + t.val, by omega⟩ ⟨4 + h.val, by omega⟩) + bias (ix1 h) := by
  pointwise [hDt]
  simp only [Nat.mul_comm _ 4096]

theorem hG_apply (alog : Vec Ideal S4 .f32) (s : Vec Ideal S8x4096x4 .f32) (t : Fin 4096) (i : Fin 8) (h : Fin 4) :
    hG alog s (ix3 t i h) = -(Ideal.exp (alog (ix1 h))) * s (ix3 i t h) := by
  pointwise [hG]

theorem hBeta_apply (sm : Vec Ideal S32768x128 .f32) (t : Fin 4096) (i : Fin 8) (h : Fin 4) :
    hBeta sm (ix3 t i h) = bEnt sm i t h := by
  unfold bEnt Ideal.logistic
  pointwise [hBeta]
  simp only [Nat.mul_comm _ 4096]

theorem hQ0_apply (x : Vec Ideal S32768x1536 .f32) (i : Fin 8) (t : Fin 4096) (h : Fin 4) (p : Fin 128) :
    hQ0 x (ix4 i t h p) = qRow x i t h p := by
  unfold qRow
  pointwise [hQ0]
  simp only [Nat.mul_comm _ 4096, Nat.mul_comm _ 128, Nat.add_assoc]
theorem hK0_apply (x : Vec Ideal S32768x1536 .f32) (i : Fin 8) (t : Fin 4096) (h : Fin 4) (p : Fin 128) :
    hK0 x (ix4 i t h p) = kRow x i t h p := by
  unfold kRow
  pointwise [hK0]
  simp only [Nat.mul_comm _ 4096, Nat.mul_comm _ 128, Nat.add_assoc]
theorem hV0_apply (x : Vec Ideal S32768x1536 .f32) (i : Fin 8) (t : Fin 4096) (h : Fin 4) (p : Fin 128) :
    hV0 x (ix4 i t h p) = vRow x i t h p := by
  unfold vRow
  pointwise [hV0]
  simp only [Nat.mul_comm _ 4096, Nat.mul_comm _ 128, Nat.add_assoc]

theorem hUnit_apply (x : Vec Ideal S8x4096x4x128 .f32) (i : Fin 8) (t : Fin 4096) (h : Fin 4) (p : Fin 128) :
    hUnit x (ix4 i t h p) = unitv (fun p => x (ix4 i t h p)) p := by
  unfold unitv
  pointwise [hUnit]
theorem hScale_apply (x : Vec Ideal S8x4096x4x128 .f32) (i : Fin 8) (t : Fin 4096) (h : Fin 4) (p : Fin 128) :
    hScale x (ix4 i t h p) = x (ix4 i t h p) * Ideal.ofBits .f32 0x3DB504F3#32 := by
  pointwise [hScale]
theorem hT_apply (x : Vec Ideal S8x4096x4x128 .f32) (t : Fin 4096) (i : Fin 8) (h : Fin 4) (p : Fin 128) :
    hT x (ix4 t i h p) = x (ix4 i t h p) := by
  pointwise [hT]
theorem hBack_apply (y : Vec Ideal S4096x8x4x128 .f32) (i : Fin 8) (t : Fin 4096) (h : Fin 4) (p : Fin 128) :
    hBack y (ix4 i t h p) = y (ix4 t i h p) := by
  pointwise [hBack]
theorem hZ_apply (z : Vec Ideal S32768x512 .f32) (i : Fin 8) (t : Fin 4096) (h : Fin 4) (p : Fin 128) :
    hZ z (ix4 i t h p) = z (ix2 ⟨4096 * i.val + t.val, by omega⟩ ⟨128 * h.val + p.val, by omega⟩) := by
  pointwise [hZ]
  simp only [Nat.mul_comm _ 4096, Nat.mul_comm _ 128, Nat.add_assoc]

theorem hN_apply (o z : Vec Ideal S8x4096x4x128 .f32) (w : Vec Ideal S128 .f32) (i : Fin 8) (t : Fin 4096) (c : Fin 512) :
    hN o z w (ix2 ⟨4096 * i.val + t.val, by omega⟩ c)
      = normed (fun p => o (ix4 i t ⟨c.val / 128, by omega⟩ p)) w (z (ix4 i t ⟨c.val / 128, by omega⟩ ⟨c.val % 128, by omega⟩)) ⟨c.val % 128, by omega⟩ := by
  unfold normed Ideal.logistic
  pointwise [hN]

/-! ## As the run writes them -/

set_option maxHeartbeats 2000000

/-- The result, from the loop's outputs. -/
theorem post_v69 (V : Valuation τ sig (Elt Ideal)) : afterL postI V (Proc.devRef .tc main_v69)
    = hN (hBack (V (Proc.devRef .tc main_v51_7))) (V (Proc.devRef .tc main_v1)) (V (Proc.devRef .tc main_arg5)) := by
  simp only [afterL_cons, afterL_nil]
  after_reads_simp
  rfl

variable (V : Valuation τ sig (Elt Ideal))

theorem pre_v1 : afterL preI V (Proc.devRef .tc main_v1) = hZ (V (Proc.devRef .tc main_arg1)) := by
  simp only [afterL_cons, afterL_nil]
  after_reads_simp
  rfl
theorem pre_arg5 : afterL preI V (Proc.devRef .tc main_arg5) = V (Proc.devRef .tc main_arg5) := by
  simp only [afterL_cons, afterL_nil]
  after_reads_simp
theorem pre_0 : afterL preI V (Proc.devRef .tc main_v51_0) = hT (hScale (hUnit (hQ0 (V (Proc.devRef .tc main_arg0))))) := by
  simp only [afterL_cons, afterL_nil]
  after_reads_simp
  rfl
theorem pre_1 : afterL preI V (Proc.devRef .tc main_v51_1) = hT (hUnit (hK0 (V (Proc.devRef .tc main_arg0)))) := by
  simp only [afterL_cons, afterL_nil]
  after_reads_simp
  rfl
theorem pre_2 : afterL preI V (Proc.devRef .tc main_v51_2) = hT (hV0 (V (Proc.devRef .tc main_arg0))) := by
  simp only [afterL_cons, afterL_nil]
  after_reads_simp
  rfl
theorem pre_3 : afterL preI V (Proc.devRef .tc main_v51_3)
    = hG (V (Proc.devRef .tc main_arg3)) (hSoft (hDt (V (Proc.devRef .tc main_arg2)) (V (Proc.devRef .tc main_arg4)))) := by
  simp only [afterL_cons, afterL_nil]
  after_reads_simp
  rfl
theorem pre_4 : afterL preI V (Proc.devRef .tc main_v51_4) = hBeta (V (Proc.devRef .tc main_arg2)) := by
  simp only [afterL_cons, afterL_nil]
  after_reads_simp
  rfl
theorem pre_5 : afterL preI V (Proc.devRef .tc main_v51_5) = fun _ => BitVec.ofNat 32 0 := by
  simp only [afterL_cons, afterL_nil]
  after_reads_simp
  rfl
theorem pre_6 : afterL preI V (Proc.devRef .tc main_v51_6)
    = broadcastInDim S8x4x128x128 ![] bcast_S_S8x4x128x128 (constant (F := Ideal) S_ .f32 0x00000000#32) := by
  simp only [afterL_cons, afterL_nil]
  after_reads_simp
  rfl

/-- A buffer that neither the loop's condition nor its body writes. -/
theorem loop_keep (W₀ : Dev nD → Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) (h6 : r ∉ while0Ops0_6_W)
    (h7 : r ∉ while0Ops0_7_W) (k : ℕ) (c : Dev nD) : atTrip condOps bodyI W₀ k c (Proc.devRef .tc r) = W₀ c (Proc.devRef .tc r) := by
  induction k with
  | zero => rfl
  | succ k ih =>
    simp only [atTrip_succ, afterL_cons, afterL_nil]
    rw [after_of_writes_sub _ _ while0Ops0_7_writes h7, after_of_writes_sub _ _ while0Ops0_6_writes h6,
      after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc, ih]

end Cert.Reference7Ideal.Loop
-- ==== Proof.GdnRef.lean ====
module

public import proofs.«01_k».proof.Proof.GdnEnds
public import Idealize.ShloMosaic.Lib.Quiescent

/-! # The reference computes the gated delta rule, and leaves its arguments as they were -/

@[expose] public section

set_option maxRecDepth 16384

noncomputable section

namespace Cert.Reference7Ideal.Loop

open Cert.Reference7Ideal Cert.Reference7Ideal.Gen Cert.Reference7Ideal.Value Cert.Gdn
open Idealize.ShloMosaic Idealize.ShloMosaic.TcCoe Idealize.SL.Sem Idealize.ShloMosaic.StableHlo
open Cert.KernelIdeal.Blk (softplus)

section value

variable {m : (ℓ : Loc nD τ sig) → Buf (Elt Ideal) ℓ} {c : Dev nD} {q k v : ℕ → ℕ → ℕ → Fin 128 → ℝ} {β a : ℕ → ℕ → ℕ → ℝ}

/-- An argument on core `c`. -/
abbrev argR (m : (ℓ : Loc nD τ sig) → Buf (Elt Ideal) ℓ) (c : Dev nD) (r : Ref sig .tc) : (Proc.devRef .tc r : DevRef τ sig).ty.Contents (Elt Ideal) :=
  m ((c.tc : Thread nD τ).loc r)

theorem entry (H : Data (argR m c main_arg0) (argR m c main_arg2) (argR m c main_arg3) (argR m c main_arg4) q k v β a) :
    Entry q k v β a (entryContents preI m c) where
  hq t i h p := by
    have e := congrFun (pre_0 (launchContents m c)) (ix4 t i h p)
    refine e.trans ?_
    rw [hT_apply, hScale_apply, hUnit_apply]
    simp only [hQ0_apply]
    exact H.hq i t h p
  hk t i h p := by
    have e := congrFun (pre_1 (launchContents m c)) (ix4 t i h p)
    refine e.trans ?_
    rw [hT_apply, hUnit_apply]
    simp only [hK0_apply]
    exact H.hk i t h p
  hv t i h p := by
    have e := congrFun (pre_2 (launchContents m c)) (ix4 t i h p)
    refine e.trans ?_
    rw [hT_apply, hV0_apply]
    exact H.hv i t h p
  ha t i h := by
    have e := congrFun (pre_3 (launchContents m c)) (ix3 t i h)
    refine e.trans ?_
    rw [hG_apply, hSoft_apply, hDt_apply]
    exact H.ha i t h
  hb t i h := by
    have e := congrFun (pre_4 (launchContents m c)) (ix3 t i h)
    refine e.trans ?_
    rw [hBeta_apply]
    exact H.hb i t h
  hc := pre_5 (launchContents m c)
  hs i h p j := by
    have e := congrFun (pre_6 (launchContents m c)) (ix4 i h p j)
    refine e.trans ?_
    pointwise
    exact EReal.coe_zero.symm

/-- The loop's outputs. -/
theorem loop_out (H : Data (argR m c main_arg0) (argR m c main_arg2) (argR m c main_arg3) (argR m c main_arg4) q k v β a) :
    ∃ ys : Vec Ideal S4096x8x4x128 .f32,
      after condOps (atTrip condOps bodyI (entryContents preI m) 4096 c) (Proc.devRef .tc main_v51_7) = ys
      ∧ ∀ (t : Fin 4096) (i : Fin 8) (h : Fin 4) (j : Fin 128),
          ys (ix4 t i h j) = ((O (k i h) (v i h) (q i h) (β i h) (a i h) t j : ℝ) : EReal) := by
  obtain ⟨n, hn⟩ : ∃ n, n = 4096 := ⟨_, rfl⟩
  have ky : after condOps (atTrip condOps bodyI (entryContents preI m) n c) (Proc.devRef .tc main_v51_7)
      = STEP^[n] (entryContents preI m c) (Proc.devRef .tc main_v51_7) :=
    (cond_keeps _ main_v51_7 (by decide)).trans (atK_agree m c n main_v51_7 (by decide))
  have hy := out_real (entry H) n hn.le
  refine ⟨_, (by rw [← hn]), fun t i h j => ?_⟩
  rw [ky]
  exact hy t (by omega) i h j

/-- The reference's result. -/
theorem value (H : Data (argR m c main_arg0) (argR m c main_arg2) (argR m c main_arg3) (argR m c main_arg4) q k v β a) :
    finalContents condOps preI bodyI postI 4096 m c (Proc.devRef .tc main_v69)
      = result q k v β a (argR m c main_arg1) (argR m c main_arg5) := by
  set W := entryContents preI m
  have keep := fun r hc h0 h1 h2 h3 h4 h5 h6 h7 =>
    (after_of_writes_sub _ (atTrip condOps bodyI W 4096 c) condOps_writes hc).trans (loop_keep W r hc h0 h1 h2 h3 h4 h5 h6 h7 4096 c)
  have k1 := (keep main_v1 (by decide) (by decide) (by decide) (by decide) (by decide) (by decide) (by decide) (by decide) (by decide)).trans (pre_v1 (launchContents m c))
  have k5 := (keep main_arg5 (by decide) (by decide) (by decide) (by decide) (by decide) (by decide) (by decide) (by decide) (by decide)).trans (pre_arg5 (launchContents m c))
  obtain ⟨ys, ky, hy⟩ := loop_out H
  refine (post_v69 (after condOps (atTrip condOps bodyI W 4096 c))).trans ?_
  rw [k1, k5, ky]
  funext j
  obtain ⟨i, t, d, rfl⟩ : ∃ (i : Fin 8) (t : Fin 4096) (d : Fin 512), j = ix2 ⟨4096 * i.val + t.val, by omega⟩ d := by
    have hj : (j 0).val < 32768 := (j 0).isLt
    refine ⟨⟨(j 0).val / 4096, by omega⟩, ⟨(j 0).val % 4096, by omega⟩, j 1, ?_⟩
    funext a
    match a with
    | ⟨0, _⟩ => exact Fin.ext (show (j 0).val = 4096 * ((j 0).val / 4096) + (j 0).val % 4096 by omega)
    | ⟨1, _⟩ => rfl
  have hi : (4096 * i.val + t.val) / 4096 = i.val := by omega
  have ht : (4096 * i.val + t.val) % 4096 = t.val := by omega
  refine (hN_apply _ _ _ i t d).trans ?_
  have hz : hZ (argR m c main_arg1) (ix4 i t ⟨d.val / 128, by omega⟩ ⟨d.val % 128, by omega⟩)
      = (argR m c main_arg1 : Vec Ideal S32768x512 .f32) (ix2 ⟨4096 * i.val + t.val, by omega⟩ d) := by
    rw [hZ_apply]
    refine congrArg (fun d => (argR m c main_arg1 : Vec Ideal S32768x512 .f32) (ix2 _ d)) (Fin.ext ?_)
    show 128 * (d.val / 128) + d.val % 128 = d.val
    omega
  unfold result
  simp only [hBack_apply, hy]
  show normed _ _ (hZ (argR m c main_arg1) _) _ = normed (fun p => ((O (k ((4096 * i.val + t.val) / 4096) _) (v ((4096 * i.val + t.val) / 4096) _)
    (q ((4096 * i.val + t.val) / 4096) _) (β ((4096 * i.val + t.val) / 4096) _) (a ((4096 * i.val + t.val) / 4096) _)
    ((4096 * i.val + t.val) % 4096) p : ℝ) : EReal)) _ _ _
  rw [hi, ht]
  exact congrArg (fun z => normed _ _ z _) hz

end value

variable (m : (ℓ : Loc nD τ sig) → Buf (Elt Ideal) ℓ) (ρ : Dev nD → PrngReg)

/-- A buffer that neither the operations before the loop nor the loop's write. -/
def Untouched (r : Ref sig .tc) : Prop :=
  (r ∉ hostOps0_W ∧ r ∉ hostOps0_1_W ∧ r ∉ hostOps0_2_W) ∧ r ∉ condOps_W
    ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W
    ∧ r ∉ while0Ops0_7_W

theorem kept (c : Dev nD) (r : Ref sig .tc) (h : Untouched r)
    (hp : ∀ V : Valuation τ sig (Elt Ideal), afterL postI V (Proc.devRef .tc r) = V (Proc.devRef .tc r)) :
    finalContents condOps preI bodyI postI 4096 m c (Proc.devRef .tc r) = m ((c.tc : Thread nD τ).loc r) := by
  obtain ⟨⟨a0, a1, a2⟩, hc, h0, h1, h2, h3, h4, h5, h6, h7⟩ := h
  refine Eq.trans (b := after condOps (atTrip condOps bodyI (entryContents preI m) 4096 c) (Proc.devRef .tc r)) ?_ ?_
  · exact hp _
  · rw [after_of_writes_sub _ _ condOps_writes hc, loop_keep _ r hc h0 h1 h2 h3 h4 h5 h6 h7]
    show afterL preI (launchContents m c) (Proc.devRef .tc r) = _
    simp only [afterL_cons, afterL_nil]
    rw [after_of_writes_sub _ _ hostOps0_2_writes a2, after_of_writes_sub _ _ hostOps0_1_writes a1, after_of_writes_sub _ _ hostOps0_writes a0]

theorem post_arg0 (V : Valuation τ sig (Elt Ideal)) : afterL postI V (Proc.devRef .tc main_arg0) = V (Proc.devRef .tc main_arg0) := by
  simp only [afterL_cons, afterL_nil]
  after_reads_simp
theorem post_arg1 (V : Valuation τ sig (Elt Ideal)) : afterL postI V (Proc.devRef .tc main_arg1) = V (Proc.devRef .tc main_arg1) := by
  simp only [afterL_cons, afterL_nil]
  after_reads_simp
theorem post_arg2 (V : Valuation τ sig (Elt Ideal)) : afterL postI V (Proc.devRef .tc main_arg2) = V (Proc.devRef .tc main_arg2) := by
  simp only [afterL_cons, afterL_nil]
  after_reads_simp
theorem post_arg3 (V : Valuation τ sig (Elt Ideal)) : afterL postI V (Proc.devRef .tc main_arg3) = V (Proc.devRef .tc main_arg3) := by
  simp only [afterL_cons, afterL_nil]
  after_reads_simp
theorem post_arg4 (V : Valuation τ sig (Elt Ideal)) : afterL postI V (Proc.devRef .tc main_arg4) = V (Proc.devRef .tc main_arg4) := by
  simp only [afterL_cons, afterL_nil]
  after_reads_simp
theorem post_arg5 (V : Valuation τ sig (Elt Ideal)) : afterL postI V (Proc.devRef .tc main_arg5) = V (Proc.devRef .tc main_arg5) := by
  simp only [afterL_cons, afterL_nil]
  after_reads_simp

theorem untouched_arg : Untouched main_arg0 ∧ Untouched main_arg1 ∧ Untouched main_arg2 ∧ Untouched main_arg3 ∧ Untouched main_arg4
    ∧ Untouched main_arg5 := by
  refine ⟨?_, ?_, ?_, ?_, ?_, ?_⟩ <;>
    exact ⟨⟨by decide, by decide, by decide⟩, by decide, by decide, by decide, by decide, by decide, by decide, by decide, by decide, by decide⟩

/-- What the run leaves: the fold's result, the arguments. -/
theorem run (v : Dev nD → (Proc.devRef .tc main_v69 : DevRef τ sig).ty.Contents (Elt Ideal))
    (hv : ∀ c, finalContents condOps preI bodyI postI 4096 m c (Proc.devRef .tc main_v69) = v c) :
    θ_run (defs (F := Ideal)) (onTc (τ := τ) (main (F := Ideal))) ⟨m, fun _ => 0, ρ⟩ (fun r => ∀ c : Dev nD,
      r.2.mem ((c.tc : Thread nD τ).loc main_v69) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  obtain ⟨u0, u1, u2, u3, u4, u5⟩ := untouched_arg
  exact (θ_run _ _ _).mono (fun r h c => ⟨(h c main_v69 rfl).trans (hv c),
    (h c _ rfl).trans (kept m c _ u0 post_arg0),
    (h c _ rfl).trans (kept m c _ u1 post_arg1),
    (h c _ rfl).trans (kept m c _ u2 post_arg2),
    (h c _ rfl).trans (kept m c _ u3 post_arg3),
    (h c _ rfl).trans (kept m c _ u4 post_arg4),
    (h c _ rfl).trans (kept m c _ u5 post_arg5)⟩) (Value.run_fold m ρ)

end Cert.Reference7Ideal.Loop
-- ==== Proof.Gdn.lean ====
module

public import proofs.«01_k».proof.Proof.Gen.Kernel7.Frame
public import proofs.«01_k».proof.Proof.Gen.Kernel7Ideal
public import proofs.«01_k».proof.Proof.GdnGrid
public import proofs.«01_k».proof.Proof.GdnRef

/-! # The claims about the gated delta rule -/

@[expose] public section

set_option maxRecDepth 16384

noncomputable section

namespace Cert.Proof.Gdn

open Idealize.ShloMosaic Idealize.ShloMosaic.TcCoe Idealize.SL.Sem
open Cert.Gdn
open Cert.Ssd (Rows Line)
open Cert.Reference7Ideal.Loop (argR)
open Cert.Kernel7Ideal.Blk (argK)

attribute [local instance] Cert.Gdn.facts

theorem frame7 : Cert.quiescent_Kernel7 := fun m ρ _ => Cert.Kernel7.Gen.frame m ρ
theorem frame7i : Cert.quiescent_Kernel7Ideal := fun m ρ _ => Cert.Kernel7Ideal.Gen.frame m ρ
theorem frame7i_pre : Cert.quiescent_Kernel7Ideal_pre_real_rows := fun m ρ _ => Cert.Kernel7Ideal.Gen.frame m ρ
theorem frame7r : Cert.quiescent_Reference7Ideal := fun m ρ _ =>
  (θ_run _ _ _).mono (fun r h => ⟨fun c => (h c).2, sem_eq_zero_of_no_sems rfl r.2⟩) (Cert.Reference7Ideal.Loop.run m ρ _ fun _ => rfl)
theorem frame7r_pre : Cert.quiescent_Reference7Ideal_pre_real_rows := fun m ρ _ => frame7r m ρ trivial

theorem preserves7 : Cert.preserves_Kernel7_Kernel7Ideal :=
  IdealRules.named_const.statement Cert.Kernel7Ideal.κ "mask" .f32 0xF149F2CA#32 ⊥ rfl

theorem algebraic7 : Cert.algebraic_Kernel7Ideal_Reference7Ideal_pre_real_rows := by
  intro m ρ m' ρ' hpre hag
  refine ⟨_, Cert.Kernel7Ideal.Value.run (F := Ideal) m ρ, Cert.Reference7Ideal.Loop.run m' ρ' _ fun c => ?_⟩
  obtain ⟨q, k, v, β, a, H⟩ := data_of_pre _ _ _ _ _ _ (hpre c)
  obtain ⟨h0, h1, h2, h3, h4, h5⟩ := hag c
  have e0 : (argR m' c Cert.Reference7Ideal.main_arg0 : Rows 1536 .f32) = (argK m c Cert.Kernel7Ideal.main_arg0 : Rows 1536 .f32) := h0
  have e1 : (argR m' c Cert.Reference7Ideal.main_arg1 : Rows 512 .f32) = (argK m c Cert.Kernel7Ideal.main_arg1 : Rows 512 .f32) := h1
  have e2 : (argR m' c Cert.Reference7Ideal.main_arg2 : Rows 128 .f32) = (argK m c Cert.Kernel7Ideal.main_arg2 : Rows 128 .f32) := h2
  have e3 : (argR m' c Cert.Reference7Ideal.main_arg3 : Line 4) = (argK m c Cert.Kernel7Ideal.main_arg3 : Line 4) := h3
  have e4 : (argR m' c Cert.Reference7Ideal.main_arg4 : Line 4) = (argK m c Cert.Kernel7Ideal.main_arg4 : Line 4) := h4
  have e5 : (argR m' c Cert.Reference7Ideal.main_arg5 : Line 128) = (argK m c Cert.Kernel7Ideal.main_arg5 : Line 128) := h5
  have H' : Data (argR m' c Cert.Reference7Ideal.main_arg0) (argR m' c Cert.Reference7Ideal.main_arg2) (argR m' c Cert.Reference7Ideal.main_arg3)
      (argR m' c Cert.Reference7Ideal.main_arg4) q k v β a := by
    rw [e0, e2, e3, e4]
    exact H
  refine (Cert.Reference7Ideal.Loop.value H').trans ?_
  rw [e1, e5]
  exact (Cert.Kernel7Ideal.Blk.G6_eq H).symm

end Cert.Proof.Gdn
-- ==== Proof.lean ====
/- The proof of the claims: the five about each of the seven programs. The programs' side conditions come first; then the frames, the
   named mask, and the value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Ssd
public import proofs.«01_k».proof.Proof.Ffn
public import proofs.«01_k».proof.Proof.Proj
public import proofs.«01_k».proof.Proof.Gdn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Ssd.facts, Cert.Gdn.facts,
  Ssd.frame_k, Ssd.frame_ki, Ssd.frame_ki_pre, Ssd.frame_ri, Ssd.frame_ri_pre,
  Ffn.frame2, Ffn.frame2i, Ffn.frame2r, Ffn.frame3, Ffn.frame3i, Ffn.frame3r, Ffn.frame4, Ffn.frame4i, Ffn.frame4r,
  Proj.frame5, Proj.frame5i, Proj.frame5r, Proj.frame6, Proj.frame6i, Proj.frame6r,
  Gdn.frame7, Gdn.frame7i, Gdn.frame7i_pre, Gdn.frame7r, Gdn.frame7r_pre,
  Ssd.preserves, Ssd.algebraic, Ffn.preserves2, Ffn.algebraic2, Ffn.preserves3, Ffn.algebraic3, Ffn.preserves4, Ffn.algebraic4,
  Proj.preserves5, Proj.algebraic5, Proj.preserves6, Proj.algebraic6,
  Gdn.preserves7, Gdn.algebraic7⟩

end Cert.Proof

end
